-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_edges_name_the_first_nodes [hPre_edges_name_the_first_nodes : Cert.Pre_edges_name_the_first_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_edges_name_the_first_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_name_the_first_nodes [hPre_edges_name_the_first_nodes : Cert.Pre_edges_name_the_first_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_name_the_first_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_edges_name_the_first_nodes [hKernelIdeal : Cert.KernelIdeal.Facts] [hPre_edges_name_the_first_nodes : Cert.Pre_edges_name_the_first_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_edges_name_the_first_nodes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_edges_name_the_first_nodes [hReferenceIdeal : Cert.ReferenceIdeal.Facts] [hPre_edges_name_the_first_nodes : Cert.Pre_edges_name_the_first_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_name_the_first_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_edges_name_the_first_nodes [hKernelIdeal : Cert.KernelIdeal.Facts] [hReferenceIdeal : Cert.ReferenceIdeal.Facts] [hPre_edges_name_the_first_nodes : Cert.Pre_edges_name_the_first_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_edges_name_the_first_nodes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v175) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_edges_name_the_first_nodes : Cert.Pre_edges_name_the_first_nodes.Facts),
    quiescent_Kernel (hKernel := hKernel)
    ∧ quiescent_KernelIdeal (hKernelIdeal := hKernelIdeal)
    ∧ quiescent_KernelIdeal_pre_edges_name_the_first_nodes (hKernelIdeal := hKernelIdeal) (hPre_edges_name_the_first_nodes := hPre_edges_name_the_first_nodes)
    ∧ quiescent_ReferenceIdeal (hReferenceIdeal := hReferenceIdeal)
    ∧ quiescent_ReferenceIdeal_pre_edges_name_the_first_nodes (hReferenceIdeal := hReferenceIdeal) (hPre_edges_name_the_first_nodes := hPre_edges_name_the_first_nodes)
    ∧ preserves_Kernel_KernelIdeal
    ∧ algebraic_KernelIdeal_ReferenceIdeal_pre_edges_name_the_first_nodes (hKernelIdeal := hKernelIdeal) (hReferenceIdeal := hReferenceIdeal) (hPre_edges_name_the_first_nodes := hPre_edges_name_the_first_nodes)
-- ==== Pre_edges_name_the_first_nodes.lean ====
abbrev S10000x128 : Shape := ⟨2, ![10000, 128]⟩
abbrev S2x320000 : Shape := ⟨2, ![2, 320000]⟩
abbrev S320000x16 : Shape := ⟨2, ![320000, 16]⟩
abbrev S272x32 : Shape := ⟨2, ![272, 32]⟩
abbrev S32 : Shape := ⟨1, ![32]⟩
abbrev S32x32 : Shape := ⟨2, ![32, 32]⟩
abbrev S320x1 : Shape := ⟨2, ![320, 1]⟩
abbrev S1 : Shape := ⟨1, ![1]⟩
abbrev S160x1 : Shape := ⟨2, ![160, 1]⟩
abbrev S24x2 : Shape := ⟨2, ![24, 2]⟩
abbrev S27 : Shape := ⟨1, ![27]⟩
abbrev S_ : Shape := ⟨0, ![]⟩

class Facts : Prop where
  bcast_S_S24x2 : S_.BroadcastsInDim S24x2 (![] : Fin 0 → Fin S24x2.rank)

variable [Facts]

def fn {F : FTy → Type} [FloatOps F] (main_arg0 : FVec F S10000x128 .f32) (main_arg1 : IVec S2x320000 32) (main_arg2 : FVec F S320000x16 .f32) (main_arg3 : FVec F S272x32 .f32) (main_arg4 : FVec F S32 .f32) (main_arg5 : FVec F S32x32 .f32) (main_arg6 : FVec F S32 .f32) (main_arg7 : FVec F S320x1 .f32) (main_arg8 : FVec F S1 .f32) (main_arg9 : FVec F S320x1 .f32) (main_arg10 : FVec F S1 .f32) (main_arg11 : FVec F S160x1 .f32) (main_arg12 : FVec F S1 .f32) (main_arg13 : FVec F S160x1 .f32) (main_arg14 : FVec F S1 .f32) (main_arg15 : IVec S24x2 32) (main_arg16 : FVec F S27 .f32) : IVec S24x2 1 :=
  let main_c : IVec S_ 32 := constantI S_ 32 0#32
  let main_v0 : IVec S24x2 32 := broadcastInDim S24x2 ![] bcast_S_S24x2 main_c
  let main_v1 : IVec S24x2 1 := cmpi .sge main_arg15 main_v0
  let main_c_0 : IVec S_ 32 := constantI S_ 32 12#32
  let main_v2 : IVec S24x2 32 := broadcastInDim S24x2 ![] bcast_S_S24x2 main_c_0
  let main_v3 : IVec S24x2 1 := cmpi .slt main_arg15 main_v2
  let main_v4 : IVec S24x2 1 := andi main_v1 main_v3
  main_v4
-- ==== Kernel.lean ====
abbrev S10000x128 : Shape := ⟨2, ![10000, 128]⟩
abbrev S2x320000 : Shape := ⟨2, ![2, 320000]⟩
abbrev S320000x16 : Shape := ⟨2, ![320000, 16]⟩
abbrev S272x32 : Shape := ⟨2, ![272, 32]⟩
abbrev S32 : Shape := ⟨1, ![32]⟩
abbrev S32x32 : Shape := ⟨2, ![32, 32]⟩
abbrev S320x1 : Shape := ⟨2, ![320, 1]⟩
abbrev S1 : Shape := ⟨1, ![1]⟩
abbrev S160x1 : Shape := ⟨2, ![160, 1]⟩
abbrev S24x2 : Shape := ⟨2, ![24, 2]⟩
abbrev S27 : Shape := ⟨1, ![27]⟩
abbrev S1x320000 : Shape := ⟨2, ![1, 320000]⟩
abbrev S320000 : Shape := ⟨1, ![320000]⟩
abbrev S3 : Shape := ⟨1, ![3]⟩
abbrev S_ : Shape := ⟨0, ![]⟩
abbrev S24x1 : Shape := ⟨2, ![24, 1]⟩
abbrev S24 : Shape := ⟨1, ![24]⟩
abbrev S51 : Shape := ⟨1, ![51]⟩
abbrev S13 : Shape := ⟨1, ![13]⟩
abbrev S64 : Shape := ⟨1, ![64]⟩
abbrev S51x1 : Shape := ⟨2, ![51, 1]⟩
abbrev S1x51 : Shape := ⟨2, ![1, 51]⟩
abbrev S50 : Shape := ⟨1, ![50]⟩
abbrev S16 : Shape := ⟨1, ![16]⟩
abbrev S16x1 : Shape := ⟨2, ![16, 1]⟩
abbrev S320000x1 : Shape := ⟨2, ![320000, 1]⟩
abbrev S1x16 : Shape := ⟨2, ![1, 16]⟩
abbrev S1024 : Shape := ⟨1, ![1024]⟩
abbrev S1024x1 : Shape := ⟨2, ![1024, 1]⟩
abbrev S1024x128 : Shape := ⟨2, ![1024, 128]⟩
abbrev S1024x16 : Shape := ⟨2, ![1024, 16]⟩
abbrev S64x1 : Shape := ⟨2, ![64, 1]⟩
abbrev S64x128 : Shape := ⟨2, ![64, 128]⟩
abbrev S16x128 : Shape := ⟨2, ![16, 128]⟩
abbrev S128x32 : Shape := ⟨2, ![128, 32]⟩
abbrev S16x32 : Shape := ⟨2, ![16, 32]⟩
abbrev S1x32 : Shape := ⟨2, ![1, 32]⟩
abbrev S320x128 : Shape := ⟨2, ![320, 128]⟩
abbrev S320 : Shape := ⟨1, ![320]⟩
abbrev S1x128 : Shape := ⟨2, ![1, 128]⟩
abbrev S2 : Shape := ⟨1, ![2]⟩
abbrev S160x128 : Shape := ⟨2, ![160, 128]⟩
abbrev S160 : Shape := ⟨1, ![160]⟩
abbrev S1x1024 : Shape := ⟨2, ![1, 1024]⟩
abbrev S1x27 : Shape := ⟨2, ![1, 27]⟩
abbrev S320000x128 : Shape := ⟨2, ![320000, 128]⟩
abbrev S320000x272 : Shape := ⟨2, ![320000, 272]⟩
abbrev S320000x32 : Shape := ⟨2, ![320000, 32]⟩
abbrev S10000x32 : Shape := ⟨2, ![10000, 32]⟩
abbrev S10000x160 : Shape := ⟨2, ![10000, 160]⟩
abbrev S1x10000x160 : Shape := ⟨3, ![1, 10000, 160]⟩
abbrev S1x24x160 : Shape := ⟨3, ![1, 24, 160]⟩
abbrev S1x24x320 : Shape := ⟨3, ![1, 24, 320]⟩
abbrev S1x24x1 : Shape := ⟨3, ![1, 24, 1]⟩
abbrev S1x1x1 : Shape := ⟨3, ![1, 1, 1]⟩
abbrev S1x24 : Shape := ⟨2, ![1, 24]⟩
abbrev S1x3x160 : Shape := ⟨3, ![1, 3, 160]⟩
abbrev S1x3x1 : Shape := ⟨3, ![1, 3, 1]⟩
abbrev S1x3 : Shape := ⟨2, ![1, 3]⟩
abbrev S32x128 : Shape := ⟨2, ![32, 128]⟩
abbrev S1024x32 : Shape := ⟨2, ![1024, 32]⟩
abbrev S16x1024 : Shape := ⟨2, ![16, 1024]⟩
abbrev S64x16 : Shape := ⟨2, ![64, 16]⟩
abbrev S64x32 : Shape := ⟨2, ![64, 32]⟩
abbrev S24x128 : Shape := ⟨2, ![24, 128]⟩
abbrev S24x32 : Shape := ⟨2, ![24, 32]⟩
abbrev S24x320 : Shape := ⟨2, ![24, 320]⟩
abbrev S8x128 : Shape := ⟨2, ![8, 128]⟩
abbrev S8x32 : Shape := ⟨2, ![8, 32]⟩
abbrev S8x160 : Shape := ⟨2, ![8, 160]⟩
abbrev S8x1 : Shape := ⟨2, ![8, 1]⟩
abbrev S3x1 : Shape := ⟨2, ![3, 1]⟩

abbrev nBuf : Space → Nat
  | .hbm => 554
  | .vmem => 22
  | .smem => 0
  | _ => 0

abbrev hbmTy0_0 (i : Nat) : BufTy := match i % 128 with
  | 0 => ⟨S10000x128, .f32⟩
  | 1 => ⟨S2x320000, .i32⟩
  | 2 => ⟨S320000x16, .f32⟩
  | 3 => ⟨S272x32, .f32⟩
  | 4 => ⟨S32, .f32⟩
  | 5 => ⟨S32x32, .f32⟩
  | 6 => ⟨S32, .f32⟩
  | 7 => ⟨S320x1, .f32⟩
  | 8 => ⟨S1, .f32⟩
  | 9 => ⟨S320x1, .f32⟩
  | 10 => ⟨S1, .f32⟩
  | 11 => ⟨S160x1, .f32⟩
  | 12 => ⟨S1, .f32⟩
  | 13 => ⟨S160x1, .f32⟩
  | 14 => ⟨S1, .f32⟩
  | 15 => ⟨S24x2, .i32⟩
  | 16 => ⟨S27, .f32⟩
  | 17 => ⟨S1x320000, .i32⟩
  | 18 => ⟨S320000, .i32⟩
  | 19 => ⟨S1x320000, .i32⟩
  | 20 => ⟨S320000, .i32⟩
  | 21 => ⟨S3, .i32⟩
  | 22 => ⟨S_, .i32⟩
  | 23 => ⟨S3, .i32⟩
  | 24 => ⟨S3, .i32⟩
  | 25 => ⟨S24x1, .i32⟩
  | 26 => ⟨S24, .i32⟩
  | 27 => ⟨S24x1, .i32⟩
  | 28 => ⟨S24, .i32⟩
  | 29 => ⟨S51, .i32⟩
  | 30 => ⟨S_, .i32⟩
  | 31 => ⟨S13, .i32⟩
  | 32 => ⟨S64, .i32⟩
  | 33 => ⟨S51x1, .i32⟩
  | 34 => ⟨S1x51, .i32⟩
  | 35 => ⟨S1x51, .i32⟩
  | 36 => ⟨S1x51, .i32⟩
  | 37 => ⟨S51, .i32⟩
  | 38 => ⟨S51, .i32⟩
  | 39 => ⟨S51, .i32⟩
  | 40 => ⟨S51, .i32⟩
  | 41 => ⟨S_, .i32⟩
  | 42 => ⟨S51, .i32⟩
  | 43 => ⟨S51, .i1⟩
  | 44 => ⟨S_, .i32⟩
  | 45 => ⟨S51, .i32⟩
  | 46 => ⟨S51, .i32⟩
  | 47 => ⟨S51, .i32⟩
  | 48 => ⟨S51x1, .i32⟩
  | 49 => ⟨S51, .i32⟩
  | 50 => ⟨S_, .i1⟩
  | 51 => ⟨S51, .i1⟩
  | 52 => ⟨S50, .i32⟩
  | 53 => ⟨S50, .i32⟩
  | 54 => ⟨S50, .i1⟩
  | 55 => ⟨S_, .i1⟩
  | 56 => ⟨S50, .i1⟩
  | 57 => ⟨S_, .i32⟩
  | 58 => ⟨S1, .i32⟩
  | 59 => ⟨S51, .i1⟩
  | 60 => ⟨S51, .i32⟩
  | 61 => ⟨S_, .i32⟩
  | 62 => ⟨S_, .i32⟩
  | 63 => ⟨S51, .i32⟩
  | 64 => ⟨S_, .i32⟩
  | 65 => ⟨S16, .i32⟩
  | 66 => ⟨S_, .i32⟩
  | 67 => ⟨S51, .i32⟩
  | 68 => ⟨S51, .i1⟩
  | 69 => ⟨S_, .i32⟩
  | 70 => ⟨S51, .i32⟩
  | 71 => ⟨S51, .i32⟩
  | 72 => ⟨S51, .i32⟩
  | 73 => ⟨S51x1, .i32⟩
  | 74 => ⟨S_, .i32⟩
  | 75 => ⟨S51, .i32⟩
  | 76 => ⟨S16, .i32⟩
  | 77 => ⟨S_, .i32⟩
  | 78 => ⟨S_, .i32⟩
  | 79 => ⟨S16, .i32⟩
  | 80 => ⟨S_, .i32⟩
  | 81 => ⟨S_, .i32⟩
  | 82 => ⟨S16, .i32⟩
  | 83 => ⟨S16, .i32⟩
  | 84 => ⟨S16, .i32⟩
  | 85 => ⟨S_, .i32⟩
  | 86 => ⟨S16, .i32⟩
  | 87 => ⟨S16, .i1⟩
  | 88 => ⟨S16, .i32⟩
  | 89 => ⟨S16, .i32⟩
  | 90 => ⟨S_, .i32⟩
  | 91 => ⟨S16, .i32⟩
  | 92 => ⟨S16, .i1⟩
  | 93 => ⟨S16, .i1⟩
  | 94 => ⟨S_, .i32⟩
  | 95 => ⟨S16, .i32⟩
  | 96 => ⟨S16, .i32⟩
  | 97 => ⟨S16, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S16, .i32⟩
  | 105 => ⟨S16, .i32⟩
  | 106 => ⟨S_, .i32⟩
  | 107 => ⟨S16, .i32⟩
  | 108 => ⟨S16, .i1⟩
  | 109 => ⟨S_, .i32⟩
  | 110 => ⟨S16, .i32⟩
  | 111 => ⟨S16, .i1⟩
  | 112 => ⟨S_, .i32⟩
  | 113 => ⟨S_, .i1⟩
  | 114 => ⟨S16, .i1⟩
  | 115 => ⟨S16, .i1⟩
  | 116 => ⟨S16, .i1⟩
  | 117 => ⟨S16, .i32⟩
  | 118 => ⟨S16, .i32⟩
  | 119 => ⟨S16, .i32⟩
  | 120 => ⟨S51, .i32⟩
  | 121 => ⟨S_, .i32⟩
  | 122 => ⟨S_, .i32⟩
  | 123 => ⟨S1, .i32⟩
  | 124 => ⟨S16, .i32⟩
  | 125 => ⟨S16, .i32⟩
  | 126 => ⟨S16, .i1⟩
  | 127 => ⟨S_, .i32⟩
  | _ => ⟨S10000x128, .f32⟩

abbrev hbmTy0_1 (i : Nat) : BufTy := match i % 128 with
  | 0 => ⟨S_, .i32⟩
  | 1 => ⟨S16, .i32⟩
  | 2 => ⟨S16, .i32⟩
  | 3 => ⟨S_, .i32⟩
  | 4 => ⟨S16, .i32⟩
  | 5 => ⟨S16, .i1⟩
  | 6 => ⟨S_, .i32⟩
  | 7 => ⟨S16, .i32⟩
  | 8 => ⟨S16, .i32⟩
  | 9 => ⟨S16, .i32⟩
  | 10 => ⟨S16x1, .i32⟩
  | 11 => ⟨S16, .i32⟩
  | 12 => ⟨S16, .i32⟩
  | 13 => ⟨S51, .i32⟩
  | 14 => ⟨S_, .i32⟩
  | 15 => ⟨S_, .i32⟩
  | 16 => ⟨S16, .i32⟩
  | 17 => ⟨S16, .i1⟩
  | 18 => ⟨S_, .i32⟩
  | 19 => ⟨S16, .i32⟩
  | 20 => ⟨S16, .i32⟩
  | 21 => ⟨S320000x1, .i32⟩
  | 22 => ⟨S1x16, .i32⟩
  | 23 => ⟨S320000x16, .i32⟩
  | 24 => ⟨S320000x16, .i32⟩
  | 25 => ⟨S320000x16, .i1⟩
  | 26 => ⟨S_, .i1⟩
  | 27 => ⟨S320000, .i1⟩
  | 28 => ⟨S320000, .i32⟩
  | 29 => ⟨S_, .i32⟩
  | 30 => ⟨S_, .i32⟩
  | 31 => ⟨S320000, .i32⟩
  | 32 => ⟨S_, .i32⟩
  | 33 => ⟨S_, .i32⟩
  | 34 => ⟨S320000, .i32⟩
  | 35 => ⟨S_, .i32⟩
  | 36 => ⟨S1024, .i32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S_, .i32⟩
  | 46 => ⟨S320000, .i32⟩
  | 47 => ⟨S1024, .i32⟩
  | 48 => ⟨S_, .i32⟩
  | 49 => ⟨S_, .i32⟩
  | 50 => ⟨S1024, .i32⟩
  | 51 => ⟨S_, .i32⟩
  | 52 => ⟨S_, .i32⟩
  | 53 => ⟨S1024, .i32⟩
  | 54 => ⟨S1024, .i32⟩
  | 55 => ⟨S1024, .i32⟩
  | 56 => ⟨S_, .i32⟩
  | 57 => ⟨S1024, .i32⟩
  | 58 => ⟨S1024, .i1⟩
  | 59 => ⟨S1024, .i32⟩
  | 60 => ⟨S1024, .i32⟩
  | 61 => ⟨S_, .i32⟩
  | 62 => ⟨S1024, .i32⟩
  | 63 => ⟨S1024, .i1⟩
  | 64 => ⟨S1024, .i1⟩
  | 65 => ⟨S_, .i32⟩
  | 66 => ⟨S1024, .i32⟩
  | 67 => ⟨S1024, .i32⟩
  | 68 => ⟨S1024, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S1024, .i32⟩
  | 76 => ⟨S1024, .i32⟩
  | 77 => ⟨S_, .i32⟩
  | 78 => ⟨S1024, .i32⟩
  | 79 => ⟨S1024, .i1⟩
  | 80 => ⟨S_, .i32⟩
  | 81 => ⟨S1024, .i32⟩
  | 82 => ⟨S1024, .i1⟩
  | 83 => ⟨S_, .i32⟩
  | 84 => ⟨S_, .i1⟩
  | 85 => ⟨S1024, .i1⟩
  | 86 => ⟨S1024, .i1⟩
  | 87 => ⟨S1024, .i1⟩
  | 88 => ⟨S1024, .i32⟩
  | 89 => ⟨S1024, .i32⟩
  | 90 => ⟨S1024, .i32⟩
  | 91 => ⟨S320000, .i32⟩
  | 92 => ⟨S_, .i32⟩
  | 93 => ⟨S_, .i32⟩
  | 94 => ⟨S1, .i32⟩
  | 95 => ⟨S1024, .i32⟩
  | 96 => ⟨S1024, .i32⟩
  | 97 => ⟨S1024, .i1⟩
  | 98 => ⟨S_, .i32⟩
  | 99 => ⟨S1, .i32⟩
  | 100 => ⟨S1024, .i32⟩
  | 101 => ⟨S1024, .i32⟩
  | 102 => ⟨S1024, .i32⟩
  | 103 => ⟨S1024, .i32⟩
  | 104 => ⟨S1024, .i1⟩
  | 105 => ⟨S1024, .f32⟩
  | 106 => ⟨S_, .i32⟩
  | 107 => ⟨S1024, .i32⟩
  | 108 => ⟨S1024, .i1⟩
  | 109 => ⟨S_, .i32⟩
  | 110 => ⟨S1024, .i32⟩
  | 111 => ⟨S1024, .i32⟩
  | 112 => ⟨S1024, .i32⟩
  | 113 => ⟨S1024x1, .i32⟩
  | 114 => ⟨S1024, .i32⟩
  | 115 => ⟨S_, .i32⟩
  | 116 => ⟨S1024, .i32⟩
  | 117 => ⟨S1024, .i1⟩
  | 118 => ⟨S_, .i32⟩
  | 119 => ⟨S1024, .i32⟩
  | 120 => ⟨S1024, .i32⟩
  | 121 => ⟨S1024, .i32⟩
  | 122 => ⟨S1024x1, .i32⟩
  | 123 => ⟨S1024, .i32⟩
  | 124 => ⟨S_, .i32⟩
  | 125 => ⟨S1024, .i32⟩
  | 126 => ⟨S1024, .i1⟩
  | 127 => ⟨S_, .i32⟩
  | _ => ⟨S10000x128, .f32⟩

abbrev hbmTy0_2 (i : Nat) : BufTy := match i % 128 with
  | 0 => ⟨S1024, .i32⟩
  | 1 => ⟨S1024, .i32⟩
  | 2 => ⟨S1024, .i32⟩
  | 3 => ⟨S1024x1, .i32⟩
  | 4 => ⟨S1024x128, .f32⟩
  | 5 => ⟨S_, .i32⟩
  | 6 => ⟨S1024, .i32⟩
  | 7 => ⟨S1024, .i1⟩
  | 8 => ⟨S_, .i32⟩
  | 9 => ⟨S1024, .i32⟩
  | 10 => ⟨S1024, .i32⟩
  | 11 => ⟨S1024, .i32⟩
  | 12 => ⟨S1024x1, .i32⟩
  | 13 => ⟨S1024x16, .f32⟩
  | 14 => ⟨S_, .i32⟩
  | 15 => ⟨S_, .i32⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S_, .i32⟩
  | 23 => ⟨S64, .i32⟩
  | 24 => ⟨S64, .i1⟩
  | 25 => ⟨S_, .i32⟩
  | 26 => ⟨S64, .i32⟩
  | 27 => ⟨S64, .i32⟩
  | 28 => ⟨S64, .i32⟩
  | 29 => ⟨S64x1, .i32⟩
  | 30 => ⟨S64x128, .f32⟩
  | 31 => ⟨S_, .i32⟩
  | 32 => ⟨S_, .i32⟩
  | 33 => ⟨S_, .i32⟩
  | 34 => ⟨S16, .i32⟩
  | 35 => ⟨S16, .i32⟩
  | 36 => ⟨S_, .i32⟩
  | 37 => ⟨S16, .i32⟩
  | 38 => ⟨S16, .i32⟩
  | 39 => ⟨S_, .i32⟩
  | 40 => ⟨S16, .i32⟩
  | 41 => ⟨S16, .i1⟩
  | 42 => ⟨S_, .i32⟩
  | 43 => ⟨S16, .i32⟩
  | 44 => ⟨S16, .i32⟩
  | 45 => ⟨S16, .i32⟩
  | 46 => ⟨S16x1, .i32⟩
  | 47 => ⟨S16x128, .f32⟩
  | 48 => ⟨S128x32, .f32⟩
  | 49 => ⟨S128x32, .f32⟩
  | 50 => ⟨S16x32, .f32⟩
  | 51 => ⟨S1x32, .f32⟩
  | 52 => ⟨S1x32, .f32⟩
  | 53 => ⟨S_, .f32⟩
  | 54 => ⟨S320x128, .f32⟩
  | 55 => ⟨S320, .f32⟩
  | 56 => ⟨S_, .i32⟩
  | 57 => ⟨S1, .i32⟩
  | 58 => ⟨S320x128, .f32⟩
  | 59 => ⟨S320, .f32⟩
  | 60 => ⟨S_, .i32⟩
  | 61 => ⟨S1, .i32⟩
  | 62 => ⟨S320x128, .f32⟩
  | 63 => ⟨S_, .f32⟩
  | 64 => ⟨S1x128, .f32⟩
  | 65 => ⟨S_, .f32⟩
  | 66 => ⟨S_, .i32⟩
  | 67 => ⟨S1, .i32⟩
  | 68 => ⟨S_, .i32⟩
  | 69 => ⟨S1, .i32⟩
  | 70 => ⟨S2, .i32⟩
  | 71 => ⟨S1x128, .f32⟩
  | 72 => ⟨S_, .f32⟩
  | 73 => ⟨S_, .i32⟩
  | 74 => ⟨S1, .i32⟩
  | 75 => ⟨S_, .i32⟩
  | 76 => ⟨S1, .i32⟩
  | 77 => ⟨S2, .i32⟩
  | 78 => ⟨S1x128, .f32⟩
  | 79 => ⟨S_, .f32⟩
  | 80 => ⟨S160x128, .f32⟩
  | 81 => ⟨S160, .f32⟩
  | 82 => ⟨S_, .i32⟩
  | 83 => ⟨S1, .i32⟩
  | 84 => ⟨S160x128, .f32⟩
  | 85 => ⟨S160, .f32⟩
  | 86 => ⟨S_, .i32⟩
  | 87 => ⟨S1, .i32⟩
  | 88 => ⟨S160x128, .f32⟩
  | 89 => ⟨S_, .f32⟩
  | 90 => ⟨S1x128, .f32⟩
  | 91 => ⟨S_, .f32⟩
  | 92 => ⟨S_, .i32⟩
  | 93 => ⟨S1, .i32⟩
  | 94 => ⟨S_, .i32⟩
  | 95 => ⟨S1, .i32⟩
  | 96 => ⟨S2, .i32⟩
  | 97 => ⟨S1x128, .f32⟩
  | 98 => ⟨S_, .f32⟩
  | 99 => ⟨S_, .i32⟩
  | 100 => ⟨S1, .i32⟩
  | 101 => ⟨S_, .i32⟩
  | 102 => ⟨S1, .i32⟩
  | 103 => ⟨S2, .i32⟩
  | 104 => ⟨S1x128, .f32⟩
  | 105 => ⟨S1x1024, .i32⟩
  | 106 => ⟨S1024x1, .i32⟩
  | 107 => ⟨S1x1024, .f32⟩
  | 108 => ⟨S1024x1, .f32⟩
  | 109 => ⟨S1x16, .i32⟩
  | 110 => ⟨S16x1, .i32⟩
  | 111 => ⟨S64x1, .i32⟩
  | 112 => ⟨S_, .i32⟩
  | 113 => ⟨S_, .i1⟩
  | 114 => ⟨S_, .i32⟩
  | 115 => ⟨S1x27, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x128, .f32⟩
  | 125 => ⟨S_, .i32⟩
  | 126 => ⟨S320000, .i32⟩
  | 127 => ⟨S320000, .i1⟩
  | _ => ⟨S10000x128, .f32⟩

abbrev hbmTy0_3 (i : Nat) : BufTy := match i % 128 with
  | 0 => ⟨S_, .i32⟩
  | 1 => ⟨S320000, .i32⟩
  | 2 => ⟨S320000, .i32⟩
  | 3 => ⟨S320000, .i32⟩
  | 4 => ⟨S320000x1, .i32⟩
  | 5 => ⟨S320000x128, .f32⟩
  | 6 => ⟨S320000x272, .f32⟩
  | 7 => ⟨S320000x32, .f32⟩
  | 8 => ⟨S1x32, .f32⟩
  | 9 => ⟨S320000x32, .f32⟩
  | 10 => ⟨S320000x32, .f32⟩
  | 11 => ⟨S_, .f32⟩
  | 12 => ⟨S320000x32, .f32⟩
  | 13 => ⟨S320000x32, .f32⟩
  | 14 => ⟨S320000x32, .f32⟩
  | 15 => ⟨S1x32, .f32⟩
  | 16 => ⟨S320000x32, .f32⟩
  | 17 => ⟨S320000x32, .f32⟩
  | 18 => ⟨S_, .f32⟩
  | 19 => ⟨S10000x32, .f32⟩
  | 20 => ⟨S320000x1, .i32⟩
  | 21 => ⟨S10000x32, .f32⟩
  | 22 => ⟨S10000x160, .f32⟩
  | 23 => ⟨S1x10000x160, .f32⟩
  | 24 => ⟨S24x1, .i32⟩
  | 25 => ⟨S24, .i32⟩
  | 26 => ⟨S_, .i32⟩
  | 27 => ⟨S24, .i32⟩
  | 28 => ⟨S24, .i1⟩
  | 29 => ⟨S_, .i32⟩
  | 30 => ⟨S24, .i32⟩
  | 31 => ⟨S24, .i32⟩
  | 32 => ⟨S24, .i32⟩
  | 33 => ⟨S24x1, .i32⟩
  | 34 => ⟨S1x24x160, .f32⟩
  | 35 => ⟨S24x1, .i32⟩
  | 36 => ⟨S24, .i32⟩
  | 37 => ⟨S_, .i32⟩
  | 38 => ⟨S24, .i32⟩
  | 39 => ⟨S24, .i1⟩
  | 40 => ⟨S_, .i32⟩
  | 41 => ⟨S24, .i32⟩
  | 42 => ⟨S24, .i32⟩
  | 43 => ⟨S24, .i32⟩
  | 44 => ⟨S24x1, .i32⟩
  | 45 => ⟨S1x24x160, .f32⟩
  | 46 => ⟨S1x24x320, .f32⟩
  | 47 => ⟨S1x24x1, .f32⟩
  | 48 => ⟨S1x1x1, .f32⟩
  | 49 => ⟨S1x24x1, .f32⟩
  | 50 => ⟨S1x24x1, .f32⟩
  | 51 => ⟨S_, .f32⟩
  | 52 => ⟨S1x24x1, .f32⟩
  | 53 => ⟨S1x24x1, .f32⟩
  | 54 => ⟨S_, .f32⟩
  | 55 => ⟨S1x24x1, .f32⟩
  | 56 => ⟨S1x24x1, .f32⟩
  | 57 => ⟨S1x24x1, .f32⟩
  | 58 => ⟨S1x24x1, .f32⟩
  | 59 => ⟨S1x24x1, .i1⟩
  | 60 => ⟨S1x24x1, .f32⟩
  | 61 => ⟨S1x24x1, .f32⟩
  | 62 => ⟨S1x24x1, .f32⟩
  | 63 => ⟨S1x24x1, .f32⟩
  | 64 => ⟨S1x24x1, .f32⟩
  | 65 => ⟨S1x24x1, .f32⟩
  | 66 => ⟨S1x24x1, .f32⟩
  | 67 => ⟨S1x24x1, .f32⟩
  | 68 => ⟨S1x24, .f32⟩
  | 69 => ⟨S_, .f32⟩
  | 70 => ⟨S1x24, .f32⟩
  | 71 => ⟨S1x24, .f32⟩
  | 72 => ⟨S1x24x1, .f32⟩
  | 73 => ⟨S1x1x1, .f32⟩
  | 74 => ⟨S1x24x1, .f32⟩
  | 75 => ⟨S1x24x1, .f32⟩
  | 76 => ⟨S_, .f32⟩
  | 77 => ⟨S1x24x1, .f32⟩
  | 78 => ⟨S1x24x1, .f32⟩
  | 79 => ⟨S_, .f32⟩
  | 80 => ⟨S1x24x1, .f32⟩
  | 81 => ⟨S1x24x1, .f32⟩
  | 82 => ⟨S1x24x1, .f32⟩
  | 83 => ⟨S1x24x1, .f32⟩
  | 84 => ⟨S1x24x1, .i1⟩
  | 85 => ⟨S1x24x1, .f32⟩
  | 86 => ⟨S1x24x1, .f32⟩
  | 87 => ⟨S1x24x1, .f32⟩
  | 88 => ⟨S1x24x1, .f32⟩
  | 89 => ⟨S1x24x1, .f32⟩
  | 90 => ⟨S1x24x1, .f32⟩
  | 91 => ⟨S1x24x1, .f32⟩
  | 92 => ⟨S1x24x1, .f32⟩
  | 93 => ⟨S1x24, .f32⟩
  | 94 => ⟨S_, .f32⟩
  | 95 => ⟨S1x24, .f32⟩
  | 96 => ⟨S1x24, .f32⟩
  | 97 => ⟨S1x3x160, .f32⟩
  | 98 => ⟨S1x3x1, .f32⟩
  | 99 => ⟨S1x1x1, .f32⟩
  | 100 => ⟨S1x3x1, .f32⟩
  | 101 => ⟨S1x3x1, .f32⟩
  | 102 => ⟨S_, .f32⟩
  | 103 => ⟨S1x3x1, .f32⟩
  | 104 => ⟨S1x3x1, .f32⟩
  | 105 => ⟨S_, .f32⟩
  | 106 => ⟨S1x3x1, .f32⟩
  | 107 => ⟨S1x3x1, .f32⟩
  | 108 => ⟨S1x3x1, .f32⟩
  | 109 => ⟨S1x3x1, .f32⟩
  | 110 => ⟨S1x3x1, .i1⟩
  | 111 => ⟨S1x3x1, .f32⟩
  | 112 => ⟨S1x3x1, .f32⟩
  | 113 => ⟨S1x3x1, .f32⟩
  | 114 => ⟨S1x3x1, .f32⟩
  | 115 => ⟨S1x3x1, .f32⟩
  | 116 => ⟨S1x3x1, .f32⟩
  | 117 => ⟨S1x3x1, .f32⟩
  | 118 => ⟨S1x3x1, .f32⟩
  | 119 => ⟨S1x3, .f32⟩
  | 120 => ⟨S_, .f32⟩
  | 121 => ⟨S1x3, .f32⟩
  | 122 => ⟨S1x3, .f32⟩
  | 123 => ⟨S1x3x1, .f32⟩
  | 124 => ⟨S1x1x1, .f32⟩
  | 125 => ⟨S1x3x1, .f32⟩
  | 126 => ⟨S1x3x1, .f32⟩
  | 127 => ⟨S_, .f32⟩
  | _ => ⟨S10000x128, .f32⟩

abbrev hbmTy0_4 (i : Nat) : BufTy := match i % 128 with
  | 0 => ⟨S1x3x1, .f32⟩
  | 1 => ⟨S1x3x1, .f32⟩
  | 2 => ⟨S_, .f32⟩
  | 3 => ⟨S1x3x1, .f32⟩
  | 4 => ⟨S1x3x1, .f32⟩
  | 5 => ⟨S1x3x1, .f32⟩
  | 6 => ⟨S1x3x1, .f32⟩
  | 7 => ⟨S1x3x1, .i1⟩
  | 8 => ⟨S1x3x1, .f32⟩
  | 9 => ⟨S1x3x1, .f32⟩
  | 10 => ⟨S1x3x1, .f32⟩
  | 11 => ⟨S1x3x1, .f32⟩
  | 12 => ⟨S1x3x1, .f32⟩
  | 13 => ⟨S1x3x1, .f32⟩
  | 14 => ⟨S1x3x1, .f32⟩
  | 15 => ⟨S1x3x1, .f32⟩
  | 16 => ⟨S1x3, .f32⟩
  | 17 => ⟨S_, .f32⟩
  | 18 => ⟨S1x3, .f32⟩
  | 19 => ⟨S1x3, .f32⟩
  | 20 => ⟨S1x24, .f32⟩
  | 21 => ⟨S1x24, .f32⟩
  | 22 => ⟨S24, .f32⟩
  | 23 => ⟨S1x24, .f32⟩
  | 24 => ⟨S1x24, .f32⟩
  | 25 => ⟨S1x3, .f32⟩
  | 26 => ⟨S1x3, .f32⟩
  | 27 => ⟨S3, .f32⟩
  | 28 => ⟨S1x3, .f32⟩
  | 29 => ⟨S1x3, .f32⟩
  | 30 => ⟨S1x27, .f32⟩
  | 31 => ⟨S32x128, .f32⟩
  | 32 => ⟨S24x1, .f32⟩
  | 33 => ⟨S24, .f32⟩
  | 34 => ⟨S3x1, .f32⟩
  | 35 => ⟨S3, .f32⟩
  | 36 => ⟨S24, .f32⟩
  | 37 => ⟨S24, .f32⟩
  | 38 => ⟨S3, .f32⟩
  | 39 => ⟨S3, .f32⟩
  | 40 => ⟨S27, .f32⟩
  | 41 => ⟨S1x27, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x128, .f32⟩

abbrev bufTy : (tb : Table) → Fin (tcTables nBuf tb) → BufTy
  | .hbm, ⟨i, _⟩ => hbmTy i
  | .local _ .vmem, ⟨0, _⟩ => ⟨S1x1024, .i32⟩
  | .local _ .vmem, ⟨1, _⟩ => ⟨S1024x1, .i32⟩
  | .local _ .vmem, ⟨2, _⟩ => ⟨S1x1024, .f32⟩
  | .local _ .vmem, ⟨3, _⟩ => ⟨S1024x1, .f32⟩
  | .local _ .vmem, ⟨4, _⟩ => ⟨S1x16, .i32⟩
  | .local _ .vmem, ⟨5, _⟩ => ⟨S16x1, .i32⟩
  | .local _ .vmem, ⟨6, _⟩ => ⟨S64x1, .i32⟩
  | .local _ .vmem, ⟨7, _⟩ => ⟨S64x128, .f32⟩
  | .local _ .vmem, ⟨8, _⟩ => ⟨S16x128, .f32⟩
  | .local _ .vmem, ⟨9, _⟩ => ⟨S1024x128, .f32⟩
  | .local _ .vmem, ⟨10, _⟩ => ⟨S1024x16, .f32⟩
  | .local _ .vmem, ⟨11, _⟩ => ⟨S128x32, .f32⟩
  | .local _ .vmem, ⟨12, _⟩ => ⟨S128x32, .f32⟩
  | .local _ .vmem, ⟨13, _⟩ => ⟨S16x32, .f32⟩
  | .local _ .vmem, ⟨14, _⟩ => ⟨S1x32, .f32⟩
  | .local _ .vmem, ⟨15, _⟩ => ⟨S32x32, .f32⟩
  | .local _ .vmem, ⟨16, _⟩ => ⟨S1x32, .f32⟩
  | .local _ .vmem, ⟨17, _⟩ => ⟨S320x128, .f32⟩
  | .local _ .vmem, ⟨18, _⟩ => ⟨S1x128, .f32⟩
  | .local _ .vmem, ⟨19, _⟩ => ⟨S160x128, .f32⟩
  | .local _ .vmem, ⟨20, _⟩ => ⟨S1x128, .f32⟩
  | .local _ .vmem, ⟨21, _⟩ => ⟨S32x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3_0 : Ref sig .tc := ⟨.hbm, 39, rfl⟩
abbrev main_v14_2 : Ref sig .tc := ⟨.hbm, 40, rfl⟩
abbrev main_call0_c : Ref sig .tc := ⟨.hbm, 41, rfl⟩
abbrev main_call0_v4 : Ref sig .tc := ⟨.hbm, 42, rfl⟩
abbrev main_call0_v5 : Ref sig .tc := ⟨.hbm, 43, rfl⟩
abbrev main_call0_c_0 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_v14_0 : Ref sig .tc := ⟨.hbm, 49, rfl⟩
abbrev main_call0_c_1 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_c_2 : Ref sig .tc := ⟨.hbm, 55, rfl⟩
abbrev main_call0_v15 : Ref sig .tc := ⟨.hbm, 56, rfl⟩
abbrev main_call0_c_3 : Ref sig .tc := ⟨.hbm, 57, rfl⟩
abbrev main_call0_v16 : Ref sig .tc := ⟨.hbm, 58, rfl⟩
abbrev main_v14_1 : Ref sig .tc := ⟨.hbm, 59, rfl⟩
abbrev main_call1_v0 : Ref sig .tc := ⟨.hbm, 60, rfl⟩
abbrev main_call1_call0_c : Ref sig .tc := ⟨.hbm, 61, rfl⟩
abbrev main_call1_call0_v0 : Ref sig .tc := ⟨.hbm, 62, rfl⟩
abbrev main_v15 : Ref sig .tc := ⟨.hbm, 63, rfl⟩
abbrev main_c_1 : Ref sig .tc := ⟨.hbm, 64, rfl⟩
abbrev main_v16 : Ref sig .tc := ⟨.hbm, 65, rfl⟩
abbrev main_c_2 : Ref sig .tc := ⟨.hbm, 66, rfl⟩
abbrev main_v17 : Ref sig .tc := ⟨.hbm, 67, rfl⟩
abbrev main_v18 : Ref sig .tc := ⟨.hbm, 68, rfl⟩
abbrev main_c_3 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_c_4 : Ref sig .tc := ⟨.hbm, 74, rfl⟩
abbrev main_v23 : Ref sig .tc := ⟨.hbm, 75, rfl⟩
abbrev main_v24 : Ref sig .tc := ⟨.hbm, 76, rfl⟩
abbrev main_call2_call0_c : Ref sig .tc := ⟨.hbm, 77, rfl⟩
abbrev main_call2_call0_v0 : Ref sig .tc := ⟨.hbm, 78, rfl⟩
abbrev main_v25 : Ref sig .tc := ⟨.hbm, 79, rfl⟩
abbrev main_c_5 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v26 : Ref sig .tc := ⟨.hbm, 97, rfl⟩
abbrev main_c_6 : Ref sig .tc := ⟨.hbm, 98, rfl⟩
abbrev main_call4_v0 : Ref sig .tc := ⟨.hbm, 99, rfl⟩
abbrev main_call4_c : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_c_1 : Ref sig .tc := ⟨.hbm, 106, rfl⟩
abbrev main_call4_v5 : Ref sig .tc := ⟨.hbm, 107, rfl⟩
abbrev main_call4_v6 : Ref sig .tc := ⟨.hbm, 108, rfl⟩
abbrev main_call4_c_2 : Ref sig .tc := ⟨.hbm, 109, rfl⟩
abbrev main_call4_v7 : Ref sig .tc := ⟨.hbm, 110, rfl⟩
abbrev main_call4_v8 : Ref sig .tc := ⟨.hbm, 111, rfl⟩
abbrev main_call4_c_3 : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_v27 : Ref sig .tc := ⟨.hbm, 119, rfl⟩
abbrev main_v28 : Ref sig .tc := ⟨.hbm, 120, rfl⟩
abbrev main_c_7 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_c_8 : Ref sig .tc := ⟨.hbm, 127, rfl⟩
abbrev main_call5_v0 : Ref sig .tc := ⟨.hbm, 128, rfl⟩
abbrev main_call5_v1 : Ref sig .tc := ⟨.hbm, 129, rfl⟩
abbrev main_v34 : Ref sig .tc := ⟨.hbm, 130, rfl⟩
abbrev main_c_9 : Ref sig .tc := ⟨.hbm, 131, rfl⟩
abbrev main_v35 : Ref sig .tc := ⟨.hbm, 132, rfl⟩
abbrev main_v36 : Ref sig .tc := ⟨.hbm, 133, rfl⟩
abbrev main_c_10 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_c_11 : Ref sig .tc := ⟨.hbm, 142, rfl⟩
abbrev main_v44 : Ref sig .tc := ⟨.hbm, 143, rfl⟩
abbrev main_v45 : Ref sig .tc := ⟨.hbm, 144, rfl⟩
abbrev main_v46 : Ref sig .tc := ⟨.hbm, 145, rfl⟩
abbrev main_c_12 : Ref sig .tc := ⟨.hbm, 146, rfl⟩
abbrev main_call6_v0 : Ref sig .tc := ⟨.hbm, 147, rfl⟩
abbrev main_v47 : Ref sig .tc := ⟨.hbm, 148, rfl⟩
abbrev main_v48 : Ref sig .tc := ⟨.hbm, 149, rfl⟩
abbrev main_v49 : Ref sig .tc := ⟨.hbm, 150, rfl⟩
abbrev main_v50 : Ref sig .tc := ⟨.hbm, 151, rfl⟩
abbrev main_v51 : Ref sig .tc := ⟨.hbm, 152, rfl⟩
abbrev main_v52 : Ref sig .tc := ⟨.hbm, 153, rfl⟩
abbrev main_c_13 : Ref sig .tc := ⟨.hbm, 154, rfl⟩
abbrev main_v53 : Ref sig .tc := ⟨.hbm, 155, rfl⟩
abbrev main_v54 : Ref sig .tc := ⟨.hbm, 156, rfl⟩
abbrev main_c_14 : Ref sig .tc := ⟨.hbm, 157, rfl⟩
abbrev main_v55 : Ref sig .tc := ⟨.hbm, 158, rfl⟩
abbrev main_call7_v0 : Ref sig .tc := ⟨.hbm, 159, rfl⟩
abbrev main_call7_call0_c : Ref sig .tc := ⟨.hbm, 160, rfl⟩
abbrev main_call7_call0_v0 : Ref sig .tc := ⟨.hbm, 161, rfl⟩
abbrev main_v56 : Ref sig .tc := ⟨.hbm, 162, rfl⟩
abbrev main_c_15 : Ref sig .tc := ⟨.hbm, 163, rfl⟩
abbrev main_v57 : Ref sig .tc := ⟨.hbm, 164, rfl⟩
abbrev main_c_16 : Ref sig .tc := ⟨.hbm, 165, rfl⟩
abbrev main_v58 : Ref sig .tc := ⟨.hbm, 166, rfl⟩
abbrev main_v59 : Ref sig .tc := ⟨.hbm, 167, rfl⟩
abbrev main_c_17 : Ref sig .tc := ⟨.hbm, 168, rfl⟩
abbrev main_v60 : Ref sig .tc := ⟨.hbm, 169, rfl⟩
abbrev main_v61 : Ref sig .tc := ⟨.hbm, 170, rfl⟩
abbrev main_v62 : Ref sig .tc := ⟨.hbm, 171, rfl⟩
abbrev main_v63 : Ref sig .tc := ⟨.hbm, 172, rfl⟩
abbrev main_c_18 : Ref sig .tc := ⟨.hbm, 173, rfl⟩
abbrev main_v64 : Ref sig .tc := ⟨.hbm, 174, rfl⟩
abbrev main_v65 : Ref sig .tc := ⟨.hbm, 175, rfl⟩
abbrev main_call8_call0_c : Ref sig .tc := ⟨.hbm, 176, rfl⟩
abbrev main_call8_call0_v0 : Ref sig .tc := ⟨.hbm, 177, rfl⟩
abbrev main_v66 : Ref sig .tc := ⟨.hbm, 178, rfl⟩
abbrev main_c_19 : Ref sig .tc := ⟨.hbm, 179, rfl⟩
abbrev main_call9_v0 : Ref sig .tc := ⟨.hbm, 180, rfl⟩
abbrev main_call9_v1 : Ref sig .tc := ⟨.hbm, 181, rfl⟩
abbrev main_call9_v2 : Ref sig .tc := ⟨.hbm, 182, rfl⟩
abbrev main_call9_v3 : Ref sig .tc := ⟨.hbm, 183, rfl⟩
abbrev main_call9_v4 : Ref sig .tc := ⟨.hbm, 184, rfl⟩
abbrev main_call9_v5 : Ref sig .tc := ⟨.hbm, 185, rfl⟩
abbrev main_call9_v6 : Ref sig .tc := ⟨.hbm, 186, rfl⟩
abbrev main_call9_v7 : Ref sig .tc := ⟨.hbm, 187, rfl⟩
abbrev main_call9_v8 : Ref sig .tc := ⟨.hbm, 188, rfl⟩
abbrev main_call9_c : Ref sig .tc := ⟨.hbm, 189, rfl⟩
abbrev main_call9_v9 : Ref sig .tc := ⟨.hbm, 190, rfl⟩
abbrev main_call9_v10 : Ref sig .tc := ⟨.hbm, 191, rfl⟩
abbrev main_call9_v11 : Ref sig .tc := ⟨.hbm, 192, rfl⟩
abbrev main_call9_c_0 : Ref sig .tc := ⟨.hbm, 193, rfl⟩
abbrev main_call9_v12 : Ref sig .tc := ⟨.hbm, 194, rfl⟩
abbrev main_call9_v13 : Ref sig .tc := ⟨.hbm, 195, rfl⟩
abbrev main_v67 : Ref sig .tc := ⟨.hbm, 196, rfl⟩
abbrev main_c_20 : Ref sig .tc := ⟨.hbm, 197, rfl⟩
abbrev main_call10_v0 : Ref sig .tc := ⟨.hbm, 198, rfl⟩
abbrev main_call10_c : Ref sig .tc := ⟨.hbm, 199, rfl⟩
abbrev main_call10_v1 : Ref sig .tc := ⟨.hbm, 200, rfl⟩
abbrev main_call10_c_0 : Ref sig .tc := ⟨.hbm, 201, rfl⟩
abbrev main_call10_v2 : Ref sig .tc := ⟨.hbm, 202, rfl⟩
abbrev main_call10_v3 : Ref sig .tc := ⟨.hbm, 203, rfl⟩
abbrev main_call10_v4 : Ref sig .tc := ⟨.hbm, 204, rfl⟩
abbrev main_call10_c_1 : Ref sig .tc := ⟨.hbm, 205, rfl⟩
abbrev main_call10_v5 : Ref sig .tc := ⟨.hbm, 206, rfl⟩
abbrev main_call10_v6 : Ref sig .tc := ⟨.hbm, 207, rfl⟩
abbrev main_call10_c_2 : Ref sig .tc := ⟨.hbm, 208, rfl⟩
abbrev main_call10_v7 : Ref sig .tc := ⟨.hbm, 209, rfl⟩
abbrev main_call10_v8 : Ref sig .tc := ⟨.hbm, 210, rfl⟩
abbrev main_call10_c_3 : Ref sig .tc := ⟨.hbm, 211, rfl⟩
abbrev main_call10_v9 : Ref sig .tc := ⟨.hbm, 212, rfl⟩
abbrev main_call10_v10 : Ref sig .tc := ⟨.hbm, 213, rfl⟩
abbrev main_call10_v11 : Ref sig .tc := ⟨.hbm, 214, rfl⟩
abbrev main_call10_v12 : Ref sig .tc := ⟨.hbm, 215, rfl⟩
abbrev main_call10_v13 : Ref sig .tc := ⟨.hbm, 216, rfl⟩
abbrev main_call10_v14 : Ref sig .tc := ⟨.hbm, 217, rfl⟩
abbrev main_v68 : Ref sig .tc := ⟨.hbm, 218, rfl⟩
abbrev main_v69 : Ref sig .tc := ⟨.hbm, 219, rfl⟩
abbrev main_c_21 : Ref sig .tc := ⟨.hbm, 220, rfl⟩
abbrev main_v70 : Ref sig .tc := ⟨.hbm, 221, rfl⟩
abbrev main_v71 : Ref sig .tc := ⟨.hbm, 222, rfl⟩
abbrev main_v72 : Ref sig .tc := ⟨.hbm, 223, rfl⟩
abbrev main_v73 : Ref sig .tc := ⟨.hbm, 224, rfl⟩
abbrev main_v74 : Ref sig .tc := ⟨.hbm, 225, rfl⟩
abbrev main_c_22 : Ref sig .tc := ⟨.hbm, 226, rfl⟩
abbrev main_v75 : Ref sig .tc := ⟨.hbm, 227, rfl⟩
abbrev main_call11_v0 : Ref sig .tc := ⟨.hbm, 228, rfl⟩
abbrev main_v76 : Ref sig .tc := ⟨.hbm, 229, rfl⟩
abbrev main_v77 : Ref sig .tc := ⟨.hbm, 230, rfl⟩
abbrev main_v78 : Ref sig .tc := ⟨.hbm, 231, rfl⟩
abbrev main_v79 : Ref sig .tc := ⟨.hbm, 232, rfl⟩
abbrev main_v80 : Ref sig .tc := ⟨.hbm, 233, rfl⟩
abbrev main_c_23 : Ref sig .tc := ⟨.hbm, 234, rfl⟩
abbrev main_v81 : Ref sig .tc := ⟨.hbm, 235, rfl⟩
abbrev main_v82 : Ref sig .tc := ⟨.hbm, 236, rfl⟩
abbrev main_c_24 : Ref sig .tc := ⟨.hbm, 237, rfl⟩
abbrev main_v83 : Ref sig .tc := ⟨.hbm, 238, rfl⟩
abbrev main_v84 : Ref sig .tc := ⟨.hbm, 239, rfl⟩
abbrev main_v85 : Ref sig .tc := ⟨.hbm, 240, rfl⟩
abbrev main_v86 : Ref sig .tc := ⟨.hbm, 241, rfl⟩
abbrev main_v87 : Ref sig .tc := ⟨.hbm, 242, rfl⟩
abbrev main_c_25 : Ref sig .tc := ⟨.hbm, 243, rfl⟩
abbrev main_v88 : Ref sig .tc := ⟨.hbm, 244, rfl⟩
abbrev main_v89 : Ref sig .tc := ⟨.hbm, 245, rfl⟩
abbrev main_c_26 : Ref sig .tc := ⟨.hbm, 246, rfl⟩
abbrev main_v90 : Ref sig .tc := ⟨.hbm, 247, rfl⟩
abbrev main_v91 : Ref sig .tc := ⟨.hbm, 248, rfl⟩
abbrev main_v92 : Ref sig .tc := ⟨.hbm, 249, rfl⟩
abbrev main_v93 : Ref sig .tc := ⟨.hbm, 250, rfl⟩
abbrev main_v94 : Ref sig .tc := ⟨.hbm, 251, rfl⟩
abbrev main_c_27 : Ref sig .tc := ⟨.hbm, 252, rfl⟩
abbrev main_v95 : Ref sig .tc := ⟨.hbm, 253, rfl⟩
abbrev main_v96 : Ref sig .tc := ⟨.hbm, 254, rfl⟩
abbrev main_c_28 : Ref sig .tc := ⟨.hbm, 255, rfl⟩
abbrev main_v97 : Ref sig .tc := ⟨.hbm, 256, rfl⟩
abbrev main_v98 : Ref sig .tc := ⟨.hbm, 257, rfl⟩
abbrev main_v99 : Ref sig .tc := ⟨.hbm, 258, rfl⟩
abbrev main_v100 : Ref sig .tc := ⟨.hbm, 259, rfl⟩
abbrev main_v101 : Ref sig .tc := ⟨.hbm, 260, rfl⟩
abbrev main_c_29 : Ref sig .tc := ⟨.hbm, 261, rfl⟩
abbrev main_v102 : Ref sig .tc := ⟨.hbm, 262, rfl⟩
abbrev main_v103 : Ref sig .tc := ⟨.hbm, 263, rfl⟩
abbrev main_c_30 : Ref sig .tc := ⟨.hbm, 264, rfl⟩
abbrev main_v104 : Ref sig .tc := ⟨.hbm, 265, rfl⟩
abbrev main_v105 : Ref sig .tc := ⟨.hbm, 266, rfl⟩
abbrev main_v106 : Ref sig .tc := ⟨.hbm, 267, rfl⟩
abbrev main_v107 : Ref sig .tc := ⟨.hbm, 268, rfl⟩
abbrev main_v108 : Ref sig .tc := ⟨.hbm, 269, rfl⟩
abbrev main_c_31 : Ref sig .tc := ⟨.hbm, 270, rfl⟩
abbrev main_c_32 : Ref sig .tc := ⟨.hbm, 271, rfl⟩
abbrev main_call12_v0 : Ref sig .tc := ⟨.hbm, 272, rfl⟩
abbrev main_call12_v1 : Ref sig .tc := ⟨.hbm, 273, rfl⟩
abbrev main_call12_v2 : Ref sig .tc := ⟨.hbm, 274, rfl⟩
abbrev main_call12_v3 : Ref sig .tc := ⟨.hbm, 275, rfl⟩
abbrev main_call12_v4 : Ref sig .tc := ⟨.hbm, 276, rfl⟩
abbrev main_v109 : Ref sig .tc := ⟨.hbm, 277, rfl⟩
abbrev main_c_33 : Ref sig .tc := ⟨.hbm, 278, rfl⟩
abbrev main_v110 : Ref sig .tc := ⟨.hbm, 279, rfl⟩
abbrev main_v111 : Ref sig .tc := ⟨.hbm, 280, rfl⟩
abbrev main_c_34 : Ref sig .tc := ⟨.hbm, 281, rfl⟩
abbrev main_v112 : Ref sig .tc := ⟨.hbm, 282, rfl⟩
abbrev main_v113 : Ref sig .tc := ⟨.hbm, 283, rfl⟩
abbrev main_v114 : Ref sig .tc := ⟨.hbm, 284, rfl⟩
abbrev main_v115 : Ref sig .tc := ⟨.hbm, 285, rfl⟩
abbrev main_v116 : Ref sig .tc := ⟨.hbm, 286, rfl⟩
abbrev main_c_35 : Ref sig .tc := ⟨.hbm, 287, rfl⟩
abbrev main_c_36 : Ref sig .tc := ⟨.hbm, 288, rfl⟩
abbrev main_call13_v0 : Ref sig .tc := ⟨.hbm, 289, rfl⟩
abbrev main_call13_v1 : Ref sig .tc := ⟨.hbm, 290, rfl⟩
abbrev main_call13_v2 : Ref sig .tc := ⟨.hbm, 291, rfl⟩
abbrev main_call13_v3 : Ref sig .tc := ⟨.hbm, 292, rfl⟩
abbrev main_call13_v4 : Ref sig .tc := ⟨.hbm, 293, rfl⟩
abbrev main_v117 : Ref sig .tc := ⟨.hbm, 294, rfl⟩
abbrev main_c_37 : Ref sig .tc := ⟨.hbm, 295, rfl⟩
abbrev main_v118 : Ref sig .tc := ⟨.hbm, 296, rfl⟩
abbrev main_v119 : Ref sig .tc := ⟨.hbm, 297, rfl⟩
abbrev main_c_38 : Ref sig .tc := ⟨.hbm, 298, rfl⟩
abbrev main_v120 : Ref sig .tc := ⟨.hbm, 299, rfl⟩
abbrev main_v121 : Ref sig .tc := ⟨.hbm, 300, rfl⟩
abbrev main_v122 : Ref sig .tc := ⟨.hbm, 301, rfl⟩
abbrev main_v123 : Ref sig .tc := ⟨.hbm, 302, rfl⟩
abbrev main_v124 : Ref sig .tc := ⟨.hbm, 303, rfl⟩
abbrev main_v125 : Ref sig .tc := ⟨.hbm, 304, rfl⟩
abbrev main_v126 : Ref sig .tc := ⟨.hbm, 305, rfl⟩
abbrev main_v127 : Ref sig .tc := ⟨.hbm, 306, rfl⟩
abbrev main_v128 : Ref sig .tc := ⟨.hbm, 307, rfl⟩
abbrev main_v129 : Ref sig .tc := ⟨.hbm, 308, rfl⟩
abbrev main_cst : Ref sig .tc := ⟨.hbm, 309, rfl⟩
abbrev main_v130 : Ref sig .tc := ⟨.hbm, 310, rfl⟩
abbrev main_v131 : Ref sig .tc := ⟨.hbm, 311, rfl⟩
abbrev main_c_39 : Ref sig .tc := ⟨.hbm, 312, rfl⟩
abbrev main_v132 : Ref sig .tc := ⟨.hbm, 313, rfl⟩
abbrev main_v133 : Ref sig .tc := ⟨.hbm, 314, rfl⟩
abbrev main_v134 : Ref sig .tc := ⟨.hbm, 315, rfl⟩
abbrev main_c_40 : Ref sig .tc := ⟨.hbm, 316, rfl⟩
abbrev main_v135 : Ref sig .tc := ⟨.hbm, 317, rfl⟩
abbrev main_v136 : Ref sig .tc := ⟨.hbm, 318, rfl⟩
abbrev main_cst_41 : Ref sig .tc := ⟨.hbm, 319, rfl⟩
abbrev main_v137 : Ref sig .tc := ⟨.hbm, 320, rfl⟩
abbrev main_v138 : Ref sig .tc := ⟨.hbm, 321, rfl⟩
abbrev main_c_42 : Ref sig .tc := ⟨.hbm, 322, rfl⟩
abbrev main_v139 : Ref sig .tc := ⟨.hbm, 323, rfl⟩
abbrev main_c_43 : Ref sig .tc := ⟨.hbm, 324, rfl⟩
abbrev main_v140 : Ref sig .tc := ⟨.hbm, 325, rfl⟩
abbrev main_v141 : Ref sig .tc := ⟨.hbm, 326, rfl⟩
abbrev main_v142 : Ref sig .tc := ⟨.hbm, 327, rfl⟩
abbrev main_v143 : Ref sig .tc := ⟨.hbm, 328, rfl⟩
abbrev main_c_44 : Ref sig .tc := ⟨.hbm, 329, rfl⟩
abbrev main_v144 : Ref sig .tc := ⟨.hbm, 330, rfl⟩
abbrev main_c_45 : Ref sig .tc := ⟨.hbm, 331, rfl⟩
abbrev main_v145 : Ref sig .tc := ⟨.hbm, 332, rfl⟩
abbrev main_v146 : Ref sig .tc := ⟨.hbm, 333, rfl⟩
abbrev main_v147 : Ref sig .tc := ⟨.hbm, 334, rfl⟩
abbrev main_cst_46 : Ref sig .tc := ⟨.hbm, 335, rfl⟩
abbrev main_v148 : Ref sig .tc := ⟨.hbm, 336, rfl⟩
abbrev main_v149 : Ref sig .tc := ⟨.hbm, 337, rfl⟩
abbrev main_c_47 : Ref sig .tc := ⟨.hbm, 338, rfl⟩
abbrev main_v150 : Ref sig .tc := ⟨.hbm, 339, rfl⟩
abbrev main_v151 : Ref sig .tc := ⟨.hbm, 340, rfl⟩
abbrev main_v152 : Ref sig .tc := ⟨.hbm, 341, rfl⟩
abbrev main_c_48 : Ref sig .tc := ⟨.hbm, 342, rfl⟩
abbrev main_v153 : Ref sig .tc := ⟨.hbm, 343, rfl⟩
abbrev main_v154 : Ref sig .tc := ⟨.hbm, 344, rfl⟩
abbrev main_cst_49 : Ref sig .tc := ⟨.hbm, 345, rfl⟩
abbrev main_v155 : Ref sig .tc := ⟨.hbm, 346, rfl⟩
abbrev main_v156 : Ref sig .tc := ⟨.hbm, 347, rfl⟩
abbrev main_c_50 : Ref sig .tc := ⟨.hbm, 348, rfl⟩
abbrev main_v157 : Ref sig .tc := ⟨.hbm, 349, rfl⟩
abbrev main_c_51 : Ref sig .tc := ⟨.hbm, 350, rfl⟩
abbrev main_v158 : Ref sig .tc := ⟨.hbm, 351, rfl⟩
abbrev main_v159 : Ref sig .tc := ⟨.hbm, 352, rfl⟩
abbrev main_v160 : Ref sig .tc := ⟨.hbm, 353, rfl⟩
abbrev main_v161 : Ref sig .tc := ⟨.hbm, 354, rfl⟩
abbrev main_c_52 : Ref sig .tc := ⟨.hbm, 355, rfl⟩
abbrev main_v162 : Ref sig .tc := ⟨.hbm, 356, rfl⟩
abbrev main_c_53 : Ref sig .tc := ⟨.hbm, 357, rfl⟩
abbrev main_v163 : Ref sig .tc := ⟨.hbm, 358, rfl⟩
abbrev main_v164 : Ref sig .tc := ⟨.hbm, 359, rfl⟩
abbrev main_v165 : Ref sig .tc := ⟨.hbm, 360, rfl⟩
abbrev main_v166 : Ref sig .tc := ⟨.hbm, 361, rfl⟩
abbrev main_v167 : Ref sig .tc := ⟨.hbm, 362, rfl⟩
abbrev main_v168 : Ref sig .tc := ⟨.hbm, 363, rfl⟩
abbrev main_v169 : Ref sig .tc := ⟨.hbm, 364, rfl⟩
abbrev main_v170 : Ref sig .tc := ⟨.hbm, 365, rfl⟩
abbrev main_v171 : Ref sig .tc := ⟨.hbm, 366, rfl⟩
abbrev main_v172 : Ref sig .tc := ⟨.hbm, 367, rfl⟩
abbrev main_c_54 : Ref sig .tc := ⟨.hbm, 368, rfl⟩
abbrev main_v173 : Ref sig .tc := ⟨.hbm, 369, rfl⟩
abbrev main_v174 : Ref sig .tc := ⟨.hbm, 370, rfl⟩
abbrev main_v175 : Ref sig .tc := ⟨.hbm, 371, rfl⟩
abbrev main_case0b0_c_55 : Ref sig .tc := ⟨.hbm, 372, rfl⟩
abbrev main_case0b0_v176 : Ref sig .tc := ⟨.hbm, 373, rfl⟩
abbrev main_case0b0_v177 : Ref sig .tc := ⟨.hbm, 374, rfl⟩
abbrev main_case0b0_c_56 : Ref sig .tc := ⟨.hbm, 375, rfl⟩
abbrev main_case0b0_v178 : Ref sig .tc := ⟨.hbm, 376, rfl⟩
abbrev main_case0b0_v179 : Ref sig .tc := ⟨.hbm, 377, rfl⟩
abbrev main_case0b0_v180 : Ref sig .tc := ⟨.hbm, 378, rfl⟩
abbrev main_case0b0_v181 : Ref sig .tc := ⟨.hbm, 379, rfl⟩
abbrev main_case0b0_v182 : Ref sig .tc := ⟨.hbm, 380, rfl⟩
abbrev main_case0b0_c_57 : Ref sig .tc := ⟨.hbm, 381, rfl⟩
abbrev main_case0b0_v183 : Ref sig .tc := ⟨.hbm, 382, rfl⟩
abbrev main_case0b0_v184 : Ref sig .tc := ⟨.hbm, 383, rfl⟩
abbrev main_case0b0_c_58 : Ref sig .tc := ⟨.hbm, 384, rfl⟩
abbrev main_case0b0_v185 : Ref sig .tc := ⟨.hbm, 385, rfl⟩
abbrev main_case0b0_v186 : Ref sig .tc := ⟨.hbm, 386, rfl⟩
abbrev main_case0b0_v187 : Ref sig .tc := ⟨.hbm, 387, rfl⟩
abbrev main_case0b0_v188 : Ref sig .tc := ⟨.hbm, 388, rfl⟩
abbrev main_case0b0_v189 : Ref sig .tc := ⟨.hbm, 389, rfl⟩
abbrev main_case0b0_v190 : Ref sig .tc := ⟨.hbm, 390, rfl⟩
abbrev main_case0b0_v191 : Ref sig .tc := ⟨.hbm, 391, rfl⟩
abbrev main_case0b0_v192 : Ref sig .tc := ⟨.hbm, 392, rfl⟩
abbrev main_case0b0_v193 : Ref sig .tc := ⟨.hbm, 393, rfl⟩
abbrev main_case0b0_v194 : Ref sig .tc := ⟨.hbm, 394, rfl⟩
abbrev main_case0b0_call14_cst : Ref sig .tc := ⟨.hbm, 395, rfl⟩
abbrev main_case0b0_call14_v0 : Ref sig .tc := ⟨.hbm, 396, rfl⟩
abbrev main_case0b0_v195 : Ref sig .tc := ⟨.hbm, 397, rfl⟩
abbrev main_case0b0_v196 : Ref sig .tc := ⟨.hbm, 398, rfl⟩
abbrev main_case0b0_v197 : Ref sig .tc := ⟨.hbm, 399, rfl⟩
abbrev main_case0b0_v198 : Ref sig .tc := ⟨.hbm, 400, rfl⟩
abbrev main_case0b0_v199 : Ref sig .tc := ⟨.hbm, 401, rfl⟩
abbrev main_case0b0_cst_59 : Ref sig .tc := ⟨.hbm, 402, rfl⟩
abbrev main_case0b0_v200 : Ref sig .tc := ⟨.hbm, 403, rfl⟩
abbrev main_case0b0_v201 : Ref sig .tc := ⟨.hbm, 404, rfl⟩
abbrev main_case0b0_v202 : Ref sig .tc := ⟨.hbm, 405, rfl⟩
abbrev main_case0b0_v203 : Ref sig .tc := ⟨.hbm, 406, rfl⟩
abbrev main_case0b0_v204 : Ref sig .tc := ⟨.hbm, 407, rfl⟩
abbrev main_case0b0_v205 : Ref sig .tc := ⟨.hbm, 408, rfl⟩
abbrev main_case0b0_v206 : Ref sig .tc := ⟨.hbm, 409, rfl⟩
abbrev main_case0b0_c_60 : Ref sig .tc := ⟨.hbm, 410, rfl⟩
abbrev main_case0b0_v207 : Ref sig .tc := ⟨.hbm, 411, rfl⟩
abbrev main_case0b0_v208 : Ref sig .tc := ⟨.hbm, 412, rfl⟩
abbrev main_case0b0_c_61 : Ref sig .tc := ⟨.hbm, 413, rfl⟩
abbrev main_case0b0_v209 : Ref sig .tc := ⟨.hbm, 414, rfl⟩
abbrev main_case0b0_v210 : Ref sig .tc := ⟨.hbm, 415, rfl⟩
abbrev main_case0b0_v211 : Ref sig .tc := ⟨.hbm, 416, rfl⟩
abbrev main_case0b0_v212 : Ref sig .tc := ⟨.hbm, 417, rfl⟩
abbrev main_case0b0_v213 : Ref sig .tc := ⟨.hbm, 418, rfl⟩
abbrev main_case0b0_v214 : Ref sig .tc := ⟨.hbm, 419, rfl⟩
abbrev main_case0b0_v215 : Ref sig .tc := ⟨.hbm, 420, rfl⟩
abbrev main_case0b0_c_62 : Ref sig .tc := ⟨.hbm, 421, rfl⟩
abbrev main_case0b0_v216 : Ref sig .tc := ⟨.hbm, 422, rfl⟩
abbrev main_case0b0_v217 : Ref sig .tc := ⟨.hbm, 423, rfl⟩
abbrev main_case0b0_c_63 : Ref sig .tc := ⟨.hbm, 424, rfl⟩
abbrev main_case0b0_v218 : Ref sig .tc := ⟨.hbm, 425, rfl⟩
abbrev main_case0b0_v219 : Ref sig .tc := ⟨.hbm, 426, rfl⟩
abbrev main_case0b0_v220 : Ref sig .tc := ⟨.hbm, 427, rfl⟩
abbrev main_case0b0_v221 : Ref sig .tc := ⟨.hbm, 428, rfl⟩
abbrev main_case0b0_v222 : Ref sig .tc := ⟨.hbm, 429, rfl⟩
abbrev main_case0b0_v223 : Ref sig .tc := ⟨.hbm, 430, rfl⟩
abbrev main_case0b0_v224 : Ref sig .tc := ⟨.hbm, 431, rfl⟩
abbrev main_case0b0_v225 : Ref sig .tc := ⟨.hbm, 432, rfl⟩
abbrev main_case0b0_v226 : Ref sig .tc := ⟨.hbm, 433, rfl⟩
abbrev main_case0b0_v227 : Ref sig .tc := ⟨.hbm, 434, rfl⟩
abbrev main_case0b0_cst_64 : Ref sig .tc := ⟨.hbm, 435, rfl⟩
abbrev main_case0b0_v228 : Ref sig .tc := ⟨.hbm, 436, rfl⟩
abbrev main_case0b0_v229 : Ref sig .tc := ⟨.hbm, 437, rfl⟩
abbrev main_case0b0_call15_cst : Ref sig .tc := ⟨.hbm, 438, rfl⟩
abbrev main_case0b0_call15_v0 : Ref sig .tc := ⟨.hbm, 439, rfl⟩
abbrev main_case0b0_call15_v1 : Ref sig .tc := ⟨.hbm, 440, rfl⟩
abbrev main_case0b0_call15_v2 : Ref sig .tc := ⟨.hbm, 441, rfl⟩
abbrev main_case0b0_call15_v3 : Ref sig .tc := ⟨.hbm, 442, rfl⟩
abbrev main_case0b0_call15_v4 : Ref sig .tc := ⟨.hbm, 443, rfl⟩
abbrev main_case0b0_call15_v5 : Ref sig .tc := ⟨.hbm, 444, rfl⟩
abbrev main_case0b0_call15_v6 : Ref sig .tc := ⟨.hbm, 445, rfl⟩
abbrev main_case0b0_call15_v7 : Ref sig .tc := ⟨.hbm, 446, rfl⟩
abbrev main_case0b0_call15_v8 : Ref sig .tc := ⟨.hbm, 447, rfl⟩
abbrev main_case0b0_call15_v9 : Ref sig .tc := ⟨.hbm, 448, rfl⟩
abbrev main_case0b0_call15_v10 : Ref sig .tc := ⟨.hbm, 449, rfl⟩
abbrev main_case0b0_call15_v11 : Ref sig .tc := ⟨.hbm, 450, rfl⟩
abbrev main_case0b0_v230 : Ref sig .tc := ⟨.hbm, 451, rfl⟩
abbrev main_case0b0_v231 : Ref sig .tc := ⟨.hbm, 452, rfl⟩
abbrev main_case0b0_cst_65 : Ref sig .tc := ⟨.hbm, 453, rfl⟩
abbrev main_case0b0_v232 : Ref sig .tc := ⟨.hbm, 454, rfl⟩
abbrev main_case0b0_v233 : Ref sig .tc := ⟨.hbm, 455, rfl⟩
abbrev main_case0b0_v234 : Ref sig .tc := ⟨.hbm, 456, rfl⟩
abbrev main_case0b0_v235 : Ref sig .tc := ⟨.hbm, 457, rfl⟩
abbrev main_case0b0_v236 : Ref sig .tc := ⟨.hbm, 458, rfl⟩
abbrev main_case0b0_v237 : Ref sig .tc := ⟨.hbm, 459, rfl⟩
abbrev main_case0b0_cst_66 : Ref sig .tc := ⟨.hbm, 460, rfl⟩
abbrev main_case0b0_v238 : Ref sig .tc := ⟨.hbm, 461, rfl⟩
abbrev main_case0b0_v239 : Ref sig .tc := ⟨.hbm, 462, rfl⟩
abbrev main_case0b0_call16_cst : Ref sig .tc := ⟨.hbm, 463, rfl⟩
abbrev main_case0b0_call16_v0 : Ref sig .tc := ⟨.hbm, 464, rfl⟩
abbrev main_case0b0_call16_v1 : Ref sig .tc := ⟨.hbm, 465, rfl⟩
abbrev main_case0b0_call16_v2 : Ref sig .tc := ⟨.hbm, 466, rfl⟩
abbrev main_case0b0_call16_v3 : Ref sig .tc := ⟨.hbm, 467, rfl⟩
abbrev main_case0b0_call16_v4 : Ref sig .tc := ⟨.hbm, 468, rfl⟩
abbrev main_case0b0_call16_v5 : Ref sig .tc := ⟨.hbm, 469, rfl⟩
abbrev main_case0b0_call16_v6 : Ref sig .tc := ⟨.hbm, 470, rfl⟩
abbrev main_case0b0_call16_v7 : Ref sig .tc := ⟨.hbm, 471, rfl⟩
abbrev main_case0b0_call16_v8 : Ref sig .tc := ⟨.hbm, 472, rfl⟩
abbrev main_case0b0_call16_v9 : Ref sig .tc := ⟨.hbm, 473, rfl⟩
abbrev main_case0b0_call16_v10 : Ref sig .tc := ⟨.hbm, 474, rfl⟩
abbrev main_case0b0_call16_v11 : Ref sig .tc := ⟨.hbm, 475, rfl⟩
abbrev main_case0b0_v240 : Ref sig .tc := ⟨.hbm, 476, rfl⟩
abbrev main_case0b0_v241 : Ref sig .tc := ⟨.hbm, 477, rfl⟩
abbrev main_case0b0_cst_67 : Ref sig .tc := ⟨.hbm, 478, rfl⟩
abbrev main_case0b0_v242 : Ref sig .tc := ⟨.hbm, 479, rfl⟩
abbrev main_case0b0_v243 : Ref sig .tc := ⟨.hbm, 480, rfl⟩
abbrev main_case0b0_v244 : Ref sig .tc := ⟨.hbm, 481, rfl⟩
abbrev main_case0b0_v245 : Ref sig .tc := ⟨.hbm, 482, rfl⟩
abbrev main_case0b0_v246 : Ref sig .tc := ⟨.hbm, 483, rfl⟩
abbrev main_case0b0_v247 : Ref sig .tc := ⟨.hbm, 484, rfl⟩
abbrev main_case0b0_v248 : Ref sig .tc := ⟨.hbm, 485, rfl⟩
abbrev main_case0b0_cst_68 : Ref sig .tc := ⟨.hbm, 486, rfl⟩
abbrev main_case0b0_v249 : Ref sig .tc := ⟨.hbm, 487, rfl⟩
abbrev main_case0b0_v250 : Ref sig .tc := ⟨.hbm, 488, rfl⟩
abbrev main_case0b0_call17_cst : Ref sig .tc := ⟨.hbm, 489, rfl⟩
abbrev main_case0b0_call17_v0 : Ref sig .tc := ⟨.hbm, 490, rfl⟩
abbrev main_case0b0_call17_v1 : Ref sig .tc := ⟨.hbm, 491, rfl⟩
abbrev main_case0b0_call17_v2 : Ref sig .tc := ⟨.hbm, 492, rfl⟩
abbrev main_case0b0_call17_v3 : Ref sig .tc := ⟨.hbm, 493, rfl⟩
abbrev main_case0b0_call17_v4 : Ref sig .tc := ⟨.hbm, 494, rfl⟩
abbrev main_case0b0_call17_v5 : Ref sig .tc := ⟨.hbm, 495, rfl⟩
abbrev main_case0b0_call17_v6 : Ref sig .tc := ⟨.hbm, 496, rfl⟩
abbrev main_case0b0_call17_v7 : Ref sig .tc := ⟨.hbm, 497, rfl⟩
abbrev main_case0b0_call17_v8 : Ref sig .tc := ⟨.hbm, 498, rfl⟩
abbrev main_case0b0_call17_v9 : Ref sig .tc := ⟨.hbm, 499, rfl⟩
abbrev main_case0b0_call17_v10 : Ref sig .tc := ⟨.hbm, 500, rfl⟩
abbrev main_case0b0_call17_v11 : Ref sig .tc := ⟨.hbm, 501, rfl⟩
abbrev main_case0b0_v251 : Ref sig .tc := ⟨.hbm, 502, rfl⟩
abbrev main_case0b0_v252 : Ref sig .tc := ⟨.hbm, 503, rfl⟩
abbrev main_case0b0_cst_69 : Ref sig .tc := ⟨.hbm, 504, rfl⟩
abbrev main_case0b0_v253 : Ref sig .tc := ⟨.hbm, 505, rfl⟩
abbrev main_case0b0_v254 : Ref sig .tc := ⟨.hbm, 506, rfl⟩
abbrev main_case0b0_v255 : Ref sig .tc := ⟨.hbm, 507, rfl⟩
abbrev main_case0b0_v256 : Ref sig .tc := ⟨.hbm, 508, rfl⟩
abbrev main_case0b0_v257 : Ref sig .tc := ⟨.hbm, 509, rfl⟩
abbrev main_case0b0_v258 : Ref sig .tc := ⟨.hbm, 510, rfl⟩
abbrev main_case0b0_cst_70 : Ref sig .tc := ⟨.hbm, 511, rfl⟩
abbrev main_case0b0_v259 : Ref sig .tc := ⟨.hbm, 512, rfl⟩
abbrev main_case0b0_v260 : Ref sig .tc := ⟨.hbm, 513, rfl⟩
abbrev main_case0b0_call18_cst : Ref sig .tc := ⟨.hbm, 514, rfl⟩
abbrev main_case0b0_call18_v0 : Ref sig .tc := ⟨.hbm, 515, rfl⟩
abbrev main_case0b0_call18_v1 : Ref sig .tc := ⟨.hbm, 516, rfl⟩
abbrev main_case0b0_call18_v2 : Ref sig .tc := ⟨.hbm, 517, rfl⟩
abbrev main_case0b0_call18_v3 : Ref sig .tc := ⟨.hbm, 518, rfl⟩
abbrev main_case0b0_call18_v4 : Ref sig .tc := ⟨.hbm, 519, rfl⟩
abbrev main_case0b0_call18_v5 : Ref sig .tc := ⟨.hbm, 520, rfl⟩
abbrev main_case0b0_call18_v6 : Ref sig .tc := ⟨.hbm, 521, rfl⟩
abbrev main_case0b0_call18_v7 : Ref sig .tc := ⟨.hbm, 522, rfl⟩
abbrev main_case0b0_call18_v8 : Ref sig .tc := ⟨.hbm, 523, rfl⟩
abbrev main_case0b0_call18_v9 : Ref sig .tc := ⟨.hbm, 524, rfl⟩
abbrev main_case0b0_call18_v10 : Ref sig .tc := ⟨.hbm, 525, rfl⟩
abbrev main_case0b0_call18_v11 : Ref sig .tc := ⟨.hbm, 526, rfl⟩
abbrev main_case0b0_v261 : Ref sig .tc := ⟨.hbm, 527, rfl⟩
abbrev main_case0b0_v262 : Ref sig .tc := ⟨.hbm, 528, rfl⟩
abbrev main_case0b0_cst_71 : Ref sig .tc := ⟨.hbm, 529, rfl⟩
abbrev main_case0b0_v263 : Ref sig .tc := ⟨.hbm, 530, rfl⟩
abbrev main_case0b0_v264 : Ref sig .tc := ⟨.hbm, 531, rfl⟩
abbrev main_case0b0_v265 : Ref sig .tc := ⟨.hbm, 532, rfl⟩
abbrev main_case0b0_v266 : Ref sig .tc := ⟨.hbm, 533, rfl⟩
abbrev main_case0b0_v267 : Ref sig .tc := ⟨.hbm, 534, rfl⟩
abbrev main_case0b0_v268 : Ref sig .tc := ⟨.hbm, 535, rfl⟩
abbrev main_case0b0_v269 : Ref sig .tc := ⟨.hbm, 536, rfl⟩
abbrev main_case0b0_v270 : Ref sig .tc := ⟨.hbm, 537, rfl⟩
abbrev main_case0b0_v271 : Ref sig .tc := ⟨.hbm, 538, rfl⟩
abbrev main_case0b0_v272 : Ref sig .tc := ⟨.hbm, 539, rfl⟩
abbrev main_case0b0_v273 : Ref sig .tc := ⟨.hbm, 540, rfl⟩
abbrev main_case0b0_v274 : Ref sig .tc := ⟨.hbm, 541, rfl⟩
abbrev main_case0b0_v275 : Ref sig .tc := ⟨.hbm, 542, rfl⟩
abbrev main_case0b1_v176 : Ref sig .tc := ⟨.hbm, 543, rfl⟩
abbrev main_case0b1_v177 : Ref sig .tc := ⟨.hbm, 544, rfl⟩
abbrev main_case0b1_v178 : Ref sig .tc := ⟨.hbm, 545, rfl⟩
abbrev main_case0b1_v179 : Ref sig .tc := ⟨.hbm, 546, rfl⟩
abbrev main_case0b1_v180 : Ref sig .tc := ⟨.hbm, 547, rfl⟩
abbrev main_case0b1_v181 : Ref sig .tc := ⟨.hbm, 548, rfl⟩
abbrev main_case0b1_v182 : Ref sig .tc := ⟨.hbm, 549, rfl⟩
abbrev main_case0b1_v183 : Ref sig .tc := ⟨.hbm, 550, rfl⟩
abbrev main_case0b1_v184 : Ref sig .tc := ⟨.hbm, 551, rfl⟩
abbrev main_case0b1_v185 : Ref sig .tc := ⟨.hbm, 552, rfl⟩
abbrev main_case0b1_v186 : Ref sig .tc := ⟨.hbm, 553, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S1x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S320x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S160x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S32x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S272x32 : Shape := ⟨2, ![272, 32]⟩
abbrev S32 : Shape := ⟨1, ![32]⟩
abbrev S32x32 : Shape := ⟨2, ![32, 32]⟩
abbrev S320x1 : Shape := ⟨2, ![320, 1]⟩
abbrev S1 : Shape := ⟨1, ![1]⟩
abbrev S160x1 : Shape := ⟨2, ![160, 1]⟩
abbrev S24x2 : Shape := ⟨2, ![24, 2]⟩
abbrev S27 : Shape := ⟨1, ![27]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S320000x272 : Shape := ⟨2, ![320000, 272]⟩
abbrev S320000x32 : Shape := ⟨2, ![320000, 32]⟩
abbrev S1x32 : Shape := ⟨2, ![1, 32]⟩
abbrev S10000x32 : Shape := ⟨2, ![10000, 32]⟩
abbrev S10000x160 : Shape := ⟨2, ![10000, 160]⟩
abbrev S1x10000x160 : Shape := ⟨3, ![1, 10000, 160]⟩
abbrev S24x1 : Shape := ⟨2, ![24, 1]⟩
abbrev S24 : Shape := ⟨1, ![24]⟩
abbrev S1x24x160 : Shape := ⟨3, ![1, 24, 160]⟩
abbrev S1x24x320 : Shape := ⟨3, ![1, 24, 320]⟩
abbrev S1x24x1 : Shape := ⟨3, ![1, 24, 1]⟩
abbrev S1x1x1 : Shape := ⟨3, ![1, 1, 1]⟩
abbrev S1x24 : Shape := ⟨2, ![1, 24]⟩
abbrev S1x3x160 : Shape := ⟨3, ![1, 3, 160]⟩
abbrev S1x3x1 : Shape := ⟨3, ![1, 3, 1]⟩
abbrev S1x3 : Shape := ⟨2, ![1, 3]⟩
abbrev S3 : Shape := ⟨1, ![3]⟩
abbrev S1x27 : Shape := ⟨2, ![1, 27]⟩

abbrev nBuf : Space → Nat
  | .hbm => 192
  | .vmem => 0
  | .smem => 0
  | _ => 0

abbrev hbmTy0_0 (i : Nat) : BufTy := match i % 128 with
  | 0 => ⟨S10000x128, .f32⟩
  | 1 => ⟨S2x320000, .i32⟩
  | 2 => ⟨S320000x16, .f32⟩
  | 3 => ⟨S272x32, .f32⟩
  | 4 => ⟨S32, .f32⟩
  | 5 => ⟨S32x32, .f32⟩
  | 6 => ⟨S32, .f32⟩
  | 7 => ⟨S320x1, .f32⟩
  | 8 => ⟨S1, .f32⟩
  | 9 => ⟨S320x1, .f32⟩
  | 10 => ⟨S1, .f32⟩
  | 11 => ⟨S160x1, .f32⟩
  | 12 => ⟨S1, .f32⟩
  | 13 => ⟨S160x1, .f32⟩
  | 14 => ⟨S1, .f32⟩
  | 15 => ⟨S24x2, .i32⟩
  | 16 => ⟨S27, .f32⟩
  | 17 => ⟨S1x320000, .i32⟩
  | 18 => ⟨S320000, .i32⟩
  | 19 => ⟨S1x320000, .i32⟩
  | 20 => ⟨S320000, .i32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x128, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x128, .f32⟩
  | 39 => ⟨S320000x272, .f32⟩
  | 40 => ⟨S320000x32, .f32⟩
  | 41 => ⟨S1x32, .f32⟩
  | 42 => ⟨S320000x32, .f32⟩
  | 43 => ⟨S320000x32, .f32⟩
  | 44 => ⟨S_, .f32⟩
  | 45 => ⟨S320000x32, .f32⟩
  | 46 => ⟨S320000x32, .f32⟩
  | 47 => ⟨S320000x32, .f32⟩
  | 48 => ⟨S1x32, .f32⟩
  | 49 => ⟨S320000x32, .f32⟩
  | 50 => ⟨S320000x32, .f32⟩
  | 51 => ⟨S_, .f32⟩
  | 52 => ⟨S10000x32, .f32⟩
  | 53 => ⟨S320000x1, .i32⟩
  | 54 => ⟨S10000x32, .f32⟩
  | 55 => ⟨S10000x160, .f32⟩
  | 56 => ⟨S1x10000x160, .f32⟩
  | 57 => ⟨S24x1, .i32⟩
  | 58 => ⟨S24, .i32⟩
  | 59 => ⟨S_, .i32⟩
  | 60 => ⟨S24, .i32⟩
  | 61 => ⟨S24, .i1⟩
  | 62 => ⟨S_, .i32⟩
  | 63 => ⟨S24, .i32⟩
  | 64 => ⟨S24, .i32⟩
  | 65 => ⟨S24, .i32⟩
  | 66 => ⟨S24x1, .i32⟩
  | 67 => ⟨S1x24x160, .f32⟩
  | 68 => ⟨S24x1, .i32⟩
  | 69 => ⟨S24, .i32⟩
  | 70 => ⟨S_, .i32⟩
  | 71 => ⟨S24, .i32⟩
  | 72 => ⟨S24, .i1⟩
  | 73 => ⟨S_, .i32⟩
  | 74 => ⟨S24, .i32⟩
  | 75 => ⟨S24, .i32⟩
  | 76 => ⟨S24, .i32⟩
  | 77 => ⟨S24x1, .i32⟩
  | 78 => ⟨S1x24x160, .f32⟩
  | 79 => ⟨S1x24x320, .f32⟩
  | 80 => ⟨S1x24x1, .f32⟩
  | 81 => ⟨S1x1x1, .f32⟩
  | 82 => ⟨S1x24x1, .f32⟩
  | 83 => ⟨S1x24x1, .f32⟩
  | 84 => ⟨S_, .f32⟩
  | 85 => ⟨S1x24x1, .f32⟩
  | 86 => ⟨S1x24x1, .f32⟩
  | 87 => ⟨S_, .f32⟩
  | 88 => ⟨S1x24x1, .f32⟩
  | 89 => ⟨S1x24x1, .f32⟩
  | 90 => ⟨S1x24x1, .f32⟩
  | 91 => ⟨S1x24x1, .f32⟩
  | 92 => ⟨S1x24x1, .i1⟩
  | 93 => ⟨S1x24x1, .f32⟩
  | 94 => ⟨S1x24x1, .f32⟩
  | 95 => ⟨S1x24x1, .f32⟩
  | 96 => ⟨S1x24x1, .f32⟩
  | 97 => ⟨S1x24x1, .f32⟩
  | 98 => ⟨S1x24x1, .f32⟩
  | 99 => ⟨S1x24x1, .f32⟩
  | 100 => ⟨S1x24x1, .f32⟩
  | 101 => ⟨S1x24, .f32⟩
  | 102 => ⟨S_, .f32⟩
  | 103 => ⟨S1x24, .f32⟩
  | 104 => ⟨S1x24, .f32⟩
  | 105 => ⟨S1x24x1, .f32⟩
  | 106 => ⟨S1x1x1, .f32⟩
  | 107 => ⟨S1x24x1, .f32⟩
  | 108 => ⟨S1x24x1, .f32⟩
  | 109 => ⟨S_, .f32⟩
  | 110 => ⟨S1x24x1, .f32⟩
  | 111 => ⟨S1x24x1, .f32⟩
  | 112 => ⟨S_, .f32⟩
  | 113 => ⟨S1x24x1, .f32⟩
  | 114 => ⟨S1x24x1, .f32⟩
  | 115 => ⟨S1x24x1, .f32⟩
  | 116 => ⟨S1x24x1, .f32⟩
  | 117 => ⟨S1x24x1, .i1⟩
  | 118 => ⟨S1x24x1, .f32⟩
  | 119 => ⟨S1x24x1, .f32⟩
  | 120 => ⟨S1x24x1, .f32⟩
  | 121 => ⟨S1x24x1, .f32⟩
  | 122 => ⟨S1x24x1, .f32⟩
  | 123 => ⟨S1x24x1, .f32⟩
  | 124 => ⟨S1x24x1, .f32⟩
  | 125 => ⟨S1x24x1, .f32⟩
  | 126 => ⟨S1x24, .f32⟩
  | 127 => ⟨S_, .f32⟩
  | _ => ⟨S10000x128, .f32⟩

abbrev hbmTy0_1 (i : Nat) : BufTy := match i % 128 with
  | 0 => ⟨S1x24, .f32⟩
  | 1 => ⟨S1x24, .f32⟩
  | 2 => ⟨S1x3x160, .f32⟩
  | 3 => ⟨S1x3x1, .f32⟩
  | 4 => ⟨S1x1x1, .f32⟩
  | 5 => ⟨S1x3x1, .f32⟩
  | 6 => ⟨S1x3x1, .f32⟩
  | 7 => ⟨S_, .f32⟩
  | 8 => ⟨S1x3x1, .f32⟩
  | 9 => ⟨S1x3x1, .f32⟩
  | 10 => ⟨S_, .f32⟩
  | 11 => ⟨S1x3x1, .f32⟩
  | 12 => ⟨S1x3x1, .f32⟩
  | 13 => ⟨S1x3x1, .f32⟩
  | 14 => ⟨S1x3x1, .f32⟩
  | 15 => ⟨S1x3x1, .i1⟩
  | 16 => ⟨S1x3x1, .f32⟩
  | 17 => ⟨S1x3x1, .f32⟩
  | 18 => ⟨S1x3x1, .f32⟩
  | 19 => ⟨S1x3x1, .f32⟩
  | 20 => ⟨S1x3x1, .f32⟩
  | 21 => ⟨S1x3x1, .f32⟩
  | 22 => ⟨S1x3x1, .f32⟩
  | 23 => ⟨S1x3x1, .f32⟩
  | 24 => ⟨S1x3, .f32⟩
  | 25 => ⟨S_, .f32⟩
  | 26 => ⟨S1x3, .f32⟩
  | 27 => ⟨S1x3, .f32⟩
  | 28 => ⟨S1x3x1, .f32⟩
  | 29 => ⟨S1x1x1, .f32⟩
  | 30 => ⟨S1x3x1, .f32⟩
  | 31 => ⟨S1x3x1, .f32⟩
  | 32 => ⟨S_, .f32⟩
  | 33 => ⟨S1x3x1, .f32⟩
  | 34 => ⟨S1x3x1, .f32⟩
  | 35 => ⟨S_, .f32⟩
  | 36 => ⟨S1x3x1, .f32⟩
  | 37 => ⟨S1x3x1, .f32⟩
  | 38 => ⟨S1x3x1, .f32⟩
  | 39 => ⟨S1x3x1, .f32⟩
  | 40 => ⟨S1x3x1, .i1⟩
  | 41 => ⟨S1x3x1, .f32⟩
  | 42 => ⟨S1x3x1, .f32⟩
  | 43 => ⟨S1x3x1, .f32⟩
  | 44 => ⟨S1x3x1, .f32⟩
  | 45 => ⟨S1x3x1, .f32⟩
  | 46 => ⟨S1x3x1, .f32⟩
  | 47 => ⟨S1x3x1, .f32⟩
  | 48 => ⟨S1x3x1, .f32⟩
  | 49 => ⟨S1x3, .f32⟩
  | 50 => ⟨S_, .f32⟩
  | 51 => ⟨S1x3, .f32⟩
  | 52 => ⟨S1x3, .f32⟩
  | 53 => ⟨S1x24, .f32⟩
  | 54 => ⟨S1x24, .f32⟩
  | 55 => ⟨S24, .f32⟩
  | 56 => ⟨S1x24, .f32⟩
  | 57 => ⟨S1x24, .f32⟩
  | 58 => ⟨S1x3, .f32⟩
  | 59 => ⟨S1x3, .f32⟩
  | 60 => ⟨S3, .f32⟩
  | 61 => ⟨S1x3, .f32⟩
  | 62 => ⟨S1x3, .f32⟩
  | 63 => ⟨S1x27, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_cst : Ref sig .tc := ⟨.hbm, 44, rfl⟩
abbrev main_call0_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_3 : Ref sig .tc := ⟨.hbm, 59, rfl⟩
abbrev main_v35 : Ref sig .tc := ⟨.hbm, 60, rfl⟩
abbrev main_v36 : Ref sig .tc := ⟨.hbm, 61, rfl⟩
abbrev main_c_4 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_5 : Ref sig .tc := ⟨.hbm, 70, rfl⟩
abbrev main_v44 : Ref sig .tc := ⟨.hbm, 71, rfl⟩
abbrev main_v45 : Ref sig .tc := ⟨.hbm, 72, rfl⟩
abbrev main_c_6 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_call1_cst : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_v58 : Ref sig .tc := ⟨.hbm, 100, rfl⟩
abbrev main_v59 : Ref sig .tc := ⟨.hbm, 101, rfl⟩
abbrev main_cst_8 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_9 : Ref sig .tc := ⟨.hbm, 109, rfl⟩
abbrev main_v66 : Ref sig .tc := ⟨.hbm, 110, rfl⟩
abbrev main_v67 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_v68 : Ref sig .tc := ⟨.hbm, 125, rfl⟩
abbrev main_v69 : Ref sig .tc := ⟨.hbm, 126, rfl⟩
abbrev main_cst_10 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_cst_11 : Ref sig .tc := ⟨.hbm, 135, rfl⟩
abbrev main_v77 : Ref sig .tc := ⟨.hbm, 136, rfl⟩
abbrev main_v78 : Ref sig .tc := ⟨.hbm, 137, rfl⟩
abbrev main_call3_cst : Ref sig .tc := ⟨.hbm, 138, rfl⟩
abbrev main_call3_v0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_v79 : Ref sig .tc := ⟨.hbm, 151, rfl⟩
abbrev main_v80 : Ref sig .tc := ⟨.hbm, 152, rfl⟩
abbrev main_cst_12 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_cst_13 : Ref sig .tc := ⟨.hbm, 160, rfl⟩
abbrev main_v87 : Ref sig .tc := ⟨.hbm, 161, rfl⟩
abbrev main_v88 : Ref sig .tc := ⟨.hbm, 162, rfl⟩
abbrev main_call4_cst : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_call4_v5 : Ref sig .tc := ⟨.hbm, 169, rfl⟩
abbrev main_call4_v6 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_v89 : Ref sig .tc := ⟨.hbm, 176, rfl⟩
abbrev main_v90 : Ref sig .tc := ⟨.hbm, 177, rfl⟩
abbrev main_cst_14 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩

abbrev nD : Nat := 1
abbrev τ : Topo := Topo.v7x

variable {F : FTy → Type} [FloatOps F]
-- ==== Proof.IdealBody.lean ====
/-
  The kernel body of the fast path, run once: from the twenty-two staging buffers held whole, the body returns
  with the twenty-one operands as they were and the result's buffer rewritten by its two stores (rows 0 to 23, then
  rows 24 to 31), whatever it held before.
-/
module

public import proofs.«01_k».proof.Proof.Gen.KernelIdeal.Launch
public import proofs.«01_k».proof.Proof.Gen.KernelIdeal.Skeleton
public import Idealize.ShloMosaic.Lib.Pipeline.RegionsLoop
public import Idealize.ShloMosaic.Lib.Tactic

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two copies of the pipeline library's algebra (the launch's own, and the one the branch's call uses) beside the
    transfers' counters. -/
abbrev UU : Type := IProdConst (Fin 2) (UR sig nD τ) × Counters

local notation "𝕄" => MT nD τ sig Unit (Elt F) ℕ UU ℕ

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What the body leaves in the result's staging buffer, whatever it held before, with the run. -/
noncomputable def bodyRun (c : Dev nD)
    (f0 : Bf (F := F) c (stage0_0 0))
    (f1 : Bf (F := F) c (stage0_1 0))
    (f2 : Bf (F := F) c (stage0_2 0))
    (f3 : Bf (F := F) c (stage0_3 0))
    (f4 : Bf (F := F) c (stage0_4 0))
    (f5 : Bf (F := F) c (stage0_5 0))
    (f6 : Bf (F := F) c (stage0_6 0))
    (f7 : Bf (F := F) c (stage0_7 0))
    (f8 : Bf (F := F) c (stage0_8 0))
    (f9 : Bf (F := F) c (stage0_9 0))
    (f10 : Bf (F := F) c (stage0_10 0))
    (f11 : Bf (F := F) c (stage0_11 0))
    (f12 : Bf (F := F) c (stage0_12 0))
    (f13 : Bf (F := F) c (stage0_13 0))
    (f14 : Bf (F := F) c (stage0_14 0))
    (f15 : Bf (F := F) c (stage0_15 0))
    (f16 : Bf (F := F) c (stage0_16 0))
    (f17 : Bf (F := F) c (stage0_17 0))
    (f18 : Bf (F := F) c (stage0_18 0))
    (f19 : Bf (F := F) c (stage0_19 0))
    (f20 : Bf (F := F) c (stage0_20 0))
    :
    { W : Bf (F := F) c (stage0_21 0) // ∀ (f21 : Bf (F := F) c (stage0_21 0)) (E : Set ℕ) (Q : PUnit → sProp 𝕄),
        iprop(pt c (stage0_0 0) f0 ∗ pt c (stage0_1 0) f1 ∗ pt c (stage0_2 0) f2 ∗ pt c (stage0_3 0) f3 ∗ pt c (stage0_4 0) f4 ∗ pt c (stage0_5 0) f5 ∗ pt c (stage0_6 0) f6 ∗ pt c (stage0_7 0) f7 ∗ pt c (stage0_8 0) f8 ∗ pt c (stage0_9 0) f9 ∗ pt c (stage0_10 0) f10 ∗ pt c (stage0_11 0) f11 ∗ pt c (stage0_12 0) f12 ∗ pt c (stage0_13 0) f13 ∗ pt c (stage0_14 0) f14 ∗ pt c (stage0_15 0) f15 ∗ pt c (stage0_16 0) f16 ∗ pt c (stage0_17 0) f17 ∗ pt c (stage0_18 0) f18 ∗ pt c (stage0_19 0) f19 ∗ pt c (stage0_20 0) f20 ∗ pt c (stage0_21 0) f21 ∗ (iprop(pt c (stage0_0 0) f0 ∗ pt c (stage0_1 0) f1 ∗ pt c (stage0_2 0) f2 ∗ pt c (stage0_3 0) f3 ∗ pt c (stage0_4 0) f4 ∗ pt c (stage0_5 0) f5 ∗ pt c (stage0_6 0) f6 ∗ pt c (stage0_7 0) f7 ∗ pt c (stage0_8 0) f8 ∗ pt c (stage0_9 0) f9 ∗ pt c (stage0_10 0) f10 ∗ pt c (stage0_11 0) f11 ∗ pt c (stage0_12 0) f12 ∗ pt c (stage0_13 0) f13 ∗ pt c (stage0_14 0) f14 ∗ pt c (stage0_15 0) f15 ∗ pt c (stage0_16 0) f16 ∗ pt c (stage0_17 0) f17 ∗ pt c (stage0_18 0) f18 ∗ pt c (stage0_19 0) f19 ∗ pt c (stage0_20 0) f20 ∗ pt c (stage0_21 0) W) -∗ Q ⟨⟩))
          ⊢ wp frame (wpE (defs₀ (F := F)) Variants.none c none) E (cc0__edge_head_body (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stage0_10 0) (hstage0_10 0) (stage0_11 0) (hstage0_11 0) (stage0_12 0) (hstage0_12 0) (stage0_13 0) (hstage0_13 0) (stage0_14 0) (hstage0_14 0) (stage0_15 0) (hstage0_15 0) (stage0_16 0) (hstage0_16 0) (stage0_17 0) (hstage0_17 0) (stage0_18 0) (hstage0_18 0) (stage0_19 0) (hstage0_19 0) (stage0_20 0) (hstage0_20 0) (stage0_21 0) (hstage0_21 0)) Q } := by
  refine ⟨?_, fun f21 E Q => ?run⟩
  case run =>
    rw [cc0__edge_head_body_eq_skeleton]; unfold cc0__edge_head_body_skel
    rw [k0_part1_eq_skeleton, k0_part2_eq_skeleton, k0_part3_eq_skeleton]
    unfold k0_part1_skel k0_part2_skel k0_part3_skel
    iintro ⟨H0, H1, H2, H3, H4, H5, H6, H7, H8, H9, H10, H11, H12, H13, H14, H15, H16, H17, H18, H19, H20, H21, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

end Cert.Proof.KernelIdeal

end
-- ==== Proof.IdealRegion.lean ====
/-
  The kernel call of the fast branch over the thread's state: entered from every unscoped buffer at a valuation `V`,
  left with them at `V` but for the result's array, which holds what the body run leaves in its staging buffer.
-/
module

public import proofs.«01_k».proof.Proof.IdealBody
public import Idealize.ShloMosaic.Lib.Pipeline.RegionArraysS

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Valuation τ sig (Elt F))

/-! Each window's block as the fetch stages it: its array at the entry valuation, read through the block view. -/

abbrev stg0 (c : Dev nD) : (cfg0.win 0).block.Idx → Elt F (cfg0.win 0).elt :=
  ((cfg0.win 0).blk t0_0).view.read (Elt F) (V c (Proc.devRef .tc (Pipeline.arrRef spec0 0)))
abbrev stg1 (c : Dev nD) : (cfg0.win 1).block.Idx → Elt F (cfg0.win 1).elt :=
  ((cfg0.win 1).blk t0_0).view.read (Elt F) (V c (Proc.devRef .tc (Pipeline.arrRef spec0 1)))
abbrev stg2 (c : Dev nD) : (cfg0.win 2).block.Idx → Elt F (cfg0.win 2).elt :=
  ((cfg0.win 2).blk t0_0).view.read (Elt F) (V c (Proc.devRef .tc (Pipeline.arrRef spec0 2)))
abbrev stg3 (c : Dev nD) : (cfg0.win 3).block.Idx → Elt F (cfg0.win 3).elt :=
  ((cfg0.win 3).blk t0_0).view.read (Elt F) (V c (Proc.devRef .tc (Pipeline.arrRef spec0 3)))
abbrev stg4 (c : Dev nD) : (cfg0.win 4).block.Idx → Elt F (cfg0.win 4).elt :=
  ((cfg0.win 4).blk t0_0).view.read (Elt F) (V c (Proc.devRef .tc (Pipeline.arrRef spec0 4)))
abbrev stg5 (c : Dev nD) : (cfg0.win 5).block.Idx → Elt F (cfg0.win 5).elt :=
  ((cfg0.win 5).blk t0_0).view.read (Elt F) (V c (Proc.devRef .tc (Pipeline.arrRef spec0 5)))
abbrev stg6 (c : Dev nD) : (cfg0.win 6).block.Idx → Elt F (cfg0.win 6).elt :=
  ((cfg0.win 6).blk t0_0).view.read (Elt F) (V c (Proc.devRef .tc (Pipeline.arrRef spec0 6)))
abbrev stg7 (c : Dev nD) : (cfg0.win 7).block.Idx → Elt F (cfg0.win 7).elt :=
  ((cfg0.win 7).blk t0_0).view.read (Elt F) (V c (Proc.devRef .tc (Pipeline.arrRef spec0 7)))
abbrev stg8 (c : Dev nD) : (cfg0.win 8).block.Idx → Elt F (cfg0.win 8).elt :=
  ((cfg0.win 8).blk t0_0).view.read (Elt F) (V c (Proc.devRef .tc (Pipeline.arrRef spec0 8)))
abbrev stg9 (c : Dev nD) : (cfg0.win 9).block.Idx → Elt F (cfg0.win 9).elt :=
  ((cfg0.win 9).blk t0_0).view.read (Elt F) (V c (Proc.devRef .tc (Pipeline.arrRef spec0 9)))
abbrev stg10 (c : Dev nD) : (cfg0.win 10).block.Idx → Elt F (cfg0.win 10).elt :=
  ((cfg0.win 10).blk t0_0).view.read (Elt F) (V c (Proc.devRef .tc (Pipeline.arrRef spec0 10)))
abbrev stg11 (c : Dev nD) : (cfg0.win 11).block.Idx → Elt F (cfg0.win 11).elt :=
  ((cfg0.win 11).blk t0_0).view.read (Elt F) (V c (Proc.devRef .tc (Pipeline.arrRef spec0 11)))
abbrev stg12 (c : Dev nD) : (cfg0.win 12).block.Idx → Elt F (cfg0.win 12).elt :=
  ((cfg0.win 12).blk t0_0).view.read (Elt F) (V c (Proc.devRef .tc (Pipeline.arrRef spec0 12)))
abbrev stg13 (c : Dev nD) : (cfg0.win 13).block.Idx → Elt F (cfg0.win 13).elt :=
  ((cfg0.win 13).blk t0_0).view.read (Elt F) (V c (Proc.devRef .tc (Pipeline.arrRef spec0 13)))
abbrev stg14 (c : Dev nD) : (cfg0.win 14).block.Idx → Elt F (cfg0.win 14).elt :=
  ((cfg0.win 14).blk t0_0).view.read (Elt F) (V c (Proc.devRef .tc (Pipeline.arrRef spec0 14)))
abbrev stg15 (c : Dev nD) : (cfg0.win 15).block.Idx → Elt F (cfg0.win 15).elt :=
  ((cfg0.win 15).blk t0_0).view.read (Elt F) (V c (Proc.devRef .tc (Pipeline.arrRef spec0 15)))
abbrev stg16 (c : Dev nD) : (cfg0.win 16).block.Idx → Elt F (cfg0.win 16).elt :=
  ((cfg0.win 16).blk t0_0).view.read (Elt F) (V c (Proc.devRef .tc (Pipeline.arrRef spec0 16)))
abbrev stg17 (c : Dev nD) : (cfg0.win 17).block.Idx → Elt F (cfg0.win 17).elt :=
  ((cfg0.win 17).blk t0_0).view.read (Elt F) (V c (Proc.devRef .tc (Pipeline.arrRef spec0 17)))
abbrev stg18 (c : Dev nD) : (cfg0.win 18).block.Idx → Elt F (cfg0.win 18).elt :=
  ((cfg0.win 18).blk t0_0).view.read (Elt F) (V c (Proc.devRef .tc (Pipeline.arrRef spec0 18)))
abbrev stg19 (c : Dev nD) : (cfg0.win 19).block.Idx → Elt F (cfg0.win 19).elt :=
  ((cfg0.win 19).blk t0_0).view.read (Elt F) (V c (Proc.devRef .tc (Pipeline.arrRef spec0 19)))
abbrev stg20 (c : Dev nD) : (cfg0.win 20).block.Idx → Elt F (cfg0.win 20).elt :=
  ((cfg0.win 20).blk t0_0).view.read (Elt F) (V c (Proc.devRef .tc (Pipeline.arrRef spec0 20)))

/-- The body's run at the staged blocks. -/
abbrev K (c : Dev nD) := bodyRun (F := F) c (stg0 V c) (stg1 V c) (stg2 V c) (stg3 V c) (stg4 V c) (stg5 V c) (stg6 V c) (stg7 V c) (stg8 V c) (stg9 V c) (stg10 V c) (stg11 V c) (stg12 V c) (stg13 V c) (stg14 V c) (stg15 V c) (stg16 V c) (stg17 V c) (stg18 V c) (stg19 V c) (stg20 V c)

/-- Between the call's ends: the scoped buffers the pipeline does not stage. -/
abbrev Φc (c : Dev nD) : sProp 𝕄 := Pipeline.scopedRest (Ix := Unit) (Name := ℕ) (U := UU) (Lvl := ℕ) (Val := Elt F) spec0 c

/-- The call's proof data: the arrays at `V`; after the body each operand as fetched and the result at the run's
    witness; nothing owed; full shares. -/
def dat (c : Dev nD) : Dat τ (Elt F) Unit ℕ UU ℕ cfg0 c where
  A w := V c (Proc.devRef .tc (Pipeline.arrRef spec0 w))
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => stg5 V c
    | ⟨6, _⟩ => stg6 V c
    | ⟨7, _⟩ => stg7 V c
    | ⟨8, _⟩ => stg8 V c
    | ⟨9, _⟩ => stg9 V c
    | ⟨10, _⟩ => stg10 V c
    | ⟨11, _⟩ => stg11 V c
    | ⟨12, _⟩ => stg12 V c
    | ⟨13, _⟩ => stg13 V c
    | ⟨14, _⟩ => stg14 V c
    | ⟨15, _⟩ => stg15 V c
    | ⟨16, _⟩ => stg16 V c
    | ⟨17, _⟩ => stg17 V c
    | ⟨18, _⟩ => stg18 V c
    | ⟨19, _⟩ => stg19 V c
    | ⟨20, _⟩ => stg20 V c
    | ⟨21, _⟩ => (K V c).1
    | ⟨_ + 22, h⟩ => absurd h (Nat.not_lt.2 (Nat.le_add_left _ _))
  Φ _ := Φc c
  q _ := fullShare
  owed _ := 0

/-- The admissible contents of the prefetched tables: there is no table. -/
abbrev adm : (p : Fin 1) → (pcfgs (F := F) p).Adm := fun p => (cfgs p).toPCfg_adm

/-- The one pipeline's proof data, as a family. -/
def pdats : (p : Fin 1) → (c : Dev nD) → Dat τ (Elt F) Unit ℕ UU ℕ (Pipeline.pin (pcfgs (F := F)) adm p) c
  | ⟨0, _⟩ => fun c => dat V c

abbrev 𝒱₀ : Variants := Variants.none

theorem before_0 (c : Dev nD) (d : (cfg0.win 0).block.Idx → Elt F (cfg0.win 0).elt) : (dat V c).before 0 t0_0 d = stg0 V c := by
  unfold Dat.before; rw [if_pos (by decide)]; rfl
theorem before_1 (c : Dev nD) (d : (cfg0.win 1).block.Idx → Elt F (cfg0.win 1).elt) : (dat V c).before 1 t0_0 d = stg1 V c := by
  unfold Dat.before; rw [if_pos (by decide)]; rfl
theorem before_2 (c : Dev nD) (d : (cfg0.win 2).block.Idx → Elt F (cfg0.win 2).elt) : (dat V c).before 2 t0_0 d = stg2 V c := by
  unfold Dat.before; rw [if_pos (by decide)]; rfl
theorem before_3 (c : Dev nD) (d : (cfg0.win 3).block.Idx → Elt F (cfg0.win 3).elt) : (dat V c).before 3 t0_0 d = stg3 V c := by
  unfold Dat.before; rw [if_pos (by decide)]; rfl
theorem before_4 (c : Dev nD) (d : (cfg0.win 4).block.Idx → Elt F (cfg0.win 4).elt) : (dat V c).before 4 t0_0 d = stg4 V c := by
  unfold Dat.before; rw [if_pos (by decide)]; rfl
theorem before_5 (c : Dev nD) (d : (cfg0.win 5).block.Idx → Elt F (cfg0.win 5).elt) : (dat V c).before 5 t0_0 d = stg5 V c := by
  unfold Dat.before; rw [if_pos (by decide)]; rfl
theorem before_6 (c : Dev nD) (d : (cfg0.win 6).block.Idx → Elt F (cfg0.win 6).elt) : (dat V c).before 6 t0_0 d = stg6 V c := by
  unfold Dat.before; rw [if_pos (by decide)]; rfl
theorem before_7 (c : Dev nD) (d : (cfg0.win 7).block.Idx → Elt F (cfg0.win 7).elt) : (dat V c).before 7 t0_0 d = stg7 V c := by
  unfold Dat.before; rw [if_pos (by decide)]; rfl
theorem before_8 (c : Dev nD) (d : (cfg0.win 8).block.Idx → Elt F (cfg0.win 8).elt) : (dat V c).before 8 t0_0 d = stg8 V c := by
  unfold Dat.before; rw [if_pos (by decide)]; rfl
theorem before_9 (c : Dev nD) (d : (cfg0.win 9).block.Idx → Elt F (cfg0.win 9).elt) : (dat V c).before 9 t0_0 d = stg9 V c := by
  unfold Dat.before; rw [if_pos (by decide)]; rfl
theorem before_10 (c : Dev nD) (d : (cfg0.win 10).block.Idx → Elt F (cfg0.win 10).elt) : (dat V c).before 10 t0_0 d = stg10 V c := by
  unfold Dat.before; rw [if_pos (by decide)]; rfl
theorem before_11 (c : Dev nD) (d : (cfg0.win 11).block.Idx → Elt F (cfg0.win 11).elt) : (dat V c).before 11 t0_0 d = stg11 V c := by
  unfold Dat.before; rw [if_pos (by decide)]; rfl
theorem before_12 (c : Dev nD) (d : (cfg0.win 12).block.Idx → Elt F (cfg0.win 12).elt) : (dat V c).before 12 t0_0 d = stg12 V c := by
  unfold Dat.before; rw [if_pos (by decide)]; rfl
theorem before_13 (c : Dev nD) (d : (cfg0.win 13).block.Idx → Elt F (cfg0.win 13).elt) : (dat V c).before 13 t0_0 d = stg13 V c := by
  unfold Dat.before; rw [if_pos (by decide)]; rfl
theorem before_14 (c : Dev nD) (d : (cfg0.win 14).block.Idx → Elt F (cfg0.win 14).elt) : (dat V c).before 14 t0_0 d = stg14 V c := by
  unfold Dat.before; rw [if_pos (by decide)]; rfl
theorem before_15 (c : Dev nD) (d : (cfg0.win 15).block.Idx → Elt F (cfg0.win 15).elt) : (dat V c).before 15 t0_0 d = stg15 V c := by
  unfold Dat.before; rw [if_pos (by decide)]; rfl
theorem before_16 (c : Dev nD) (d : (cfg0.win 16).block.Idx → Elt F (cfg0.win 16).elt) : (dat V c).before 16 t0_0 d = stg16 V c := by
  unfold Dat.before; rw [if_pos (by decide)]; rfl
theorem before_17 (c : Dev nD) (d : (cfg0.win 17).block.Idx → Elt F (cfg0.win 17).elt) : (dat V c).before 17 t0_0 d = stg17 V c := by
  unfold Dat.before; rw [if_pos (by decide)]; rfl
theorem before_18 (c : Dev nD) (d : (cfg0.win 18).block.Idx → Elt F (cfg0.win 18).elt) : (dat V c).before 18 t0_0 d = stg18 V c := by
  unfold Dat.before; rw [if_pos (by decide)]; rfl
theorem before_19 (c : Dev nD) (d : (cfg0.win 19).block.Idx → Elt F (cfg0.win 19).elt) : (dat V c).before 19 t0_0 d = stg19 V c := by
  unfold Dat.before; rw [if_pos (by decide)]; rfl
theorem before_20 (c : Dev nD) (d : (cfg0.win 20).block.Idx → Elt F (cfg0.win 20).elt) : (dat V c).before 20 t0_0 d = stg20 V c := by
  unfold Dat.before; rw [if_pos (by decide)]; rfl

set_option maxHeartbeats 2000000 in
/-- The body obligation: the staging buffers taken apart, the run applied, its post put together. -/
theorem body_obligation (c : Dev nD) : BodyObligation (dat V c) (defs₀ (F := F)) 𝒱₀ () Set.univ := fun t => by
  obtain rfl := fin_N0 t
  rw [bigSep_W0, bigSep_W0]
  simp only [owns_whole_eq]
  rw [show (dat V c).Φ t0_0.castSucc = Φc c from rfl, show (dat V c).Φ t0_0.succ = Φc c from rfl,
    show (dat V c).owesAt () t0_0.succ = (dat V c).owesAt () t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, -, H21⟩⟩
  rw [before_0] at hf0; subst hf0
  rw [before_1] at hf1; subst hf1
  rw [before_2] at hf2; subst hf2
  rw [before_3] at hf3; subst hf3
  rw [before_4] at hf4; subst hf4
  rw [before_5] at hf5; subst hf5
  rw [before_6] at hf6; subst hf6
  rw [before_7] at hf7; subst hf7
  rw [before_8] at hf8; subst hf8
  rw [before_9] at hf9; subst hf9
  rw [before_10] at hf10; subst hf10
  rw [before_11] at hf11; subst hf11
  rw [before_12] at hf12; subst hf12
  rw [before_13] at hf13; subst hf13
  rw [before_14] at hf14; subst hf14
  rw [before_15] at hf15; subst hf15
  rw [before_16] at hf16; subst hf16
  rw [before_17] at hf17; subst hf17
  rw [before_18] at hf18; subst hf18
  rw [before_19] at hf19; subst hf19
  rw [before_20] at hf20; subst hf20
  iapply ((K V c).2 f21 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iintro ⟨H0, H1, H2, H3, H4, H5, H6, H7, H8, H9, H10, H11, H12, H13, H14, H15, H16, H17, H18, H19, H20, H21⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  isplitl [H8]; · iexists _; isplitr; swap; (· iexact H8); ipureintro; dsimp only [dat]
  isplitl [H9]; · iexists _; isplitr; swap; (· iexact H9); ipureintro; dsimp only [dat]
  isplitl [H10]; · iexists _; isplitr; swap; (· iexact H10); ipureintro; dsimp only [dat]
  isplitl [H11]; · iexists _; isplitr; swap; (· iexact H11); ipureintro; dsimp only [dat]
  isplitl [H12]; · iexists _; isplitr; swap; (· iexact H12); ipureintro; dsimp only [dat]
  isplitl [H13]; · iexists _; isplitr; swap; (· iexact H13); ipureintro; dsimp only [dat]
  isplitl [H14]; · iexists _; isplitr; swap; (· iexact H14); ipureintro; dsimp only [dat]
  isplitl [H15]; · iexists _; isplitr; swap; (· iexact H15); ipureintro; dsimp only [dat]
  isplitl [H16]; · iexists _; isplitr; swap; (· iexact H16); ipureintro; dsimp only [dat]
  isplitl [H17]; · iexists _; isplitr; swap; (· iexact H17); ipureintro; dsimp only [dat]
  isplitl [H18]; · iexists _; isplitr; swap; (· iexact H18); ipureintro; dsimp only [dat]
  isplitl [H19]; · iexists _; isplitr; swap; (· iexact H19); ipureintro; dsimp only [dat]
  isplitl [H20]; · iexists _; isplitr; swap; (· iexact H20); ipureintro; dsimp only [dat]
  iexists _; isplitr; swap; (· iexact H21); ipureintro; dsimp only [dat]

/-- The TensorCore's unscoped references: what the thread holds at a valuation. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- An operation on TensorCore references touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- No core owes another anything: no level is assigned. -/
abbrev L : GSem nD τ sig → Finset Unit := fun _ => ∅
abbrev lv : GSem nD τ sig → Unit → ℕ := fun _ _ => 0

/-- The valuation the call leaves. -/
abbrev Vcall (c : Dev nD) : Valuation τ sig (Elt F) := Pipeline.afterRegion (pdats V 0 c) (V c)

set_option backward.isDefEq.respectTransparency.types false in
/-- The call as a segment: every unscoped buffer at `V c` and what the core owes, to the same at `Vcall V c`. -/
def reg : Pipeline.RegionSeg (pcfgs (F := F)) adm (pdats V) () defs₀ 𝒱₀ L lv 0 where
  win := launch0.win.to₀
  block_pos := launch0.block_pos
  stage_whole := launch0.stage_whole
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (fun b => V c b) ∗ ∃ W, owes (c : Thread nD τ) (0 : CellTallies nD τ sig Unit) W)
  post c := iprop(unscopedBufs c (fun b => Vcall V c b) ∗ ∃ W, owes (c : Thread nD τ) (0 : CellTallies nD τ sig Unit) W)
  X _ := BI.emp
  Y _ := BI.emp
  Z c := Pipeline.unscopedRest (Ix := Unit) (Name := ℕ) (U := UU) (Lvl := ℕ) spec0 c (fun b => V c b)
  hentry c := by
    rw [Pipeline.ownSems0_none]
    have hsplit := Pipeline.arrays_of_unscopedBufs (p := 0) (pcfgs (F := F)) adm (pdats V) launch0.win launch0.arr_whole c
      ((pdats V 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats V) ((pdats V 0 c).share_full fun _ => rfl) (fun b => V c b) (fun b => Vcall V c b) ((pdats V 0 c).arrAt · cfg0.N)
      (fun w => (Pipeline.afterRegion_arr (pdats V 0 c) (V c) launch0.win.arr_inj w).symm)
      (fun b hb => Pipeline.afterRegion_of_not_arr (pdats V 0 c) (V c) fun w e => hb (Finset.mem_image.mpr ⟨w, Finset.mem_univ _, e.symm⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem reg_pre (c : Dev nD) : (reg V).pre c = iprop(unscopedBufs c (fun b => V c b) ∗ ∃ W, owes (c : Thread nD τ) (0 : CellTallies nD τ sig Unit) W) := rfl
theorem reg_post (c : Dev nD) : (reg V).post c = iprop(unscopedBufs c (fun b => Vcall V c b) ∗ ∃ W, owes (c : Thread nD τ) (0 : CellTallies nD τ sig Unit) W) := rfl

end Cert.Proof.KernelIdeal

end
-- ==== Proof.IdealArms.lean ====
/-
  The two branches of the program's choice, as lists of host operations: `denseOps` are the operations of branch 0
  (every edge), `tailOps` those that follow the kernel call of branch 1 (the selected edges); both end by writing the
  result `main_v175`.
-/
module

public import proofs.«01_k».proof.Proof.Gen.KernelIdeal.Launch

@[expose] public section

set_option maxRecDepth 6232

noncomputable section

namespace Cert.Proof.KernelIdeal

open Cert.KernelIdeal Cert.KernelIdeal.Gen
open Idealize.ShloMosaic Idealize.ShloMosaic.TcCoe
open Idealize.SL.Sem

variable {F : FTy → Type} [FloatOps F]

/-- Branch 0: the operations on every edge. -/
abbrev denseOps : List (HloOp τ sig (Elt F)) :=
  [ StableHlo.nullary main_case0b0_c_55 (constantI S_ 32 0#32),
    StableHlo.unary main_case0b0_c_55 main_case0b0_v176 (broadcastInDim S320000 ![] bcast_S_S320000 : (⟨S_, .i32⟩ : BufTy).Contents (Elt F) → (⟨S320000, .i32⟩ : BufTy).Contents (Elt F)),
    StableHlo.binary main_v1 main_case0b0_v176 main_case0b0_v177 (cmpi .slt : (⟨S320000, .i32⟩ : BufTy).Contents (Elt F) → (⟨S320000, .i32⟩ : BufTy).Contents (Elt F) → (⟨S320000, .i1⟩ : BufTy).Contents (Elt F)),
    StableHlo.nullary main_case0b0_c_56 (constantI S_ 32 10000#32),
    StableHlo.unary main_case0b0_c_56 main_case0b0_v178 (broadcastInDim S320000 ![] bcast_S_S320000 : (⟨S_, .i32⟩ : BufTy).Contents (Elt F) → (⟨S320000, .i32⟩ : BufTy).Contents (Elt F)),
    StableHlo.binary main_v1 main_case0b0_v178 main_case0b0_v179 (addi : (⟨S320000, .i32⟩ : BufTy).Contents (Elt F) → (⟨S320000, .i32⟩ : BufTy).Contents (Elt F) → (⟨S320000, .i32⟩ : BufTy).Contents (Elt F)),
    StableHlo.ternary main_case0b0_v177 main_case0b0_v179 main_v1 main_case0b0_v180 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_case0b0_v180 main_case0b0_v181 (broadcastInDim S320000x1 ![0] bcast_S320000_S320000x1_0 : (⟨S320000, .i32⟩ : BufTy).Contents (Elt F) → (⟨S320000x1, .i32⟩ : BufTy).Contents (Elt F)),
    StableHlo.binary main_arg0 main_case0b0_v181 main_case0b0_v182 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nullary main_case0b0_c_57 (constantI S_ 32 0#32),
    StableHlo.unary main_case0b0_c_57 main_case0b0_v183 (broadcastInDim S320000 ![] bcast_S_S320000 : (⟨S_, .i32⟩ : BufTy).Contents (Elt F) → (⟨S320000, .i32⟩ : BufTy).Contents (Elt F)),
    StableHlo.binary main_v3 main_case0b0_v183 main_case0b0_v184 (cmpi .slt : (⟨S320000, .i32⟩ : BufTy).Contents (Elt F) → (⟨S320000, .i32⟩ : BufTy).Contents (Elt F) → (⟨S320000, .i1⟩ : BufTy).Contents (Elt F)),
    StableHlo.nullary main_case0b0_c_58 (constantI S_ 32 10000#32),
    StableHlo.unary main_case0b0_c_58 main_case0b0_v185 (broadcastInDim S320000 ![] bcast_S_S320000 : (⟨S_, .i32⟩ : BufTy).Contents (Elt F) → (⟨S320000, .i32⟩ : BufTy).Contents (Elt F)),
    StableHlo.binary main_v3 main_case0b0_v185 main_case0b0_v186 (addi : (⟨S320000, .i32⟩ : BufTy).Contents (Elt F) → (⟨S320000, .i32⟩ : BufTy).Contents (Elt F) → (⟨S320000, .i32⟩ : BufTy).Contents (Elt F)),
    StableHlo.ternary main_case0b0_v184 main_case0b0_v186 main_v3 main_case0b0_v187 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_case0b0_v187 main_case0b0_v188 (broadcastInDim S320000x1 ![0] bcast_S320000_S320000x1_0 : (⟨S320000, .i32⟩ : BufTy).Contents (Elt F) → (⟨S320000x1, .i32⟩ : BufTy).Contents (Elt F)),
    StableHlo.binary main_arg0 main_case0b0_v188 main_case0b0_v189 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    StableHlo.nary ![main_case0b0_v182, main_case0b0_v189, main_arg2] main_case0b0_v190 (fun u => (concatenate S320000x272 1 [⟨S320000x128, (u 0 : (⟨S320000x128, .f32⟩ : BufTy).Contents (Elt F))⟩, ⟨S320000x128, (u 1 : (⟨S320000x128, .f32⟩ : BufTy).Contents (Elt F))⟩, ⟨S320000x16, (u 2 : (⟨S320000x16, .f32⟩ : BufTy).Contents (Elt F))⟩] concatenates_S320000x128_S320000x128_S320000x16_S320000x272_d1 : (⟨S320000x272, .f32⟩ : BufTy).Contents (Elt F))),
    StableHlo.binary main_case0b0_v190 main_arg3 main_case0b0_v191 ((fun l r => Host.dotGeneral dot_S320000x272_S272x32_S320000x32_1_0_0_1_n_n none l r) : (⟨S320000x272, .f32⟩ : BufTy).Contents (Elt F) → (⟨S272x32, .f32⟩ : BufTy).Contents (Elt F) → (⟨S320000x32, .f32⟩ : BufTy).Contents (Elt F)),
    StableHlo.unary main_arg4 main_case0b0_v192 (broadcastInDim S1x32 ![1] bcast_S32_S1x32_1 : (⟨S32, .f32⟩ : BufTy).Contents (Elt F) → (⟨S1x32, .f32⟩ : BufTy).Contents (Elt F)),
    StableHlo.unary main_case0b0_v192 main_case0b0_v193 (broadcastInDim S320000x32 ![0, 1] bcast_S1x32_S320000x32_0_1 : (⟨S1x32, .f32⟩ : BufTy).Contents (Elt F) → (⟨S320000x32, .f32⟩ : BufTy).Contents (Elt F)),
    StableHlo.binary main_case0b0_v191 main_case0b0_v193 main_case0b0_v194 (addf : (⟨S320000x32, .f32⟩ : BufTy).Contents (Elt F) → (⟨S320000x32, .f32⟩ : BufTy).Contents (Elt F) → (⟨S320000x32, .f32⟩ : BufTy).Contents (Elt F)),
    StableHlo.TRef.nullary (.of main_case0b0_call14_cst : StableHlo.TRef sig ⟨S_, .f32⟩) (constant S_ .f32 0x00000000#32),
    StableHlo.TRef.unary (.of main_case0b0_call14_cst : StableHlo.TRef sig ⟨S_, .f32⟩) (.of main_case0b0_call14_v0 : StableHlo.TRef sig ⟨S320000x32, .f32⟩) (broadcastInDim S320000x32 ![] bcast_S_S320000x32),
    StableHlo.TRef.binary (.of main_case0b0_v194 : StableHlo.TRef sig ⟨S320000x32, .f32⟩) (.of main_case0b0_call14_v0 : StableHlo.TRef sig ⟨S320000x32, .f32⟩) (.of main_case0b0_v195 : StableHlo.TRef sig ⟨S320000x32, .f32⟩) maximumf,
    StableHlo.binary main_case0b0_v195 main_arg5 main_case0b0_v196 ((fun l r => Host.dotGeneral dot_S320000x32_S32x32_S320000x32_1_0_0_1_n_n none l r) : (⟨S320000x32, .f32⟩ : BufTy).Contents (Elt F) → (⟨S32x32, .f32⟩ : BufTy).Contents (Elt F) → (⟨S320000x32, .f32⟩ : BufTy).Contents (Elt F)),
    StableHlo.unary main_arg6 main_case0b0_v197 (broadcastInDim S1x32 ![1] bcast_S32_S1x32_1 : (⟨S32, .f32⟩ : BufTy).Contents (Elt F) → (⟨S1x32, .f32⟩ : BufTy).Contents (Elt F)),
    StableHlo.unary main_case0b0_v197 main_case0b0_v198 (broadcastInDim S320000x32 ![0, 1] bcast_S1x32_S320000x32_0_1 : (⟨S1x32, .f32⟩ : BufTy).Contents (Elt F) → (⟨S320000x32, .f32⟩ : BufTy).Contents (Elt F)),
    StableHlo.binary main_case0b0_v196 main_case0b0_v198 main_case0b0_v199 (addf : (⟨S320000x32, .f32⟩ : BufTy).Contents (Elt F) → (⟨S320000x32, .f32⟩ : BufTy).Contents (Elt F) → (⟨S320000x32, .f32⟩ : BufTy).Contents (Elt F)),
    StableHlo.nullary main_case0b0_cst_59 (constant S_ .f32 0x00000000#32),
    StableHlo.unary main_case0b0_cst_59 main_case0b0_v200 (broadcastInDim S10000x32 ![] bcast_S_S10000x32 : (⟨S_, .f32⟩ : BufTy).Contents (Elt F) → (⟨S10000x32, .f32⟩ : BufTy).Contents (Elt F)),
    StableHlo.unary main_v1 main_case0b0_v201 (broadcastInDim S320000x1 ![0] bcast_S320000_S320000x1_0 : (⟨S320000, .i32⟩ : BufTy).Contents (Elt F) → (⟨S320000x1, .i32⟩ : BufTy).Contents (Elt F)),
    StableHlo.ternary main_case0b0_v200 main_case0b0_v201 main_case0b0_v199 main_case0b0_v202 ((fun x i u => Host.scatterAdd scatter_S10000x32_S320000x1_S320000x32_1_0_0_1 x i u) : (⟨S10000x32, .f32⟩ : BufTy).Contents (Elt F) → (⟨S320000x1, .i32⟩ : BufTy).Contents (Elt F) → (⟨S320000x32, .f32⟩ : BufTy).Contents (Elt F) → (⟨S10000x32, .f32⟩ : BufTy).Contents (Elt F)),
    StableHlo.binary main_arg0 main_case0b0_v202 main_case0b0_v203 ((fun a b => concatenate S10000x160 1 [⟨S10000x128, a⟩, ⟨S10000x32, b⟩] concatenates_S10000x128_S10000x32_S10000x160_d1) : (⟨S10000x128, .f32⟩ : BufTy).Contents (Elt F) → (⟨S10000x32, .f32⟩ : BufTy).Contents (Elt F) → (⟨S10000x160, .f32⟩ : BufTy).Contents (Elt F)),
    StableHlo.reshape main_case0b0_v203 main_case0b0_v204 (rfl : (.f32 : EltTy) = .f32) shapeCasts_S10000x160_S1x10000x160,
    StableHlo.unary main_arg15 main_case0b0_v205 ((extractStridedSlice S24x1 ![0, 0] · slices_S24x2_S24x1_0_0) : (⟨S24x2, .i32⟩ : BufTy).Contents (Elt F) → (⟨S24x1, .i32⟩ : BufTy).Contents (Elt F)),
    StableHlo.reshape main_case0b0_v205 main_case0b0_v206 (rfl : (.i32 : EltTy) = .i32) shapeCasts_S24x1_S24,
    StableHlo.nullary main_case0b0_c_60 (constantI S_ 32 0#32),
    StableHlo.unary main_case0b0_c_60 main_case0b0_v207 (broadcastInDim S24 ![] bcast_S_S24 : (⟨S_, .i32⟩ : BufTy).Contents (Elt F) → (⟨S24, .i32⟩ : BufTy).Contents (Elt F)),
    StableHlo.binary main_case0b0_v206 main_case0b0_v207 main_case0b0_v208 (cmpi .slt : (⟨S24, .i32⟩ : BufTy).Contents (Elt F) → (⟨S24, .i32⟩ : BufTy).Contents (Elt F) → (⟨S24, .i1⟩ : BufTy).Contents (Elt F)),
    StableHlo.nullary main_case0b0_c_61 (constantI S_ 32 10000#32),
    StableHlo.unary main_case0b0_c_61 main_case0b0_v209 (broadcastInDim S24 ![] bcast_S_S24 : (⟨S_, .i32⟩ : BufTy).Contents (Elt F) → (⟨S24, .i32⟩ : BufTy).Contents (Elt F)),
    StableHlo.binary main_case0b0_v206 main_case0b0_v209 main_case0b0_v210 (addi : (⟨S24, .i32⟩ : BufTy).Contents (Elt F) → (⟨S24, .i32⟩ : BufTy).Contents (Elt F) → (⟨S24, .i32⟩ : BufTy).Contents (Elt F)),
    StableHlo.ternary main_case0b0_v208 main_case0b0_v210 main_case0b0_v206 main_case0b0_v211 (select : (⟨S24, .i1⟩ : BufTy).Contents (Elt F) → (⟨S24, .i32⟩ : BufTy).Contents (Elt F) → (⟨S24, .i32⟩ : BufTy).Contents (Elt F) → (⟨S24, .i32⟩ : BufTy).Contents (Elt F)),
    StableHlo.unary main_case0b0_v211 main_case0b0_v212 (broadcastInDim S24x1 ![0] bcast_S24_S24x1_0 : (⟨S24, .i32⟩ : BufTy).Contents (Elt F) → (⟨S24x1, .i32⟩ : BufTy).Contents (Elt F)),
    StableHlo.binary main_case0b0_v204 main_case0b0_v212 main_case0b0_v213 ((fun x i => Host.gather gather_S1x10000x160_S24x1_S1x24x160_02_1_n_n_1_1_11160 x i) : (⟨S1x10000x160, .f32⟩ : BufTy).Contents (Elt F) → (⟨S24x1, .i32⟩ : BufTy).Contents (Elt F) → (⟨S1x24x160, .f32⟩ : BufTy).Contents (Elt F)),
    StableHlo.unary main_arg15 main_case0b0_v214 ((extractStridedSlice S24x1 ![0, 1] · slices_S24x2_S24x1_0_1) : (⟨S24x2, .i32⟩ : BufTy).Contents (Elt F) → (⟨S24x1, .i32⟩ : BufTy).Contents (Elt F)),
    StableHlo.reshape main_case0b0_v214 main_case0b0_v215 (rfl : (.i32 : EltTy) = .i32) shapeCasts_S24x1_S24,
    StableHlo.nullary main_case0b0_c_62 (constantI S_ 32 0#32),
    StableHlo.unary main_case0b0_c_62 main_case0b0_v216 (broadcastInDim S24 ![] bcast_S_S24 : (⟨S_, .i32⟩ : BufTy).Contents (Elt F) → (⟨S24, .i32⟩ : BufTy).Contents (Elt F)),
    StableHlo.binary main_case0b0_v215 main_case0b0_v216 main_case0b0_v217 (cmpi .slt : (⟨S24, .i32⟩ : BufTy).Contents (Elt F) → (⟨S24, .i32⟩ : BufTy).Contents (Elt F) → (⟨S24, .i1⟩ : BufTy).Contents (Elt F)),
    StableHlo.nullary main_case0b0_c_63 (constantI S_ 32 10000#32),
    StableHlo.unary main_case0b0_c_63 main_case0b0_v218 (broadcastInDim S24 ![] bcast_S_S24 : (⟨S_, .i32⟩ : BufTy).Contents (Elt F) → (⟨S24, .i32⟩ : BufTy).Contents (Elt F)),
    StableHlo.binary main_case0b0_v215 main_case0b0_v218 main_case0b0_v219 (addi : (⟨S24, .i32⟩ : BufTy).Contents (Elt F) → (⟨S24, .i32⟩ : BufTy).Contents (Elt F) → (⟨S24, .i32⟩ : BufTy).Contents (Elt F)),
    StableHlo.ternary main_case0b0_v217 main_case0b0_v219 main_case0b0_v215 main_case0b0_v220 (select : (⟨S24, .i1⟩ : BufTy).Contents (Elt F) → (⟨S24, .i32⟩ : BufTy).Contents (Elt F) → (⟨S24, .i32⟩ : BufTy).Contents (Elt F) → (⟨S24, .i32⟩ : BufTy).Contents (Elt F)),
    StableHlo.unary main_case0b0_v220 main_case0b0_v221 (broadcastInDim S24x1 ![0] bcast_S24_S24x1_0 : (⟨S24, .i32⟩ : BufTy).Contents (Elt F) → (⟨S24x1, .i32⟩ : BufTy).Contents (Elt F)),
    StableHlo.binary main_case0b0_v204 main_case0b0_v221 main_case0b0_v222 ((fun x i => Host.gather gather_S1x10000x160_S24x1_S1x24x160_02_1_n_n_1_1_11160 x i) : (⟨S1x10000x160, .f32⟩ : BufTy).Contents (Elt F) → (⟨S24x1, .i32⟩ : BufTy).Contents (Elt F) → (⟨S1x24x160, .f32⟩ : BufTy).Contents (Elt F)),
    StableHlo.binary main_case0b0_v213 main_case0b0_v222 main_case0b0_v223 ((fun a b => concatenate S1x24x320 2 [⟨S1x24x160, a⟩, ⟨S1x24x160, b⟩] concatenates_S1x24x160_S1x24x160_S1x24x320_d2) : (⟨S1x24x160, .f32⟩ : BufTy).Contents (Elt F) → (⟨S1x24x160, .f32⟩ : BufTy).Contents (Elt F) → (⟨S1x24x320, .f32⟩ : BufTy).Contents (Elt F)),
    StableHlo.binary main_case0b0_v223 main_arg7 main_case0b0_v224 ((fun l r => Host.dotGeneral dot_S1x24x320_S320x1_S1x24x1_2_0_01_1_n_n none l r) : (⟨S1x24x320, .f32⟩ : BufTy).Contents (Elt F) → (⟨S320x1, .f32⟩ : BufTy).Contents (Elt F) → (⟨S1x24x1, .f32⟩ : BufTy).Contents (Elt F)),
    StableHlo.unary main_arg8 main_case0b0_v225 (broadcastInDim S1x1x1 ![2] bcast_S1_S1x1x1_2 : (⟨S1, .f32⟩ : BufTy).Contents (Elt F) → (⟨S1x1x1, .f32⟩ : BufTy).Contents (Elt F)),
    StableHlo.unary main_case0b0_v225 main_case0b0_v226 (broadcastInDim S1x24x1 ![0, 1, 2] bcast_S1x1x1_S1x24x1_0_1_2 : (⟨S1x1x1, .f32⟩ : BufTy).Contents (Elt F) → (⟨S1x24x1, .f32⟩ : BufTy).Contents (Elt F)),
    StableHlo.binary main_case0b0_v224 main_case0b0_v226 main_case0b0_v227 (addf : (⟨S1x24x1, .f32⟩ : BufTy).Contents (Elt F) → (⟨S1x24x1, .f32⟩ : BufTy).Contents (Elt F) → (⟨S1x24x1, .f32⟩ : BufTy).Contents (Elt F)),
    StableHlo.nullary main_case0b0_cst_64 (constant S_ .f32 0x1E3CE508#32),
    StableHlo.unary main_case0b0_cst_64 main_case0b0_v228 (broadcastInDim S1x24x1 ![] bcast_S_S1x24x1 : (⟨S_, .f32⟩ : BufTy).Contents (Elt F) → (⟨S1x24x1, .f32⟩ : BufTy).Contents (Elt F)),
    StableHlo.binary main_case0b0_v227 main_case0b0_v228 main_case0b0_v229 (addf : (⟨S1x24x1, .f32⟩ : BufTy).Contents (Elt F) → (⟨S1x24x1, .f32⟩ : BufTy).Contents (Elt F) → (⟨S1x24x1, .f32⟩ : BufTy).Contents (Elt F)),
    StableHlo.TRef.nullary (.of main_case0b0_call15_cst : StableHlo.TRef sig ⟨S_, .f32⟩) (constant S_ .f32 0x00000000#32),
    StableHlo.TRef.unary (.of main_case0b0_call15_cst : StableHlo.TRef sig ⟨S_, .f32⟩) (.of main_case0b0_call15_v0 : StableHlo.TRef sig ⟨S1x24x1, .f32⟩) (broadcastInDim S1x24x1 ![] bcast_S_S1x24x1),
    StableHlo.TRef.binary (.of main_case0b0_v229 : StableHlo.TRef sig ⟨S1x24x1, .f32⟩) (.of main_case0b0_call15_v0 : StableHlo.TRef sig ⟨S1x24x1, .f32⟩) (.of main_case0b0_call15_v1 : StableHlo.TRef sig ⟨S1x24x1, .f32⟩) maximumf,
    StableHlo.TRef.unary (.of main_case0b0_call15_cst : StableHlo.TRef sig ⟨S_, .f32⟩) (.of main_case0b0_call15_v2 : StableHlo.TRef sig ⟨S1x24x1, .f32⟩) (broadcastInDim S1x24x1 ![] bcast_S_S1x24x1),
    StableHlo.TRef.binary (.of main_case0b0_v229 : StableHlo.TRef sig ⟨S1x24x1, .f32⟩) (.of main_case0b0_call15_v2 : StableHlo.TRef sig ⟨S1x24x1, .f32⟩) (.of main_case0b0_call15_v3 : StableHlo.TRef sig ⟨S1x24x1, .f32⟩) subf,
    StableHlo.TRef.binary (.of main_case0b0_call15_v3 : StableHlo.TRef sig ⟨S1x24x1, .f32⟩) (.of main_case0b0_call15_v3 : StableHlo.TRef sig ⟨S1x24x1, .f32⟩) (.of main_case0b0_call15_v4 : StableHlo.TRef sig ⟨S1x24x1, .i1⟩) (cmpf .une),
    StableHlo.TRef.unary (.of main_case0b0_call15_cst : StableHlo.TRef sig ⟨S_, .f32⟩) (.of main_case0b0_call15_v5 : StableHlo.TRef sig ⟨S1x24x1, .f32⟩) (broadcastInDim S1x24x1 ![] bcast_S_S1x24x1),
    StableHlo.TRef.binary (.of main_case0b0_v229 : StableHlo.TRef sig ⟨S1x24x1, .f32⟩) (.of main_case0b0_call15_v5 : StableHlo.TRef sig ⟨S1x24x1, .f32⟩) (.of main_case0b0_call15_v6 : StableHlo.TRef sig ⟨S1x24x1, .f32⟩) addf,
    StableHlo.TRef.unary (.of main_case0b0_call15_v3 : StableHlo.TRef sig ⟨S1x24x1, .f32⟩) (.of main_case0b0_call15_v7 : StableHlo.TRef sig ⟨S1x24x1, .f32⟩) Host.absf,
    StableHlo.TRef.unary (.of main_case0b0_call15_v7 : StableHlo.TRef sig ⟨S1x24x1, .f32⟩) (.of main_case0b0_call15_v8 : StableHlo.TRef sig ⟨S1x24x1, .f32⟩) Host.negf,
    StableHlo.TRef.unary (.of main_case0b0_call15_v8 : StableHlo.TRef sig ⟨S1x24x1, .f32⟩) (.of main_case0b0_call15_v9 : StableHlo.TRef sig ⟨S1x24x1, .f32⟩) Host.exp,
    StableHlo.TRef.unary (.of main_case0b0_call15_v9 : StableHlo.TRef sig ⟨S1x24x1, .f32⟩) (.of main_case0b0_call15_v10 : StableHlo.TRef sig ⟨S1x24x1, .f32⟩) Host.log1p,
    StableHlo.TRef.binary (.of main_case0b0_call15_v1 : StableHlo.TRef sig ⟨S1x24x1, .f32⟩) (.of main_case0b0_call15_v10 : StableHlo.TRef sig ⟨S1x24x1, .f32⟩) (.of main_case0b0_call15_v11 : StableHlo.TRef sig ⟨S1x24x1, .f32⟩) addf,
    StableHlo.TRef.ternary (.of main_case0b0_call15_v4 : StableHlo.TRef sig ⟨S1x24x1, .i1⟩) (.of main_case0b0_call15_v6 : StableHlo.TRef sig ⟨S1x24x1, .f32⟩) (.of main_case0b0_call15_v11 : StableHlo.TRef sig ⟨S1x24x1, .f32⟩) (.of main_case0b0_v230 : StableHlo.TRef sig ⟨S1x24x1, .f32⟩) select,
    StableHlo.reshape main_case0b0_v230 main_case0b0_v231 (rfl : (.f32 : EltTy) = .f32) shapeCasts_S1x24x1_S1x24,
    StableHlo.nullary main_case0b0_cst_65 (constant S_ .f32 0x1E3CE508#32),
    StableHlo.unary main_case0b0_cst_65 main_case0b0_v232 (broadcastInDim S1x24 ![] bcast_S_S1x24 : (⟨S_, .f32⟩ : BufTy).Contents (Elt F) → (⟨S1x24, .f32⟩ : BufTy).Contents (Elt F)),
    StableHlo.binary main_case0b0_v231 main_case0b0_v232 main_case0b0_v233 (addf : (⟨S1x24, .f32⟩ : BufTy).Contents (Elt F) → (⟨S1x24, .f32⟩ : BufTy).Contents (Elt F) → (⟨S1x24, .f32⟩ : BufTy).Contents (Elt F)),
    StableHlo.binary main_case0b0_v223 main_arg9 main_case0b0_v234 ((fun l r => Host.dotGeneral dot_S1x24x320_S320x1_S1x24x1_2_0_01_1_n_n none l r) : (⟨S1x24x320, .f32⟩ : BufTy).Contents (Elt F) → (⟨S320x1, .f32⟩ : BufTy).Contents (Elt F) → (⟨S1x24x1, .f32⟩ : BufTy).Contents (Elt F)),
    StableHlo.unary main_arg10 main_case0b0_v235 (broadcastInDim S1x1x1 ![2] bcast_S1_S1x1x1_2 : (⟨S1, .f32⟩ : BufTy).Contents (Elt F) → (⟨S1x1x1, .f32⟩ : BufTy).Contents (Elt F)),
    StableHlo.unary main_case0b0_v235 main_case0b0_v236 (broadcastInDim S1x24x1 ![0, 1, 2] bcast_S1x1x1_S1x24x1_0_1_2 : (⟨S1x1x1, .f32⟩ : BufTy).Contents (Elt F) → (⟨S1x24x1, .f32⟩ : BufTy).Contents (Elt F)),
    StableHlo.binary main_case0b0_v234 main_case0b0_v236 main_case0b0_v237 (addf : (⟨S1x24x1, .f32⟩ : BufTy).Contents (Elt F) → (⟨S1x24x1, .f32⟩ : BufTy).Contents (Elt F) → (⟨S1x24x1, .f32⟩ : BufTy).Contents (Elt F)),
    StableHlo.nullary main_case0b0_cst_66 (constant S_ .f32 0x1E3CE508#32),
    StableHlo.unary main_case0b0_cst_66 main_case0b0_v238 (broadcastInDim S1x24x1 ![] bcast_S_S1x24x1 : (⟨S_, .f32⟩ : BufTy).Contents (Elt F) → (⟨S1x24x1, .f32⟩ : BufTy).Contents (Elt F)),
    StableHlo.binary main_case0b0_v237 main_case0b0_v238 main_case0b0_v239 (addf : (⟨S1x24x1, .f32⟩ : BufTy).Contents (Elt F) → (⟨S1x24x1, .f32⟩ : BufTy).Contents (Elt F) → (⟨S1x24x1, .f32⟩ : BufTy).Contents (Elt F)),
    StableHlo.TRef.nullary (.of main_case0b0_call16_cst : StableHlo.TRef sig ⟨S_, .f32⟩) (constant S_ .f32 0x00000000#32),
    StableHlo.TRef.unary (.of main_case0b0_call16_cst : StableHlo.TRef sig ⟨S_, .f32⟩) (.of main_case0b0_call16_v0 : StableHlo.TRef sig ⟨S1x24x1, .f32⟩) (broadcastInDim S1x24x1 ![] bcast_S_S1x24x1),
    StableHlo.TRef.binary (.of main_case0b0_v239 : StableHlo.TRef sig ⟨S1x24x1, .f32⟩) (.of main_case0b0_call16_v0 : StableHlo.TRef sig ⟨S1x24x1, .f32⟩) (.of main_case0b0_call16_v1 : StableHlo.TRef sig ⟨S1x24x1, .f32⟩) maximumf,
    StableHlo.TRef.unary (.of main_case0b0_call16_cst : StableHlo.TRef sig ⟨S_, .f32⟩) (.of main_case0b0_call16_v2 : StableHlo.TRef sig ⟨S1x24x1, .f32⟩) (broadcastInDim S1x24x1 ![] bcast_S_S1x24x1),
    StableHlo.TRef.binary (.of main_case0b0_v239 : StableHlo.TRef sig ⟨S1x24x1, .f32⟩) (.of main_case0b0_call16_v2 : StableHlo.TRef sig ⟨S1x24x1, .f32⟩) (.of main_case0b0_call16_v3 : StableHlo.TRef sig ⟨S1x24x1, .f32⟩) subf,
    StableHlo.TRef.binary (.of main_case0b0_call16_v3 : StableHlo.TRef sig ⟨S1x24x1, .f32⟩) (.of main_case0b0_call16_v3 : StableHlo.TRef sig ⟨S1x24x1, .f32⟩) (.of main_case0b0_call16_v4 : StableHlo.TRef sig ⟨S1x24x1, .i1⟩) (cmpf .une),
    StableHlo.TRef.unary (.of main_case0b0_call16_cst : StableHlo.TRef sig ⟨S_, .f32⟩) (.of main_case0b0_call16_v5 : StableHlo.TRef sig ⟨S1x24x1, .f32⟩) (broadcastInDim S1x24x1 ![] bcast_S_S1x24x1),
    StableHlo.TRef.binary (.of main_case0b0_v239 : StableHlo.TRef sig ⟨S1x24x1, .f32⟩) (.of main_case0b0_call16_v5 : StableHlo.TRef sig ⟨S1x24x1, .f32⟩) (.of main_case0b0_call16_v6 : StableHlo.TRef sig ⟨S1x24x1, .f32⟩) addf,
    StableHlo.TRef.unary (.of main_case0b0_call16_v3 : StableHlo.TRef sig ⟨S1x24x1, .f32⟩) (.of main_case0b0_call16_v7 : StableHlo.TRef sig ⟨S1x24x1, .f32⟩) Host.absf,
    StableHlo.TRef.unary (.of main_case0b0_call16_v7 : StableHlo.TRef sig ⟨S1x24x1, .f32⟩) (.of main_case0b0_call16_v8 : StableHlo.TRef sig ⟨S1x24x1, .f32⟩) Host.negf,
    StableHlo.TRef.unary (.of main_case0b0_call16_v8 : StableHlo.TRef sig ⟨S1x24x1, .f32⟩) (.of main_case0b0_call16_v9 : StableHlo.TRef sig ⟨S1x24x1, .f32⟩) Host.exp,
    StableHlo.TRef.unary (.of main_case0b0_call16_v9 : StableHlo.TRef sig ⟨S1x24x1, .f32⟩) (.of main_case0b0_call16_v10 : StableHlo.TRef sig ⟨S1x24x1, .f32⟩) Host.log1p,
    StableHlo.TRef.binary (.of main_case0b0_call16_v1 : StableHlo.TRef sig ⟨S1x24x1, .f32⟩) (.of main_case0b0_call16_v10 : StableHlo.TRef sig ⟨S1x24x1, .f32⟩) (.of main_case0b0_call16_v11 : StableHlo.TRef sig ⟨S1x24x1, .f32⟩) addf,
    StableHlo.TRef.ternary (.of main_case0b0_call16_v4 : StableHlo.TRef sig ⟨S1x24x1, .i1⟩) (.of main_case0b0_call16_v6 : StableHlo.TRef sig ⟨S1x24x1, .f32⟩) (.of main_case0b0_call16_v11 : StableHlo.TRef sig ⟨S1x24x1, .f32⟩) (.of main_case0b0_v240 : StableHlo.TRef sig ⟨S1x24x1, .f32⟩) select,
    StableHlo.reshape main_case0b0_v240 main_case0b0_v241 (rfl : (.f32 : EltTy) = .f32) shapeCasts_S1x24x1_S1x24,
    StableHlo.nullary main_case0b0_cst_67 (constant S_ .f32 0x1E3CE508#32),
    StableHlo.unary main_case0b0_cst_67 main_case0b0_v242 (broadcastInDim S1x24 ![] bcast_S_S1x24 : (⟨S_, .f32⟩ : BufTy).Contents (Elt F) → (⟨S1x24, .f32⟩ : BufTy).Contents (Elt F)),
    StableHlo.binary main_case0b0_v241 main_case0b0_v242 main_case0b0_v243 (addf : (⟨S1x24, .f32⟩ : BufTy).Contents (Elt F) → (⟨S1x24, .f32⟩ : BufTy).Contents (Elt F) → (⟨S1x24, .f32⟩ : BufTy).Contents (Elt F)),
    StableHlo.unary main_case0b0_v204 main_case0b0_v244 ((extractStridedSlice S1x3x160 ![0, 9997, 0] · slices_S1x10000x160_S1x3x160_0_9997_0) : (⟨S1x10000x160, .f32⟩ : BufTy).Contents (Elt F) → (⟨S1x3x160, .f32⟩ : BufTy).Contents (Elt F)),
    StableHlo.binary main_case0b0_v244 main_arg11 main_case0b0_v245 ((fun l r => Host.dotGeneral dot_S1x3x160_S160x1_S1x3x1_2_0_01_1_n_n none l r) : (⟨S1x3x160, .f32⟩ : BufTy).Contents (Elt F) → (⟨S160x1, .f32⟩ : BufTy).Contents (Elt F) → (⟨S1x3x1, .f32⟩ : BufTy).Contents (Elt F)),
    StableHlo.unary main_arg12 main_case0b0_v246 (broadcastInDim S1x1x1 ![2] bcast_S1_S1x1x1_2 : (⟨S1, .f32⟩ : BufTy).Contents (Elt F) → (⟨S1x1x1, .f32⟩ : BufTy).Contents (Elt F)),
    StableHlo.unary main_case0b0_v246 main_case0b0_v247 (broadcastInDim S1x3x1 ![0, 1, 2] bcast_S1x1x1_S1x3x1_0_1_2 : (⟨S1x1x1, .f32⟩ : BufTy).Contents (Elt F) → (⟨S1x3x1, .f32⟩ : BufTy).Contents (Elt F)),
    StableHlo.binary main_case0b0_v245 main_case0b0_v247 main_case0b0_v248 (addf : (⟨S1x3x1, .f32⟩ : BufTy).Contents (Elt F) → (⟨S1x3x1, .f32⟩ : BufTy).Contents (Elt F) → (⟨S1x3x1, .f32⟩ : BufTy).Contents (Elt F)),
    StableHlo.nullary main_case0b0_cst_68 (constant S_ .f32 0x1E3CE508#32),
    StableHlo.unary main_case0b0_cst_68 main_case0b0_v249 (broadcastInDim S1x3x1 ![] bcast_S_S1x3x1 : (⟨S_, .f32⟩ : BufTy).Contents (Elt F) → (⟨S1x3x1, .f32⟩ : BufTy).Contents (Elt F)),
    StableHlo.binary main_case0b0_v248 main_case0b0_v249 main_case0b0_v250 (addf : (⟨S1x3x1, .f32⟩ : BufTy).Contents (Elt F) → (⟨S1x3x1, .f32⟩ : BufTy).Contents (Elt F) → (⟨S1x3x1, .f32⟩ : BufTy).Contents (Elt F)),
    StableHlo.TRef.nullary (.of main_case0b0_call17_cst : StableHlo.TRef sig ⟨S_, .f32⟩) (constant S_ .f32 0x00000000#32),
    StableHlo.TRef.unary (.of main_case0b0_call17_cst : StableHlo.TRef sig ⟨S_, .f32⟩) (.of main_case0b0_call17_v0 : StableHlo.TRef sig ⟨S1x3x1, .f32⟩) (broadcastInDim S1x3x1 ![] bcast_S_S1x3x1),
    StableHlo.TRef.binary (.of main_case0b0_v250 : StableHlo.TRef sig ⟨S1x3x1, .f32⟩) (.of main_case0b0_call17_v0 : StableHlo.TRef sig ⟨S1x3x1, .f32⟩) (.of main_case0b0_call17_v1 : StableHlo.TRef sig ⟨S1x3x1, .f32⟩) maximumf,
    StableHlo.TRef.unary (.of main_case0b0_call17_cst : StableHlo.TRef sig ⟨S_, .f32⟩) (.of main_case0b0_call17_v2 : StableHlo.TRef sig ⟨S1x3x1, .f32⟩) (broadcastInDim S1x3x1 ![] bcast_S_S1x3x1),
    StableHlo.TRef.binary (.of main_case0b0_v250 : StableHlo.TRef sig ⟨S1x3x1, .f32⟩) (.of main_case0b0_call17_v2 : StableHlo.TRef sig ⟨S1x3x1, .f32⟩) (.of main_case0b0_call17_v3 : StableHlo.TRef sig ⟨S1x3x1, .f32⟩) subf,
    StableHlo.TRef.binary (.of main_case0b0_call17_v3 : StableHlo.TRef sig ⟨S1x3x1, .f32⟩) (.of main_case0b0_call17_v3 : StableHlo.TRef sig ⟨S1x3x1, .f32⟩) (.of main_case0b0_call17_v4 : StableHlo.TRef sig ⟨S1x3x1, .i1⟩) (cmpf .une),
    StableHlo.TRef.unary (.of main_case0b0_call17_cst : StableHlo.TRef sig ⟨S_, .f32⟩) (.of main_case0b0_call17_v5 : StableHlo.TRef sig ⟨S1x3x1, .f32⟩) (broadcastInDim S1x3x1 ![] bcast_S_S1x3x1),
    StableHlo.TRef.binary (.of main_case0b0_v250 : StableHlo.TRef sig ⟨S1x3x1, .f32⟩) (.of main_case0b0_call17_v5 : StableHlo.TRef sig ⟨S1x3x1, .f32⟩) (.of main_case0b0_call17_v6 : StableHlo.TRef sig ⟨S1x3x1, .f32⟩) addf,
    StableHlo.TRef.unary (.of main_case0b0_call17_v3 : StableHlo.TRef sig ⟨S1x3x1, .f32⟩) (.of main_case0b0_call17_v7 : StableHlo.TRef sig ⟨S1x3x1, .f32⟩) Host.absf,
    StableHlo.TRef.unary (.of main_case0b0_call17_v7 : StableHlo.TRef sig ⟨S1x3x1, .f32⟩) (.of main_case0b0_call17_v8 : StableHlo.TRef sig ⟨S1x3x1, .f32⟩) Host.negf,
    StableHlo.TRef.unary (.of main_case0b0_call17_v8 : StableHlo.TRef sig ⟨S1x3x1, .f32⟩) (.of main_case0b0_call17_v9 : StableHlo.TRef sig ⟨S1x3x1, .f32⟩) Host.exp,
    StableHlo.TRef.unary (.of main_case0b0_call17_v9 : StableHlo.TRef sig ⟨S1x3x1, .f32⟩) (.of main_case0b0_call17_v10 : StableHlo.TRef sig ⟨S1x3x1, .f32⟩) Host.log1p,
    StableHlo.TRef.binary (.of main_case0b0_call17_v1 : StableHlo.TRef sig ⟨S1x3x1, .f32⟩) (.of main_case0b0_call17_v10 : StableHlo.TRef sig ⟨S1x3x1, .f32⟩) (.of main_case0b0_call17_v11 : StableHlo.TRef sig ⟨S1x3x1, .f32⟩) addf,
    StableHlo.TRef.ternary (.of main_case0b0_call17_v4 : StableHlo.TRef sig ⟨S1x3x1, .i1⟩) (.of main_case0b0_call17_v6 : StableHlo.TRef sig ⟨S1x3x1, .f32⟩) (.of main_case0b0_call17_v11 : StableHlo.TRef sig ⟨S1x3x1, .f32⟩) (.of main_case0b0_v251 : StableHlo.TRef sig ⟨S1x3x1, .f32⟩) select,
    StableHlo.reshape main_case0b0_v251 main_case0b0_v252 (rfl : (.f32 : EltTy) = .f32) shapeCasts_S1x3x1_S1x3,
    StableHlo.nullary main_case0b0_cst_69 (constant S_ .f32 0x1E3CE508#32),
    StableHlo.unary main_case0b0_cst_69 main_case0b0_v253 (broadcastInDim S1x3 ![] bcast_S_S1x3 : (⟨S_, .f32⟩ : BufTy).Contents (Elt F) → (⟨S1x3, .f32⟩ : BufTy).Contents (Elt F)),
    StableHlo.binary main_case0b0_v252 main_case0b0_v253 main_case0b0_v254 (addf : (⟨S1x3, .f32⟩ : BufTy).Contents (Elt F) → (⟨S1x3, .f32⟩ : BufTy).Contents (Elt F) → (⟨S1x3, .f32⟩ : BufTy).Contents (Elt F)),
    StableHlo.binary main_case0b0_v244 main_arg13 main_case0b0_v255 ((fun l r => Host.dotGeneral dot_S1x3x160_S160x1_S1x3x1_2_0_01_1_n_n none l r) : (⟨S1x3x160, .f32⟩ : BufTy).Contents (Elt F) → (⟨S160x1, .f32⟩ : BufTy).Contents (Elt F) → (⟨S1x3x1, .f32⟩ : BufTy).Contents (Elt F)),
    StableHlo.unary main_arg14 main_case0b0_v256 (broadcastInDim S1x1x1 ![2] bcast_S1_S1x1x1_2 : (⟨S1, .f32⟩ : BufTy).Contents (Elt F) → (⟨S1x1x1, .f32⟩ : BufTy).Contents (Elt F)),
    StableHlo.unary main_case0b0_v256 main_case0b0_v257 (broadcastInDim S1x3x1 ![0, 1, 2] bcast_S1x1x1_S1x3x1_0_1_2 : (⟨S1x1x1, .f32⟩ : BufTy).Contents (Elt F) → (⟨S1x3x1, .f32⟩ : BufTy).Contents (Elt F)),
    StableHlo.binary main_case0b0_v255 main_case0b0_v257 main_case0b0_v258 (addf : (⟨S1x3x1, .f32⟩ : BufTy).Contents (Elt F) → (⟨S1x3x1, .f32⟩ : BufTy).Contents (Elt F) → (⟨S1x3x1, .f32⟩ : BufTy).Contents (Elt F)),
    StableHlo.nullary main_case0b0_cst_70 (constant S_ .f32 0x1E3CE508#32),
    StableHlo.unary main_case0b0_cst_70 main_case0b0_v259 (broadcastInDim S1x3x1 ![] bcast_S_S1x3x1 : (⟨S_, .f32⟩ : BufTy).Contents (Elt F) → (⟨S1x3x1, .f32⟩ : BufTy).Contents (Elt F)),
    StableHlo.binary main_case0b0_v258 main_case0b0_v259 main_case0b0_v260 (addf : (⟨S1x3x1, .f32⟩ : BufTy).Contents (Elt F) → (⟨S1x3x1, .f32⟩ : BufTy).Contents (Elt F) → (⟨S1x3x1, .f32⟩ : BufTy).Contents (Elt F)),
    StableHlo.TRef.nullary (.of main_case0b0_call18_cst : StableHlo.TRef sig ⟨S_, .f32⟩) (constant S_ .f32 0x00000000#32),
    StableHlo.TRef.unary (.of main_case0b0_call18_cst : StableHlo.TRef sig ⟨S_, .f32⟩) (.of main_case0b0_call18_v0 : StableHlo.TRef sig ⟨S1x3x1, .f32⟩) (broadcastInDim S1x3x1 ![] bcast_S_S1x3x1),
    StableHlo.TRef.binary (.of main_case0b0_v260 : StableHlo.TRef sig ⟨S1x3x1, .f32⟩) (.of main_case0b0_call18_v0 : StableHlo.TRef sig ⟨S1x3x1, .f32⟩) (.of main_case0b0_call18_v1 : StableHlo.TRef sig ⟨S1x3x1, .f32⟩) maximumf,
    StableHlo.TRef.unary (.of main_case0b0_call18_cst : StableHlo.TRef sig ⟨S_, .f32⟩) (.of main_case0b0_call18_v2 : StableHlo.TRef sig ⟨S1x3x1, .f32⟩) (broadcastInDim S1x3x1 ![] bcast_S_S1x3x1),
    StableHlo.TRef.binary (.of main_case0b0_v260 : StableHlo.TRef sig ⟨S1x3x1, .f32⟩) (.of main_case0b0_call18_v2 : StableHlo.TRef sig ⟨S1x3x1, .f32⟩) (.of main_case0b0_call18_v3 : StableHlo.TRef sig ⟨S1x3x1, .f32⟩) subf,
    StableHlo.TRef.binary (.of main_case0b0_call18_v3 : StableHlo.TRef sig ⟨S1x3x1, .f32⟩) (.of main_case0b0_call18_v3 : StableHlo.TRef sig ⟨S1x3x1, .f32⟩) (.of main_case0b0_call18_v4 : StableHlo.TRef sig ⟨S1x3x1, .i1⟩) (cmpf .une),
    StableHlo.TRef.unary (.of main_case0b0_call18_cst : StableHlo.TRef sig ⟨S_, .f32⟩) (.of main_case0b0_call18_v5 : StableHlo.TRef sig ⟨S1x3x1, .f32⟩) (broadcastInDim S1x3x1 ![] bcast_S_S1x3x1),
    StableHlo.TRef.binary (.of main_case0b0_v260 : StableHlo.TRef sig ⟨S1x3x1, .f32⟩) (.of main_case0b0_call18_v5 : StableHlo.TRef sig ⟨S1x3x1, .f32⟩) (.of main_case0b0_call18_v6 : StableHlo.TRef sig ⟨S1x3x1, .f32⟩) addf,
    StableHlo.TRef.unary (.of main_case0b0_call18_v3 : StableHlo.TRef sig ⟨S1x3x1, .f32⟩) (.of main_case0b0_call18_v7 : StableHlo.TRef sig ⟨S1x3x1, .f32⟩) Host.absf,
    StableHlo.TRef.unary (.of main_case0b0_call18_v7 : StableHlo.TRef sig ⟨S1x3x1, .f32⟩) (.of main_case0b0_call18_v8 : StableHlo.TRef sig ⟨S1x3x1, .f32⟩) Host.negf,
    StableHlo.TRef.unary (.of main_case0b0_call18_v8 : StableHlo.TRef sig ⟨S1x3x1, .f32⟩) (.of main_case0b0_call18_v9 : StableHlo.TRef sig ⟨S1x3x1, .f32⟩) Host.exp,
    StableHlo.TRef.unary (.of main_case0b0_call18_v9 : StableHlo.TRef sig ⟨S1x3x1, .f32⟩) (.of main_case0b0_call18_v10 : StableHlo.TRef sig ⟨S1x3x1, .f32⟩) Host.log1p,
    StableHlo.TRef.binary (.of main_case0b0_call18_v1 : StableHlo.TRef sig ⟨S1x3x1, .f32⟩) (.of main_case0b0_call18_v10 : StableHlo.TRef sig ⟨S1x3x1, .f32⟩) (.of main_case0b0_call18_v11 : StableHlo.TRef sig ⟨S1x3x1, .f32⟩) addf,
    StableHlo.TRef.ternary (.of main_case0b0_call18_v4 : StableHlo.TRef sig ⟨S1x3x1, .i1⟩) (.of main_case0b0_call18_v6 : StableHlo.TRef sig ⟨S1x3x1, .f32⟩) (.of main_case0b0_call18_v11 : StableHlo.TRef sig ⟨S1x3x1, .f32⟩) (.of main_case0b0_v261 : StableHlo.TRef sig ⟨S1x3x1, .f32⟩) select,
    StableHlo.reshape main_case0b0_v261 main_case0b0_v262 (rfl : (.f32 : EltTy) = .f32) shapeCasts_S1x3x1_S1x3,
    StableHlo.nullary main_case0b0_cst_71 (constant S_ .f32 0x1E3CE508#32),
    StableHlo.unary main_case0b0_cst_71 main_case0b0_v263 (broadcastInDim S1x3 ![] bcast_S_S1x3 : (⟨S_, .f32⟩ : BufTy).Contents (Elt F) → (⟨S1x3, .f32⟩ : BufTy).Contents (Elt F)),
    StableHlo.binary main_case0b0_v262 main_case0b0_v263 main_case0b0_v264 (addf : (⟨S1x3, .f32⟩ : BufTy).Contents (Elt F) → (⟨S1x3, .f32⟩ : BufTy).Contents (Elt F) → (⟨S1x3, .f32⟩ : BufTy).Contents (Elt F)),
    StableHlo.binary main_case0b0_v233 main_case0b0_v243 main_case0b0_v265 (addf : (⟨S1x24, .f32⟩ : BufTy).Contents (Elt F) → (⟨S1x24, .f32⟩ : BufTy).Contents (Elt F) → (⟨S1x24, .f32⟩ : BufTy).Contents (Elt F)),
    StableHlo.binary main_case0b0_v233 main_case0b0_v265 main_case0b0_v266 (Host.divf : (⟨S1x24, .f32⟩ : BufTy).Contents (Elt F) → (⟨S1x24, .f32⟩ : BufTy).Contents (Elt F) → (⟨S1x24, .f32⟩ : BufTy).Contents (Elt F)),
    StableHlo.unary main_arg16 main_case0b0_v267 ((extractStridedSlice S24 ![0] · slices_S27_S24_0) : (⟨S27, .f32⟩ : BufTy).Contents (Elt F) → (⟨S24, .f32⟩ : BufTy).Contents (Elt F)),
    StableHlo.unary main_case0b0_v267 main_case0b0_v268 (broadcastInDim S1x24 ![1] bcast_S24_S1x24_1 : (⟨S24, .f32⟩ : BufTy).Contents (Elt F) → (⟨S1x24, .f32⟩ : BufTy).Contents (Elt F)),
    StableHlo.binary main_case0b0_v266 main_case0b0_v268 main_case0b0_v269 (mulf : (⟨S1x24, .f32⟩ : BufTy).Contents (Elt F) → (⟨S1x24, .f32⟩ : BufTy).Contents (Elt F) → (⟨S1x24, .f32⟩ : BufTy).Contents (Elt F)),
    StableHlo.binary main_case0b0_v254 main_case0b0_v264 main_case0b0_v270 (addf : (⟨S1x3, .f32⟩ : BufTy).Contents (Elt F) → (⟨S1x3, .f32⟩ : BufTy).Contents (Elt F) → (⟨S1x3, .f32⟩ : BufTy).Contents (Elt F)),
    StableHlo.binary main_case0b0_v254 main_case0b0_v270 main_case0b0_v271 (Host.divf : (⟨S1x3, .f32⟩ : BufTy).Contents (Elt F) → (⟨S1x3, .f32⟩ : BufTy).Contents (Elt F) → (⟨S1x3, .f32⟩ : BufTy).Contents (Elt F)),
    StableHlo.unary main_arg16 main_case0b0_v272 ((extractStridedSlice S3 ![24] · slices_S27_S3_24) : (⟨S27, .f32⟩ : BufTy).Contents (Elt F) → (⟨S3, .f32⟩ : BufTy).Contents (Elt F)),
    StableHlo.unary main_case0b0_v272 main_case0b0_v273 (broadcastInDim S1x3 ![1] bcast_S3_S1x3_1 : (⟨S3, .f32⟩ : BufTy).Contents (Elt F) → (⟨S1x3, .f32⟩ : BufTy).Contents (Elt F)),
    StableHlo.binary main_case0b0_v271 main_case0b0_v273 main_case0b0_v274 (mulf : (⟨S1x3, .f32⟩ : BufTy).Contents (Elt F) → (⟨S1x3, .f32⟩ : BufTy).Contents (Elt F) → (⟨S1x3, .f32⟩ : BufTy).Contents (Elt F)),
    StableHlo.binary main_case0b0_v269 main_case0b0_v274 main_case0b0_v275 ((fun a b => concatenate S1x27 1 [⟨S1x24, a⟩, ⟨S1x3, b⟩] concatenates_S1x24_S1x3_S1x27_d1) : (⟨S1x24, .f32⟩ : BufTy).Contents (Elt F) → (⟨S1x3, .f32⟩ : BufTy).Contents (Elt F) → (⟨S1x27, .f32⟩ : BufTy).Contents (Elt F)),
    StableHlo.unary main_case0b0_v275 main_v175 id ]

/-- Each touches the TensorCore's references only. -/
theorem denseOps_sub : (denseOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.reshape_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.reshape_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.reshape_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.reshape_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub ..⟩

/-- Branch 1, after the kernel call: the two heads cut out of the result, scaled and joined. -/
abbrev tailOps : List (HloOp τ sig (Elt F)) :=
  [ StableHlo.unary main_case0b1_v176 main_case0b1_v177 ((extractStridedSlice S24x1 ![0, 0] · slices_S32x128_S24x1_0_0) : (⟨S32x128, .f32⟩ : BufTy).Contents (Elt F) → (⟨S24x1, .f32⟩ : BufTy).Contents (Elt F)),
    StableHlo.reshape main_case0b1_v177 main_case0b1_v178 (rfl : (.f32 : EltTy) = .f32) shapeCasts_S24x1_S24,
    StableHlo.unary main_case0b1_v176 main_case0b1_v179 ((extractStridedSlice S3x1 ![24, 0] · slices_S32x128_S3x1_24_0) : (⟨S32x128, .f32⟩ : BufTy).Contents (Elt F) → (⟨S3x1, .f32⟩ : BufTy).Contents (Elt F)),
    StableHlo.reshape main_case0b1_v179 main_case0b1_v180 (rfl : (.f32 : EltTy) = .f32) shapeCasts_S3x1_S3,
    StableHlo.unary main_arg16 main_case0b1_v181 ((extractStridedSlice S24 ![0] · slices_S27_S24_0) : (⟨S27, .f32⟩ : BufTy).Contents (Elt F) → (⟨S24, .f32⟩ : BufTy).Contents (Elt F)),
    StableHlo.binary main_case0b1_v178 main_case0b1_v181 main_case0b1_v182 (mulf : (⟨S24, .f32⟩ : BufTy).Contents (Elt F) → (⟨S24, .f32⟩ : BufTy).Contents (Elt F) → (⟨S24, .f32⟩ : BufTy).Contents (Elt F)),
    StableHlo.unary main_arg16 main_case0b1_v183 ((extractStridedSlice S3 ![24] · slices_S27_S3_24) : (⟨S27, .f32⟩ : BufTy).Contents (Elt F) → (⟨S3, .f32⟩ : BufTy).Contents (Elt F)),
    StableHlo.binary main_case0b1_v180 main_case0b1_v183 main_case0b1_v184 (mulf : (⟨S3, .f32⟩ : BufTy).Contents (Elt F) → (⟨S3, .f32⟩ : BufTy).Contents (Elt F) → (⟨S3, .f32⟩ : BufTy).Contents (Elt F)),
    StableHlo.binary main_case0b1_v182 main_case0b1_v184 main_case0b1_v185 ((fun a b => concatenate S27 0 [⟨S24, a⟩, ⟨S3, b⟩] concatenates_S24_S3_S27_d0) : (⟨S24, .f32⟩ : BufTy).Contents (Elt F) → (⟨S3, .f32⟩ : BufTy).Contents (Elt F) → (⟨S27, .f32⟩ : BufTy).Contents (Elt F)),
    StableHlo.unary main_case0b1_v185 main_case0b1_v186 (broadcastInDim S1x27 ![1] bcast_S27_S1x27_1 : (⟨S27, .f32⟩ : BufTy).Contents (Elt F) → (⟨S1x27, .f32⟩ : BufTy).Contents (Elt F)),
    StableHlo.unary main_case0b1_v186 main_v175 id ]

/-- Each touches the TensorCore's references only. -/
theorem tailOps_sub : (tailOps : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub ..⟩

end Cert.Proof.KernelIdeal

end
-- ==== Proof.IdealSegs.lean ====
/-
  The whole run of the program: the host operations in twenty-eight stretches, then the choice between the two branches.
  `W0` is the launch memory and `W1`, …, `W28` the contents after each stretch; `Wend` is what the chosen branch leaves.
  `run_main`: every execution terminates, each unscoped buffer ends at `Wend`, and every semaphore counter at zero.
-/
module

public import proofs.«01_k».proof.Proof.IdealRegion
public import proofs.«01_k».proof.Proof.IdealArms

@[expose] public section

set_option maxRecDepth 6232

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The contents between the stretches -/

/-- Core `c`'s buffers at launch. -/
def W0 (c : Dev nD) : Valuation τ sig (Elt F) := fun b => m ((c : Dev nD), b)
def W1 (c : Dev nD) : Valuation τ sig (Elt F) := StableHlo.after hostOps0 (W0 m c)
def W2 (c : Dev nD) : Valuation τ sig (Elt F) := StableHlo.after hostOps0_1 (W1 m c)
def W3 (c : Dev nD) : Valuation τ sig (Elt F) := StableHlo.after hostOps0_2 (W2 m c)
def W4 (c : Dev nD) : Valuation τ sig (Elt F) := StableHlo.after hostOps0_3 (W3 m c)
def W5 (c : Dev nD) : Valuation τ sig (Elt F) := StableHlo.after hostOps0_4 (W4 m c)
def W6 (c : Dev nD) : Valuation τ sig (Elt F) := StableHlo.after hostOps0_5 (W5 m c)
def W7 (c : Dev nD) : Valuation τ sig (Elt F) := StableHlo.after hostOps0_6 (W6 m c)
def W8 (c : Dev nD) : Valuation τ sig (Elt F) := StableHlo.after hostOps0_7 (W7 m c)
def W9 (c : Dev nD) : Valuation τ sig (Elt F) := StableHlo.after hostOps0_8 (W8 m c)
def W10 (c : Dev nD) : Valuation τ sig (Elt F) := StableHlo.after hostOps0_9 (W9 m c)
def W11 (c : Dev nD) : Valuation τ sig (Elt F) := StableHlo.after hostOps0_10 (W10 m c)
def W12 (c : Dev nD) : Valuation τ sig (Elt F) := StableHlo.after hostOps0_11 (W11 m c)
def W13 (c : Dev nD) : Valuation τ sig (Elt F) := StableHlo.after hostOps0_12 (W12 m c)
def W14 (c : Dev nD) : Valuation τ sig (Elt F) := StableHlo.after hostOps0_13 (W13 m c)
def W15 (c : Dev nD) : Valuation τ sig (Elt F) := StableHlo.after hostOps0_14 (W14 m c)
def W16 (c : Dev nD) : Valuation τ sig (Elt F) := StableHlo.after hostOps0_15 (W15 m c)
def W17 (c : Dev nD) : Valuation τ sig (Elt F) := StableHlo.after hostOps0_16 (W16 m c)
def W18 (c : Dev nD) : Valuation τ sig (Elt F) := StableHlo.after hostOps0_17 (W17 m c)
def W19 (c : Dev nD) : Valuation τ sig (Elt F) := StableHlo.after hostOps0_18 (W18 m c)
def W20 (c : Dev nD) : Valuation τ sig (Elt F) := StableHlo.after hostOps0_19 (W19 m c)
def W21 (c : Dev nD) : Valuation τ sig (Elt F) := StableHlo.after hostOps0_20 (W20 m c)
def W22 (c : Dev nD) : Valuation τ sig (Elt F) := StableHlo.after hostOps0_21 (W21 m c)
def W23 (c : Dev nD) : Valuation τ sig (Elt F) := StableHlo.after hostOps0_22 (W22 m c)
def W24 (c : Dev nD) : Valuation τ sig (Elt F) := StableHlo.after hostOps0_23 (W23 m c)
def W25 (c : Dev nD) : Valuation τ sig (Elt F) := StableHlo.after hostOps0_24 (W24 m c)
def W26 (c : Dev nD) : Valuation τ sig (Elt F) := StableHlo.after hostOps0_25 (W25 m c)
def W27 (c : Dev nD) : Valuation τ sig (Elt F) := StableHlo.after hostOps0_26 (W26 m c)
def W28 (c : Dev nD) : Valuation τ sig (Elt F) := StableHlo.after hostOps0_27 (W27 m c)

/-- The operation the choice reads its word from. -/
abbrev wordOp : HloOp τ sig (Elt F) :=
  StableHlo.unary main_v173 main_v174 ((extui 32 · natLt_1_32) : (⟨S_, .i1⟩ : BufTy).Contents (Elt F) → (⟨S_, .i32⟩ : BufTy).Contents (Elt F))

/-- The word: the flag `main_v173`, widened. -/
def word (V : Valuation τ sig (Elt F)) : BitVec 32 :=
  (extui 32 · natLt_1_32 : (⟨S_, .i1⟩ : BufTy).Contents (Elt F) → (⟨S_, .i32⟩ : BufTy).Contents (Elt F)) (V main_v173) HostLoop.idx0

/-! ## The segments -/

/-- The launch's copy of the pipeline library's algebra, and the branch's. -/
abbrev EP : Emb (UR sig nD τ) (MT nD τ sig Unit (Elt F) ℕ UU ℕ) := embAt (0 : Fin 2)
abbrev EB : Emb (UR sig nD τ) (MT nD τ sig Unit (Elt F) ℕ UU ℕ) := embAt (1 : Fin 2)

/-- The branch's call's staging cells and transfers, not yet used. -/
abbrev Gh (c : Dev nD) : sProp 𝕄 :=
  iprop(Pipeline.cellsGhost (Pipeline.pin (pcfgs (F := F)) adm) EB 0 c ∗ Pipeline.toksInit (Pipeline.pin (pcfgs (F := F)) adm) EB 0 c)

/-- What rides beside the buffers: the core's `owes`, and before the choice the call's cells. -/
abbrev Ro (c : Dev nD) : sProp 𝕄 := iprop(∃ W, owes (c : Thread nD τ) (0 : CellTallies nD τ sig Unit) W)
abbrev R (c : Dev nD) : sProp 𝕄 := iprop(Ro (F := F) c ∗ Gh (F := F) c)

def seg0 : Pipeline.HostSeg (Name := ℕ) (U := UU) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (W0 m) R
def seg1 : Pipeline.HostSeg (Name := ℕ) (U := UU) (pcfgs (F := F)) defs₀ 𝒱₀ L lv :=
  Pipeline.HostSeg.ofOps _ _ _ _ _ ucRefs hostOps0_1 (fun op h => sub_ucRefs op ((List.forall_iff_forall_mem.mp hostOps0_1_sub) op h))
    (by intro _ h; (repeat (cases h with | head => rfl | tail _ h => ?_)); exact nomatch h) (W1 m) R
def seg2 : Pipeline.HostSeg (Name := ℕ) (U := UU) (pcfgs (F := F)) defs₀ 𝒱₀ L lv :=
  Pipeline.HostSeg.ofOps _ _ _ _ _ ucRefs hostOps0_2 (fun op h => sub_ucRefs op ((List.forall_iff_forall_mem.mp hostOps0_2_sub) op h))
    (by intro _ h; (repeat (cases h with | head => rfl | tail _ h => ?_)); exact nomatch h) (W2 m) R
def seg3 : Pipeline.HostSeg (Name := ℕ) (U := UU) (pcfgs (F := F)) defs₀ 𝒱₀ L lv :=
  Pipeline.HostSeg.ofOps _ _ _ _ _ ucRefs hostOps0_3 (fun op h => sub_ucRefs op ((List.forall_iff_forall_mem.mp hostOps0_3_sub) op h))
    (by intro _ h; (repeat (cases h with | head => rfl | tail _ h => ?_)); exact nomatch h) (W3 m) R
def seg4 : Pipeline.HostSeg (Name := ℕ) (U := UU) (pcfgs (F := F)) defs₀ 𝒱₀ L lv :=
  Pipeline.HostSeg.ofOps _ _ _ _ _ ucRefs hostOps0_4 (fun op h => sub_ucRefs op ((List.forall_iff_forall_mem.mp hostOps0_4_sub) op h))
    (by intro _ h; (repeat (cases h with | head => rfl | tail _ h => ?_)); exact nomatch h) (W4 m) R
def seg5 : Pipeline.HostSeg (Name := ℕ) (U := UU) (pcfgs (F := F)) defs₀ 𝒱₀ L lv :=
  Pipeline.HostSeg.ofOps _ _ _ _ _ ucRefs hostOps0_5 (fun op h => sub_ucRefs op ((List.forall_iff_forall_mem.mp hostOps0_5_sub) op h))
    (by intro _ h; (repeat (cases h with | head => rfl | tail _ h => ?_)); exact nomatch h) (W5 m) R
def seg6 : Pipeline.HostSeg (Name := ℕ) (U := UU) (pcfgs (F := F)) defs₀ 𝒱₀ L lv :=
  Pipeline.HostSeg.ofOps _ _ _ _ _ ucRefs hostOps0_6 (fun op h => sub_ucRefs op ((List.forall_iff_forall_mem.mp hostOps0_6_sub) op h))
    (by intro _ h; (repeat (cases h with | head => rfl | tail _ h => ?_)); exact nomatch h) (W6 m) R
def seg7 : Pipeline.HostSeg (Name := ℕ) (U := UU) (pcfgs (F := F)) defs₀ 𝒱₀ L lv :=
  Pipeline.HostSeg.ofOps _ _ _ _ _ ucRefs hostOps0_7 (fun op h => sub_ucRefs op ((List.forall_iff_forall_mem.mp hostOps0_7_sub) op h))
    (by intro _ h; (repeat (cases h with | head => rfl | tail _ h => ?_)); exact nomatch h) (W7 m) R
def seg8 : Pipeline.HostSeg (Name := ℕ) (U := UU) (pcfgs (F := F)) defs₀ 𝒱₀ L lv :=
  Pipeline.HostSeg.ofOps _ _ _ _ _ ucRefs hostOps0_8 (fun op h => sub_ucRefs op ((List.forall_iff_forall_mem.mp hostOps0_8_sub) op h))
    (by intro _ h; (repeat (cases h with | head => rfl | tail _ h => ?_)); exact nomatch h) (W8 m) R
def seg9 : Pipeline.HostSeg (Name := ℕ) (U := UU) (pcfgs (F := F)) defs₀ 𝒱₀ L lv :=
  Pipeline.HostSeg.ofOps _ _ _ _ _ ucRefs hostOps0_9 (fun op h => sub_ucRefs op ((List.forall_iff_forall_mem.mp hostOps0_9_sub) op h))
    (by intro _ h; (repeat (cases h with | head => rfl | tail _ h => ?_)); exact nomatch h) (W9 m) R
def seg10 : Pipeline.HostSeg (Name := ℕ) (U := UU) (pcfgs (F := F)) defs₀ 𝒱₀ L lv :=
  Pipeline.HostSeg.ofOps _ _ _ _ _ ucRefs hostOps0_10 (fun op h => sub_ucRefs op ((List.forall_iff_forall_mem.mp hostOps0_10_sub) op h))
    (by intro _ h; (repeat (cases h with | head => rfl | tail _ h => ?_)); exact nomatch h) (W10 m) R
def seg11 : Pipeline.HostSeg (Name := ℕ) (U := UU) (pcfgs (F := F)) defs₀ 𝒱₀ L lv :=
  Pipeline.HostSeg.ofOps _ _ _ _ _ ucRefs hostOps0_11 (fun op h => sub_ucRefs op ((List.forall_iff_forall_mem.mp hostOps0_11_sub) op h))
    (by intro _ h; (repeat (cases h with | head => rfl | tail _ h => ?_)); exact nomatch h) (W11 m) R
def seg12 : Pipeline.HostSeg (Name := ℕ) (U := UU) (pcfgs (F := F)) defs₀ 𝒱₀ L lv :=
  Pipeline.HostSeg.ofOps _ _ _ _ _ ucRefs hostOps0_12 (fun op h => sub_ucRefs op ((List.forall_iff_forall_mem.mp hostOps0_12_sub) op h))
    (by intro _ h; (repeat (cases h with | head => rfl | tail _ h => ?_)); exact nomatch h) (W12 m) R
def seg13 : Pipeline.HostSeg (Name := ℕ) (U := UU) (pcfgs (F := F)) defs₀ 𝒱₀ L lv :=
  Pipeline.HostSeg.ofOps _ _ _ _ _ ucRefs hostOps0_13 (fun op h => sub_ucRefs op ((List.forall_iff_forall_mem.mp hostOps0_13_sub) op h))
    (by intro _ h; (repeat (cases h with | head => rfl | tail _ h => ?_)); exact nomatch h) (W13 m) R
def seg14 : Pipeline.HostSeg (Name := ℕ) (U := UU) (pcfgs (F := F)) defs₀ 𝒱₀ L lv :=
  Pipeline.HostSeg.ofOps _ _ _ _ _ ucRefs hostOps0_14 (fun op h => sub_ucRefs op ((List.forall_iff_forall_mem.mp hostOps0_14_sub) op h))
    (by intro _ h; (repeat (cases h with | head => rfl | tail _ h => ?_)); exact nomatch h) (W14 m) R
def seg15 : Pipeline.HostSeg (Name := ℕ) (U := UU) (pcfgs (F := F)) defs₀ 𝒱₀ L lv :=
  Pipeline.HostSeg.ofOps _ _ _ _ _ ucRefs hostOps0_15 (fun op h => sub_ucRefs op ((List.forall_iff_forall_mem.mp hostOps0_15_sub) op h))
    (by intro _ h; (repeat (cases h with | head => rfl | tail _ h => ?_)); exact nomatch h) (W15 m) R
def seg16 : Pipeline.HostSeg (Name := ℕ) (U := UU) (pcfgs (F := F)) defs₀ 𝒱₀ L lv :=
  Pipeline.HostSeg.ofOps _ _ _ _ _ ucRefs hostOps0_16 (fun op h => sub_ucRefs op ((List.forall_iff_forall_mem.mp hostOps0_16_sub) op h))
    (by intro _ h; (repeat (cases h with | head => rfl | tail _ h => ?_)); exact nomatch h) (W16 m) R
def seg17 : Pipeline.HostSeg (Name := ℕ) (U := UU) (pcfgs (F := F)) defs₀ 𝒱₀ L lv :=
  Pipeline.HostSeg.ofOps _ _ _ _ _ ucRefs hostOps0_17 (fun op h => sub_ucRefs op ((List.forall_iff_forall_mem.mp hostOps0_17_sub) op h))
    (by intro _ h; (repeat (cases h with | head => rfl | tail _ h => ?_)); exact nomatch h) (W17 m) R
def seg18 : Pipeline.HostSeg (Name := ℕ) (U := UU) (pcfgs (F := F)) defs₀ 𝒱₀ L lv :=
  Pipeline.HostSeg.ofOps _ _ _ _ _ ucRefs hostOps0_18 (fun op h => sub_ucRefs op ((List.forall_iff_forall_mem.mp hostOps0_18_sub) op h))
    (by intro _ h; (repeat (cases h with | head => rfl | tail _ h => ?_)); exact nomatch h) (W18 m) R
def seg19 : Pipeline.HostSeg (Name := ℕ) (U := UU) (pcfgs (F := F)) defs₀ 𝒱₀ L lv :=
  Pipeline.HostSeg.ofOps _ _ _ _ _ ucRefs hostOps0_19 (fun op h => sub_ucRefs op ((List.forall_iff_forall_mem.mp hostOps0_19_sub) op h))
    (by intro _ h; (repeat (cases h with | head => rfl | tail _ h => ?_)); exact nomatch h) (W19 m) R
def seg20 : Pipeline.HostSeg (Name := ℕ) (U := UU) (pcfgs (F := F)) defs₀ 𝒱₀ L lv :=
  Pipeline.HostSeg.ofOps _ _ _ _ _ ucRefs hostOps0_20 (fun op h => sub_ucRefs op ((List.forall_iff_forall_mem.mp hostOps0_20_sub) op h))
    (by intro _ h; (repeat (cases h with | head => rfl | tail _ h => ?_)); exact nomatch h) (W20 m) R
def seg21 : Pipeline.HostSeg (Name := ℕ) (U := UU) (pcfgs (F := F)) defs₀ 𝒱₀ L lv :=
  Pipeline.HostSeg.ofOps _ _ _ _ _ ucRefs hostOps0_21 (fun op h => sub_ucRefs op ((List.forall_iff_forall_mem.mp hostOps0_21_sub) op h))
    (by intro _ h; (repeat (cases h with | head => rfl | tail _ h => ?_)); exact nomatch h) (W21 m) R
def seg22 : Pipeline.HostSeg (Name := ℕ) (U := UU) (pcfgs (F := F)) defs₀ 𝒱₀ L lv :=
  Pipeline.HostSeg.ofOps _ _ _ _ _ ucRefs hostOps0_22 (fun op h => sub_ucRefs op ((List.forall_iff_forall_mem.mp hostOps0_22_sub) op h))
    (by intro _ h; (repeat (cases h with | head => rfl | tail _ h => ?_)); exact nomatch h) (W22 m) R
def seg23 : Pipeline.HostSeg (Name := ℕ) (U := UU) (pcfgs (F := F)) defs₀ 𝒱₀ L lv :=
  Pipeline.HostSeg.ofOps _ _ _ _ _ ucRefs hostOps0_23 (fun op h => sub_ucRefs op ((List.forall_iff_forall_mem.mp hostOps0_23_sub) op h))
    (by intro _ h; (repeat (cases h with | head => rfl | tail _ h => ?_)); exact nomatch h) (W23 m) R
def seg24 : Pipeline.HostSeg (Name := ℕ) (U := UU) (pcfgs (F := F)) defs₀ 𝒱₀ L lv :=
  Pipeline.HostSeg.ofOps _ _ _ _ _ ucRefs hostOps0_24 (fun op h => sub_ucRefs op ((List.forall_iff_forall_mem.mp hostOps0_24_sub) op h))
    (by intro _ h; (repeat (cases h with | head => rfl | tail _ h => ?_)); exact nomatch h) (W24 m) R
def seg25 : Pipeline.HostSeg (Name := ℕ) (U := UU) (pcfgs (F := F)) defs₀ 𝒱₀ L lv :=
  Pipeline.HostSeg.ofOps _ _ _ _ _ ucRefs hostOps0_25 (fun op h => sub_ucRefs op ((List.forall_iff_forall_mem.mp hostOps0_25_sub) op h))
    (by intro _ h; (repeat (cases h with | head => rfl | tail _ h => ?_)); exact nomatch h) (W25 m) R
def seg26 : Pipeline.HostSeg (Name := ℕ) (U := UU) (pcfgs (F := F)) defs₀ 𝒱₀ L lv :=
  Pipeline.HostSeg.ofOps _ _ _ _ _ ucRefs hostOps0_26 (fun op h => sub_ucRefs op ((List.forall_iff_forall_mem.mp hostOps0_26_sub) op h))
    (by intro _ h; (repeat (cases h with | head => rfl | tail _ h => ?_)); exact nomatch h) (W26 m) R
def seg27 : Pipeline.HostSeg (Name := ℕ) (U := UU) (pcfgs (F := F)) defs₀ 𝒱₀ L lv :=
  Pipeline.HostSeg.ofOps _ _ _ _ _ ucRefs hostOps0_27 (fun op h => sub_ucRefs op ((List.forall_iff_forall_mem.mp hostOps0_27_sub) op h))
    (by intro _ h; (repeat (cases h with | head => rfl | tail _ h => ?_)); exact nomatch h) (W27 m) R

theorem denseOps_fresh : ∀ op ∈ denseOps (F := F), op.fresh = ∅ := by
  intro _ h; (repeat (cases h with | head => rfl | tail _ h => ?_)); exact nomatch h
theorem tailOps_fresh : ∀ op ∈ tailOps (F := F), op.fresh = ∅ := by
  intro _ h; (repeat (cases h with | head => rfl | tail _ h => ?_)); exact nomatch h

/-- The two branches, by index: host operations `o0`, or the kernel call and then `o1`. -/
def armsOf (o0 o1 : List (HloOp τ sig (Elt F))) : Fin 2 → Prog (TpuEff nD τ sig (Elt F) (Pipeline.Sig Λ₀ (Fin 1) fun p => (pcfgs (F := F) p).Adm) .tc) PUnit
  | 0 => StableHlo.seq o0
  | 1 => do
    Prog.lift (.customCall (Pipeline.entry 0) ())
    StableHlo.seq o1
  | ⟨_ + 2, h⟩ => absurd h (Nat.not_lt.2 (Nat.le_add_left _ _))

/-- The choice: the word is read, and the branch it names runs. -/
def choiceOf (o0 o1 : List (HloOp τ sig (Elt F))) : Prog (TpuEff nD τ sig (Elt F) (Pipeline.Sig Λ₀ (Fin 1) fun p => (pcfgs (F := F) p).Adm) .tc) PUnit := do
  let x ← hlo rfl (wordOp (F := F)) (HostLoop.elt main_v174)
  HostLoop.case 2 x (armsOf o0 o1)

/-- What the chosen branch leaves, from `V` before the word is read. -/
def endOf (o0 o1 : List (HloOp τ sig (Elt F))) (V : Dev nD → Valuation τ sig (Elt F)) (c : Dev nD) : Valuation τ sig (Elt F) :=
  if HostLoop.branch (word (V c)) 1 = 0 then StableHlo.after o0 (wordOp.result (V c))
  else StableHlo.after o1 (Vcall (fun c => wordOp.result (V c)) c)

theorem choiceOf_bind (o0 o1 : List (HloOp τ sig (Elt F))) {β : Type} (k : PUnit → Prog (TpuEff nD τ sig (Elt F) (Pipeline.Sig Λ₀ (Fin 1) fun p => (pcfgs (F := F) p).Adm) .tc) β) :
    (choiceOf o0 o1 >>= k) = hlo rfl (wordOp (F := F)) (fun u =>
      HostLoop.case 2 (cast (congrArg (BufTy.Contents (Elt F)) (rfl : (main_v174 : Ref sig .tc).ty = ⟨⟨0, ![]⟩, .i32⟩)) (u ⟨main_v174, Finset.mem_singleton_self _⟩) HostLoop.idx0) (armsOf o0 o1) >>= k) := rfl

theorem armsOf_one_bind (o0 o1 : List (HloOp τ sig (Elt F))) {β : Type} (k : PUnit → Prog (TpuEff nD τ sig (Elt F) (Pipeline.Sig Λ₀ (Fin 1) fun p => (pcfgs (F := F) p).Adm) .tc) β) :
    (armsOf o0 o1 1 >>= k) = .op (.customCall (Pipeline.entry 0) ()) (fun _ => StableHlo.seq o1 >>= k) := rfl

theorem word_read (V : Valuation τ sig (Elt F)) :
    (cast (congrArg (BufTy.Contents (Elt F)) (rfl : (main_v174 : Ref sig .tc).ty = ⟨⟨0, ![]⟩, .i32⟩)) (((wordOp (F := F)).fn fun b => V b.1) ⟨main_v174, Finset.mem_singleton_self _⟩) HostLoop.idx0 : BitVec 32)
      = word V := rfl

set_option backward.isDefEq.respectTransparency.types false in
set_option maxHeartbeats 1000000 in
/-- The choice as a host segment. -/
def segOf (o0 o1 : List (HloOp τ sig (Elt F))) (h0 : ∀ op ∈ o0, op.bufs ⊆ ucRefs) (f0 : ∀ op ∈ o0, op.fresh = ∅)
    (h1 : ∀ op ∈ o1, op.bufs ⊆ ucRefs) (f1 : ∀ op ∈ o1, op.fresh = ∅) (V : Dev nD → Valuation τ sig (Elt F)) :
    Pipeline.HostSeg (Name := ℕ) (U := UU) (pcfgs (F := F)) defs₀ 𝒱₀ L lv where
  prog := choiceOf o0 o1
  pre c := iprop(StableHlo.held (c : Thread nD τ) ucRefs (V c) ∗ R c)
  post c := iprop(StableHlo.held (c : Thread nD τ) ucRefs (endOf o0 o1 V c) ∗ Ro c)
  run c {β} k Q := by
    rw [choiceOf_bind]
    iintro ⟨Hk, Hbd, ⟨Hh, HO, Hg, Ht⟩, #Hla⟩
    iapply (StableHlo.wp_hlo_within (Variants.lift 𝒱₀) (c : Thread nD τ) none Set.univ (op := wordOp (F := F)) (S := ucRefs) (sub_ucRefs _ (StableHlo.unary_bufs_sub ..)) (V := V c)) $$ [Hbd Hh]
    · isplitl [Hbd] <;> iassumption
    iintro ⟨Hbd, Hh⟩
    rw [word_read, HostLoop.case_succ]
    have hb : HostLoop.branch (word (V c)) 1 = 0 ∨ HostLoop.branch (word (V c)) 1 = 1 := by
      generalize HostLoop.branch (word (V c)) 1 = b
      fin_cases b
      · exact .inl rfl
      · exact .inr rfl
    rcases hb with hb | hb
    · rw [hb, show endOf o0 o1 V c = StableHlo.after o0 (wordOp.result (V c)) from by rw [endOf, if_pos hb], show armsOf o0 o1 0 = StableHlo.seq o0 from rfl]
      iapply (StableHlo.wp_seq (defs := Pipeline.defs (pcfgs (F := F)) defs₀) (Variants.lift 𝒱₀) none Set.univ c ucRefs k (K := Q) o0
        h0 f0 (wordOp.result (V c))) $$ [Hbd Hh]
      · isplitl [Hbd] <;> iassumption
      iintro ⟨Hbd, Hh⟩
      iapply Hk
      isplitl [Hbd]; · iexact Hbd
      isplitl [Hh] <;> iassumption
    · rw [hb, show endOf o0 o1 V c = StableHlo.after o1 (Vcall (fun c => wordOp.result (V c)) c) from by rw [endOf, if_neg (by rw [hb]; decide)],
        armsOf_one_bind]
      iapply (Pipeline.RegionSeg.wp (pcfgs (F := F)) adm (pdats (fun c => wordOp.result (V c))) () cellOf_inj EB defs₀ 𝒱₀ L lv (reg (fun c => wordOp.result (V c))) c none (fun _ h => nomatch h) (fun _ => StableHlo.seq o1 >>= k) Q)
      rw [reg_pre, reg_post, unscopedBufs_held, unscopedBufs_held]
      isplitl [Hk]
      · iintro ⟨Hbd, Hh, HO⟩
        iapply (StableHlo.wp_seq (defs := Pipeline.defs (pcfgs (F := F)) defs₀) (Variants.lift 𝒱₀) none Set.univ c ucRefs k (K := Q) o1
          h1 f1 (Vcall (fun c => wordOp.result (V c)) c)) $$ [Hbd Hh]
        · isplitl [Hbd] <;> iassumption
        iintro ⟨Hbd, Hh⟩
        iapply Hk
        isplitl [Hbd]; · iexact Hbd
        isplitl [Hh] <;> iassumption
      isplitl [Hbd]; · iexact Hbd
      isplitl [Hh HO]
      · isplitl [Hh] <;> iassumption
      isplitr; · iexact Hla
      isplitl [Hg] <;> iassumption

/-- The program's choice. -/
def segC : Pipeline.HostSeg (Name := ℕ) (U := UU) (pcfgs (F := F)) defs₀ 𝒱₀ L lv :=
  segOf denseOps tailOps (fun op h => sub_ucRefs op ((List.forall_iff_forall_mem.mp denseOps_sub) op h)) denseOps_fresh
    (fun op h => sub_ucRefs op ((List.forall_iff_forall_mem.mp tailOps_sub) op h)) tailOps_fresh (W28 m)

/-- What the run leaves. -/
def Wend (c : Dev nD) : Valuation τ sig (Elt F) := endOf denseOps tailOps (W28 m) c

/-- The segments, in order. -/
abbrev segs : List (Pipeline.Seg (pcfgs (F := F)) adm (pdats (W28 m)) () defs₀ 𝒱₀ L lv) :=
  [ .host (seg0 m), .host (seg1 m), .host (seg2 m), .host (seg3 m), .host (seg4 m), .host (seg5 m), .host (seg6 m), .host (seg7 m), .host (seg8 m), .host (seg9 m), .host (seg10 m), .host (seg11 m), .host (seg12 m), .host (seg13 m), .host (seg14 m), .host (seg15 m), .host (seg16 m), .host (seg17 m), .host (seg18 m), .host (seg19 m), .host (seg20 m), .host (seg21 m), .host (seg22 m), .host (seg23 m), .host (seg24 m), .host (seg25 m), .host (seg26 m), .host (seg27 m), .host (segC m) ]

/-- The program is the chain of its stretches and the choice. -/
theorem main_eq (c : Dev nD) : main (F := F) c = (Pipeline.chain
    [ StableHlo.seq hostOps0, StableHlo.seq hostOps0_1, StableHlo.seq hostOps0_2, StableHlo.seq hostOps0_3, StableHlo.seq hostOps0_4, StableHlo.seq hostOps0_5, StableHlo.seq hostOps0_6, StableHlo.seq hostOps0_7, StableHlo.seq hostOps0_8, StableHlo.seq hostOps0_9, StableHlo.seq hostOps0_10, StableHlo.seq hostOps0_11, StableHlo.seq hostOps0_12, StableHlo.seq hostOps0_13, StableHlo.seq hostOps0_14, StableHlo.seq hostOps0_15, StableHlo.seq hostOps0_16, StableHlo.seq hostOps0_17, StableHlo.seq hostOps0_18, StableHlo.seq hostOps0_19, StableHlo.seq hostOps0_20, StableHlo.seq hostOps0_21, StableHlo.seq hostOps0_22, StableHlo.seq hostOps0_23, StableHlo.seq hostOps0_24, StableHlo.seq hostOps0_25, StableHlo.seq hostOps0_26, StableHlo.seq hostOps0_27, choiceOf denseOps tailOps ]
    : Prog (TpuEff nD τ sig (Elt F) (Pipeline.Sig Λ₀ (Fin 1) fun p => (pcfgs (F := F) p).Adm) .tc) PUnit) :=
  (main_chain (F := F) c).trans (by chain_rfl)

/-- The segments run in order are the program. -/
theorem segs_run (c : Dev nD) : Pipeline.Seg.run (segs m) = main (F := F) c :=
  (Pipeline.Seg.run_eq_chain (segs m)).trans (Eq.trans (by chain_rfl) (main_eq (F := F) c).symm)

end Cert.Proof.KernelIdeal

end
-- ==== Proof.IdealRun.lean ====
/-
  The launch: every execution of the program terminates, every unscoped buffer ends at `Wend`, and every semaphore
  counter at zero.
-/
module

public import proofs.«01_k».proof.Proof.IdealSegs

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch element: the pipeline library's start, once for the launch and once for the branch. -/
def u₀ : UU := ((fun _ => initOf (Pipeline.cells cfgs cellOf_inj) (Pipeline.launchToks cfgs cellOf_inj) : IProdConst (Fin 2) (UR sig nD τ)), 1)

/-- Two copies owned are each owned. -/
theorem own_two (f : IProdConst (Fin 2) (UR sig nD τ)) :
    (BI.own (embL (nD := nD) (τ := τ) (sig := sig) (Ix := Unit) (Val := Elt F) (Name := ℕ) (Lvl := ℕ) (B := Counters) f) : sProp 𝕄)
      ⊢ iprop(BI.own ((EP (F := F)) (f 0)) ∗ BI.own ((EB (F := F)) (f 1))) := by
  refine (own_iprod f).trans (Entails.of_eq ?_)
  rw [show (Finset.univ : Finset (Fin 2)) = insert 0 {1} from by decide, BI.bigSep_insert (by decide), BI.bigSep_singleton]
  rfl

/-- The branch's copy pays for the branch's call on every core. -/
theorem fund_call :
    iprop((bigSep Finset.univ fun c : Dev nD => bigSep Finset.univ fun p => Pipeline.cellsGhost (Pipeline.pin (pcfgs (F := F)) adm) (EB (F := F)) p c)
      ∗ (bigSep Finset.univ fun c : Dev nD => bigSep Finset.univ fun p => (Pipeline.toksInit (Pipeline.pin (pcfgs (F := F)) adm) (EB (F := F)) p c : sProp 𝕄)))
      ⊢ bigSep Finset.univ (Gh (F := F)) := by
  rw [bigSep_sep']
  exact BI.sep_mono (bigSep_mono fun c _ => bigSep_elim (Finset.mem_univ (0 : Fin 1))) (bigSep_mono fun c _ => bigSep_elim (Finset.mem_univ (0 : Fin 1)))

/-- The launch element pays for the launch's copy and, on every core, for the branch's call. -/
theorem fund : (ownU u₀ : sProp 𝕄) ⊢ |={Set.univ}=> iprop(BI.own ((EP (F := F)) (initOf (Pipeline.cells cfgs cellOf_inj) (Pipeline.launchToks cfgs cellOf_inj)))
    ∗ bigSep Finset.univ (Gh (F := F))) := by
  unfold u₀
  iintro Hu
  ihave H := (ownU_pair _ _) $$ Hu
  icases H with ⟨HP, -⟩
  ihave H := (own_two _) $$ HP
  icases H with ⟨H0, H1⟩
  imod (Pipeline.fund_ghost (Pipeline.pin (pcfgs (F := F)) adm) (EB (F := F)) cellOf_inj) $$ H1 with H
  ihave H := fund_call $$ H
  imodintro
  isplitl [H0]; · iexact H0
  iexact H

omit [FloatOps F] in
/-- Buffers held at a valuation read as it. -/
theorem held_read (c : Dev nD) (V : Valuation τ sig (Elt F)) (s' : Phys nD τ sig (Elt F)) :
    iprop((StableHlo.held (c : Thread nD τ) ucRefs V : sProp 𝕄) ∗ SI s') ⊢ iprop(⌜∀ b ∈ ucRefs, s'.mem.mem ((c : Dev nD), b) = V b⌝ ∗ SI s') :=
  pointsTo_read_all ucRefs (fun b => ((c : Dev nD), b)) (fun b => V b) s'

set_option backward.isDefEq.respectTransparency.types false in
/-- From any memory with zero counters: every execution terminates, every unscoped buffer ends at `Wend`, every
    semaphore counter at zero. -/
theorem run_main : θ_run defs (onTc (τ := τ) (main (F := F))) ⟨m, fun _ => 0, ρ⟩
    (fun r => (∀ c : Dev nD, ∀ b ∈ ucRefs, r.2.mem ((c : Dev nD), b) = Wend m c b) ∧ r.2.sem = fun _ => 0) :=
  Pipeline.θ_run_regions_kit_sems (pcfgs (F := F)) adm (pdats (W28 m)) () cellOf_inj EP defs₀ 𝒱₀ L lv m ρ main (segs m)
    (fun c Q => by rw [segs_run m c])
    (by show ([] : List (Fin 1)).Nodup; exact List.nodup_nil) (O₀ := 0) (hL := fun _ _ => rfl) (G := Gh) (u₀ := u₀)
    (hu₀ := fund)
    (T₀ := fun c => iprop(StableHlo.held (c : Thread nD τ) ucRefs (W0 m c) ∗ R c)) (Tₙ := fun c => StableHlo.held (c : Thread nD τ) ucRefs (Wend m c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (W0 m c) from unscopedBufs_held c (W0 m c)]
      iintro ⟨⟨Hh, -, HO, -, -, HG⟩, -⟩
      imodintro
      isplitl [Hh]; · iexact Hh
      isplitl [HO]; · iexists ∅; iexact HO
      iexact HG)
    (QY := fun c s => ∀ b ∈ ucRefs, s.mem ((c : Dev nD), b) = Wend m c b)
    (hfin := fun c s' => by
      iintro H
      ihave Hr := (held_read c (Wend m c) s') $$ H
      imodintro
      iexact Hr)
    (hQ := fun _ h hz => ⟨h, funext fun g => hz g (.inr (by revert g; decide))⟩)

end Cert.Proof.KernelIdeal

end
-- ==== Proof.IdealKeep.lean ====
/-
  What each stretch of the program writes, and that everything else keeps its contents: in particular the
  seventeen arguments come out of the whole run as they went in.
-/
module

public import proofs.«01_k».proof.Proof.IdealRun

@[expose] public section

set_option maxRecDepth 8192

noncomputable section

namespace Cert.Proof.KernelIdeal

open Cert.KernelIdeal Cert.KernelIdeal.Gen
open Idealize.ShloMosaic Idealize.ShloMosaic.TcCoe
open Idealize.SL.Sem

variable {F : FTy → Type} [FloatOps F]

omit [FloatOps F] in
/-- An operation writing one listed buffer writes inside the list. -/
theorem sub_of {op : HloOp τ sig (Elt F)} {l : List (Ref sig .tc)} (x : Ref sig .tc) (h : op.writes = {Proc.devRef (τ := τ) .tc x}) (hx : x ∈ l) :
    op.writes ⊆ (l.map (Proc.devRef (τ := τ) .tc)).toFinset := by
  rw [h, Finset.singleton_subset_iff, List.mem_toFinset]
  exact List.mem_map_of_mem hx

/-- What `hostOps0` writes. -/
abbrev wr0 : List (Ref sig .tc) := [main_v0, main_v1, main_v2, main_v3, main_v4, main_c, main_v5, main_v6, main_v7, main_v8, main_v9, main_v10, main_v11, main_c_0, main_v12, main_v13]

theorem wr0_sub : (hostOps0 : List (HloOp τ sig (Elt F))).Forall fun op => op.writes ⊆ (wr0.map (Proc.devRef (τ := τ) .tc)).toFinset := by
  simp only [List.Forall]
  exact ⟨sub_of main_v0 rfl (by decide), sub_of main_v1 rfl (by decide), sub_of main_v2 rfl (by decide), sub_of main_v3 rfl (by decide), sub_of main_v4 rfl (by decide), sub_of main_c rfl (by decide), sub_of main_v5 rfl (by decide), sub_of main_v6 rfl (by decide), sub_of main_v7 rfl (by decide), sub_of main_v8 rfl (by decide), sub_of main_v9 rfl (by decide), sub_of main_v10 rfl (by decide), sub_of main_v11 rfl (by decide), sub_of main_c_0 rfl (by decide), sub_of main_v12 rfl (by decide), sub_of main_v13 rfl (by decide)⟩

/-- What `hostOps0_1` writes. -/
abbrev wr1 : List (Ref sig .tc) := [main_call0_v0, main_call0_v1, main_call0_v2, main_call0_call0_v0, main_call0_call0_v1, main_call0_call0_v2, main_call0_call0_v3_0, main_v14_2, main_call0_c, main_call0_v4, main_call0_v5, main_call0_c_0, main_call0_v6, main_call0_v7, main_call0_v8, main_call0_v9, main_v14_0, main_call0_c_1, main_call0_v11, main_call0_v12, main_call0_v13, main_call0_v14, main_call0_c_2, main_call0_v15, main_call0_c_3, main_call0_v16, main_v14_1]

theorem wr1_sub : (hostOps0_1 : List (HloOp τ sig (Elt F))).Forall fun op => op.writes ⊆ (wr1.map (Proc.devRef (τ := τ) .tc)).toFinset := by
  simp only [List.Forall]
  exact ⟨sub_of main_call0_v0 rfl (by decide), sub_of main_call0_v1 rfl (by decide), sub_of main_call0_v2 rfl (by decide), sub_of main_call0_call0_v0 rfl (by decide), sub_of main_call0_call0_v1 rfl (by decide), sub_of main_call0_call0_v2 rfl (by decide), sub_of main_call0_call0_v3_0 rfl (by decide), sub_of main_v14_2 rfl (by decide), sub_of main_call0_c rfl (by decide), sub_of main_call0_v4 rfl (by decide), sub_of main_call0_v5 rfl (by decide), sub_of main_call0_c_0 rfl (by decide), sub_of main_call0_v6 rfl (by decide), sub_of main_call0_v7 rfl (by decide), sub_of main_call0_v8 rfl (by decide), sub_of main_call0_v9 rfl (by decide), sub_of main_v14_0 rfl (by decide), sub_of main_call0_c_1 rfl (by decide), sub_of main_call0_v11 rfl (by decide), sub_of main_call0_v12 rfl (by decide), sub_of main_call0_v13 rfl (by decide), sub_of main_call0_v14 rfl (by decide), sub_of main_call0_c_2 rfl (by decide), sub_of main_call0_v15 rfl (by decide), sub_of main_call0_c_3 rfl (by decide), sub_of main_call0_v16 rfl (by decide), sub_of main_v14_1 rfl (by decide)⟩

/-- What `hostOps0_2` writes. -/
abbrev wr2 : List (Ref sig .tc) := [main_call1_v0, main_call1_call0_c, main_call1_call0_v0, main_v15]

theorem wr2_sub : (hostOps0_2 : List (HloOp τ sig (Elt F))).Forall fun op => op.writes ⊆ (wr2.map (Proc.devRef (τ := τ) .tc)).toFinset := by
  simp only [List.Forall]
  exact ⟨sub_of main_call1_v0 rfl (by decide), sub_of main_call1_call0_c rfl (by decide), sub_of main_call1_call0_v0 rfl (by decide), sub_of main_v15 rfl (by decide)⟩

/-- What `hostOps0_3` writes. -/
abbrev wr3 : List (Ref sig .tc) := [main_c_1, main_v16, main_c_2, main_v17, main_v18, main_c_3, main_v19, main_v20, main_v21, main_v22, main_c_4, main_v23, main_v24]

theorem wr3_sub : (hostOps0_3 : List (HloOp τ sig (Elt F))).Forall fun op => op.writes ⊆ (wr3.map (Proc.devRef (τ := τ) .tc)).toFinset := by
  simp only [List.Forall]
  exact ⟨sub_of main_c_1 rfl (by decide), sub_of main_v16 rfl (by decide), sub_of main_c_2 rfl (by decide), sub_of main_v17 rfl (by decide), sub_of main_v18 rfl (by decide), sub_of main_c_3 rfl (by decide), sub_of main_v19 rfl (by decide), sub_of main_v20 rfl (by decide), sub_of main_v21 rfl (by decide), sub_of main_v22 rfl (by decide), sub_of main_c_4 rfl (by decide), sub_of main_v23 rfl (by decide), sub_of main_v24 rfl (by decide)⟩

/-- What `hostOps0_4` writes. -/
abbrev wr4 : List (Ref sig .tc) := [main_call2_call0_c, main_call2_call0_v0, main_v25]

theorem wr4_sub : (hostOps0_4 : List (HloOp τ sig (Elt F))).Forall fun op => op.writes ⊆ (wr4.map (Proc.devRef (τ := τ) .tc)).toFinset := by
  simp only [List.Forall]
  exact ⟨sub_of main_call2_call0_c rfl (by decide), sub_of main_call2_call0_v0 rfl (by decide), sub_of main_v25 rfl (by decide)⟩

/-- What `hostOps0_5` writes. -/
abbrev wr5 : List (Ref sig .tc) := [main_c_5]

theorem wr5_sub : (hostOps0_5 : List (HloOp τ sig (Elt F))).Forall fun op => op.writes ⊆ (wr5.map (Proc.devRef (τ := τ) .tc)).toFinset := by
  simp only [List.Forall]
  exact sub_of main_c_5 rfl (by decide)

/-- What `hostOps0_6` writes. -/
abbrev wr6 : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v26]

theorem wr6_sub : (hostOps0_6 : List (HloOp τ sig (Elt F))).Forall fun op => op.writes ⊆ (wr6.map (Proc.devRef (τ := τ) .tc)).toFinset := by
  simp only [List.Forall]
  exact ⟨sub_of main_call3_v0 rfl (by decide), sub_of main_call3_v1 rfl (by decide), sub_of main_call3_v2 rfl (by decide), sub_of main_call3_v3 rfl (by decide), sub_of main_call3_v4 rfl (by decide), sub_of main_call3_v5 rfl (by decide), sub_of main_call3_v6 rfl (by decide), sub_of main_call3_v7 rfl (by decide), sub_of main_call3_v8 rfl (by decide), sub_of main_call3_c rfl (by decide), sub_of main_call3_v9 rfl (by decide), sub_of main_call3_v10 rfl (by decide), sub_of main_call3_v11 rfl (by decide), sub_of main_call3_c_0 rfl (by decide), sub_of main_call3_v12 rfl (by decide), sub_of main_call3_v13 rfl (by decide), sub_of main_v26 rfl (by decide)⟩

/-- What `hostOps0_7` writes. -/
abbrev wr7 : List (Ref sig .tc) := [main_c_6]

theorem wr7_sub : (hostOps0_7 : List (HloOp τ sig (Elt F))).Forall fun op => op.writes ⊆ (wr7.map (Proc.devRef (τ := τ) .tc)).toFinset := by
  simp only [List.Forall]
  exact sub_of main_c_6 rfl (by decide)

/-- What `hostOps0_8` writes. -/
abbrev wr8 : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v27]

theorem wr8_sub : (hostOps0_8 : List (HloOp τ sig (Elt F))).Forall fun op => op.writes ⊆ (wr8.map (Proc.devRef (τ := τ) .tc)).toFinset := by
  simp only [List.Forall]
  exact ⟨sub_of main_call4_v0 rfl (by decide), sub_of main_call4_c rfl (by decide), sub_of main_call4_v1 rfl (by decide), sub_of main_call4_c_0 rfl (by decide), sub_of main_call4_v2 rfl (by decide), sub_of main_call4_v3 rfl (by decide), sub_of main_call4_v4 rfl (by decide), sub_of main_call4_c_1 rfl (by decide), sub_of main_call4_v5 rfl (by decide), sub_of main_call4_v6 rfl (by decide), sub_of main_call4_c_2 rfl (by decide), sub_of main_call4_v7 rfl (by decide), sub_of main_call4_v8 rfl (by decide), sub_of main_call4_c_3 rfl (by decide), sub_of main_call4_v9 rfl (by decide), sub_of main_call4_v10 rfl (by decide), sub_of main_call4_v11 rfl (by decide), sub_of main_call4_v12 rfl (by decide), sub_of main_call4_v13 rfl (by decide), sub_of main_call4_v14 rfl (by decide), sub_of main_v27 rfl (by decide)⟩

/-- What `hostOps0_9` writes. -/
abbrev wr9 : List (Ref sig .tc) := [main_v28, main_c_7, main_v29, main_v30, main_v31, main_v32, main_v33, main_c_8]

theorem wr9_sub : (hostOps0_9 : List (HloOp τ sig (Elt F))).Forall fun op => op.writes ⊆ (wr9.map (Proc.devRef (τ := τ) .tc)).toFinset := by
  simp only [List.Forall]
  exact ⟨sub_of main_v28 rfl (by decide), sub_of main_c_7 rfl (by decide), sub_of main_v29 rfl (by decide), sub_of main_v30 rfl (by decide), sub_of main_v31 rfl (by decide), sub_of main_v32 rfl (by decide), sub_of main_v33 rfl (by decide), sub_of main_c_8 rfl (by decide)⟩

/-- What `hostOps0_10` writes. -/
abbrev wr10 : List (Ref sig .tc) := [main_call5_v0, main_call5_v1, main_v34]

theorem wr10_sub : (hostOps0_10 : List (HloOp τ sig (Elt F))).Forall fun op => op.writes ⊆ (wr10.map (Proc.devRef (τ := τ) .tc)).toFinset := by
  simp only [List.Forall]
  exact ⟨sub_of main_call5_v0 rfl (by decide), sub_of main_call5_v1 rfl (by decide), sub_of main_v34 rfl (by decide)⟩

/-- What `hostOps0_11` writes. -/
abbrev wr11 : List (Ref sig .tc) := [main_c_9, main_v35, main_v36, main_c_10, main_v37, main_v38, main_v39, main_v40, main_v41, main_v42, main_v43, main_c_11, main_v44, main_v45, main_v46, main_c_12]

theorem wr11_sub : (hostOps0_11 : List (HloOp τ sig (Elt F))).Forall fun op => op.writes ⊆ (wr11.map (Proc.devRef (τ := τ) .tc)).toFinset := by
  simp only [List.Forall]
  exact ⟨sub_of main_c_9 rfl (by decide), sub_of main_v35 rfl (by decide), sub_of main_v36 rfl (by decide), sub_of main_c_10 rfl (by decide), sub_of main_v37 rfl (by decide), sub_of main_v38 rfl (by decide), sub_of main_v39 rfl (by decide), sub_of main_v40 rfl (by decide), sub_of main_v41 rfl (by decide), sub_of main_v42 rfl (by decide), sub_of main_v43 rfl (by decide), sub_of main_c_11 rfl (by decide), sub_of main_v44 rfl (by decide), sub_of main_v45 rfl (by decide), sub_of main_v46 rfl (by decide), sub_of main_c_12 rfl (by decide)⟩

/-- What `hostOps0_12` writes. -/
abbrev wr12 : List (Ref sig .tc) := [main_call6_v0, main_v47]

theorem wr12_sub : (hostOps0_12 : List (HloOp τ sig (Elt F))).Forall fun op => op.writes ⊆ (wr12.map (Proc.devRef (τ := τ) .tc)).toFinset := by
  simp only [List.Forall]
  exact ⟨sub_of main_call6_v0 rfl (by decide), sub_of main_v47 rfl (by decide)⟩

/-- What `hostOps0_13` writes. -/
abbrev wr13 : List (Ref sig .tc) := [main_v48, main_v49, main_v50, main_v51, main_v52, main_c_13, main_v53, main_v54, main_c_14, main_v55]

theorem wr13_sub : (hostOps0_13 : List (HloOp τ sig (Elt F))).Forall fun op => op.writes ⊆ (wr13.map (Proc.devRef (τ := τ) .tc)).toFinset := by
  simp only [List.Forall]
  exact ⟨sub_of main_v48 rfl (by decide), sub_of main_v49 rfl (by decide), sub_of main_v50 rfl (by decide), sub_of main_v51 rfl (by decide), sub_of main_v52 rfl (by decide), sub_of main_c_13 rfl (by decide), sub_of main_v53 rfl (by decide), sub_of main_v54 rfl (by decide), sub_of main_c_14 rfl (by decide), sub_of main_v55 rfl (by decide)⟩

/-- What `hostOps0_14` writes. -/
abbrev wr14 : List (Ref sig .tc) := [main_call7_v0, main_call7_call0_c, main_call7_call0_v0, main_v56]

theorem wr14_sub : (hostOps0_14 : List (HloOp τ sig (Elt F))).Forall fun op => op.writes ⊆ (wr14.map (Proc.devRef (τ := τ) .tc)).toFinset := by
  simp only [List.Forall]
  exact ⟨sub_of main_call7_v0 rfl (by decide), sub_of main_call7_call0_c rfl (by decide), sub_of main_call7_call0_v0 rfl (by decide), sub_of main_v56 rfl (by decide)⟩

/-- What `hostOps0_15` writes. -/
abbrev wr15 : List (Ref sig .tc) := [main_c_15, main_v57, main_c_16, main_v58, main_v59, main_c_17, main_v60, main_v61, main_v62, main_v63, main_c_18, main_v64, main_v65]

theorem wr15_sub : (hostOps0_15 : List (HloOp τ sig (Elt F))).Forall fun op => op.writes ⊆ (wr15.map (Proc.devRef (τ := τ) .tc)).toFinset := by
  simp only [List.Forall]
  exact ⟨sub_of main_c_15 rfl (by decide), sub_of main_v57 rfl (by decide), sub_of main_c_16 rfl (by decide), sub_of main_v58 rfl (by decide), sub_of main_v59 rfl (by decide), sub_of main_c_17 rfl (by decide), sub_of main_v60 rfl (by decide), sub_of main_v61 rfl (by decide), sub_of main_v62 rfl (by decide), sub_of main_v63 rfl (by decide), sub_of main_c_18 rfl (by decide), sub_of main_v64 rfl (by decide), sub_of main_v65 rfl (by decide)⟩

/-- What `hostOps0_16` writes. -/
abbrev wr16 : List (Ref sig .tc) := [main_call8_call0_c, main_call8_call0_v0, main_v66]

theorem wr16_sub : (hostOps0_16 : List (HloOp τ sig (Elt F))).Forall fun op => op.writes ⊆ (wr16.map (Proc.devRef (τ := τ) .tc)).toFinset := by
  simp only [List.Forall]
  exact ⟨sub_of main_call8_call0_c rfl (by decide), sub_of main_call8_call0_v0 rfl (by decide), sub_of main_v66 rfl (by decide)⟩

/-- What `hostOps0_17` writes. -/
abbrev wr17 : List (Ref sig .tc) := [main_c_19]

theorem wr17_sub : (hostOps0_17 : List (HloOp τ sig (Elt F))).Forall fun op => op.writes ⊆ (wr17.map (Proc.devRef (τ := τ) .tc)).toFinset := by
  simp only [List.Forall]
  exact sub_of main_c_19 rfl (by decide)

/-- What `hostOps0_18` writes. -/
abbrev wr18 : List (Ref sig .tc) := [main_call9_v0, main_call9_v1, main_call9_v2, main_call9_v3, main_call9_v4, main_call9_v5, main_call9_v6, main_call9_v7, main_call9_v8, main_call9_c, main_call9_v9, main_call9_v10, main_call9_v11, main_call9_c_0, main_call9_v12, main_call9_v13, main_v67]

theorem wr18_sub : (hostOps0_18 : List (HloOp τ sig (Elt F))).Forall fun op => op.writes ⊆ (wr18.map (Proc.devRef (τ := τ) .tc)).toFinset := by
  simp only [List.Forall]
  exact ⟨sub_of main_call9_v0 rfl (by decide), sub_of main_call9_v1 rfl (by decide), sub_of main_call9_v2 rfl (by decide), sub_of main_call9_v3 rfl (by decide), sub_of main_call9_v4 rfl (by decide), sub_of main_call9_v5 rfl (by decide), sub_of main_call9_v6 rfl (by decide), sub_of main_call9_v7 rfl (by decide), sub_of main_call9_v8 rfl (by decide), sub_of main_call9_c rfl (by decide), sub_of main_call9_v9 rfl (by decide), sub_of main_call9_v10 rfl (by decide), sub_of main_call9_v11 rfl (by decide), sub_of main_call9_c_0 rfl (by decide), sub_of main_call9_v12 rfl (by decide), sub_of main_call9_v13 rfl (by decide), sub_of main_v67 rfl (by decide)⟩

/-- What `hostOps0_19` writes. -/
abbrev wr19 : List (Ref sig .tc) := [main_c_20]

theorem wr19_sub : (hostOps0_19 : List (HloOp τ sig (Elt F))).Forall fun op => op.writes ⊆ (wr19.map (Proc.devRef (τ := τ) .tc)).toFinset := by
  simp only [List.Forall]
  exact sub_of main_c_20 rfl (by decide)

/-- What `hostOps0_20` writes. -/
abbrev wr20 : List (Ref sig .tc) := [main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v68]

theorem wr20_sub : (hostOps0_20 : List (HloOp τ sig (Elt F))).Forall fun op => op.writes ⊆ (wr20.map (Proc.devRef (τ := τ) .tc)).toFinset := by
  simp only [List.Forall]
  exact ⟨sub_of main_call10_v0 rfl (by decide), sub_of main_call10_c rfl (by decide), sub_of main_call10_v1 rfl (by decide), sub_of main_call10_c_0 rfl (by decide), sub_of main_call10_v2 rfl (by decide), sub_of main_call10_v3 rfl (by decide), sub_of main_call10_v4 rfl (by decide), sub_of main_call10_c_1 rfl (by decide), sub_of main_call10_v5 rfl (by decide), sub_of main_call10_v6 rfl (by decide), sub_of main_call10_c_2 rfl (by decide), sub_of main_call10_v7 rfl (by decide), sub_of main_call10_v8 rfl (by decide), sub_of main_call10_c_3 rfl (by decide), sub_of main_call10_v9 rfl (by decide), sub_of main_call10_v10 rfl (by decide), sub_of main_call10_v11 rfl (by decide), sub_of main_call10_v12 rfl (by decide), sub_of main_call10_v13 rfl (by decide), sub_of main_call10_v14 rfl (by decide), sub_of main_v68 rfl (by decide)⟩

/-- What `hostOps0_21` writes. -/
abbrev wr21 : List (Ref sig .tc) := [main_v69, main_c_21, main_v70, main_v71, main_v72, main_v73, main_v74, main_c_22, main_v75]

theorem wr21_sub : (hostOps0_21 : List (HloOp τ sig (Elt F))).Forall fun op => op.writes ⊆ (wr21.map (Proc.devRef (τ := τ) .tc)).toFinset := by
  simp only [List.Forall]
  exact ⟨sub_of main_v69 rfl (by decide), sub_of main_c_21 rfl (by decide), sub_of main_v70 rfl (by decide), sub_of main_v71 rfl (by decide), sub_of main_v72 rfl (by decide), sub_of main_v73 rfl (by decide), sub_of main_v74 rfl (by decide), sub_of main_c_22 rfl (by decide), sub_of main_v75 rfl (by decide)⟩

/-- What `hostOps0_22` writes. -/
abbrev wr22 : List (Ref sig .tc) := [main_call11_v0, main_v76]

theorem wr22_sub : (hostOps0_22 : List (HloOp τ sig (Elt F))).Forall fun op => op.writes ⊆ (wr22.map (Proc.devRef (τ := τ) .tc)).toFinset := by
  simp only [List.Forall]
  exact ⟨sub_of main_call11_v0 rfl (by decide), sub_of main_v76 rfl (by decide)⟩

/-- What `hostOps0_23` writes. -/
abbrev wr23 : List (Ref sig .tc) := [main_v77, main_v78, main_v79, main_v80, main_c_23, main_v81, main_v82, main_c_24, main_v83, main_v84, main_v85, main_v86, main_v87, main_c_25, main_v88, main_v89, main_c_26, main_v90, main_v91, main_v92, main_v93, main_v94, main_c_27, main_v95, main_v96, main_c_28, main_v97, main_v98, main_v99, main_v100, main_v101, main_c_29, main_v102, main_v103, main_c_30, main_v104, main_v105, main_v106, main_v107, main_v108, main_c_31, main_c_32]

theorem wr23_sub : (hostOps0_23 : List (HloOp τ sig (Elt F))).Forall fun op => op.writes ⊆ (wr23.map (Proc.devRef (τ := τ) .tc)).toFinset := by
  simp only [List.Forall]
  exact ⟨sub_of main_v77 rfl (by decide), sub_of main_v78 rfl (by decide), sub_of main_v79 rfl (by decide), sub_of main_v80 rfl (by decide), sub_of main_c_23 rfl (by decide), sub_of main_v81 rfl (by decide), sub_of main_v82 rfl (by decide), sub_of main_c_24 rfl (by decide), sub_of main_v83 rfl (by decide), sub_of main_v84 rfl (by decide), sub_of main_v85 rfl (by decide), sub_of main_v86 rfl (by decide), sub_of main_v87 rfl (by decide), sub_of main_c_25 rfl (by decide), sub_of main_v88 rfl (by decide), sub_of main_v89 rfl (by decide), sub_of main_c_26 rfl (by decide), sub_of main_v90 rfl (by decide), sub_of main_v91 rfl (by decide), sub_of main_v92 rfl (by decide), sub_of main_v93 rfl (by decide), sub_of main_v94 rfl (by decide), sub_of main_c_27 rfl (by decide), sub_of main_v95 rfl (by decide), sub_of main_v96 rfl (by decide), sub_of main_c_28 rfl (by decide), sub_of main_v97 rfl (by decide), sub_of main_v98 rfl (by decide), sub_of main_v99 rfl (by decide), sub_of main_v100 rfl (by decide), sub_of main_v101 rfl (by decide), sub_of main_c_29 rfl (by decide), sub_of main_v102 rfl (by decide), sub_of main_v103 rfl (by decide), sub_of main_c_30 rfl (by decide), sub_of main_v104 rfl (by decide), sub_of main_v105 rfl (by decide), sub_of main_v106 rfl (by decide), sub_of main_v107 rfl (by decide), sub_of main_v108 rfl (by decide), sub_of main_c_31 rfl (by decide), sub_of main_c_32 rfl (by decide)⟩

/-- What `hostOps0_24` writes. -/
abbrev wr24 : List (Ref sig .tc) := [main_call12_v0, main_call12_v1, main_call12_v2, main_call12_v3, main_call12_v4, main_v109]

theorem wr24_sub : (hostOps0_24 : List (HloOp τ sig (Elt F))).Forall fun op => op.writes ⊆ (wr24.map (Proc.devRef (τ := τ) .tc)).toFinset := by
  simp only [List.Forall]
  exact ⟨sub_of main_call12_v0 rfl (by decide), sub_of main_call12_v1 rfl (by decide), sub_of main_call12_v2 rfl (by decide), sub_of main_call12_v3 rfl (by decide), sub_of main_call12_v4 rfl (by decide), sub_of main_v109 rfl (by decide)⟩

/-- What `hostOps0_25` writes. -/
abbrev wr25 : List (Ref sig .tc) := [main_c_33, main_v110, main_v111, main_c_34, main_v112, main_v113, main_v114, main_v115, main_v116, main_c_35, main_c_36]

theorem wr25_sub : (hostOps0_25 : List (HloOp τ sig (Elt F))).Forall fun op => op.writes ⊆ (wr25.map (Proc.devRef (τ := τ) .tc)).toFinset := by
  simp only [List.Forall]
  exact ⟨sub_of main_c_33 rfl (by decide), sub_of main_v110 rfl (by decide), sub_of main_v111 rfl (by decide), sub_of main_c_34 rfl (by decide), sub_of main_v112 rfl (by decide), sub_of main_v113 rfl (by decide), sub_of main_v114 rfl (by decide), sub_of main_v115 rfl (by decide), sub_of main_v116 rfl (by decide), sub_of main_c_35 rfl (by decide), sub_of main_c_36 rfl (by decide)⟩

/-- What `hostOps0_26` writes. -/
abbrev wr26 : List (Ref sig .tc) := [main_call13_v0, main_call13_v1, main_call13_v2, main_call13_v3, main_call13_v4, main_v117]

theorem wr26_sub : (hostOps0_26 : List (HloOp τ sig (Elt F))).Forall fun op => op.writes ⊆ (wr26.map (Proc.devRef (τ := τ) .tc)).toFinset := by
  simp only [List.Forall]
  exact ⟨sub_of main_call13_v0 rfl (by decide), sub_of main_call13_v1 rfl (by decide), sub_of main_call13_v2 rfl (by decide), sub_of main_call13_v3 rfl (by decide), sub_of main_call13_v4 rfl (by decide), sub_of main_v117 rfl (by decide)⟩

/-- What `hostOps0_27` writes. -/
abbrev wr27 : List (Ref sig .tc) := [main_c_37, main_v118, main_v119, main_c_38, main_v120, main_v121, main_v122, main_v123, main_v124, main_v125, main_v126, main_v127, main_v128, main_v129, main_cst, main_v130, main_v131, main_c_39, main_v132, main_v133, main_v134, main_c_40, main_v135, main_v136, main_cst_41, main_v137, main_v138, main_c_42, main_v139, main_c_43, main_v140, main_v141, main_v142, main_v143, main_c_44, main_v144, main_c_45, main_v145, main_v146, main_v147, main_cst_46, main_v148, main_v149, main_c_47, main_v150, main_v151, main_v152, main_c_48, main_v153, main_v154, main_cst_49, main_v155, main_v156, main_c_50, main_v157, main_c_51, main_v158, main_v159, main_v160, main_v161, main_c_52, main_v162, main_c_53, main_v163, main_v164, main_v165, main_v166, main_v167, main_v168, main_v169, main_v170, main_v171, main_v172, main_c_54, main_v173]

theorem wr27_sub : (hostOps0_27 : List (HloOp τ sig (Elt F))).Forall fun op => op.writes ⊆ (wr27.map (Proc.devRef (τ := τ) .tc)).toFinset := by
  simp only [List.Forall]
  exact ⟨sub_of main_c_37 rfl (by decide), sub_of main_v118 rfl (by decide), sub_of main_v119 rfl (by decide), sub_of main_c_38 rfl (by decide), sub_of main_v120 rfl (by decide), sub_of main_v121 rfl (by decide), sub_of main_v122 rfl (by decide), sub_of main_v123 rfl (by decide), sub_of main_v124 rfl (by decide), sub_of main_v125 rfl (by decide), sub_of main_v126 rfl (by decide), sub_of main_v127 rfl (by decide), sub_of main_v128 rfl (by decide), sub_of main_v129 rfl (by decide), sub_of main_cst rfl (by decide), sub_of main_v130 rfl (by decide), sub_of main_v131 rfl (by decide), sub_of main_c_39 rfl (by decide), sub_of main_v132 rfl (by decide), sub_of main_v133 rfl (by decide), sub_of main_v134 rfl (by decide), sub_of main_c_40 rfl (by decide), sub_of main_v135 rfl (by decide), sub_of main_v136 rfl (by decide), sub_of main_cst_41 rfl (by decide), sub_of main_v137 rfl (by decide), sub_of main_v138 rfl (by decide), sub_of main_c_42 rfl (by decide), sub_of main_v139 rfl (by decide), sub_of main_c_43 rfl (by decide), sub_of main_v140 rfl (by decide), sub_of main_v141 rfl (by decide), sub_of main_v142 rfl (by decide), sub_of main_v143 rfl (by decide), sub_of main_c_44 rfl (by decide), sub_of main_v144 rfl (by decide), sub_of main_c_45 rfl (by decide), sub_of main_v145 rfl (by decide), sub_of main_v146 rfl (by decide), sub_of main_v147 rfl (by decide), sub_of main_cst_46 rfl (by decide), sub_of main_v148 rfl (by decide), sub_of main_v149 rfl (by decide), sub_of main_c_47 rfl (by decide), sub_of main_v150 rfl (by decide), sub_of main_v151 rfl (by decide), sub_of main_v152 rfl (by decide), sub_of main_c_48 rfl (by decide), sub_of main_v153 rfl (by decide), sub_of main_v154 rfl (by decide), sub_of main_cst_49 rfl (by decide), sub_of main_v155 rfl (by decide), sub_of main_v156 rfl (by decide), sub_of main_c_50 rfl (by decide), sub_of main_v157 rfl (by decide), sub_of main_c_51 rfl (by decide), sub_of main_v158 rfl (by decide), sub_of main_v159 rfl (by decide), sub_of main_v160 rfl (by decide), sub_of main_v161 rfl (by decide), sub_of main_c_52 rfl (by decide), sub_of main_v162 rfl (by decide), sub_of main_c_53 rfl (by decide), sub_of main_v163 rfl (by decide), sub_of main_v164 rfl (by decide), sub_of main_v165 rfl (by decide), sub_of main_v166 rfl (by decide), sub_of main_v167 rfl (by decide), sub_of main_v168 rfl (by decide), sub_of main_v169 rfl (by decide), sub_of main_v170 rfl (by decide), sub_of main_v171 rfl (by decide), sub_of main_v172 rfl (by decide), sub_of main_c_54 rfl (by decide), sub_of main_v173 rfl (by decide)⟩

/-- What `denseOps` writes. -/
abbrev wrDense : List (Ref sig .tc) := [main_case0b0_c_55, main_case0b0_v176, main_case0b0_v177, main_case0b0_c_56, main_case0b0_v178, main_case0b0_v179, main_case0b0_v180, main_case0b0_v181, main_case0b0_v182, main_case0b0_c_57, main_case0b0_v183, main_case0b0_v184, main_case0b0_c_58, main_case0b0_v185, main_case0b0_v186, main_case0b0_v187, main_case0b0_v188, main_case0b0_v189, main_case0b0_v190, main_case0b0_v191, main_case0b0_v192, main_case0b0_v193, main_case0b0_v194, main_case0b0_call14_cst, main_case0b0_call14_v0, main_case0b0_v195, main_case0b0_v196, main_case0b0_v197, main_case0b0_v198, main_case0b0_v199, main_case0b0_cst_59, main_case0b0_v200, main_case0b0_v201, main_case0b0_v202, main_case0b0_v203, main_case0b0_v204, main_case0b0_v205, main_case0b0_v206, main_case0b0_c_60, main_case0b0_v207, main_case0b0_v208, main_case0b0_c_61, main_case0b0_v209, main_case0b0_v210, main_case0b0_v211, main_case0b0_v212, main_case0b0_v213, main_case0b0_v214, main_case0b0_v215, main_case0b0_c_62, main_case0b0_v216, main_case0b0_v217, main_case0b0_c_63, main_case0b0_v218, main_case0b0_v219, main_case0b0_v220, main_case0b0_v221, main_case0b0_v222, main_case0b0_v223, main_case0b0_v224, main_case0b0_v225, main_case0b0_v226, main_case0b0_v227, main_case0b0_cst_64, main_case0b0_v228, main_case0b0_v229, main_case0b0_call15_cst, main_case0b0_call15_v0, main_case0b0_call15_v1, main_case0b0_call15_v2, main_case0b0_call15_v3, main_case0b0_call15_v4, main_case0b0_call15_v5, main_case0b0_call15_v6, main_case0b0_call15_v7, main_case0b0_call15_v8, main_case0b0_call15_v9, main_case0b0_call15_v10, main_case0b0_call15_v11, main_case0b0_v230, main_case0b0_v231, main_case0b0_cst_65, main_case0b0_v232, main_case0b0_v233, main_case0b0_v234, main_case0b0_v235, main_case0b0_v236, main_case0b0_v237, main_case0b0_cst_66, main_case0b0_v238, main_case0b0_v239, main_case0b0_call16_cst, main_case0b0_call16_v0, main_case0b0_call16_v1, main_case0b0_call16_v2, main_case0b0_call16_v3, main_case0b0_call16_v4, main_case0b0_call16_v5, main_case0b0_call16_v6, main_case0b0_call16_v7, main_case0b0_call16_v8, main_case0b0_call16_v9, main_case0b0_call16_v10, main_case0b0_call16_v11, main_case0b0_v240, main_case0b0_v241, main_case0b0_cst_67, main_case0b0_v242, main_case0b0_v243, main_case0b0_v244, main_case0b0_v245, main_case0b0_v246, main_case0b0_v247, main_case0b0_v248, main_case0b0_cst_68, main_case0b0_v249, main_case0b0_v250, main_case0b0_call17_cst, main_case0b0_call17_v0, main_case0b0_call17_v1, main_case0b0_call17_v2, main_case0b0_call17_v3, main_case0b0_call17_v4, main_case0b0_call17_v5, main_case0b0_call17_v6, main_case0b0_call17_v7, main_case0b0_call17_v8, main_case0b0_call17_v9, main_case0b0_call17_v10, main_case0b0_call17_v11, main_case0b0_v251, main_case0b0_v252, main_case0b0_cst_69, main_case0b0_v253, main_case0b0_v254, main_case0b0_v255, main_case0b0_v256, main_case0b0_v257, main_case0b0_v258, main_case0b0_cst_70, main_case0b0_v259, main_case0b0_v260, main_case0b0_call18_cst, main_case0b0_call18_v0, main_case0b0_call18_v1, main_case0b0_call18_v2, main_case0b0_call18_v3, main_case0b0_call18_v4, main_case0b0_call18_v5, main_case0b0_call18_v6, main_case0b0_call18_v7, main_case0b0_call18_v8, main_case0b0_call18_v9, main_case0b0_call18_v10, main_case0b0_call18_v11, main_case0b0_v261, main_case0b0_v262, main_case0b0_cst_71, main_case0b0_v263, main_case0b0_v264, main_case0b0_v265, main_case0b0_v266, main_case0b0_v267, main_case0b0_v268, main_case0b0_v269, main_case0b0_v270, main_case0b0_v271, main_case0b0_v272, main_case0b0_v273, main_case0b0_v274, main_case0b0_v275, main_v175]

theorem wrDense_sub : (denseOps : List (HloOp τ sig (Elt F))).Forall fun op => op.writes ⊆ (wrDense.map (Proc.devRef (τ := τ) .tc)).toFinset := by
  simp only [List.Forall]
  exact ⟨sub_of main_case0b0_c_55 rfl (by decide), sub_of main_case0b0_v176 rfl (by decide), sub_of main_case0b0_v177 rfl (by decide), sub_of main_case0b0_c_56 rfl (by decide), sub_of main_case0b0_v178 rfl (by decide), sub_of main_case0b0_v179 rfl (by decide), sub_of main_case0b0_v180 rfl (by decide), sub_of main_case0b0_v181 rfl (by decide), sub_of main_case0b0_v182 rfl (by decide), sub_of main_case0b0_c_57 rfl (by decide), sub_of main_case0b0_v183 rfl (by decide), sub_of main_case0b0_v184 rfl (by decide), sub_of main_case0b0_c_58 rfl (by decide), sub_of main_case0b0_v185 rfl (by decide), sub_of main_case0b0_v186 rfl (by decide), sub_of main_case0b0_v187 rfl (by decide), sub_of main_case0b0_v188 rfl (by decide), sub_of main_case0b0_v189 rfl (by decide), sub_of main_case0b0_v190 rfl (by decide), sub_of main_case0b0_v191 rfl (by decide), sub_of main_case0b0_v192 rfl (by decide), sub_of main_case0b0_v193 rfl (by decide), sub_of main_case0b0_v194 rfl (by decide), sub_of main_case0b0_call14_cst rfl (by decide), sub_of main_case0b0_call14_v0 rfl (by decide), sub_of main_case0b0_v195 rfl (by decide), sub_of main_case0b0_v196 rfl (by decide), sub_of main_case0b0_v197 rfl (by decide), sub_of main_case0b0_v198 rfl (by decide), sub_of main_case0b0_v199 rfl (by decide), sub_of main_case0b0_cst_59 rfl (by decide), sub_of main_case0b0_v200 rfl (by decide), sub_of main_case0b0_v201 rfl (by decide), sub_of main_case0b0_v202 rfl (by decide), sub_of main_case0b0_v203 rfl (by decide), sub_of main_case0b0_v204 rfl (by decide), sub_of main_case0b0_v205 rfl (by decide), sub_of main_case0b0_v206 rfl (by decide), sub_of main_case0b0_c_60 rfl (by decide), sub_of main_case0b0_v207 rfl (by decide), sub_of main_case0b0_v208 rfl (by decide), sub_of main_case0b0_c_61 rfl (by decide), sub_of main_case0b0_v209 rfl (by decide), sub_of main_case0b0_v210 rfl (by decide), sub_of main_case0b0_v211 rfl (by decide), sub_of main_case0b0_v212 rfl (by decide), sub_of main_case0b0_v213 rfl (by decide), sub_of main_case0b0_v214 rfl (by decide), sub_of main_case0b0_v215 rfl (by decide), sub_of main_case0b0_c_62 rfl (by decide), sub_of main_case0b0_v216 rfl (by decide), sub_of main_case0b0_v217 rfl (by decide), sub_of main_case0b0_c_63 rfl (by decide), sub_of main_case0b0_v218 rfl (by decide), sub_of main_case0b0_v219 rfl (by decide), sub_of main_case0b0_v220 rfl (by decide), sub_of main_case0b0_v221 rfl (by decide), sub_of main_case0b0_v222 rfl (by decide), sub_of main_case0b0_v223 rfl (by decide), sub_of main_case0b0_v224 rfl (by decide), sub_of main_case0b0_v225 rfl (by decide), sub_of main_case0b0_v226 rfl (by decide), sub_of main_case0b0_v227 rfl (by decide), sub_of main_case0b0_cst_64 rfl (by decide), sub_of main_case0b0_v228 rfl (by decide), sub_of main_case0b0_v229 rfl (by decide), sub_of main_case0b0_call15_cst rfl (by decide), sub_of main_case0b0_call15_v0 rfl (by decide), sub_of main_case0b0_call15_v1 rfl (by decide), sub_of main_case0b0_call15_v2 rfl (by decide), sub_of main_case0b0_call15_v3 rfl (by decide), sub_of main_case0b0_call15_v4 rfl (by decide), sub_of main_case0b0_call15_v5 rfl (by decide), sub_of main_case0b0_call15_v6 rfl (by decide), sub_of main_case0b0_call15_v7 rfl (by decide), sub_of main_case0b0_call15_v8 rfl (by decide), sub_of main_case0b0_call15_v9 rfl (by decide), sub_of main_case0b0_call15_v10 rfl (by decide), sub_of main_case0b0_call15_v11 rfl (by decide), sub_of main_case0b0_v230 rfl (by decide), sub_of main_case0b0_v231 rfl (by decide), sub_of main_case0b0_cst_65 rfl (by decide), sub_of main_case0b0_v232 rfl (by decide), sub_of main_case0b0_v233 rfl (by decide), sub_of main_case0b0_v234 rfl (by decide), sub_of main_case0b0_v235 rfl (by decide), sub_of main_case0b0_v236 rfl (by decide), sub_of main_case0b0_v237 rfl (by decide), sub_of main_case0b0_cst_66 rfl (by decide), sub_of main_case0b0_v238 rfl (by decide), sub_of main_case0b0_v239 rfl (by decide), sub_of main_case0b0_call16_cst rfl (by decide), sub_of main_case0b0_call16_v0 rfl (by decide), sub_of main_case0b0_call16_v1 rfl (by decide), sub_of main_case0b0_call16_v2 rfl (by decide), sub_of main_case0b0_call16_v3 rfl (by decide), sub_of main_case0b0_call16_v4 rfl (by decide), sub_of main_case0b0_call16_v5 rfl (by decide), sub_of main_case0b0_call16_v6 rfl (by decide), sub_of main_case0b0_call16_v7 rfl (by decide), sub_of main_case0b0_call16_v8 rfl (by decide), sub_of main_case0b0_call16_v9 rfl (by decide), sub_of main_case0b0_call16_v10 rfl (by decide), sub_of main_case0b0_call16_v11 rfl (by decide), sub_of main_case0b0_v240 rfl (by decide), sub_of main_case0b0_v241 rfl (by decide), sub_of main_case0b0_cst_67 rfl (by decide), sub_of main_case0b0_v242 rfl (by decide), sub_of main_case0b0_v243 rfl (by decide), sub_of main_case0b0_v244 rfl (by decide), sub_of main_case0b0_v245 rfl (by decide), sub_of main_case0b0_v246 rfl (by decide), sub_of main_case0b0_v247 rfl (by decide), sub_of main_case0b0_v248 rfl (by decide), sub_of main_case0b0_cst_68 rfl (by decide), sub_of main_case0b0_v249 rfl (by decide), sub_of main_case0b0_v250 rfl (by decide), sub_of main_case0b0_call17_cst rfl (by decide), sub_of main_case0b0_call17_v0 rfl (by decide), sub_of main_case0b0_call17_v1 rfl (by decide), sub_of main_case0b0_call17_v2 rfl (by decide), sub_of main_case0b0_call17_v3 rfl (by decide), sub_of main_case0b0_call17_v4 rfl (by decide), sub_of main_case0b0_call17_v5 rfl (by decide), sub_of main_case0b0_call17_v6 rfl (by decide), sub_of main_case0b0_call17_v7 rfl (by decide), sub_of main_case0b0_call17_v8 rfl (by decide), sub_of main_case0b0_call17_v9 rfl (by decide), sub_of main_case0b0_call17_v10 rfl (by decide), sub_of main_case0b0_call17_v11 rfl (by decide), sub_of main_case0b0_v251 rfl (by decide), sub_of main_case0b0_v252 rfl (by decide), sub_of main_case0b0_cst_69 rfl (by decide), sub_of main_case0b0_v253 rfl (by decide), sub_of main_case0b0_v254 rfl (by decide), sub_of main_case0b0_v255 rfl (by decide), sub_of main_case0b0_v256 rfl (by decide), sub_of main_case0b0_v257 rfl (by decide), sub_of main_case0b0_v258 rfl (by decide), sub_of main_case0b0_cst_70 rfl (by decide), sub_of main_case0b0_v259 rfl (by decide), sub_of main_case0b0_v260 rfl (by decide), sub_of main_case0b0_call18_cst rfl (by decide), sub_of main_case0b0_call18_v0 rfl (by decide), sub_of main_case0b0_call18_v1 rfl (by decide), sub_of main_case0b0_call18_v2 rfl (by decide), sub_of main_case0b0_call18_v3 rfl (by decide), sub_of main_case0b0_call18_v4 rfl (by decide), sub_of main_case0b0_call18_v5 rfl (by decide), sub_of main_case0b0_call18_v6 rfl (by decide), sub_of main_case0b0_call18_v7 rfl (by decide), sub_of main_case0b0_call18_v8 rfl (by decide), sub_of main_case0b0_call18_v9 rfl (by decide), sub_of main_case0b0_call18_v10 rfl (by decide), sub_of main_case0b0_call18_v11 rfl (by decide), sub_of main_case0b0_v261 rfl (by decide), sub_of main_case0b0_v262 rfl (by decide), sub_of main_case0b0_cst_71 rfl (by decide), sub_of main_case0b0_v263 rfl (by decide), sub_of main_case0b0_v264 rfl (by decide), sub_of main_case0b0_v265 rfl (by decide), sub_of main_case0b0_v266 rfl (by decide), sub_of main_case0b0_v267 rfl (by decide), sub_of main_case0b0_v268 rfl (by decide), sub_of main_case0b0_v269 rfl (by decide), sub_of main_case0b0_v270 rfl (by decide), sub_of main_case0b0_v271 rfl (by decide), sub_of main_case0b0_v272 rfl (by decide), sub_of main_case0b0_v273 rfl (by decide), sub_of main_case0b0_v274 rfl (by decide), sub_of main_case0b0_v275 rfl (by decide), sub_of main_v175 rfl (by decide)⟩

/-- What `tailOps` writes. -/
abbrev wrTail : List (Ref sig .tc) := [main_case0b1_v177, main_case0b1_v178, main_case0b1_v179, main_case0b1_v180, main_case0b1_v181, main_case0b1_v182, main_case0b1_v183, main_case0b1_v184, main_case0b1_v185, main_case0b1_v186, main_v175]

theorem wrTail_sub : (tailOps : List (HloOp τ sig (Elt F))).Forall fun op => op.writes ⊆ (wrTail.map (Proc.devRef (τ := τ) .tc)).toFinset := by
  simp only [List.Forall]
  exact ⟨sub_of main_case0b1_v177 rfl (by decide), sub_of main_case0b1_v178 rfl (by decide), sub_of main_case0b1_v179 rfl (by decide), sub_of main_case0b1_v180 rfl (by decide), sub_of main_case0b1_v181 rfl (by decide), sub_of main_case0b1_v182 rfl (by decide), sub_of main_case0b1_v183 rfl (by decide), sub_of main_case0b1_v184 rfl (by decide), sub_of main_case0b1_v185 rfl (by decide), sub_of main_case0b1_v186 rfl (by decide), sub_of main_v175 rfl (by decide)⟩

variable (m : (ℓ : Loc nD τ sig) → Buf (Elt F) ℓ)

theorem W1_keep (c : Dev nD) (r : Ref sig .tc) (h : r ∉ wr0) : W1 m c (Proc.devRef .tc r) = W0 m c (Proc.devRef .tc r) :=
  StableHlo.after_of_writes_sub hostOps0 (W0 m c) wr0_sub h

theorem W2_keep (c : Dev nD) (r : Ref sig .tc) (h : r ∉ wr1) : W2 m c (Proc.devRef .tc r) = W1 m c (Proc.devRef .tc r) :=
  StableHlo.after_of_writes_sub hostOps0_1 (W1 m c) wr1_sub h

theorem W3_keep (c : Dev nD) (r : Ref sig .tc) (h : r ∉ wr2) : W3 m c (Proc.devRef .tc r) = W2 m c (Proc.devRef .tc r) :=
  StableHlo.after_of_writes_sub hostOps0_2 (W2 m c) wr2_sub h

theorem W4_keep (c : Dev nD) (r : Ref sig .tc) (h : r ∉ wr3) : W4 m c (Proc.devRef .tc r) = W3 m c (Proc.devRef .tc r) :=
  StableHlo.after_of_writes_sub hostOps0_3 (W3 m c) wr3_sub h

theorem W5_keep (c : Dev nD) (r : Ref sig .tc) (h : r ∉ wr4) : W5 m c (Proc.devRef .tc r) = W4 m c (Proc.devRef .tc r) :=
  StableHlo.after_of_writes_sub hostOps0_4 (W4 m c) wr4_sub h

theorem W6_keep (c : Dev nD) (r : Ref sig .tc) (h : r ∉ wr5) : W6 m c (Proc.devRef .tc r) = W5 m c (Proc.devRef .tc r) :=
  StableHlo.after_of_writes_sub hostOps0_5 (W5 m c) wr5_sub h

theorem W7_keep (c : Dev nD) (r : Ref sig .tc) (h : r ∉ wr6) : W7 m c (Proc.devRef .tc r) = W6 m c (Proc.devRef .tc r) :=
  StableHlo.after_of_writes_sub hostOps0_6 (W6 m c) wr6_sub h

theorem W8_keep (c : Dev nD) (r : Ref sig .tc) (h : r ∉ wr7) : W8 m c (Proc.devRef .tc r) = W7 m c (Proc.devRef .tc r) :=
  StableHlo.after_of_writes_sub hostOps0_7 (W7 m c) wr7_sub h

theorem W9_keep (c : Dev nD) (r : Ref sig .tc) (h : r ∉ wr8) : W9 m c (Proc.devRef .tc r) = W8 m c (Proc.devRef .tc r) :=
  StableHlo.after_of_writes_sub hostOps0_8 (W8 m c) wr8_sub h

theorem W10_keep (c : Dev nD) (r : Ref sig .tc) (h : r ∉ wr9) : W10 m c (Proc.devRef .tc r) = W9 m c (Proc.devRef .tc r) :=
  StableHlo.after_of_writes_sub hostOps0_9 (W9 m c) wr9_sub h

theorem W11_keep (c : Dev nD) (r : Ref sig .tc) (h : r ∉ wr10) : W11 m c (Proc.devRef .tc r) = W10 m c (Proc.devRef .tc r) :=
  StableHlo.after_of_writes_sub hostOps0_10 (W10 m c) wr10_sub h

theorem W12_keep (c : Dev nD) (r : Ref sig .tc) (h : r ∉ wr11) : W12 m c (Proc.devRef .tc r) = W11 m c (Proc.devRef .tc r) :=
  StableHlo.after_of_writes_sub hostOps0_11 (W11 m c) wr11_sub h

theorem W13_keep (c : Dev nD) (r : Ref sig .tc) (h : r ∉ wr12) : W13 m c (Proc.devRef .tc r) = W12 m c (Proc.devRef .tc r) :=
  StableHlo.after_of_writes_sub hostOps0_12 (W12 m c) wr12_sub h

theorem W14_keep (c : Dev nD) (r : Ref sig .tc) (h : r ∉ wr13) : W14 m c (Proc.devRef .tc r) = W13 m c (Proc.devRef .tc r) :=
  StableHlo.after_of_writes_sub hostOps0_13 (W13 m c) wr13_sub h

theorem W15_keep (c : Dev nD) (r : Ref sig .tc) (h : r ∉ wr14) : W15 m c (Proc.devRef .tc r) = W14 m c (Proc.devRef .tc r) :=
  StableHlo.after_of_writes_sub hostOps0_14 (W14 m c) wr14_sub h

theorem W16_keep (c : Dev nD) (r : Ref sig .tc) (h : r ∉ wr15) : W16 m c (Proc.devRef .tc r) = W15 m c (Proc.devRef .tc r) :=
  StableHlo.after_of_writes_sub hostOps0_15 (W15 m c) wr15_sub h

theorem W17_keep (c : Dev nD) (r : Ref sig .tc) (h : r ∉ wr16) : W17 m c (Proc.devRef .tc r) = W16 m c (Proc.devRef .tc r) :=
  StableHlo.after_of_writes_sub hostOps0_16 (W16 m c) wr16_sub h

theorem W18_keep (c : Dev nD) (r : Ref sig .tc) (h : r ∉ wr17) : W18 m c (Proc.devRef .tc r) = W17 m c (Proc.devRef .tc r) :=
  StableHlo.after_of_writes_sub hostOps0_17 (W17 m c) wr17_sub h

theorem W19_keep (c : Dev nD) (r : Ref sig .tc) (h : r ∉ wr18) : W19 m c (Proc.devRef .tc r) = W18 m c (Proc.devRef .tc r) :=
  StableHlo.after_of_writes_sub hostOps0_18 (W18 m c) wr18_sub h

theorem W20_keep (c : Dev nD) (r : Ref sig .tc) (h : r ∉ wr19) : W20 m c (Proc.devRef .tc r) = W19 m c (Proc.devRef .tc r) :=
  StableHlo.after_of_writes_sub hostOps0_19 (W19 m c) wr19_sub h

theorem W21_keep (c : Dev nD) (r : Ref sig .tc) (h : r ∉ wr20) : W21 m c (Proc.devRef .tc r) = W20 m c (Proc.devRef .tc r) :=
  StableHlo.after_of_writes_sub hostOps0_20 (W20 m c) wr20_sub h

theorem W22_keep (c : Dev nD) (r : Ref sig .tc) (h : r ∉ wr21) : W22 m c (Proc.devRef .tc r) = W21 m c (Proc.devRef .tc r) :=
  StableHlo.after_of_writes_sub hostOps0_21 (W21 m c) wr21_sub h

theorem W23_keep (c : Dev nD) (r : Ref sig .tc) (h : r ∉ wr22) : W23 m c (Proc.devRef .tc r) = W22 m c (Proc.devRef .tc r) :=
  StableHlo.after_of_writes_sub hostOps0_22 (W22 m c) wr22_sub h

theorem W24_keep (c : Dev nD) (r : Ref sig .tc) (h : r ∉ wr23) : W24 m c (Proc.devRef .tc r) = W23 m c (Proc.devRef .tc r) :=
  StableHlo.after_of_writes_sub hostOps0_23 (W23 m c) wr23_sub h

theorem W25_keep (c : Dev nD) (r : Ref sig .tc) (h : r ∉ wr24) : W25 m c (Proc.devRef .tc r) = W24 m c (Proc.devRef .tc r) :=
  StableHlo.after_of_writes_sub hostOps0_24 (W24 m c) wr24_sub h

theorem W26_keep (c : Dev nD) (r : Ref sig .tc) (h : r ∉ wr25) : W26 m c (Proc.devRef .tc r) = W25 m c (Proc.devRef .tc r) :=
  StableHlo.after_of_writes_sub hostOps0_25 (W25 m c) wr25_sub h

theorem W27_keep (c : Dev nD) (r : Ref sig .tc) (h : r ∉ wr26) : W27 m c (Proc.devRef .tc r) = W26 m c (Proc.devRef .tc r) :=
  StableHlo.after_of_writes_sub hostOps0_26 (W26 m c) wr26_sub h

theorem W28_keep (c : Dev nD) (r : Ref sig .tc) (h : r ∉ wr27) : W28 m c (Proc.devRef .tc r) = W27 m c (Proc.devRef .tc r) :=
  StableHlo.after_of_writes_sub hostOps0_27 (W27 m c) wr27_sub h

/-- A buffer no stretch writes reaches the choice as launched. -/
theorem launch_keep (c : Dev nD) (r : Ref sig .tc) (h : r ∉ wr0 ∧ r ∉ wr1 ∧ r ∉ wr2 ∧ r ∉ wr3 ∧ r ∉ wr4 ∧ r ∉ wr5 ∧ r ∉ wr6 ∧ r ∉ wr7 ∧ r ∉ wr8 ∧ r ∉ wr9 ∧ r ∉ wr10 ∧ r ∉ wr11 ∧ r ∉ wr12 ∧ r ∉ wr13 ∧ r ∉ wr14 ∧ r ∉ wr15 ∧ r ∉ wr16 ∧ r ∉ wr17 ∧ r ∉ wr18 ∧ r ∉ wr19 ∧ r ∉ wr20 ∧ r ∉ wr21 ∧ r ∉ wr22 ∧ r ∉ wr23 ∧ r ∉ wr24 ∧ r ∉ wr25 ∧ r ∉ wr26 ∧ r ∉ wr27) :
    W28 m c (Proc.devRef .tc r) = m (c, Proc.devRef .tc r) := by
  obtain ⟨h0, h1, h2, h3, h4, h5, h6, h7, h8, h9, h10, h11, h12, h13, h14, h15, h16, h17, h18, h19, h20, h21, h22, h23, h24, h25, h26, h27⟩ := h
  rw [W28_keep m c r h27, W27_keep m c r h26, W26_keep m c r h25, W25_keep m c r h24, W24_keep m c r h23, W23_keep m c r h22, W22_keep m c r h21, W21_keep m c r h20, W20_keep m c r h19, W19_keep m c r h18, W18_keep m c r h17, W17_keep m c r h16, W16_keep m c r h15, W15_keep m c r h14, W14_keep m c r h13, W13_keep m c r h12, W12_keep m c r h11, W11_keep m c r h10, W10_keep m c r h9, W9_keep m c r h8, W8_keep m c r h7, W7_keep m c r h6, W6_keep m c r h5, W5_keep m c r h4, W4_keep m c r h3, W3_keep m c r h2, W2_keep m c r h1, W1_keep m c r h0]
  rfl

/-- The call rewrites its output array alone. -/
theorem Vcall_keep (V : Dev nD → Valuation τ sig (Elt F)) (c : Dev nD) (r : Ref sig .tc) (h : r ≠ main_case0b1_v176) :
    Vcall V c (Proc.devRef .tc r) = V c (Proc.devRef .tc r) := by
  by_cases hr : ∃ w, r = Pipeline.arrRef spec0 w
  · obtain ⟨w, rfl⟩ := hr
    refine (Pipeline.afterRegion_arr (pdats V 0 c) (V c) launch0.win.arr_inj w).trans ?_
    refine ((dat V c).arrAt_in w ?_ _).trans rfl
    revert h
    revert w
    decide
  · exact Pipeline.afterRegion_of_not_arr (pdats V 0 c) (V c) fun w e => hr ⟨w, e⟩

theorem wordOp_keep (V : Valuation τ sig (Elt F)) (r : Ref sig .tc) (h : r ≠ main_v174) :
    wordOp.result V (Proc.devRef .tc r) = V (Proc.devRef .tc r) :=
  wordOp.result_of_not_mem V (by
    rw [show (wordOp (F := F)).writes = {Proc.devRef (τ := τ) .tc main_v174} from rfl, Finset.mem_singleton]
    exact fun e => h (Proc.devRef_injective _ e))

/-- A buffer the choice does not write keeps what the stretches left. -/
theorem Wend_keep (c : Dev nD) (r : Ref sig .tc) (hd : r ∉ wrDense) (ht : r ∉ wrTail) (hw : r ≠ main_v174) (ha : r ≠ main_case0b1_v176) :
    Wend m c (Proc.devRef .tc r) = W28 m c (Proc.devRef .tc r) := by
  unfold Wend endOf
  split
  · rw [StableHlo.after_of_writes_sub denseOps _ wrDense_sub hd, wordOp_keep _ r hw]
  · rw [StableHlo.after_of_writes_sub tailOps _ wrTail_sub ht, Vcall_keep _ c r ha, wordOp_keep _ r hw]

theorem Wend_arg0 (c : Dev nD) : Wend m c (Proc.devRef .tc main_arg0) = m (c, Proc.devRef .tc main_arg0) :=
  (Wend_keep m c main_arg0 (by decide) (by decide) (by decide) (by decide)).trans (launch_keep m c main_arg0 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg1 (c : Dev nD) : Wend m c (Proc.devRef .tc main_arg1) = m (c, Proc.devRef .tc main_arg1) :=
  (Wend_keep m c main_arg1 (by decide) (by decide) (by decide) (by decide)).trans (launch_keep m c main_arg1 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg2 (c : Dev nD) : Wend m c (Proc.devRef .tc main_arg2) = m (c, Proc.devRef .tc main_arg2) :=
  (Wend_keep m c main_arg2 (by decide) (by decide) (by decide) (by decide)).trans (launch_keep m c main_arg2 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg3 (c : Dev nD) : Wend m c (Proc.devRef .tc main_arg3) = m (c, Proc.devRef .tc main_arg3) :=
  (Wend_keep m c main_arg3 (by decide) (by decide) (by decide) (by decide)).trans (launch_keep m c main_arg3 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg4 (c : Dev nD) : Wend m c (Proc.devRef .tc main_arg4) = m (c, Proc.devRef .tc main_arg4) :=
  (Wend_keep m c main_arg4 (by decide) (by decide) (by decide) (by decide)).trans (launch_keep m c main_arg4 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg5 (c : Dev nD) : Wend m c (Proc.devRef .tc main_arg5) = m (c, Proc.devRef .tc main_arg5) :=
  (Wend_keep m c main_arg5 (by decide) (by decide) (by decide) (by decide)).trans (launch_keep m c main_arg5 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg6 (c : Dev nD) : Wend m c (Proc.devRef .tc main_arg6) = m (c, Proc.devRef .tc main_arg6) :=
  (Wend_keep m c main_arg6 (by decide) (by decide) (by decide) (by decide)).trans (launch_keep m c main_arg6 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg7 (c : Dev nD) : Wend m c (Proc.devRef .tc main_arg7) = m (c, Proc.devRef .tc main_arg7) :=
  (Wend_keep m c main_arg7 (by decide) (by decide) (by decide) (by decide)).trans (launch_keep m c main_arg7 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg8 (c : Dev nD) : Wend m c (Proc.devRef .tc main_arg8) = m (c, Proc.devRef .tc main_arg8) :=
  (Wend_keep m c main_arg8 (by decide) (by decide) (by decide) (by decide)).trans (launch_keep m c main_arg8 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg9 (c : Dev nD) : Wend m c (Proc.devRef .tc main_arg9) = m (c, Proc.devRef .tc main_arg9) :=
  (Wend_keep m c main_arg9 (by decide) (by decide) (by decide) (by decide)).trans (launch_keep m c main_arg9 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg10 (c : Dev nD) : Wend m c (Proc.devRef .tc main_arg10) = m (c, Proc.devRef .tc main_arg10) :=
  (Wend_keep m c main_arg10 (by decide) (by decide) (by decide) (by decide)).trans (launch_keep m c main_arg10 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg11 (c : Dev nD) : Wend m c (Proc.devRef .tc main_arg11) = m (c, Proc.devRef .tc main_arg11) :=
  (Wend_keep m c main_arg11 (by decide) (by decide) (by decide) (by decide)).trans (launch_keep m c main_arg11 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg12 (c : Dev nD) : Wend m c (Proc.devRef .tc main_arg12) = m (c, Proc.devRef .tc main_arg12) :=
  (Wend_keep m c main_arg12 (by decide) (by decide) (by decide) (by decide)).trans (launch_keep m c main_arg12 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg13 (c : Dev nD) : Wend m c (Proc.devRef .tc main_arg13) = m (c, Proc.devRef .tc main_arg13) :=
  (Wend_keep m c main_arg13 (by decide) (by decide) (by decide) (by decide)).trans (launch_keep m c main_arg13 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg14 (c : Dev nD) : Wend m c (Proc.devRef .tc main_arg14) = m (c, Proc.devRef .tc main_arg14) :=
  (Wend_keep m c main_arg14 (by decide) (by decide) (by decide) (by decide)).trans (launch_keep m c main_arg14 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg15 (c : Dev nD) : Wend m c (Proc.devRef .tc main_arg15) = m (c, Proc.devRef .tc main_arg15) :=
  (Wend_keep m c main_arg15 (by decide) (by decide) (by decide) (by decide)).trans (launch_keep m c main_arg15 ⟨by decide, by decide, by decide, by decide, by decide, by decide, by decide, by decide, by decide, by decide, by decide, by decide, by decide, by decide, by decide, by decide, by decide, by decide, by decide, by decide, by decide, by decide, by decide, by decide, by decide, by decide, by decide, by decide⟩)

theorem Wend_arg16 (c : Dev nD) : Wend m c (Proc.devRef .tc main_arg16) = m (c, Proc.devRef .tc main_arg16) :=
  (Wend_keep m c main_arg16 (by decide) (by decide) (by decide) (by decide)).trans (launch_keep m c main_arg16 ⟨by decide, by decide, by decide, by decide, by decide, by decide, by decide, by decide, by decide, by decide, by decide, by decide, by decide, by decide, by decide, by decide, by decide, by decide, by decide, by decide, by decide, by decide, by decide, by decide, by decide, by decide, by decide, by decide⟩)

/-- An unscoped buffer is among those the run accounts for. -/
theorem mem_ucRefs (r : Ref sig .tc) (h : (Proc.devRef (τ := τ) .tc r).isScoped = false) : Proc.devRef .tc r ∈ ucRefs :=
  Finset.mem_filter.mpr ⟨Finset.mem_map.mpr ⟨r, Finset.mem_univ _, rfl⟩, by rw [h]; exact Bool.false_ne_true⟩

variable (ρ : Dev nD → PrngReg)

/-- The arguments come out as they went in, and every semaphore ends at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ) ∧ r.2.sem = fun _ => 0) :=
  (θ_run defs _ _).mono (fun _ h => ⟨fun c => ⟨(h.1 c _ (mem_ucRefs main_arg0 rfl)).trans (Wend_arg0 m c),
      (h.1 c _ (mem_ucRefs main_arg1 rfl)).trans (Wend_arg1 m c),
      (h.1 c _ (mem_ucRefs main_arg2 rfl)).trans (Wend_arg2 m c),
      (h.1 c _ (mem_ucRefs main_arg3 rfl)).trans (Wend_arg3 m c),
      (h.1 c _ (mem_ucRefs main_arg4 rfl)).trans (Wend_arg4 m c),
      (h.1 c _ (mem_ucRefs main_arg5 rfl)).trans (Wend_arg5 m c),
      (h.1 c _ (mem_ucRefs main_arg6 rfl)).trans (Wend_arg6 m c),
      (h.1 c _ (mem_ucRefs main_arg7 rfl)).trans (Wend_arg7 m c),
      (h.1 c _ (mem_ucRefs main_arg8 rfl)).trans (Wend_arg8 m c),
      (h.1 c _ (mem_ucRefs main_arg9 rfl)).trans (Wend_arg9 m c),
      (h.1 c _ (mem_ucRefs main_arg10 rfl)).trans (Wend_arg10 m c),
      (h.1 c _ (mem_ucRefs main_arg11 rfl)).trans (Wend_arg11 m c),
      (h.1 c _ (mem_ucRefs main_arg12 rfl)).trans (Wend_arg12 m c),
      (h.1 c _ (mem_ucRefs main_arg13 rfl)).trans (Wend_arg13 m c),
      (h.1 c _ (mem_ucRefs main_arg14 rfl)).trans (Wend_arg14 m c),
      (h.1 c _ (mem_ucRefs main_arg15 rfl)).trans (Wend_arg15 m c),
      (h.1 c _ (mem_ucRefs main_arg16 rfl)).trans (Wend_arg16 m c)⟩, h.2⟩) (run_main m ρ)

end Cert.Proof.KernelIdeal

end
-- ==== Proof.Count.lean ====
/-
  Positions found by counting: with `p` marking positions below `n`, the number of positions whose running count of
  marks is at most `c` is the place of mark number `c` (counted from zero), as long as there is such a mark.
-/
module

public import Idealize.ShloMosaic.Lib.Routing.Ops

@[expose] public section

namespace Cert.Proof.Count

variable (n : ℕ) (p : ℕ → Prop) [DecidablePred p]

/-- The number of positions below `n` whose running count is at most `c`. -/
def place (c : ℕ) : ℕ := Nat.count (fun e => Nat.count p (e + 1) ≤ c) n

/-- A property that only ever stops holding holds exactly below its count. -/
theorem initial (q : ℕ → Prop) [DecidablePred q] (hq : ∀ e, q (e + 1) → q e) :
    ∀ n e, e < n → (q e ↔ e < Nat.count q n) := by
  have down : ∀ d e, q (e + d) → q e := by
    intro d
    induction d with
    | zero => exact fun e h => h
    | succ d ih => exact fun e h => ih e (hq _ h)
  have full : ∀ k, q k → Nat.count q k = k := by
    intro k
    induction k with
    | zero => exact fun _ => rfl
    | succ k ih => intro h; rw [Nat.count_succ, if_pos (hq _ h), ih (hq _ h)]
  intro n
  induction n with
  | zero => exact fun e h => absurd h (Nat.not_lt_zero e)
  | succ n ih =>
    intro e he
    rw [Nat.count_succ]
    by_cases hn : q n
    · rw [if_pos hn, full n hn]
      exact ⟨fun _ => he, fun _ => down (n - e) e (by rw [Nat.add_sub_cancel' (by omega)]; exact hn)⟩
    · rw [if_neg hn, Nat.add_zero]
      by_cases h : e < n
      · exact ih e h
      · have : e = n := by omega
        subst this
        have hle : Nat.count q e ≤ e := Nat.count_le q
        exact ⟨fun h => absurd h hn, fun h => absurd h (by omega)⟩

theorem place_spec {c : ℕ} (hc : c < Nat.count p n) : place n p c < n ∧ p (place n p c) ∧ Nat.count p (place n p c) = c := by
  have ini := initial (fun e => Nat.count p (e + 1) ≤ c) (fun e h => (Nat.count_monotone p (by omega)).trans h) n
  have hk : place n p c < n := by
    by_contra h
    have hn : 0 < n := by
      rcases Nat.eq_zero_or_pos n with h0 | h0
      · subst h0; simp at hc
      · exact h0
    have := (ini (n - 1) (by omega)).2 (by unfold place at h; omega)
    rw [Nat.sub_add_cancel hn] at this
    omega
  have h1 : ¬ Nat.count p (place n p c + 1) ≤ c := fun h => by
    have := (ini _ hk).1 h
    unfold place at this
    omega
  have h2 : Nat.count p (place n p c) ≤ c := by
    rcases Nat.eq_zero_or_pos (place n p c) with h0 | h0
    · rw [h0]; simp
    · have := (ini (place n p c - 1) (by omega)).2 (by unfold place at h0 ⊢; omega)
      rwa [Nat.sub_add_cancel h0] at this
  rw [Nat.count_succ] at h1
  by_cases hp : p (place n p c)
  · rw [if_pos hp] at h1
    exact ⟨hk, hp, by omega⟩
  · rw [if_neg hp] at h1
    omega

theorem place_inj {c c' : ℕ} (hc : c < Nat.count p n) (hc' : c' < Nat.count p n) (h : place n p c = place n p c') : c = c' := by
  rw [← (place_spec n p hc).2.2, ← (place_spec n p hc').2.2, h]

theorem exists_place {e : ℕ} (he : e < n) (hp : p e) : Nat.count p e < Nat.count p n ∧ place n p (Nat.count p e) = e := by
  have hc : Nat.count p e < Nat.count p n := Nat.count_strict_mono hp he
  refine ⟨hc, ?_⟩
  obtain ⟨_, h2, h3⟩ := place_spec n p hc
  rcases Nat.lt_trichotomy (place n p (Nat.count p e)) e with h | h | h
  · have := Nat.count_strict_mono h2 h; omega
  · exact h
  · have := Nat.count_strict_mono hp h; omega

theorem count_split (f : ℕ → ℕ) (c : ℕ) :
    Nat.count (fun e => f e ≤ c) n + Nat.count (fun e => f e = c + 1) n = Nat.count (fun e => f e ≤ c + 1) n := by
  induction n with
  | zero => simp
  | succ n ih =>
    rw [Nat.count_succ, Nat.count_succ, Nat.count_succ]
    split_ifs <;> omega

/-- Counting value by value up to `c` counts the values at most `c`. -/
theorem sum_count (f : ℕ → ℕ) (c : ℕ) :
    ((List.range (c + 1)).map fun v => Nat.count (fun e => f e = v) n).sum = Nat.count (fun e => f e ≤ c) n := by
  induction c with
  | zero => simp
  | succ c ih =>
    rw [List.range_succ, List.map_append, List.sum_append, ih, ← count_split]
    simp

/-- A sum of zeros and ones counts the ones. -/
theorem sum_ones (k : ℕ) : ((List.range k).map fun i => if p i then 1 else 0).sum = Nat.count p k := by
  induction k with
  | zero => rfl
  | succ k ih => rw [List.range_succ, List.map_append, List.sum_append, ih, Nat.count_succ]; simp

end Cert.Proof.Count
-- ==== Proof.Nonzero.lean ====
module

public import Idealize.ShloMosaic.Lib.Routing.Ops
public import Idealize.ShloMosaic.Lib.Routing.OpsPair
public import Idealize.ShloMosaic.Lib.Routing.OpsOne
public import Idealize.ShloMosaic.Lib.Routing.Words
public import Idealize.ShloMosaic.Lib.WordArith
public import proofs.«01_k».proof.Proof.Count

@[expose] public section

/-!
The positions of the set entries of a mask, as the host computes them: a running count of the mask, a histogram of the running counts
into as many bins as positions are wanted, a running count of the histogram, and a division and a remainder that change nothing.
-/

namespace Cert.Proof.Nonzero

open Idealize.ShloMosaic Idealize.ShloMosaic.Routing Idealize.ShloMosaic.ValueIdx
open Cert.Proof.Count

/-! ## Words -/

/-- A word holding a natural below 2³¹ is not below zero. -/
theorem slt_zero {a : ℕ} (ha : a < 2 ^ 31) : IntOp.cmpi .slt (BitVec.ofNat 32 a) 0#32 = 0#1 := by
  have h := WordCmp.cmpi_slt_zero (w := 32) (BitVec.ofNat 32 a)
  rw [h, WordCmp.ofBool_decide_eq_zero_iff, BitVec.toNat_ofNat]
  omega

/-- Wrapping a negative index leaves an index below 2³¹ alone. -/
theorem wrap_word {a : ℕ} (ha : a < 2 ^ 31) (y : BitVec 32) :
    Scalar.select (IntOp.cmpi .slt (BitVec.ofNat 32 a) 0#32) y (BitVec.ofNat 32 a) = BitVec.ofNat 32 a := by
  rw [slt_zero ha]; rfl

/-- The remainder of a natural below the divisor by the divisor, corrected to the divisor's sign, is that natural. -/
theorem rem_word {a n : ℕ} (ha : a < n) (hn : n < 2 ^ 31) (c : BitVec 1) (y : BitVec 32) :
    Scalar.select (IntOp.andi (IntOp.cmpi .ne (IntOp.cmpi .slt (IntOp.remsi .host (BitVec.ofNat 32 a) (BitVec.ofNat 32 n)) 0#32)
      (IntOp.cmpi .slt (BitVec.ofNat 32 n) 0#32)) c) y (IntOp.remsi .host (BitVec.ofNat 32 a) (BitVec.ofNat 32 n)) = BitVec.ofNat 32 a := by
  rw [remsi_word .host (by omega) (by omega) hn, Nat.mod_eq_of_lt ha, slt_zero (by omega), slt_zero hn]
  have : IntOp.andi (IntOp.cmpi .ne (0#1) (0#1)) c = 0#1 := by
    rcases BitVec.eq_zero_or_eq_one c with rfl | rfl <;> rfl
  rw [this]; rfl

/-- The quotient by one, corrected toward minus infinity, is the dividend. -/
theorem floor_word (x : BitVec 32) (b : BitVec 1) (y : BitVec 32) :
    Scalar.select (IntOp.andi b (IntOp.cmpi .ne (IntOp.remsi .host x 1#32) 0#32)) y (IntOp.divsi .host x 1#32) = x := by
  rw [WordArith.remsi_one, WordArith.divsi_one]
  have : IntOp.andi b (IntOp.cmpi .ne (0#32) (0#32)) = 0#1 := by
    rcases BitVec.eq_zero_or_eq_one b with rfl | rfl <;> rfl
  rw [this]; rfl

/-- A widened mask bit is one where the mask is set and zero elsewhere. -/
theorem ext_bit (b : BitVec 1) (p : Prop) [Decidable p] (h : b = 1#1 ↔ p) : b.setWidth 32 = BitVec.ofNat 32 (if p then 1 else 0) := by
  rcases BitVec.eq_zero_or_eq_one b with rfl | rfl
  · rw [if_neg fun hp => absurd (h.2 hp) (by decide)]; rfl
  · rw [if_pos (h.1 rfl)]; rfl

/-! ## The histogram -/

/-- Update `i` of a scatter of `N` scalars into `L` bins lands at bin `x` exactly when its index, read signed, is `x`. -/
theorem lands {N L : ℕ} (d : ScatterDims (shape1 L) (shape2 N 1) (shape1 N)) (hiw : d.insertedWindowDims = [0])
    (hsd : d.scatterDimsToOperandDims = [0]) (hivd : d.indexVectorDim = 1) (idx : IVec (shape2 N 1) 32) (i : Fin N) (x : Fin L) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hstart : d.start (ix1 i) idx 0 = (idx (ix2 i (0 : Fin 1))).toInt := by
    unfold ScatterDims.start
    rw [dif_pos hm]
    have hsi : d.siIdx (ix1 i) ⟨d.scatterDimsToOperandDims.idxOf 0, List.idxOf_lt_length_iff.2 hm⟩ = ix2 i (0 : Fin 1) := by
      funext b'
      match b' with
      | ⟨0, _⟩ =>
        apply Fin.ext
        unfold ScatterDims.siIdx
        rw [dif_neg (by rw [hivd]; exact Nat.zero_ne_one)]
        unfold ScatterDims.siCoord
        simp only [Fin.val_cast]
        have e : ∀ X : Fin 1, (ix1 i X).val = i.val := fun X => by
          obtain rfl : X = 0 := Subsingleton.elim _ _
          rfl
        exact e _
      | ⟨1, _⟩ => exact Subsingleton.elim (α := Fin 1) _ _
    rw [hsi]
  rw [resultIdx?_ix1, hstart, hwin]
  simp

/-- Adding one into zeroed bins at `N` indices below 2³¹ counts, in bin `x`, the indices that are `x`. -/
theorem hist {N L : ℕ} (d : ScatterDims (shape1 L) (shape2 N 1) (shape1 N)) (hiw : d.insertedWindowDims = [0])
    (hsd : d.scatterDimsToOperandDims = [0]) (hivd : d.indexVectorDim = 1) (x0 : IVec (shape1 L) 32) (hx0 : ∀ i, x0 i = 0#32)
    (idx : IVec (shape2 N 1) 32) (upd : IVec (shape1 N) 32) (hupd : ∀ i, upd i = 1#32) (gi : ℕ → ℕ)
    (hg : ∀ i : Fin N, idx (ix2 i (0 : Fin 1)) = BitVec.ofNat 32 (gi i.val)) (hg31 : ∀ i : Fin N, gi i.val < 2 ^ 31) (x : Fin L) :
    Host.scatter d IntOp.addi x0 idx upd (ix1 x) = BitVec.ofNat 32 (Nat.count (fun i => gi i = x.val) N) := by
  have hiff : ∀ i : Fin N, d.resultIdx? (ix1 i) idx = some (ix1 x) ↔ gi i.val = x.val := fun i => by
    rw [lands d hiw hsd hivd idx i x, hg, StableHlo.Predicate.toInt_ofNat_small _ (hg31 i)]; omega
  rw [scatter_at]
  refine (foldl_count (I := Unit) (fun r n => fun _ => if d.resultIdx? ((shape1 N).rowMajor.symm n) idx = some (ix1 x)
      then IntOp.addi (r ()) (upd ((shape1 N).rowMajor.symm n)) else r ()) () (fun n => decide (gi n.val = x.val)) (fun r n => ?_)
      (List.finRange _) (fun _ => x0 (ix1 x)) 0 (hx0 _) |> fun h => (List.foldl_hom (fun r : Unit → BitVec 32 => r ()) (fun r n => ?_)).trans h).trans ?_
  · rfl
  · have hi := hiff (n.cast (numel1 N))
    change _ ↔ gi n.val = x.val at hi
    rw [symm1, hupd]
    simp only [hi, decide_eq_true_eq]
  · rw [Nat.zero_add, countP_finRange _ (fun i => gi i = x.val), numel1]

/-! ## The chain -/

/-- The running count of a widened mask. -/
theorem running {N Nm1 : ℕ} (hN : Nm1 + 1 = N) (mk : IVec (shape1 N) 1) (p : ℕ → Prop) [DecidablePred p]
    (hp : ∀ i : Fin N, mk (ix1 i) = 1#1 ↔ p i.val) (hw : 1 < 32)
    (init : IVec shape0 32) (hinit : init ix0 = 0#32) (h : (shape1 N).ReduceWindows (![N] : Fin 1 → Nat) ![1] ![Nm1] ![0] (shape1 N))
    (hu : 0 < shape0.numel) (j : Fin N) :
    Host.reduceWindow IntOp.addi ![N] ![1] ![Nm1] ![0] (extui 32 mk hw) init h hu (ix1 j) = BitVec.ofNat 32 (Nat.count p (j.val + 1)) := by
  rw [cumsum1 hN _ (fun i => if p i then 1 else 0) (fun i => ext_bit _ _ (hp i)) init hinit h hu j, sum_ones]

/-- The number of set entries of a mask. -/
theorem total {N : ℕ} (mk : IVec (shape1 N) 1) (p : ℕ → Prop) [DecidablePred p]
    (hp : ∀ i : Fin N, mk (ix1 i) = 1#1 ↔ p i.val) (hw : 1 < 32)
    (h : (shape1 N).ReducesTo [0] shape0) (hu : 0 < shape0.numel) :
    Host.reduce IntOp.addi (extui 32 mk hw) (constantI shape0 32 0#32) h hu ix0 = BitVec.ofNat 32 (Nat.count p N) := by
  rw [reduce_sum _ (fun i => if p i then 1 else 0) (fun i => ext_bit _ _ (hp i)), sum_ones]

/-- The running count of the histogram of a mask's running counts is the place of the mask's entries. -/
theorem places {n L Lm1 : ℕ} (hL : Lm1 + 1 = L) (p : ℕ → Prop) [DecidablePred p] (x : IVec (shape1 L) 32)
    (hx : ∀ v : Fin L, x (ix1 v) = BitVec.ofNat 32 (Nat.count (fun e => Nat.count p (e + 1) = v.val) n))
    (init : IVec shape0 32) (hinit : init ix0 = 0#32) (h : (shape1 L).ReduceWindows (![L] : Fin 1 → Nat) ![1] ![Lm1] ![0] (shape1 L))
    (hu : 0 < shape0.numel) (c : Fin L) :
    Host.reduceWindow IntOp.addi ![L] ![1] ![Lm1] ![0] x init h hu (ix1 c) = BitVec.ofNat 32 (place n p c.val) := by
  rw [cumsum1 hL x (fun v => Nat.count (fun e => Nat.count p (e + 1) = v) n) hx init hinit h hu c, sum_count]
  rfl

end Cert.Proof.Nonzero
-- ==== Proof.Chain.lean ====
module

public import proofs.«01_k».proof.Proof.IdealKeep
public import proofs.«01_k».proof.Proof.Nonzero

/-! What the compaction of a mask into the list of its set places computes: the first for the slots, the second for the edges. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (m : (ℓ : Loc nD τ sig) → Buf (Elt Ideal) ℓ) (c : Dev nD)

/-- A position below the number of set entries is not at or past it. -/
theorem below_total {N L : ℕ} (mk : IVec (shape1 N) 1) (p : ℕ → Prop) [DecidablePred p] (hp : ∀ i : Fin N, mk (ix1 i) = 1#1 ↔ p i.val)
    (hw : 1 < 32) (h : (shape1 N).ReducesTo [0] shape0) (hu : 0 < shape0.numel) (hN : N < 2 ^ 31) (hL : L < 2 ^ 31)
    (h1 : (shape1 1).BroadcastsInDim (shape1 L) (![0] : Fin 1 → Fin (shape1 L).rank)) (h2 : shape0.BroadcastsInDim (shape1 1) (![] : Fin 0 → Fin (shape1 1).rank))
    (x : Fin L) (hx : x.val < Nat.count p N) :
    cmpi .sge (iotaInDim (shape1 L) 32 0) (broadcastInDim (shape1 L) ![0] h1 (broadcastInDim (shape1 1) ![] h2
      (Host.reduce IntOp.addi (extui 32 mk hw) (constantI shape0 32 0#32) h hu))) (ix1 x) = 0#1 := by
  have hb : Nat.count p N ≤ N := Nat.count_le p
  have ht := total mk p hp hw h hu
  generalize Host.reduce IntOp.addi (extui 32 mk hw) (constantI shape0 32 0#32) h hu = G at ht ⊢
  change IntOp.cmpi .sge (BitVec.ofNat 32 x.val) (broadcastInDim (shape1 L) ![0] h1 (broadcastInDim (shape1 1) ![] h2 G) (ix1 x)) = 0#1
  rw [broadcastInDim_apply _ _ _ (ix1 x) (ix1 (0 : Fin 1)) (fun a => by match a with | ⟨0, _⟩ => rfl), bc0, ht]
  exact (WordCmp.cmpi_sge_ofNat_eq_zero_iff (by have := x.isLt; omega) (by omega)).2 (by omega)

/-! ## The distinct slots -/

theorem runA (p : ℕ → Prop) [DecidablePred p] (hp : ∀ i : Fin 51, W2 m c (Proc.devRef .tc main_v14_1) (ix1 i) = 1#1 ↔ p i.val) (j : Fin 51) : W3 m c (Proc.devRef .tc main_v15) (ix1 j) = BitVec.ofNat 32 (Nat.count p (j.val + 1)) := by
  unfold W3
  simp only [hostOps0_2, StableHlo.TRef.binary, StableHlo.TRef.nullary, StableHlo.TRef.unary, StableHlo.TRef.ternary, StableHlo.TRef.reshape, StableHlo.TRef.toBuf, StableHlo.TRef.ofBuf, cast_eq]
  after_results_simp
  refine running rfl _ p hp _ _ ?_ _ _ j
  exact bc0 _ _ _

theorem histA (p : ℕ → Prop) [DecidablePred p] (hp : ∀ i : Fin 51, W2 m c (Proc.devRef .tc main_v14_1) (ix1 i) = 1#1 ↔ p i.val) (x : Fin 16) : W4 m c (Proc.devRef .tc main_v24) (ix1 x) = BitVec.ofNat 32 (Nat.count (fun i => Nat.count p (i + 1) = x.val) 51) := by
  unfold W4
  simp only [hostOps0_3, StableHlo.TRef.binary, StableHlo.TRef.nullary, StableHlo.TRef.unary, StableHlo.TRef.ternary, StableHlo.TRef.reshape, StableHlo.TRef.toBuf, StableHlo.TRef.ofBuf, cast_eq]
  after_results_simp
  have hb : ∀ i, Nat.count p (i + 1) ≤ i + 1 := fun i => Nat.count_le p
  refine hist _ rfl rfl rfl _ (fun i => bc0 _ _ _) _ _ (fun i => bc0 _ _ _) (fun i => Nat.count p (i + 1)) (fun i => ?_) (fun i => by have := hb i.val; have := i.isLt; omega) x
  refine (bcCol _ _ i).trans ?_
  change Scalar.select (IntOp.cmpi .slt (W3 m c (Proc.devRef .tc main_v15) (ix1 i)) (broadcastInDim _ _ _ _ (ix1 i))) _ (W3 m c (Proc.devRef .tc main_v15) (ix1 i)) = _
  rw [runA m c p hp i, bc0]
  exact wrap_word (by have := hb i.val; have := i.isLt; omega) _

theorem cumA (p : ℕ → Prop) [DecidablePred p] (hp : ∀ i : Fin 51, W2 m c (Proc.devRef .tc main_v14_1) (ix1 i) = 1#1 ↔ p i.val) (x : Fin 16) : W5 m c (Proc.devRef .tc main_v25) (ix1 x) = BitVec.ofNat 32 (place 51 p x.val) := by
  unfold W5
  simp only [hostOps0_4, StableHlo.TRef.binary, StableHlo.TRef.nullary, StableHlo.TRef.unary, StableHlo.TRef.ternary, StableHlo.TRef.reshape, StableHlo.TRef.toBuf, StableHlo.TRef.ofBuf, cast_eq]
  after_results_simp
  refine places rfl p _ (histA m c p hp) _ ?_ _ _ x
  exact bc0 _ _ _

theorem oneA : W6 m c (Proc.devRef .tc main_c_5) = constantI S_ 32 1#32 := by
  unfold W6
  simp only [hostOps0_5, StableHlo.TRef.binary, StableHlo.TRef.nullary, StableHlo.TRef.unary, StableHlo.TRef.ternary, StableHlo.TRef.reshape, StableHlo.TRef.toBuf, StableHlo.TRef.ofBuf, cast_eq]
  after_results_simp

theorem floorA (x : Fin 16) : W7 m c (Proc.devRef .tc main_v26) (ix1 x) = W5 m c (Proc.devRef .tc main_v25) (ix1 x) := by
  unfold W7
  simp only [hostOps0_6, StableHlo.TRef.binary, StableHlo.TRef.nullary, StableHlo.TRef.unary, StableHlo.TRef.ternary, StableHlo.TRef.reshape, StableHlo.TRef.toBuf, StableHlo.TRef.ofBuf, cast_eq]
  after_results_simp
  rw [oneA, show W6 m c (Proc.devRef .tc main_v25) = W5 m c (Proc.devRef .tc main_v25) from (W6_keep m c main_v25 (by decide))]
  generalize W5 m c (Proc.devRef .tc main_v25) = X
  exact floor_word (X (ix1 x)) _ _

theorem extA : W8 m c (Proc.devRef .tc main_c_6) = constantI S_ 32 51#32 := by
  unfold W8
  simp only [hostOps0_7, StableHlo.TRef.binary, StableHlo.TRef.nullary, StableHlo.TRef.unary, StableHlo.TRef.ternary, StableHlo.TRef.reshape, StableHlo.TRef.toBuf, StableHlo.TRef.ofBuf, cast_eq]
  after_results_simp

theorem remA (x : Fin 16) (a : ℕ) (ha : a < 51) (h : W7 m c (Proc.devRef .tc main_v26) (ix1 x) = BitVec.ofNat 32 a) : W9 m c (Proc.devRef .tc main_v27) (ix1 x) = BitVec.ofNat 32 a := by
  unfold W9
  simp only [hostOps0_8, StableHlo.TRef.binary, StableHlo.TRef.nullary, StableHlo.TRef.unary, StableHlo.TRef.ternary, StableHlo.TRef.reshape, StableHlo.TRef.toBuf, StableHlo.TRef.ofBuf, cast_eq]
  after_results_simp
  rw [extA, show W8 m c (Proc.devRef .tc main_v26) = W7 m c (Proc.devRef .tc main_v26) from (W8_keep m c main_v26 (by decide))]
  generalize W7 m c (Proc.devRef .tc main_v26) = X at h ⊢
  have hc : Scalar.select (IntOp.cmpi .eq (51#32) 0#32) 1#32 (51#32) = 51#32 := by decide
  have key := rem_word (a := a) (n := 51) ha (by omega) (IntOp.cmpi .ne (IntOp.remsi .host (X (ix1 x)) (51#32)) 0#32) (IntOp.addi (IntOp.remsi .host (X (ix1 x)) (51#32)) (51#32))
  rw [h] at key
  refine Eq.trans ?_ key
  rw [← h]
  rfl

theorem capA (p : ℕ → Prop) [DecidablePred p] (hp : ∀ i : Fin 51, W2 m c (Proc.devRef .tc main_v14_1) (ix1 i) = 1#1 ↔ p i.val) (x : Fin 16) (hx : x.val < Nat.count p 51) : W10 m c (Proc.devRef .tc main_v33) (ix1 x) = 0#1 := by
  unfold W10
  simp only [hostOps0_9, StableHlo.TRef.binary, StableHlo.TRef.nullary, StableHlo.TRef.unary, StableHlo.TRef.ternary, StableHlo.TRef.reshape, StableHlo.TRef.toBuf, StableHlo.TRef.ofBuf, cast_eq]
  after_results_simp
  rw [show W9 m c (Proc.devRef .tc main_v14_1) = W2 m c (Proc.devRef .tc main_v14_1) from ((W9_keep m c main_v14_1 (by decide)).trans ((W8_keep m c main_v14_1 (by decide)).trans ((W7_keep m c main_v14_1 (by decide)).trans ((W6_keep m c main_v14_1 (by decide)).trans ((W5_keep m c main_v14_1 (by decide)).trans ((W4_keep m c main_v14_1 (by decide)).trans (W3_keep m c main_v14_1 (by decide))))))))]
  exact below_total (W2 m c (Proc.devRef .tc main_v14_1)) p hp natLt_1_32 _ _ (by omega) (by omega) _ _ x hx

theorem selA (p : ℕ → Prop) [DecidablePred p] (hp : ∀ i : Fin 51, W2 m c (Proc.devRef .tc main_v14_1) (ix1 i) = 1#1 ↔ p i.val) (x : Fin 16) (hx : x.val < Nat.count p 51) : W11 m c (Proc.devRef .tc main_v34) (ix1 x) = BitVec.ofNat 32 (place 51 p x.val) := by
  unfold W11
  simp only [hostOps0_10, StableHlo.TRef.binary, StableHlo.TRef.nullary, StableHlo.TRef.unary, StableHlo.TRef.ternary, StableHlo.TRef.reshape, StableHlo.TRef.toBuf, StableHlo.TRef.ofBuf, cast_eq]
  after_results_simp
  change Scalar.select (W10 m c (Proc.devRef .tc main_v33) (ix1 x)) _ (W10 m c (Proc.devRef .tc main_v27) (ix1 x)) = _
  rw [capA m c p hp x hx, (W10_keep m c main_v27 (by decide))]
  refine (remA m c x _ (place_spec 51 p hx).1 ?_)
  rw [floorA, cumA m c p hp]

/-! ## The relevant edges -/

theorem runB (p : ℕ → Prop) [DecidablePred p] (hp : ∀ i : Fin 320000, W14 m c (Proc.devRef .tc main_v53) (ix1 i) = 1#1 ↔ p i.val) (j : Fin 320000) : W15 m c (Proc.devRef .tc main_v56) (ix1 j) = BitVec.ofNat 32 (Nat.count p (j.val + 1)) := by
  unfold W15
  simp only [hostOps0_14, StableHlo.TRef.binary, StableHlo.TRef.nullary, StableHlo.TRef.unary, StableHlo.TRef.ternary, StableHlo.TRef.reshape, StableHlo.TRef.toBuf, StableHlo.TRef.ofBuf, cast_eq]
  after_results_simp
  refine running rfl _ p hp _ _ ?_ _ _ j
  exact bc0 _ _ _

theorem histB (p : ℕ → Prop) [DecidablePred p] (hp : ∀ i : Fin 320000, W14 m c (Proc.devRef .tc main_v53) (ix1 i) = 1#1 ↔ p i.val) (x : Fin 1024) : W16 m c (Proc.devRef .tc main_v65) (ix1 x) = BitVec.ofNat 32 (Nat.count (fun i => Nat.count p (i + 1) = x.val) 320000) := by
  unfold W16
  simp only [hostOps0_15, StableHlo.TRef.binary, StableHlo.TRef.nullary, StableHlo.TRef.unary, StableHlo.TRef.ternary, StableHlo.TRef.reshape, StableHlo.TRef.toBuf, StableHlo.TRef.ofBuf, cast_eq]
  after_results_simp
  have hb : ∀ i, Nat.count p (i + 1) ≤ i + 1 := fun i => Nat.count_le p
  refine hist _ rfl rfl rfl _ (fun i => bc0 _ _ _) _ _ (fun i => bc0 _ _ _) (fun i => Nat.count p (i + 1)) (fun i => ?_) (fun i => by have := hb i.val; have := i.isLt; omega) x
  refine (bcCol _ _ i).trans ?_
  change Scalar.select (IntOp.cmpi .slt (W15 m c (Proc.devRef .tc main_v56) (ix1 i)) (broadcastInDim _ _ _ _ (ix1 i))) _ (W15 m c (Proc.devRef .tc main_v56) (ix1 i)) = _
  rw [runB m c p hp i, bc0]
  exact wrap_word (by have := hb i.val; have := i.isLt; omega) _

theorem cumB (p : ℕ → Prop) [DecidablePred p] (hp : ∀ i : Fin 320000, W14 m c (Proc.devRef .tc main_v53) (ix1 i) = 1#1 ↔ p i.val) (x : Fin 1024) : W17 m c (Proc.devRef .tc main_v66) (ix1 x) = BitVec.ofNat 32 (place 320000 p x.val) := by
  unfold W17
  simp only [hostOps0_16, StableHlo.TRef.binary, StableHlo.TRef.nullary, StableHlo.TRef.unary, StableHlo.TRef.ternary, StableHlo.TRef.reshape, StableHlo.TRef.toBuf, StableHlo.TRef.ofBuf, cast_eq]
  after_results_simp
  refine places rfl p _ (histB m c p hp) _ ?_ _ _ x
  exact bc0 _ _ _

theorem oneB : W18 m c (Proc.devRef .tc main_c_19) = constantI S_ 32 1#32 := by
  unfold W18
  simp only [hostOps0_17, StableHlo.TRef.binary, StableHlo.TRef.nullary, StableHlo.TRef.unary, StableHlo.TRef.ternary, StableHlo.TRef.reshape, StableHlo.TRef.toBuf, StableHlo.TRef.ofBuf, cast_eq]
  after_results_simp

theorem floorB (x : Fin 1024) : W19 m c (Proc.devRef .tc main_v67) (ix1 x) = W17 m c (Proc.devRef .tc main_v66) (ix1 x) := by
  unfold W19
  simp only [hostOps0_18, StableHlo.TRef.binary, StableHlo.TRef.nullary, StableHlo.TRef.unary, StableHlo.TRef.ternary, StableHlo.TRef.reshape, StableHlo.TRef.toBuf, StableHlo.TRef.ofBuf, cast_eq]
  after_results_simp
  rw [oneB, show W18 m c (Proc.devRef .tc main_v66) = W17 m c (Proc.devRef .tc main_v66) from (W18_keep m c main_v66 (by decide))]
  generalize W17 m c (Proc.devRef .tc main_v66) = X
  exact floor_word (X (ix1 x)) _ _

theorem extB : W20 m c (Proc.devRef .tc main_c_20) = constantI S_ 32 320000#32 := by
  unfold W20
  simp only [hostOps0_19, StableHlo.TRef.binary, StableHlo.TRef.nullary, StableHlo.TRef.unary, StableHlo.TRef.ternary, StableHlo.TRef.reshape, StableHlo.TRef.toBuf, StableHlo.TRef.ofBuf, cast_eq]
  after_results_simp

theorem remB (x : Fin 1024) (a : ℕ) (ha : a < 320000) (h : W19 m c (Proc.devRef .tc main_v67) (ix1 x) = BitVec.ofNat 32 a) : W21 m c (Proc.devRef .tc main_v68) (ix1 x) = BitVec.ofNat 32 a := by
  unfold W21
  simp only [hostOps0_20, StableHlo.TRef.binary, StableHlo.TRef.nullary, StableHlo.TRef.unary, StableHlo.TRef.ternary, StableHlo.TRef.reshape, StableHlo.TRef.toBuf, StableHlo.TRef.ofBuf, cast_eq]
  after_results_simp
  rw [extB, show W20 m c (Proc.devRef .tc main_v67) = W19 m c (Proc.devRef .tc main_v67) from (W20_keep m c main_v67 (by decide))]
  generalize W19 m c (Proc.devRef .tc main_v67) = X at h ⊢
  have hc : Scalar.select (IntOp.cmpi .eq (320000#32) 0#32) 1#32 (320000#32) = 320000#32 := by decide
  have key := rem_word (a := a) (n := 320000) ha (by omega) (IntOp.cmpi .ne (IntOp.remsi .host (X (ix1 x)) (320000#32)) 0#32) (IntOp.addi (IntOp.remsi .host (X (ix1 x)) (320000#32)) (320000#32))
  rw [h] at key
  refine Eq.trans ?_ key
  rw [← h]
  rfl

theorem capB (p : ℕ → Prop) [DecidablePred p] (hp : ∀ i : Fin 320000, W14 m c (Proc.devRef .tc main_v53) (ix1 i) = 1#1 ↔ p i.val) (x : Fin 1024) (hx : x.val < Nat.count p 320000) : W22 m c (Proc.devRef .tc main_v74) (ix1 x) = 0#1 := by
  unfold W22
  simp only [hostOps0_21, StableHlo.TRef.binary, StableHlo.TRef.nullary, StableHlo.TRef.unary, StableHlo.TRef.ternary, StableHlo.TRef.reshape, StableHlo.TRef.toBuf, StableHlo.TRef.ofBuf, cast_eq]
  after_results_simp
  rw [show W21 m c (Proc.devRef .tc main_v53) = W14 m c (Proc.devRef .tc main_v53) from ((W21_keep m c main_v53 (by decide)).trans ((W20_keep m c main_v53 (by decide)).trans ((W19_keep m c main_v53 (by decide)).trans ((W18_keep m c main_v53 (by decide)).trans ((W17_keep m c main_v53 (by decide)).trans ((W16_keep m c main_v53 (by decide)).trans (W15_keep m c main_v53 (by decide))))))))]
  exact below_total (W14 m c (Proc.devRef .tc main_v53)) p hp natLt_1_32 _ _ (by omega) (by omega) _ _ x hx

theorem selB (p : ℕ → Prop) [DecidablePred p] (hp : ∀ i : Fin 320000, W14 m c (Proc.devRef .tc main_v53) (ix1 i) = 1#1 ↔ p i.val) (x : Fin 1024) (hx : x.val < Nat.count p 320000) : W23 m c (Proc.devRef .tc main_v76) (ix1 x) = BitVec.ofNat 32 (place 320000 p x.val) := by
  unfold W23
  simp only [hostOps0_22, StableHlo.TRef.binary, StableHlo.TRef.nullary, StableHlo.TRef.unary, StableHlo.TRef.ternary, StableHlo.TRef.reshape, StableHlo.TRef.toBuf, StableHlo.TRef.ofBuf, cast_eq]
  after_results_simp
  change Scalar.select (W22 m c (Proc.devRef .tc main_v74) (ix1 x)) _ (W22 m c (Proc.devRef .tc main_v68) (ix1 x)) = _
  rw [capB m c p hp x hx, (W22_keep m c main_v68 (by decide))]
  refine (remB m c x _ (place_spec 320000 p hx).1 ?_)
  rw [floorB, cumB m c p hp]

end Cert.Proof.KernelIdeal
-- ==== Proof.Slots.lean ====
module

public import proofs.«01_k».proof.Proof.Chain

/-! The slots (the endpoints of the pairs and the last nodes), and their sorting. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (m : (ℓ : Loc nD τ sig) → Buf (Elt Ideal) ℓ) (c : Dev nD)

/-- The wrap of a negative index, over whole arrays, at a place that holds a natural below 2³¹. -/
theorem wrap_at {s : Shape} (P A Z : IVec s 32) (i : s.Idx) {a : ℕ} (hP : P i = BitVec.ofNat 32 a) (ha : a < 2 ^ 31) (hZ : Z i = 0#32) :
    select (cmpi .slt P Z) A P i = BitVec.ofNat 32 a := by
  show Scalar.select (IntOp.cmpi .slt (P i) (Z i)) (A i) (P i) = _
  rw [hP, hZ]
  exact wrap_word ha _

/-! ## Folds by «or» -/

theorem foldl_or {ι : Type} (g : ι → BitVec 1) : ∀ (l : List ι) (a : BitVec 1), l.foldl (fun r n => IntOp.ori r (g n)) a = 1#1 ↔ a = 1#1 ∨ ∃ n ∈ l, g n = 1#1
  | [], a => by simp
  | n :: l, a => by
    rw [List.foldl_cons, foldl_or g l]
    have : IntOp.ori a (g n) = 1#1 ↔ a = 1#1 ∨ g n = 1#1 := by
      rcases BitVec.eq_zero_or_eq_one a with rfl | rfl <;> rcases BitVec.eq_zero_or_eq_one (g n) with e | e <;> rw [e] <;> decide
    rw [this]
    simp only [List.mem_cons, exists_eq_or_imp, or_assoc]

theorem reduce_or {s t u : Shape} {axes : List (Fin s.rank)} (x : s.Idx → BitVec 1) (h : s.ReducesTo axes t) (hu : 0 < u.numel) (j : t.Idx) :
    Host.reduce IntOp.ori x (constantI u 1 0#1) h hu j = 1#1 ↔ ∃ i, h.drop i = j ∧ x i = 1#1 := by
  unfold Host.reduce
  rw [foldl_or (fun n => x (s.rowMajor.symm n))]
  constructor
  · rintro (h0 | ⟨n, hn, hx⟩)
    · exact absurd h0 (by show ¬ (0#1 = 1#1); decide)
    · exact ⟨_, of_decide_eq_true (List.mem_filter.1 hn).2, hx⟩
  · rintro ⟨i, hd, hx⟩
    refine Or.inr ⟨s.rowMajor i, List.mem_filter.2 ⟨List.mem_finRange _, decide_eq_true ?_⟩, ?_⟩
    · rw [Equiv.symm_apply_apply]; exact hd
    · rw [Equiv.symm_apply_apply]; exact hx

/-! ## The slots -/

theorem slot_words : W1 m c (Proc.devRef .tc main_v11) = concatenate S51 0 [⟨S24, shapeCast S24 (extractStridedSlice S24x1 ![0, 0] (m (c, (Proc.devRef .tc main_arg15))) slices_S24x2_S24x1_0_0) shapeCasts_S24x1_S24⟩,
      ⟨S24, shapeCast S24 (extractStridedSlice S24x1 ![0, 1] (m (c, (Proc.devRef .tc main_arg15))) slices_S24x2_S24x1_0_1) shapeCasts_S24x1_S24⟩,
      ⟨S3, addi (broadcastInDim S3 ![] bcast_S_S3 (constantI S_ 32 9997#32)) (iotaInDim S3 32 0)⟩] concatenates_S24_S24_S3_S51_d0 := by
  unfold W1
  simp only [hostOps0, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  rfl

theorem slot_first (q : Fin 24) : W1 m c (Proc.devRef .tc main_v11) (ix1 ⟨q.val, by omega⟩) = m (c, (Proc.devRef .tc main_arg15)) (ix2 q (0 : Fin 2)) := by
  rw [slot_words]
  refine Eq.trans (concatenate_apply_piece (0 : Fin 1) _ _ (ix1 (⟨q.val, by omega⟩ : Fin 51)) 0 (by simp) S24 _ rfl rfl 0 rfl (ix1 q) (fun a ha => ?_) (Nat.zero_add _)) ?_
  · exact absurd (Subsingleton.elim a 0) ha
  · refine (cast21 _ _ q (0 : Fin 1) q (by simp)).trans ?_
    refine extractStridedSlice_apply _ _ _ _ (ix2 q (0 : Fin 2)) fun a => ?_
    match a with
    | ⟨0, _⟩ => exact (Nat.zero_add _).symm
    | ⟨1, _⟩ => rfl

theorem slot_second (q : Fin 24) : W1 m c (Proc.devRef .tc main_v11) (ix1 ⟨24 + q.val, by omega⟩) = m (c, (Proc.devRef .tc main_arg15)) (ix2 q (1 : Fin 2)) := by
  rw [slot_words]
  refine Eq.trans (concatenate_apply_piece (0 : Fin 1) _ _ (ix1 (⟨24 + q.val, by omega⟩ : Fin 51)) 1 (by simp) S24 _ rfl rfl 24 rfl (ix1 q) (fun a ha => ?_) rfl) ?_
  · exact absurd (Subsingleton.elim a 0) ha
  · refine (cast21 _ _ q (0 : Fin 1) q (by simp)).trans ?_
    refine extractStridedSlice_apply _ _ _ _ (ix2 q (1 : Fin 2)) fun a => ?_
    match a with
    | ⟨0, _⟩ => exact (Nat.zero_add _).symm
    | ⟨1, _⟩ => rfl

theorem slot_last (q : Fin 3) : W1 m c (Proc.devRef .tc main_v11) (ix1 ⟨48 + q.val, by omega⟩) = BitVec.ofNat 32 (9997 + q.val) := by
  rw [slot_words]
  refine Eq.trans (concatenate_apply_piece (0 : Fin 1) _ _ (ix1 (⟨48 + q.val, by omega⟩ : Fin 51)) 2 (by simp) S3 _ rfl rfl 48 rfl (ix1 q) (fun a ha => ?_) rfl) ?_
  · exact absurd (Subsingleton.elim a 0) ha
  · show IntOp.addi 9997#32 (BitVec.ofNat 32 q.val) = _
    rw [IntOp.addi, BitVec.ofNat_add]

theorem slot_padded (q : Fin 51) : W1 m c (Proc.devRef .tc main_v13) (ix1 ⟨q.val, by omega⟩) = W1 m c (Proc.devRef .tc main_v11) (ix1 q) := by
  rw [slot_words]
  unfold W1
  simp only [hostOps0, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  refine Eq.trans (concatenate_pair_apply_left (t := S64) (s₁ := S51) (s₂ := S13) (0 : Fin 1) _ _ _ (ix1 (⟨q.val, by omega⟩ : Fin 64)) rfl (ix1 q) fun a => ?_) rfl
  obtain rfl : a = 0 := Subsingleton.elim _ _
  rfl

/-! ## Sorted -/

theorem sort2_one {n : ℕ} (cmp : BitVec 32 × BitVec 32 → BitVec 32 × BitVec 32 → BitVec 1) (x y : IVec (shape1 n) 32) (j : Fin n) :
    (Host.sort2 (shape1 n) 0 cmp x y).2 (ix1 j) = y (ix1 (sortedFrom (fun k k' => cmp (x (ix1 k), y (ix1 k)) (x (ix1 k'), y (ix1 k')) == 1#1) j)) := by
  have al : ∀ k : Fin n, Shape.Idx.along (s := shape1 n) (ix1 j) 0 k = ix1 k := fun k => by
    funext a
    obtain rfl : a = 0 := Subsingleton.elim _ _
    exact Function.update_self ..
  unfold Host.sort2
  rw [dif_pos (show 0 < (shape1 n).rank from Nat.one_pos)]
  refine (congrArg y (al _)).trans ?_
  refine congrArg (fun k => y (ix1 k)) ?_
  show sortedFrom _ j = _
  refine congrArg (fun B => sortedFrom B j) ?_
  funext k k'
  exact congrArg₂ (fun i i' => cmp (x i, y i) (x i', y i') == 1#1) (al k) (al k')

/-- A list turned into a column, then a row, reversed along its one row, and back. -/
theorem row_back {n : ℕ} (x : IVec (shape1 n) 32) (h1 : (shape1 n).ShapeCasts (shape2 n 1)) (h2 : (shape2 n 1).Transposes [1, 0] (shape2 1 n))
    (h3 : (shape2 1 n).Slices ![0, 0] (shape2 1 n)) (h4 : (shape2 1 n).ShapeCasts (shape1 n)) (k : Fin n) :
    shapeCast (shape1 n) (extractStridedSlice (shape2 1 n) ![0, 0] (Host.reverse [0] (transpose (shape2 1 n) [1, 0]
      (fun i => shapeCast (shape2 n 1) x h1 i) h2)) h3) h4 (ix1 k) = x (ix1 k) := by
  refine (cast21 _ h4 (0 : Fin 1) k k (by simp)).trans ?_
  refine (extractStridedSlice_apply _ _ _ _ (ix2 (0 : Fin 1) k) fun a => ?_).trans ?_
  · match a with
    | ⟨0, _⟩ => rfl
    | ⟨1, _⟩ => exact (Nat.zero_add _).symm
  have hr : Host.reverse (s := shape2 1 n) [0] (transpose (shape2 1 n) [1, 0] (fun i => shapeCast (shape2 n 1) x h1 i) h2) (ix2 (0 : Fin 1) k)
      = transpose (shape2 1 n) [1, 0] (fun i => shapeCast (shape2 n 1) x h1 i) h2 (ix2 (0 : Fin 1) k) := by
    refine congrArg (transpose (shape2 1 n) [1, 0] (fun i => shapeCast (shape2 n 1) x h1 i) h2) (funext fun a => ?_)
    match a with
    | ⟨0, _⟩ => exact Subsingleton.elim (α := Fin 1) _ _
    | ⟨1, _⟩ => rfl
  rw [hr]
  refine (transpose_apply _ _ _ _ (ix2 k (0 : Fin 1)) fun a => ?_).trans ?_
  · match a with
    | ⟨0, _⟩ => rfl
    | ⟨1, _⟩ => rfl
  · exact cast12 _ h1 k (0 : Fin 1) k (by simp)

/-- Writing the row's neighbour differences from place one on, over ones, marks the entries that open a run. -/
theorem first_of_run {n k : ℕ} (d : ScatterDims (shape1 n) (shape1 1) (shape1 k)) (hiw : d.insertedWindowDims = [])
    (hsd : d.scatterDimsToOperandDims = [0]) (hivd : d.indexVectorDim = 0) (x0 : IVec (shape1 n) 1) (hx0 : ∀ i, x0 i = 1#1)
    (idx : IVec (shape1 1) 32) (hidx : idx (ix1 (0 : Fin 1)) = 1#32) (X : IVec (shape1 n) 32)
    (h1 : (shape1 n).Slices ![1] (shape1 k)) (h0 : (shape1 n).Slices ![0] (shape1 k)) (hnk : n ≤ k + 1) (hr : (shape1 k).ReducesTo [] (shape1 k)) (hu : 0 < shape0.numel) (j : Fin n) :
    Host.scatter d (fun _ b => b) x0 idx (Host.reduce IntOp.ori (cmpi .ne (extractStridedSlice (shape1 k) ![1] X h1) (extractStridedSlice (shape1 k) ![0] X h0)) (constantI shape0 1 0#1) hr hu) (ix1 j) = 1#1
      ↔ j.val = 0 ∨ X (ix1 j) ≠ X (ix1 ⟨j.val - 1, by omega⟩) := by
  have hk : k + 1 ≤ n := by
    have := h1.2 0
    change 1 + k ≤ n at this
    omega
  have hm : (0 : Fin 1) ∈ d.scatterDimsToOperandDims := by rw [hsd]; exact List.mem_singleton.2 rfl
  have hkept : d.sKept = [0] := by
    show (shape1 n).kept d.insertedWindowDims = _
    rw [hiw]
    rfl
  have hwin : ∀ i : Fin k, d.window (ix1 i) 0 = i.val := fun i => by
    unfold ScatterDims.window
    rw [dif_pos (by rw [hkept]; exact List.mem_singleton.2 rfl)]
    exact congrArg (fun t => ((ix1 i : (shape1 k).Idx) t).val) (Subsingleton.elim (α := Fin 1) _ 0)
  have hstart : ∀ i : Fin k, d.start (ix1 i) idx 0 = 1 := fun i => by
    unfold ScatterDims.start
    rw [dif_pos hm]
    refine (congrArg (fun t => (idx t).toInt) (show _ = ix1 (0 : Fin 1) from ?_)).trans (by rw [hidx]; rfl)
    funext b'
    match b' with
    | ⟨0, _⟩ => exact Subsingleton.elim (α := Fin 1) _ _
  have land : ∀ i : Fin k, d.resultIdx? (ix1 i) idx = some (ix1 j) ↔ 1 + i.val = j.val := fun i => by
    rw [resultIdx?_ix1, hwin, hstart]; omega
  have upd : ∀ i : Fin k, Host.reduce IntOp.ori (cmpi .ne (extractStridedSlice (shape1 k) ![1] X h1) (extractStridedSlice (shape1 k) ![0] X h0)) (constantI shape0 1 0#1) hr hu (ix1 i)
      = IntOp.cmpi .ne (X (ix1 ⟨1 + i.val, by omega⟩)) (X (ix1 ⟨i.val, by omega⟩)) := fun i => by
    have e : cmpi .ne (extractStridedSlice (shape1 k) ![1] X h1) (extractStridedSlice (shape1 k) ![0] X h0) (ix1 i)
        = IntOp.cmpi .ne (X (ix1 ⟨1 + i.val, by omega⟩)) (X (ix1 ⟨i.val, by omega⟩)) := by
      show IntOp.cmpi .ne (extractStridedSlice (shape1 k) ![1] X h1 (ix1 i)) (extractStridedSlice (shape1 k) ![0] X h0 (ix1 i)) = _
      rw [slice1 1 X h1 i (by omega), slice1 0 X h0 i (by omega)]
      simp only [Nat.zero_add]
    have key := reduce_or (cmpi .ne (extractStridedSlice (shape1 k) ![1] X h1) (extractStridedSlice (shape1 k) ![0] X h0)) hr hu (ix1 i)
    have hd : ∀ i', hr.drop i' = ix1 i ↔ i' = ix1 i := fun i' => by
      have hv : (hr.drop i' 0 : ℕ) = i' 0 := Shape.ReducesTo.drop_apply_val hr i' 0
      constructor
      · intro h
        rw [eq_ix1 i']
        refine congrArg ix1 (Fin.ext ?_)
        rw [← hv, h]
        rfl
      · rintro rfl
        rw [eq_ix1 (hr.drop (ix1 i))]
        exact congrArg ix1 (Fin.ext hv)
    simp only [hd, exists_eq_left, e] at key
    generalize Host.reduce IntOp.ori _ _ hr hu (ix1 i) = A at key ⊢
    generalize IntOp.cmpi .ne _ _ = B at key ⊢
    rcases BitVec.eq_zero_or_eq_one A with rfl | rfl <;> rcases BitVec.eq_zero_or_eq_one B with rfl | rfl <;> first | rfl | (exfalso; revert key; decide)
  by_cases hj : j.val = 0
  · refine iff_of_true ?_ (Or.inl hj)
    rw [scatter_set_miss d x0 idx _ _ fun i hi => ?_]
    · exact hx0 _
    · obtain ⟨i', rfl⟩ : ∃ i' : Fin k, i = ix1 i' := ⟨i 0, eq_ix1 i⟩
      rw [land] at hi; omega
  · have hjk : j.val - 1 < k := by
      have := j.isLt
      omega
    have hit : Host.scatter d (fun _ b => b) x0 idx (Host.reduce IntOp.ori (cmpi .ne (extractStridedSlice (shape1 k) ![1] X h1) (extractStridedSlice (shape1 k) ![0] X h0)) (constantI shape0 1 0#1) hr hu) (ix1 j)
        = IntOp.cmpi .ne (X (ix1 j)) (X (ix1 ⟨j.val - 1, by omega⟩)) := by
      refine scatter_set_hit d x0 idx _ _ _ (fun i hi => ?_) (ix1 ⟨j.val - 1, hjk⟩) ((land _).2 (by show 1 + (j.val - 1) = j.val; omega))
      obtain ⟨i', rfl⟩ : ∃ i' : Fin k, i = ix1 i' := ⟨i 0, eq_ix1 i⟩
      rw [land] at hi
      rw [upd]
      have a1 : (⟨1 + i'.val, by omega⟩ : Fin n) = j := Fin.ext hi
      have a2 : (⟨i'.val, by omega⟩ : Fin n) = ⟨j.val - 1, by omega⟩ := Fin.ext (by show i'.val = j.val - 1; omega)
      rw [a1, a2]
    rw [hit]
    constructor
    · intro h
      refine Or.inr fun he => ?_
      rw [he] at h
      simp [IntOp.cmpi] at h
    · rintro (h | h)
      · exact absurd h hj
      · show BitVec.ofBool (_ != _) = 1#1
        rw [bne_iff_ne.2 h]
        rfl

/-- Which slot comes at place `j` of the sorted list. -/
def from_ (j : Fin 51) : Fin 51 :=
  sortedFrom (fun k k' => IntOp.cmpi .slt (W1 m c (Proc.devRef .tc main_v11) (ix1 k)) (W1 m c (Proc.devRef .tc main_v11) (ix1 k')) == 1#1) j

theorem perm_word (j : Fin 51) : W2 m c (Proc.devRef .tc main_v14_2) (ix1 j) = BitVec.ofNat 32 (from_ m c j).val := by
  unfold W2
  simp only [hostOps0_1, StableHlo.TRef.binary, StableHlo.TRef.nullary, StableHlo.TRef.unary, StableHlo.TRef.ternary, StableHlo.TRef.reshape, StableHlo.TRef.toBuf, StableHlo.TRef.ofBuf, cast_eq]
  after_results_simp
  refine (sort2_one _ _ _ j).trans ?_
  show BitVec.ofNat 32 _ = BitVec.ofNat 32 _
  refine congrArg (fun k : Fin 51 => BitVec.ofNat 32 k.val) ?_
  unfold from_
  refine congrArg (fun B => sortedFrom B j) ?_
  funext k k'
  have e : ∀ k : Fin 51, _ = W1 m c (Proc.devRef .tc main_v11) (ix1 k) := fun k => row_back _ shapeCasts_S51_S51x1 transposes_S51x1_S1x51_1_0 slices_S1x51_S1x51_0_0 shapeCasts_S1x51_S51 k
  exact congrArg₂ (fun a b => IntOp.cmpi .slt a b == 1#1) (e k) (e k')

theorem from_surj : Function.Surjective (from_ m c) := sortedFrom_surjective _

theorem sorted_word (j : Fin 51) : W2 m c (Proc.devRef .tc main_v14_0) (ix1 j) = W1 m c (Proc.devRef .tc main_v11) (ix1 (from_ m c j)) := by
  have hp := perm_word m c j
  revert hp
  unfold W2
  simp only [hostOps0_1, StableHlo.TRef.binary, StableHlo.TRef.nullary, StableHlo.TRef.unary, StableHlo.TRef.ternary, StableHlo.TRef.reshape, StableHlo.TRef.toBuf, StableHlo.TRef.ofBuf, cast_eq]
  after_results_simp
  intro hp
  refine gather_take1 _ rfl rfl rfl rfl _ _ j (from_ m c j) ?_ (by omega)
  refine (bcCol _ _ j).trans ?_
  exact wrap_at _ _ _ (ix1 j) hp (by have := (from_ m c j).isLt; omega) rfl

/-- An entry of the sorted list opens a run when it is the first or differs from the one before. -/
theorem mask_word (j : Fin 51) : W2 m c (Proc.devRef .tc main_v14_1) (ix1 j) = 1#1 ↔
    j.val = 0 ∨ W2 m c (Proc.devRef .tc main_v14_0) (ix1 j) ≠ W2 m c (Proc.devRef .tc main_v14_0) (ix1 ⟨j.val - 1, by omega⟩) := by
  unfold W2
  simp only [hostOps0_1, StableHlo.TRef.binary, StableHlo.TRef.nullary, StableHlo.TRef.unary, StableHlo.TRef.ternary, StableHlo.TRef.reshape, StableHlo.TRef.toBuf, StableHlo.TRef.ofBuf, cast_eq]
  after_results_simp
  exact first_of_run scatter_S51_S1_S50_0_n_0_0 rfl rfl rfl _ (fun _ => rfl) _ rfl _ _ _ (by omega) _ _ j

end Cert.Proof.KernelIdeal
-- ==== Proof.Uniq.lean ====
module

public import proofs.«01_k».proof.Proof.Slots

/-! The distinct slots: every slot is one of them, at exactly one place. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (m : (ℓ : Loc nD τ sig) → Buf (Elt Ideal) ℓ) (c : Dev nD)

/-- The sorted slots as naturals. -/
def sv (j : ℕ) : ℕ := if h : j < 51 then (W2 m c (Proc.devRef .tc main_v14_0) (ix1 ⟨j, h⟩)).toNat else 0

theorem sv_eq (j : Fin 51) : W2 m c (Proc.devRef .tc main_v14_0) (ix1 j) = BitVec.ofNat 32 (sv m c j.val) := by
  unfold sv
  rw [dif_pos j.isLt, BitVec.ofNat_toNat, BitVec.setWidth_eq]

/-- Place `j` of the sorted slots opens a run. -/
def opens (j : ℕ) : Prop := j = 0 ∨ sv m c j ≠ sv m c (j - 1)

instance : DecidablePred (opens m c) := fun _ => by unfold opens; infer_instance

theorem mask_opens (j : Fin 51) : W2 m c (Proc.devRef .tc main_v14_1) (ix1 j) = 1#1 ↔ opens m c j.val := by
  rw [mask_word]
  unfold opens sv
  rw [dif_pos j.isLt, dif_pos (show j.val - 1 < 51 by omega)]
  exact or_congr Iff.rfl (not_congr BitVec.toNat_inj.symm)

/-- A place is below the number of set entries exactly when the comparison says so. -/
theorem lt_total {N L : ℕ} (mk : IVec (shape1 N) 1) (p : ℕ → Prop) [DecidablePred p] (hp : ∀ i : Fin N, mk (ix1 i) = 1#1 ↔ p i.val)
    (hw : 1 < 32) (h : (shape1 N).ReducesTo [0] shape0) (hu : 0 < shape0.numel) (hN : N < 2 ^ 31) (hL : L < 2 ^ 31)
    (h1 : shape0.BroadcastsInDim (shape1 L) (![] : Fin 0 → Fin (shape1 L).rank)) (x : Fin L) :
    cmpi .slt (iotaInDim (shape1 L) 32 0) (broadcastInDim (shape1 L) ![] h1 (Host.reduce IntOp.addi (extui 32 mk hw) (constantI shape0 32 0#32) h hu)) (ix1 x) = 1#1
      ↔ x.val < Nat.count p N := by
  have hb : Nat.count p N ≤ N := Nat.count_le p
  have ht := total mk p hp hw h hu
  generalize Host.reduce IntOp.addi (extui 32 mk hw) (constantI shape0 32 0#32) h hu = G at ht ⊢
  change IntOp.cmpi .slt (BitVec.ofNat 32 x.val) (broadcastInDim (shape1 L) ![] h1 G (ix1 x)) = 1#1 ↔ _
  rw [bc0, ht]
  exact WordCmp.cmpi_slt_ofNat_eq_one_iff (by have := x.isLt; omega) (by omega)

theorem uniq_taken (r : Fin 16) (hr : r.val < Nat.count (opens m c) 51) :
    W12 m c (Proc.devRef .tc main_v41) (ix1 r) = BitVec.ofNat 32 (sv m c (place 51 (opens m c) r.val)) := by
  have hp := selA m c (opens m c) (mask_opens m c) r hr
  have hpl := (place_spec 51 (opens m c) hr).1
  unfold W12
  simp only [hostOps0_11, StableHlo.TRef.binary, StableHlo.TRef.nullary, StableHlo.TRef.unary, StableHlo.TRef.ternary, StableHlo.TRef.reshape, StableHlo.TRef.toBuf, StableHlo.TRef.ofBuf, cast_eq]
  after_results_simp
  rw [show W11 m c (Proc.devRef .tc main_v14_0) = W2 m c (Proc.devRef .tc main_v14_0) from ((W11_keep m c main_v14_0 (by decide)).trans ((W10_keep m c main_v14_0 (by decide)).trans ((W9_keep m c main_v14_0 (by decide)).trans ((W8_keep m c main_v14_0 (by decide)).trans ((W7_keep m c main_v14_0 (by decide)).trans ((W6_keep m c main_v14_0 (by decide)).trans ((W5_keep m c main_v14_0 (by decide)).trans ((W4_keep m c main_v14_0 (by decide)).trans (W3_keep m c main_v14_0 (by decide))))))))))]
  refine (gather_take1 _ rfl rfl rfl rfl _ _ r ⟨_, hpl⟩ ?_ (by omega)).trans (sv_eq m c ⟨_, hpl⟩)
  refine (bcCol _ _ r).trans ?_
  exact wrap_at _ _ _ (ix1 r) hp (by omega) rfl

theorem uniq_real (r : Fin 16) : W12 m c (Proc.devRef .tc main_v46) (ix1 r) = 1#1 ↔ r.val < Nat.count (opens m c) 51 := by
  unfold W12
  simp only [hostOps0_11, StableHlo.TRef.binary, StableHlo.TRef.nullary, StableHlo.TRef.unary, StableHlo.TRef.ternary, StableHlo.TRef.reshape, StableHlo.TRef.toBuf, StableHlo.TRef.ofBuf, cast_eq]
  after_results_simp
  rw [show W11 m c (Proc.devRef .tc main_v14_1) = W2 m c (Proc.devRef .tc main_v14_1) from ((W11_keep m c main_v14_1 (by decide)).trans ((W10_keep m c main_v14_1 (by decide)).trans ((W9_keep m c main_v14_1 (by decide)).trans ((W8_keep m c main_v14_1 (by decide)).trans ((W7_keep m c main_v14_1 (by decide)).trans ((W6_keep m c main_v14_1 (by decide)).trans ((W5_keep m c main_v14_1 (by decide)).trans ((W4_keep m c main_v14_1 (by decide)).trans (W3_keep m c main_v14_1 (by decide))))))))))]
  exact lt_total _ (opens m c) (mask_opens m c) _ _ _ (by omega) (by omega) _ r

theorem uniq_word (r : Fin 16) : W13 m c (Proc.devRef .tc main_v47) (ix1 r) = if r.val < Nat.count (opens m c) 51 then BitVec.ofNat 32 (sv m c (place 51 (opens m c) r.val)) else 4294967295#32 := by
  have h1 := uniq_taken m c r
  have h2 := uniq_real m c r
  unfold W13
  simp only [hostOps0_12, StableHlo.TRef.binary, StableHlo.TRef.nullary, StableHlo.TRef.unary, StableHlo.TRef.ternary, StableHlo.TRef.reshape, StableHlo.TRef.toBuf, StableHlo.TRef.ofBuf, cast_eq]
  after_results_simp
  change Scalar.select (W12 m c (Proc.devRef .tc main_v46) (ix1 r)) (W12 m c (Proc.devRef .tc main_v41) (ix1 r)) (W12 m c (Proc.devRef .tc main_c_12) ix0) = _
  have h3 : W12 m c (Proc.devRef .tc main_c_12) = constantI S_ 32 4294967295#32 := by
    unfold W12
    simp only [hostOps0_11, StableHlo.TRef.binary, StableHlo.TRef.nullary, StableHlo.TRef.unary, StableHlo.TRef.ternary, StableHlo.TRef.reshape, StableHlo.TRef.toBuf, StableHlo.TRef.ofBuf, cast_eq]
    after_results_simp
  by_cases h : r.val < Nat.count (opens m c) 51
  · rw [if_pos h, h2.2 h, h1 h]; rfl
  · rw [if_neg h, (BitVec.eq_zero_or_eq_one _).resolve_right (fun e => h (h2.1 e)), h3]; rfl

/-! ## Sortedness -/

variable (hpre : ∀ (e : Fin 24) (k : Fin 2), (m (c, (Proc.devRef .tc main_arg15)) (ix2 e k)).toNat < 12)

include hpre in
theorem slot_range (q : Fin 51) : (W1 m c (Proc.devRef .tc main_v11) (ix1 q)).toNat ∈ Finset.range 12 ∪ {9997, 9998, 9999} := by
  have hq := q.isLt
  rcases Nat.lt_or_ge q.val 24 with h | h
  · rw [show q = ⟨(⟨q.val, h⟩ : Fin 24).val, by omega⟩ from rfl, slot_first m c ⟨q.val, h⟩]
    exact Finset.mem_union_left _ (Finset.mem_range.2 (hpre _ _))
  rcases Nat.lt_or_ge q.val 48 with h' | h'
  · rw [show q = ⟨24 + (⟨q.val - 24, by omega⟩ : Fin 24).val, by omega⟩ from Fin.ext (by show q.val = 24 + (q.val - 24); omega), slot_second m c ⟨q.val - 24, by omega⟩]
    exact Finset.mem_union_left _ (Finset.mem_range.2 (hpre _ _))
  · have e : q = ⟨48 + (⟨q.val - 48, by omega⟩ : Fin 3).val, by omega⟩ := Fin.ext (by show q.val = 48 + (q.val - 48); omega)
    rw [e, slot_last m c ⟨q.val - 48, by omega⟩]
    refine Finset.mem_union_right _ ?_
    have : q.val - 48 = 0 ∨ q.val - 48 = 1 ∨ q.val - 48 = 2 := by omega
    rcases this with h0 | h0 | h0 <;> simp only [h0] <;> decide

include hpre in
theorem slot_lt (q : Fin 51) : (W1 m c (Proc.devRef .tc main_v11) (ix1 q)).toNat < 10000 := by
  have h := slot_range m c hpre q
  simp only [Finset.mem_union, Finset.mem_range, Finset.mem_insert, Finset.mem_singleton] at h
  omega

include hpre in
theorem sv_range {j : ℕ} (h : j < 51) : sv m c j ∈ Finset.range 12 ∪ {9997, 9998, 9999} := by
  unfold sv
  rw [dif_pos h, sorted_word]
  exact slot_range m c hpre _

include hpre in
theorem sv_lt {j : ℕ} (h : j < 51) : sv m c j < 10000 := by
  have h := sv_range m c hpre h
  simp only [Finset.mem_union, Finset.mem_range, Finset.mem_insert, Finset.mem_singleton] at h
  omega

include hpre in
theorem sv_mono {i j : ℕ} (hij : i ≤ j) (hj : j < 51) : sv m c i ≤ sv m c j := by
  rcases Nat.eq_or_lt_of_le hij with rfl | hlt
  · exact Nat.le_refl _
  have hsort : ∀ k : Fin 51, W1 m c (Proc.devRef .tc main_v11) (ix1 (from_ m c k)) = BitVec.ofNat 32 (sv m c k.val) := fun k => by rw [← sorted_word, sv_eq]
  have asym : ∀ a b : Fin 51, (IntOp.cmpi .slt (W1 m c (Proc.devRef .tc main_v11) (ix1 a)) (W1 m c (Proc.devRef .tc main_v11) (ix1 b)) == 1#1) = true ↔ (W1 m c (Proc.devRef .tc main_v11) (ix1 a)).toNat < (W1 m c (Proc.devRef .tc main_v11) (ix1 b)).toNat := fun a b => by
    rw [WordCmp.cmpi_slt_of_lt (by have := slot_lt m c hpre a; omega) (by have := slot_lt m c hpre b; omega), beq_iff_eq, WordCmp.ofBool_decide_eq_one_iff]
  have asymf : ∀ a b : Fin 51, (IntOp.cmpi .slt (W1 m c (Proc.devRef .tc main_v11) (ix1 a)) (W1 m c (Proc.devRef .tc main_v11) (ix1 b)) == 1#1) = false ↔ (W1 m c (Proc.devRef .tc main_v11) (ix1 b)).toNat ≤ (W1 m c (Proc.devRef .tc main_v11) (ix1 a)).toNat := fun a b => by
    rw [← Bool.not_eq_true, asym]; omega
  have h := sortedFrom_noInversion (fun k k' => IntOp.cmpi .slt (W1 m c (Proc.devRef .tc main_v11) (ix1 k)) (W1 m c (Proc.devRef .tc main_v11) (ix1 k')) == 1#1) (fun k k' => IntOp.cmpi .slt (W1 m c (Proc.devRef .tc main_v11) (ix1 k)) (W1 m c (Proc.devRef .tc main_v11) (ix1 k')) == 1#1)
    (fun a b h => by rw [asymf]; rw [asym] at h; omega) (fun a b h => h) (fun a b c h h' => by rw [asymf] at h h' ⊢; omega) ⟨i, by omega⟩ ⟨j, hj⟩ hlt
  rw [asymf] at h
  have e1 := hsort ⟨i, by omega⟩
  have e2 := hsort ⟨j, hj⟩
  have := sv_lt m c hpre (j := i) (by omega)
  have := sv_lt m c hpre hj
  change (W1 m c (Proc.devRef .tc main_v11) (ix1 (from_ m c _))).toNat ≤ (W1 m c (Proc.devRef .tc main_v11) (ix1 (from_ m c _))).toNat at h
  rw [e1, e2, BitVec.toNat_ofNat, BitVec.toNat_ofNat] at h
  change sv m c i % 2 ^ 32 ≤ sv m c j % 2 ^ 32 at h
  omega

include hpre in
/-- Two places that open runs hold different slots. -/
theorem opens_inj {i j : ℕ} (hi : i < 51) (hj : j < 51) (oi : opens m c i) (oj : opens m c j) (h : sv m c i = sv m c j) : i = j := by
  have aux : ∀ i j : ℕ, j < 51 → opens m c j → sv m c i = sv m c j → ¬ i < j := fun i j hj oj h hlt => by
    rcases oj with rfl | oj
    · omega
    · have a := sv_mono m c hpre (i := i) (j := j - 1) (by omega) (by omega)
      have b := sv_mono m c hpre (i := j - 1) (j := j) (by omega) hj
      omega
  have := aux i j hj oj h
  have := aux j i hi oi h.symm
  omega

include hpre in
/-- There are at most fifteen distinct slots. -/
theorem count_opens : Nat.count (opens m c) 51 ≤ 15 := by
  rw [Nat.count_eq_card_filter_range]
  refine (Finset.card_le_card_of_injOn (sv m c) (t := Finset.range 12 ∪ {9997, 9998, 9999}) (fun j hj => ?_) (fun i hi j hj h => ?_)).trans (by decide)
  · exact sv_range m c hpre (Finset.mem_range.1 (Finset.mem_filter.1 hj).1)
  · have hi := Finset.mem_filter.1 hi
    have hj := Finset.mem_filter.1 hj
    exact opens_inj m c hpre (Finset.mem_range.1 hi.1) (Finset.mem_range.1 hj.1) hi.2 hj.2 h

/-- Every place's slot is that of a place that opens a run. -/
theorem exists_opens : ∀ j : ℕ, ∃ i, i ≤ j ∧ opens m c i ∧ sv m c i = sv m c j
  | 0 => ⟨0, Nat.le_refl _, Or.inl rfl, rfl⟩
  | j + 1 => by
    by_cases h : sv m c (j + 1) = sv m c j
    · obtain ⟨i, hi, oi, e⟩ := exists_opens j
      exact ⟨i, by omega, oi, e.trans h.symm⟩
    · exact ⟨j + 1, Nat.le_refl _, Or.inr h, rfl⟩

include hpre in
/-- Every slot is exactly one of the sixteen distinct slots. -/
theorem uniq_has (q : Fin 51) : ∃ r : Fin 16, ∀ r' : Fin 16, W13 m c (Proc.devRef .tc main_v47) (ix1 r') = W1 m c (Proc.devRef .tc main_v11) (ix1 q) ↔ r' = r := by
  obtain ⟨j, hj⟩ := from_surj m c q
  obtain ⟨i, hij, oi, e⟩ := exists_opens m c j.val
  have hi : i < 51 := by omega
  obtain ⟨hc, hpl⟩ := exists_place 51 (opens m c) hi oi
  have h15 := count_opens m c hpre
  have hq : W1 m c (Proc.devRef .tc main_v11) (ix1 q) = BitVec.ofNat 32 (sv m c i) := by rw [e, ← sv_eq, sorted_word, hj]
  have hs := sv_lt m c hpre hi
  refine ⟨⟨Nat.count (opens m c) i, by omega⟩, fun r' => ⟨fun h => ?_, ?_⟩⟩
  · rw [hq, uniq_word] at h
    by_cases hr : r'.val < Nat.count (opens m c) 51
    · rw [if_pos hr] at h
      obtain ⟨p1, p2, p3⟩ := place_spec 51 (opens m c) hr
      have hs' := sv_lt m c hpre p1
      have h := congrArg BitVec.toNat h
      rw [BitVec.toNat_ofNat, BitVec.toNat_ofNat] at h
      have := opens_inj m c hpre p1 hi p2 oi (by omega)
      refine Fin.ext ?_
      show r'.val = Nat.count (opens m c) i
      rw [← p3, this]
    · rw [if_neg hr] at h
      have h := congrArg BitVec.toNat h
      simp only [BitVec.toNat_ofNat] at h
      omega
  · rintro rfl
    rw [hq, uniq_word, if_pos hc]
    show BitVec.ofNat 32 (sv m c (place 51 (opens m c) (Nat.count (opens m c) i))) = _
    rw [hpl]

end Cert.Proof.KernelIdeal
-- ==== Proof.Edges.lean ====
module

public import proofs.«01_k».proof.Proof.Uniq

/-! The relevant edges: those leaving a slot, listed by place, with their rows. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (m : (ℓ : Loc nD τ sig) → Buf (Elt Ideal) ℓ) (c : Dev nD)

/-- The row of a table of `N` rows that an index word names: read signed, and moved into the table. -/
def row (N : ℕ) (w : BitVec 32) : ℕ := min w.toInt.toNat (N - 1)

theorem row_lt {N : ℕ} (w : BitVec 32) (h : 0 < N) : row N w < N := by unfold row; omega

/-- An index word with its negative values moved up by the number of rows. -/
def wrapped (N w : BitVec 32) : BitVec 32 := Scalar.select (IntOp.cmpi .slt w 0#32) (IntOp.addi w N) w

/-- A gather reads its index words only through the rows they name. -/
theorem gather_clamped {α : Type} {s si t : Shape} (d : GatherDims s si t) (a0 : Fin s.rank) (hmap : d.startIndexMap = [a0]) (hsl : d.sliceSizes a0 = 1)
    (h31 : s.size a0 < 2 ^ 31) (x : s.Idx → α) (idx : IVec si 32) (j : t.Idx) :
    Host.gather d x idx j = Host.gather d x (fun i => BitVec.ofNat 32 (row (s.size a0) (idx i))) j := by
  unfold Host.gather
  refine congrArg x (funext fun a => Fin.ext ?_)
  show d.start j idx a + d.batchCoord j a + d.offCoord j a = d.start j (fun i => BitVec.ofNat 32 (row (s.size a0) (idx i))) a + d.batchCoord j a + d.offCoord j a
  refine congrArg (fun t => t + d.batchCoord j a + d.offCoord j a) ?_
  unfold GatherDims.start
  by_cases h : a ∈ d.startIndexMap
  · rw [dif_pos h, dif_pos h]
    have ha : a = a0 := by rw [hmap] at h; exact List.mem_singleton.1 h
    subst ha
    have hr : ∀ w : BitVec 32, row (s.size a) w < 2 ^ 31 := fun w => by unfold row; omega
    rw [StableHlo.Predicate.toInt_ofNat_small _ (hr _), hsl]
    unfold row
    omega
  · rw [dif_neg h, dif_neg h]

/-- Rows of a table, whatever the index words. -/
theorem gather_rows {α : Type} {nb B n : ℕ} (d : GatherDims (shape2 nb B) (shape2 n 1) (shape2 n B)) (hoff : d.offsetDims = [1])
    (hcoll : d.collapsedSliceDims = [0]) (hob : d.operandBatchingDims = []) (hsim : d.startIndexMap = [0]) (hivd : d.indexVectorDim = 1)
    (x : (shape2 nb B).Idx → α) (idx : IVec (shape2 n 1) 32) (i : Fin n) (y : Fin B) (hnb : 0 < nb) (h31 : nb < 2 ^ 31) (w : BitVec 32) (hw : idx (ix2 i (0 : Fin 1)) = w) :
    Host.gather d x idx (ix2 i y) = x (ix2 ⟨row nb w, row_lt _ hnb⟩ y) := by
  have hsl : d.sliceSizes 0 = 1 := d.slice_collapsed 0 (by rw [hcoll]; exact List.mem_singleton.2 rfl)
  rw [gather_clamped d 0 hsim hsl h31]
  subst hw
  exact gather_row d hoff hcoll hob hsim hivd x _ i y ⟨row nb _, row_lt _ hnb⟩ rfl h31

/-- An index word that holds a row's number names that row. -/
theorem row_of {N a : ℕ} (h : a < N) (h31 : N < 2 ^ 31) : row N (BitVec.ofNat 32 a) = a := by
  unfold row
  rw [StableHlo.Predicate.toInt_ofNat_small _ (by omega)]
  omega

theorem wrapped_of {a : ℕ} (N : BitVec 32) (h : a < 2 ^ 31) : wrapped N (BitVec.ofNat 32 a) = BitVec.ofNat 32 a := wrap_word h _

/-! ## The edges -/

theorem src_word (e : Fin 320000) : W1 m c (Proc.devRef .tc main_v1) (ix1 e) = m (c, (Proc.devRef .tc main_arg1)) (ix2 (0 : Fin 2) e) := by
  unfold W1
  simp only [hostOps0, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  refine (cast21 _ _ (0 : Fin 1) e e (by simp)).trans ?_
  refine extractStridedSlice_apply _ _ _ _ (ix2 (0 : Fin 2) e) fun a => ?_
  match a with
  | ⟨0, _⟩ => rfl
  | ⟨1, _⟩ => exact (Nat.zero_add _).symm

theorem dst_word (e : Fin 320000) : W1 m c (Proc.devRef .tc main_v3) (ix1 e) = m (c, (Proc.devRef .tc main_arg1)) (ix2 (1 : Fin 2) e) := by
  unfold W1
  simp only [hostOps0, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  refine (cast21 _ _ (0 : Fin 1) e e (by simp)).trans ?_
  refine extractStridedSlice_apply _ _ _ _ (ix2 (1 : Fin 2) e) fun a => ?_
  match a with
  | ⟨0, _⟩ => rfl
  | ⟨1, _⟩ => exact (Nat.zero_add _).symm

/-- An edge leaves one of the distinct slots. -/
def rel (e : ℕ) : Prop := ∃ h : e < 320000, ∃ r : Fin 16, m (c, (Proc.devRef .tc main_arg1)) (ix2 (0 : Fin 2) (⟨e, h⟩ : Fin 320000)) = W13 m c (Proc.devRef .tc main_v47) (ix1 r)

open Classical in
instance : DecidablePred (rel m c) := fun _ => inferInstance

theorem mask_rel (e : Fin 320000) : W14 m c (Proc.devRef .tc main_v53) (ix1 e) = 1#1 ↔ rel m c e.val := by
  unfold W14
  simp only [hostOps0_13, StableHlo.TRef.binary, StableHlo.TRef.nullary, StableHlo.TRef.unary, StableHlo.TRef.ternary, StableHlo.TRef.reshape, StableHlo.TRef.toBuf, StableHlo.TRef.ofBuf, cast_eq]
  after_results_simp
  rw [show W13 m c (Proc.devRef .tc main_v1) = W1 m c (Proc.devRef .tc main_v1) from ((W13_keep m c main_v1 (by decide)).trans ((W12_keep m c main_v1 (by decide)).trans ((W11_keep m c main_v1 (by decide)).trans ((W10_keep m c main_v1 (by decide)).trans ((W9_keep m c main_v1 (by decide)).trans ((W8_keep m c main_v1 (by decide)).trans ((W7_keep m c main_v1 (by decide)).trans ((W6_keep m c main_v1 (by decide)).trans ((W5_keep m c main_v1 (by decide)).trans ((W4_keep m c main_v1 (by decide)).trans ((W3_keep m c main_v1 (by decide)).trans (W2_keep m c main_v1 (by decide)))))))))))))]
  refine (reduce_or _ _ _ _).trans ?_
  have hd : ∀ i : (shape2 320000 16).Idx, (reducesTo_S320000x16_S320000_d1).drop i = ix1 e ↔ i 0 = e := fun i => by
    have hv : ((reducesTo_S320000x16_S320000_d1).drop i 0 : ℕ) = i 0 := Shape.ReducesTo.drop_apply_val reducesTo_S320000x16_S320000_d1 i 0
    constructor
    · intro h
      refine Fin.ext ?_
      rw [← hv, h]
    · intro h
      rw [eq_ix1 ((reducesTo_S320000x16_S320000_d1).drop i)]
      exact congrArg ix1 (Fin.ext (hv.trans (congrArg Fin.val h)))
  have hx : ∀ (e : Fin 320000) (r : Fin 16), cmpi .eq (broadcastInDim S320000x16 ![0, 1] bcast_S320000x1_S320000x16_0_1 (broadcastInDim S320000x1 ![0] bcast_S320000_S320000x1_0 (W1 m c (Proc.devRef .tc main_v1))))
      (broadcastInDim S320000x16 ![0, 1] bcast_S1x16_S320000x16_0_1 (broadcastInDim S1x16 ![1] bcast_S16_S1x16_1 (W13 m c (Proc.devRef .tc main_v47)))) (ix2 e r) = 1#1
      ↔ m (c, (Proc.devRef .tc main_arg1)) (ix2 (0 : Fin 2) e) = W13 m c (Proc.devRef .tc main_v47) (ix1 r) := fun e r => by
    show IntOp.cmpi .eq (broadcastInDim (shape2 320000 16) ![0, 1] _ (broadcastInDim (shape2 320000 1) ![0] _ (W1 m c (Proc.devRef .tc main_v1))) (ix2 e r))
      (broadcastInDim (shape2 320000 16) ![0, 1] _ (broadcastInDim (shape2 1 16) ![1] _ (W13 m c (Proc.devRef .tc main_v47))) (ix2 e r)) = 1#1 ↔ _
    rw [bcRows, bcCols, src_word]
    exact StableHlo.Predicate.cmpi_eq_iff
  constructor
  · rintro ⟨i, hi, h⟩
    rw [hd] at hi
    obtain ⟨e', r, rfl⟩ : ∃ (e' : Fin 320000) (r : Fin 16), i = ix2 e' r := ⟨i 0, i 1, eq_ix2 i⟩
    obtain rfl : e' = e := hi
    exact ⟨e'.isLt, r, (hx e' r).1 h⟩
  · rintro ⟨_, r, h⟩
    exact ⟨ix2 e r, (hd _).2 rfl, (hx e r).2 h⟩

/-- How many edges leave a slot. -/
def nrel : ℕ := Nat.count (rel m c) 320000

theorem nrel_le : nrel m c ≤ 320000 := Nat.count_le _

theorem nrel_word : W14 m c (Proc.devRef .tc main_v55) ix0 = BitVec.ofNat 32 (nrel m c) := by
  have h := mask_rel m c
  revert h
  unfold W14
  simp only [hostOps0_13, StableHlo.TRef.binary, StableHlo.TRef.nullary, StableHlo.TRef.unary, StableHlo.TRef.ternary, StableHlo.TRef.reshape, StableHlo.TRef.toBuf, StableHlo.TRef.ofBuf, cast_eq]
  after_results_simp
  intro h
  exact total _ (rel m c) h _ _ _

theorem few_word : W28 m c (Proc.devRef .tc main_v173) ix0 = 1#1 ↔ nrel m c ≤ 1024 := by
  have hn := nrel_le m c
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_v55) = W14 m c (Proc.devRef .tc main_v55) from ((W27_keep m c main_v55 (by decide)).trans ((W26_keep m c main_v55 (by decide)).trans ((W25_keep m c main_v55 (by decide)).trans ((W24_keep m c main_v55 (by decide)).trans ((W23_keep m c main_v55 (by decide)).trans ((W22_keep m c main_v55 (by decide)).trans ((W21_keep m c main_v55 (by decide)).trans ((W20_keep m c main_v55 (by decide)).trans ((W19_keep m c main_v55 (by decide)).trans ((W18_keep m c main_v55 (by decide)).trans ((W17_keep m c main_v55 (by decide)).trans ((W16_keep m c main_v55 (by decide)).trans (W15_keep m c main_v55 (by decide))))))))))))))]
  show IntOp.cmpi .sle (W14 m c (Proc.devRef .tc main_v55) ix0) 1024#32 = 1#1 ↔ _
  rw [nrel_word]
  exact WordCmp.cmpi_sle_ofNat_eq_one_iff (by omega) (by omega)

/-! ## The compacted edges -/

/-- The edge at place `k` of the list. -/
def edge (k : Fin 1024) (h : k.val < nrel m c) : Fin 320000 := ⟨place 320000 (rel m c) k.val, (place_spec 320000 (rel m c) h).1⟩

theorem edge_val (k : Fin 1024) (h : k.val < nrel m c) : (edge m c k h).val = place 320000 (rel m c) k.val := by
  simp only [edge]

theorem edge_lt (k : Fin 1024) (h : k.val < nrel m c) : place 320000 (rel m c) k.val < 2 ^ 31 :=
  Nat.lt_trans (place_spec 320000 (rel m c) h).1 (by norm_num)

theorem valid_word (k : Fin 1024) : W24 m c (Proc.devRef .tc main_v80) (ix1 k) = if k.val < nrel m c then (1 : EReal) else 0 := by
  have hn := nrel_le m c
  unfold W24
  simp only [hostOps0_23, StableHlo.TRef.binary, StableHlo.TRef.nullary, StableHlo.TRef.unary, StableHlo.TRef.ternary, StableHlo.TRef.reshape, StableHlo.TRef.toBuf, StableHlo.TRef.ofBuf, cast_eq]
  after_results_simp
  rw [show W23 m c (Proc.devRef .tc main_v55) = W14 m c (Proc.devRef .tc main_v55) from ((W23_keep m c main_v55 (by decide)).trans ((W22_keep m c main_v55 (by decide)).trans ((W21_keep m c main_v55 (by decide)).trans ((W20_keep m c main_v55 (by decide)).trans ((W19_keep m c main_v55 (by decide)).trans ((W18_keep m c main_v55 (by decide)).trans ((W17_keep m c main_v55 (by decide)).trans ((W16_keep m c main_v55 (by decide)).trans (W15_keep m c main_v55 (by decide))))))))))]
  have hb : cmpi .slt (iotaInDim S1024 32 0) (broadcastInDim S1024 ![] bcast_S_S1024 (W14 m c (Proc.devRef .tc main_v55))) (ix1 k) = 1#1 ↔ k.val < nrel m c := by
    show IntOp.cmpi .slt (BitVec.ofNat 32 k.val) (broadcastInDim S1024 ![] bcast_S_S1024 (W14 m c (Proc.devRef .tc main_v55)) (ix1 k)) = 1#1 ↔ _
    rw [show broadcastInDim S1024 ![] bcast_S_S1024 (W14 m c (Proc.devRef .tc main_v55)) (ix1 k) = W14 m c (Proc.devRef .tc main_v55) ix0 from bc0 _ _ _, nrel_word]
    exact WordCmp.cmpi_slt_ofNat_eq_one_iff (by have := k.isLt; omega) (by omega)
  generalize cmpi .slt (iotaInDim S1024 32 0) (broadcastInDim S1024 ![] bcast_S_S1024 (W14 m c (Proc.devRef .tc main_v55))) = B at hb ⊢
  show ((((B (ix1 k)).toNat : ℝ)) : EReal) = _
  by_cases h : k.val < nrel m c
  · rw [if_pos h, hb.2 h]; simp
  · rw [if_neg h, (BitVec.eq_zero_or_eq_one _).resolve_right (fun e => h (hb.1 e))]; simp

theorem csrc_word (k : Fin 1024) (h : k.val < nrel m c) : W24 m c (Proc.devRef .tc main_v87) (ix1 k) = m (c, (Proc.devRef .tc main_arg1)) (ix2 (0 : Fin 2) (edge m c k h)) := by
  have hp := selB m c (rel m c) (mask_rel m c) k h
  unfold W24
  simp only [hostOps0_23, StableHlo.TRef.binary, StableHlo.TRef.nullary, StableHlo.TRef.unary, StableHlo.TRef.ternary, StableHlo.TRef.reshape, StableHlo.TRef.toBuf, StableHlo.TRef.ofBuf, cast_eq]
  after_results_simp
  rw [show W23 m c (Proc.devRef .tc main_v1) = W1 m c (Proc.devRef .tc main_v1) from ((W23_keep m c main_v1 (by decide)).trans ((W22_keep m c main_v1 (by decide)).trans ((W21_keep m c main_v1 (by decide)).trans ((W20_keep m c main_v1 (by decide)).trans ((W19_keep m c main_v1 (by decide)).trans ((W18_keep m c main_v1 (by decide)).trans ((W17_keep m c main_v1 (by decide)).trans ((W16_keep m c main_v1 (by decide)).trans ((W15_keep m c main_v1 (by decide)).trans ((W14_keep m c main_v1 (by decide)).trans ((W13_keep m c main_v1 (by decide)).trans ((W12_keep m c main_v1 (by decide)).trans ((W11_keep m c main_v1 (by decide)).trans ((W10_keep m c main_v1 (by decide)).trans ((W9_keep m c main_v1 (by decide)).trans ((W8_keep m c main_v1 (by decide)).trans ((W7_keep m c main_v1 (by decide)).trans ((W6_keep m c main_v1 (by decide)).trans ((W5_keep m c main_v1 (by decide)).trans ((W4_keep m c main_v1 (by decide)).trans ((W3_keep m c main_v1 (by decide)).trans (W2_keep m c main_v1 (by decide)))))))))))))))))))))))]
  refine (gather_take1 _ rfl rfl rfl rfl _ _ k (edge m c k h) ?_ (by omega)).trans (src_word m c _)
  refine (bcCol _ _ k).trans ?_
  rw [edge_val]
  exact wrap_at _ _ _ (ix1 k) hp (edge_lt m c k h) rfl

theorem cdst_word (k : Fin 1024) (h : k.val < nrel m c) : W24 m c (Proc.devRef .tc main_v94) (ix1 k) = m (c, (Proc.devRef .tc main_arg1)) (ix2 (1 : Fin 2) (edge m c k h)) := by
  have hp := selB m c (rel m c) (mask_rel m c) k h
  unfold W24
  simp only [hostOps0_23, StableHlo.TRef.binary, StableHlo.TRef.nullary, StableHlo.TRef.unary, StableHlo.TRef.ternary, StableHlo.TRef.reshape, StableHlo.TRef.toBuf, StableHlo.TRef.ofBuf, cast_eq]
  after_results_simp
  rw [show W23 m c (Proc.devRef .tc main_v3) = W1 m c (Proc.devRef .tc main_v3) from ((W23_keep m c main_v3 (by decide)).trans ((W22_keep m c main_v3 (by decide)).trans ((W21_keep m c main_v3 (by decide)).trans ((W20_keep m c main_v3 (by decide)).trans ((W19_keep m c main_v3 (by decide)).trans ((W18_keep m c main_v3 (by decide)).trans ((W17_keep m c main_v3 (by decide)).trans ((W16_keep m c main_v3 (by decide)).trans ((W15_keep m c main_v3 (by decide)).trans ((W14_keep m c main_v3 (by decide)).trans ((W13_keep m c main_v3 (by decide)).trans ((W12_keep m c main_v3 (by decide)).trans ((W11_keep m c main_v3 (by decide)).trans ((W10_keep m c main_v3 (by decide)).trans ((W9_keep m c main_v3 (by decide)).trans ((W8_keep m c main_v3 (by decide)).trans ((W7_keep m c main_v3 (by decide)).trans ((W6_keep m c main_v3 (by decide)).trans ((W5_keep m c main_v3 (by decide)).trans ((W4_keep m c main_v3 (by decide)).trans ((W3_keep m c main_v3 (by decide)).trans (W2_keep m c main_v3 (by decide)))))))))))))))))))))))]
  refine (gather_take1 _ rfl rfl rfl rfl _ _ k (edge m c k h) ?_ (by omega)).trans (dst_word m c _)
  refine (bcCol _ _ k).trans ?_
  rw [edge_val]
  exact wrap_at _ _ _ (ix1 k) hp (edge_lt m c k h) rfl

theorem cxd_row (k : Fin 1024) (h : k.val < nrel m c) (j : Fin 128) : W24 m c (Proc.devRef .tc main_v101) (ix2 k j)
    = m (c, (Proc.devRef .tc main_arg0)) (ix2 (⟨row 10000 (wrapped 10000#32 (m (c, (Proc.devRef .tc main_arg1)) (ix2 (1 : Fin 2) (edge m c k h)))), row_lt _ (by omega)⟩ : Fin 10000) j) := by
  have hd := cdst_word m c k h
  revert hd
  unfold W24
  simp only [hostOps0_23, StableHlo.TRef.binary, StableHlo.TRef.nullary, StableHlo.TRef.unary, StableHlo.TRef.ternary, StableHlo.TRef.reshape, StableHlo.TRef.toBuf, StableHlo.TRef.ofBuf, cast_eq]
  after_results_simp
  intro hd
  rw [show W23 m c (Proc.devRef .tc main_arg0) = m (c, (Proc.devRef .tc main_arg0)) from (((W23_keep m c main_arg0 (by decide)).trans ((W22_keep m c main_arg0 (by decide)).trans ((W21_keep m c main_arg0 (by decide)).trans ((W20_keep m c main_arg0 (by decide)).trans ((W19_keep m c main_arg0 (by decide)).trans ((W18_keep m c main_arg0 (by decide)).trans ((W17_keep m c main_arg0 (by decide)).trans ((W16_keep m c main_arg0 (by decide)).trans ((W15_keep m c main_arg0 (by decide)).trans ((W14_keep m c main_arg0 (by decide)).trans ((W13_keep m c main_arg0 (by decide)).trans ((W12_keep m c main_arg0 (by decide)).trans ((W11_keep m c main_arg0 (by decide)).trans ((W10_keep m c main_arg0 (by decide)).trans ((W9_keep m c main_arg0 (by decide)).trans ((W8_keep m c main_arg0 (by decide)).trans ((W7_keep m c main_arg0 (by decide)).trans ((W6_keep m c main_arg0 (by decide)).trans ((W5_keep m c main_arg0 (by decide)).trans ((W4_keep m c main_arg0 (by decide)).trans ((W3_keep m c main_arg0 (by decide)).trans ((W2_keep m c main_arg0 (by decide)).trans (W1_keep m c main_arg0 (by decide))))))))))))))))))))))))).trans rfl]
  refine gather_rows _ rfl rfl rfl rfl rfl _ _ k j (by omega) (by omega) _ ?_
  refine (bcCol _ _ k).trans ?_
  rw [← hd]
  rfl

theorem cea_row (k : Fin 1024) (h : k.val < nrel m c) (j : Fin 16) : W24 m c (Proc.devRef .tc main_v108) (ix2 k j) = m (c, (Proc.devRef .tc main_arg2)) (ix2 (edge m c k h) j) := by
  have hp := selB m c (rel m c) (mask_rel m c) k h
  unfold W24
  simp only [hostOps0_23, StableHlo.TRef.binary, StableHlo.TRef.nullary, StableHlo.TRef.unary, StableHlo.TRef.ternary, StableHlo.TRef.reshape, StableHlo.TRef.toBuf, StableHlo.TRef.ofBuf, cast_eq]
  after_results_simp
  rw [show W23 m c (Proc.devRef .tc main_arg2) = m (c, (Proc.devRef .tc main_arg2)) from (((W23_keep m c main_arg2 (by decide)).trans ((W22_keep m c main_arg2 (by decide)).trans ((W21_keep m c main_arg2 (by decide)).trans ((W20_keep m c main_arg2 (by decide)).trans ((W19_keep m c main_arg2 (by decide)).trans ((W18_keep m c main_arg2 (by decide)).trans ((W17_keep m c main_arg2 (by decide)).trans ((W16_keep m c main_arg2 (by decide)).trans ((W15_keep m c main_arg2 (by decide)).trans ((W14_keep m c main_arg2 (by decide)).trans ((W13_keep m c main_arg2 (by decide)).trans ((W12_keep m c main_arg2 (by decide)).trans ((W11_keep m c main_arg2 (by decide)).trans ((W10_keep m c main_arg2 (by decide)).trans ((W9_keep m c main_arg2 (by decide)).trans ((W8_keep m c main_arg2 (by decide)).trans ((W7_keep m c main_arg2 (by decide)).trans ((W6_keep m c main_arg2 (by decide)).trans ((W5_keep m c main_arg2 (by decide)).trans ((W4_keep m c main_arg2 (by decide)).trans ((W3_keep m c main_arg2 (by decide)).trans ((W2_keep m c main_arg2 (by decide)).trans (W1_keep m c main_arg2 (by decide))))))))))))))))))))))))).trans rfl]
  refine gather_row _ rfl rfl rfl rfl rfl _ _ k j (edge m c k h) ?_ (by omega)
  refine (bcCol _ _ k).trans ?_
  rw [edge_val]
  exact wrap_at _ _ _ (ix1 k) hp (edge_lt m c k h) rfl

/-! ## The slots' rows -/

theorem clip_word {s : Shape} (Z A N : IVec s 32) (i : s.Idx) {a : ℕ} (hA : A i = BitVec.ofNat 32 a) (ha : a < 10000) (hZ : Z i = 0#32) (hN : N i = 9999#32) :
    minsi N (maxsi Z A) i = BitVec.ofNat 32 a := by
  show IntOp.minsi (N i) (IntOp.maxsi (Z i) (A i)) = _
  have h0 : (BitVec.ofNat 32 a).toInt = a := StableHlo.Predicate.toInt_ofNat_small _ (by omega)
  have h9 : (9999#32 : BitVec 32).toInt = 9999 := rfl
  have hz : (0#32 : BitVec 32).toInt = 0 := rfl
  rw [hA, hZ, hN]
  have e1 : IntOp.maxsi 0#32 (BitVec.ofNat 32 a) = BitVec.ofNat 32 a := by
    unfold IntOp.maxsi
    rw [if_neg (by rw [BitVec.slt_iff_toInt_lt, h0, hz]; omega)]
  rw [e1]
  unfold IntOp.minsi
  rw [if_neg (by rw [BitVec.slt_iff_toInt_lt, h0, h9]; omega)]

theorem xs_row (q : Fin 64) (a : Fin 10000) (h : W1 m c (Proc.devRef .tc main_v13) (ix1 q) = BitVec.ofNat 32 a.val) (j : Fin 128) :
    W26 m c (Proc.devRef .tc main_v116) (ix2 q j) = m (c, (Proc.devRef .tc main_arg0)) (ix2 a j) := by
  have hc : W25 m c (Proc.devRef .tc main_v109) (ix1 q) = BitVec.ofNat 32 a.val := by
    have h0 : W24 m c (Proc.devRef .tc main_c_31) = constantI S_ 32 0#32 := by
      unfold W24
      simp only [hostOps0_23, StableHlo.TRef.binary, StableHlo.TRef.nullary, StableHlo.TRef.unary, StableHlo.TRef.ternary, StableHlo.TRef.reshape, StableHlo.TRef.toBuf, StableHlo.TRef.ofBuf, cast_eq]
      after_results_simp
    have h9 : W24 m c (Proc.devRef .tc main_c_32) = constantI S_ 32 9999#32 := by
      unfold W24
      simp only [hostOps0_23, StableHlo.TRef.binary, StableHlo.TRef.nullary, StableHlo.TRef.unary, StableHlo.TRef.ternary, StableHlo.TRef.reshape, StableHlo.TRef.toBuf, StableHlo.TRef.ofBuf, cast_eq]
      after_results_simp
    rw [← show W24 m c (Proc.devRef .tc main_v13) = W1 m c (Proc.devRef .tc main_v13) from ((W24_keep m c main_v13 (by decide)).trans ((W23_keep m c main_v13 (by decide)).trans ((W22_keep m c main_v13 (by decide)).trans ((W21_keep m c main_v13 (by decide)).trans ((W20_keep m c main_v13 (by decide)).trans ((W19_keep m c main_v13 (by decide)).trans ((W18_keep m c main_v13 (by decide)).trans ((W17_keep m c main_v13 (by decide)).trans ((W16_keep m c main_v13 (by decide)).trans ((W15_keep m c main_v13 (by decide)).trans ((W14_keep m c main_v13 (by decide)).trans ((W13_keep m c main_v13 (by decide)).trans ((W12_keep m c main_v13 (by decide)).trans ((W11_keep m c main_v13 (by decide)).trans ((W10_keep m c main_v13 (by decide)).trans ((W9_keep m c main_v13 (by decide)).trans ((W8_keep m c main_v13 (by decide)).trans ((W7_keep m c main_v13 (by decide)).trans ((W6_keep m c main_v13 (by decide)).trans ((W5_keep m c main_v13 (by decide)).trans ((W4_keep m c main_v13 (by decide)).trans ((W3_keep m c main_v13 (by decide)).trans (W2_keep m c main_v13 (by decide))))))))))))))))))))))))] at h
    unfold W25
    simp only [hostOps0_24, StableHlo.TRef.binary, StableHlo.TRef.nullary, StableHlo.TRef.unary, StableHlo.TRef.ternary, StableHlo.TRef.reshape, StableHlo.TRef.toBuf, StableHlo.TRef.ofBuf, cast_eq]
    after_results_simp
    rw [h0, h9]
    exact clip_word _ _ _ (ix1 q) h a.isLt rfl rfl
  unfold W26
  simp only [hostOps0_25, StableHlo.TRef.binary, StableHlo.TRef.nullary, StableHlo.TRef.unary, StableHlo.TRef.ternary, StableHlo.TRef.reshape, StableHlo.TRef.toBuf, StableHlo.TRef.ofBuf, cast_eq]
  after_results_simp
  rw [show W25 m c (Proc.devRef .tc main_arg0) = m (c, (Proc.devRef .tc main_arg0)) from (((W25_keep m c main_arg0 (by decide)).trans ((W24_keep m c main_arg0 (by decide)).trans ((W23_keep m c main_arg0 (by decide)).trans ((W22_keep m c main_arg0 (by decide)).trans ((W21_keep m c main_arg0 (by decide)).trans ((W20_keep m c main_arg0 (by decide)).trans ((W19_keep m c main_arg0 (by decide)).trans ((W18_keep m c main_arg0 (by decide)).trans ((W17_keep m c main_arg0 (by decide)).trans ((W16_keep m c main_arg0 (by decide)).trans ((W15_keep m c main_arg0 (by decide)).trans ((W14_keep m c main_arg0 (by decide)).trans ((W13_keep m c main_arg0 (by decide)).trans ((W12_keep m c main_arg0 (by decide)).trans ((W11_keep m c main_arg0 (by decide)).trans ((W10_keep m c main_arg0 (by decide)).trans ((W9_keep m c main_arg0 (by decide)).trans ((W8_keep m c main_arg0 (by decide)).trans ((W7_keep m c main_arg0 (by decide)).trans ((W6_keep m c main_arg0 (by decide)).trans ((W5_keep m c main_arg0 (by decide)).trans ((W4_keep m c main_arg0 (by decide)).trans ((W3_keep m c main_arg0 (by decide)).trans ((W2_keep m c main_arg0 (by decide)).trans (W1_keep m c main_arg0 (by decide))))))))))))))))))))))))))).trans rfl]
  refine gather_row _ rfl rfl rfl rfl rfl _ _ q j a ?_ (by omega)
  refine (bcCol _ _ q).trans ?_
  exact wrap_at _ _ _ (ix1 q) hc (by omega) rfl

theorem xu_row (r : Fin 16) (a : Fin 10000) (h : W13 m c (Proc.devRef .tc main_v47) (ix1 r) = BitVec.ofNat 32 a.val) (j : Fin 128) :
    W28 m c (Proc.devRef .tc main_v124) (ix2 r j) = m (c, (Proc.devRef .tc main_arg0)) (ix2 a j) := by
  have hc : W27 m c (Proc.devRef .tc main_v117) (ix1 r) = BitVec.ofNat 32 a.val := by
    have h0 : W26 m c (Proc.devRef .tc main_c_35) = constantI S_ 32 0#32 := by
      unfold W26
      simp only [hostOps0_25, StableHlo.TRef.binary, StableHlo.TRef.nullary, StableHlo.TRef.unary, StableHlo.TRef.ternary, StableHlo.TRef.reshape, StableHlo.TRef.toBuf, StableHlo.TRef.ofBuf, cast_eq]
      after_results_simp
    have h9 : W26 m c (Proc.devRef .tc main_c_36) = constantI S_ 32 9999#32 := by
      unfold W26
      simp only [hostOps0_25, StableHlo.TRef.binary, StableHlo.TRef.nullary, StableHlo.TRef.unary, StableHlo.TRef.ternary, StableHlo.TRef.reshape, StableHlo.TRef.toBuf, StableHlo.TRef.ofBuf, cast_eq]
      after_results_simp
    rw [← show W26 m c (Proc.devRef .tc main_v47) = W13 m c (Proc.devRef .tc main_v47) from ((W26_keep m c main_v47 (by decide)).trans ((W25_keep m c main_v47 (by decide)).trans ((W24_keep m c main_v47 (by decide)).trans ((W23_keep m c main_v47 (by decide)).trans ((W22_keep m c main_v47 (by decide)).trans ((W21_keep m c main_v47 (by decide)).trans ((W20_keep m c main_v47 (by decide)).trans ((W19_keep m c main_v47 (by decide)).trans ((W18_keep m c main_v47 (by decide)).trans ((W17_keep m c main_v47 (by decide)).trans ((W16_keep m c main_v47 (by decide)).trans ((W15_keep m c main_v47 (by decide)).trans (W14_keep m c main_v47 (by decide))))))))))))))] at h
    unfold W27
    simp only [hostOps0_26, StableHlo.TRef.binary, StableHlo.TRef.nullary, StableHlo.TRef.unary, StableHlo.TRef.ternary, StableHlo.TRef.reshape, StableHlo.TRef.toBuf, StableHlo.TRef.ofBuf, cast_eq]
    after_results_simp
    rw [h0, h9]
    exact clip_word _ _ _ (ix1 r) h a.isLt rfl rfl
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg0) = m (c, (Proc.devRef .tc main_arg0)) from (((W27_keep m c main_arg0 (by decide)).trans ((W26_keep m c main_arg0 (by decide)).trans ((W25_keep m c main_arg0 (by decide)).trans ((W24_keep m c main_arg0 (by decide)).trans ((W23_keep m c main_arg0 (by decide)).trans ((W22_keep m c main_arg0 (by decide)).trans ((W21_keep m c main_arg0 (by decide)).trans ((W20_keep m c main_arg0 (by decide)).trans ((W19_keep m c main_arg0 (by decide)).trans ((W18_keep m c main_arg0 (by decide)).trans ((W17_keep m c main_arg0 (by decide)).trans ((W16_keep m c main_arg0 (by decide)).trans ((W15_keep m c main_arg0 (by decide)).trans ((W14_keep m c main_arg0 (by decide)).trans ((W13_keep m c main_arg0 (by decide)).trans ((W12_keep m c main_arg0 (by decide)).trans ((W11_keep m c main_arg0 (by decide)).trans ((W10_keep m c main_arg0 (by decide)).trans ((W9_keep m c main_arg0 (by decide)).trans ((W8_keep m c main_arg0 (by decide)).trans ((W7_keep m c main_arg0 (by decide)).trans ((W6_keep m c main_arg0 (by decide)).trans ((W5_keep m c main_arg0 (by decide)).trans ((W4_keep m c main_arg0 (by decide)).trans ((W3_keep m c main_arg0 (by decide)).trans ((W2_keep m c main_arg0 (by decide)).trans (W1_keep m c main_arg0 (by decide))))))))))))))))))))))))))))).trans rfl]
  refine gather_row _ rfl rfl rfl rfl rfl _ _ r j a ?_ (by omega)
  refine (bcCol _ _ r).trans ?_
  exact wrap_at _ _ _ (ix1 r) hc (by omega) rfl

end Cert.Proof.KernelIdeal
-- ==== Proof.Pay.lean ====
module

public import proofs.«01_k».proof.Proof.IdealKeep
public import Idealize.ShloMosaic.Lib.Routing.Ops
public import Idealize.ShloMosaic.Lib.MatmulPlain
public import Idealize.ShloMosaic.Lib.IdealHost

@[expose] public section

/-!
The body's values read at an index: each product as a sum, each masked operand as a choice, the two heads as the softplus quotients of
two columns.
-/

set_option maxRecDepth 8192

noncomputable section

namespace Cert.Proof.KernelIdeal

open Cert.KernelIdeal Cert.KernelIdeal.Gen
open Idealize.ShloMosaic Idealize.ShloMosaic.ValueIdx
open scoped BigOperators

/-- The word of the added constant 1e-20 as an extended real. -/
def eps : EReal := Ideal.ofBits .f32 0x1E3CE508#32

/-- Softplus as both programs compute it, on `y`. -/
def sp (y : EReal) : EReal := max y 0 + FloatOps.log1p (F := Ideal) (φ := .f32) (FloatOps.exp (F := Ideal) (φ := .f32) (-(max (y - 0) (-(y - 0)))))

/-- One head's quotient from its two scores. -/
def quot (y0 y1 : EReal) : EReal := Ideal.div (sp (y0 + eps) + eps) ((sp (y0 + eps) + eps) + (sp (y1 + eps) + eps))

theorem mm {M K N : ℕ} (A : FVec Ideal ⟨2, ![M, K]⟩ .f32) (B : FVec Ideal ⟨2, ![K, N]⟩ .f32) (r : Fin M) (c : Fin N) :
    FloatOps.matmul (DotDims.plain M K N) none A B (constant ⟨2, ![M, N]⟩ .f32 0x00000000#32) (ix2 r c) = ∑ k : Fin K, A (ix2 r k) * B (ix2 k c) := by
  rw [Ideal.matmul_plain_apply]
  show Ideal.ofBits .f32 0x00000000#32 + _ = _
  rw [Ideal.ofBits_zero_f32, zero_add]

/-- A column spread over the columns. -/
theorem colTo {α : Type} {M N : ℕ} (x : (⟨2, ![M, 1]⟩ : Shape).Idx → α) (h : (⟨2, ![M, 1]⟩ : Shape).Broadcasts ⟨2, ![M, N]⟩) (r : Fin M) (c : Fin N)  :
    broadcastTo ⟨2, ![M, N]⟩ x h (ix2 r c) = x (ix2 r (0 : Fin 1)) := by
  refine broadcastTo_apply x h _ _ fun a => ?_
  match a with
  | ⟨0, _⟩ =>
    show r.val = if M = 1 then 0 else r.val
    split
    · have := r.isLt; omega
    · rfl
  | ⟨1, _⟩ => rfl

/-- A row spread over the rows. -/
theorem rowTo {α : Type} {M N : ℕ} (x : (⟨2, ![1, N]⟩ : Shape).Idx → α) (h : (⟨2, ![1, N]⟩ : Shape).Broadcasts ⟨2, ![M, N]⟩) (r : Fin M) (c : Fin N) :
    broadcastTo ⟨2, ![M, N]⟩ x h (ix2 r c) = x (ix2 (0 : Fin 1) c) := by
  refine broadcastTo_apply x h _ _ fun a => ?_
  match a with
  | ⟨0, _⟩ => rfl
  | ⟨1, _⟩ =>
    show c.val = if N = 1 then 0 else c.val
    split
    · have := c.isLt; omega
    · rfl

theorem sel_eq {α : Type} (a b : BitVec 32) (x y : α) : Scalar.select (IntOp.cmpi .eq a b) x y = if a = b then x else y := by
  have h := StableHlo.Predicate.cmpi_eq_iff (a := a) (b := b)
  unfold Scalar.select
  by_cases e : a = b
  · rw [if_pos e]; exact if_pos (h.2 e)
  · rw [if_neg e]; exact if_neg (fun q => e (h.1 q))

/-- The hidden layer before its rectifier, at row `c` and column `k`. -/
theorem pay3_apply (v0 : Vec Ideal S16x128 .f32) (v2 : Vec Ideal S128x32 .f32) (v5 : Vec Ideal S1024x1 .i32) (v7 : Vec Ideal S1x16 .i32) (v12 : Vec Ideal S1024x1 .f32) (v19 : Vec Ideal S1024x128 .f32) (v21 : Vec Ideal S128x32 .f32) (v25 : Vec Ideal S1024x16 .f32) (v27 : Vec Ideal S16x32 .f32) (v31 : Vec Ideal S1x32 .f32) (c : Fin 1024) (k : Fin 32) :
    k0_pay3 v0 v2 v5 v7 v12 v19 v21 v25 v27 v31 (ix2 c k)
      = (((∑ r : Fin 16, (if (v5 (ix2 c (0 : Fin 1)) : BitVec 32) = v7 (ix2 (0 : Fin 1) r) then v12 (ix2 c (0 : Fin 1)) else (0 : EReal)) * (∑ j : Fin 128, (v0 (ix2 r j) : EReal) * v2 (ix2 j k)))
        + ∑ j : Fin 128, (v19 (ix2 c j) : EReal) * v21 (ix2 j k))
        + ∑ j : Fin 16, (v25 (ix2 c j) : EReal) * v27 (ix2 j k))
        + (v31 (ix2 (0 : Fin 1) k) : EReal) := by
  unfold k0_pay3
  simp only [shapeCast_self]
  refine congrArg₂ (HAdd.hAdd (α := EReal)) (congrArg₂ (HAdd.hAdd (α := EReal)) (congrArg₂ (HAdd.hAdd (α := EReal)) ?_ ?_) ?_) ?_
  · refine (mm (M := 1024) (K := 16) (N := 32) _ _ c k).trans (Finset.sum_congr rfl fun r _ => congrArg₂ (HMul.hMul (α := EReal)) ?_ (mm (M := 16) (K := 128) (N := 32) v0 v2 r k))
    refine (sel_eq _ _ _ _).trans ?_
    rw [colTo, rowTo, colTo]
    exact if_congr Iff.rfl rfl Ideal.ofBits_zero_f32
  · exact mm (M := 1024) (K := 128) (N := 32) _ _ c k
  · exact mm (M := 1024) (K := 16) (N := 32) _ _ c k
  · exact rowTo _ _ c k

/-- The aggregated message at slot row `q` and column `k`. -/
theorem pay4_apply (v34 : FVec Ideal S1024x32 .f32) (v37 : Vec Ideal S16x1 .i32) (v39 : Vec Ideal S1x1024 .i32) (v44 : Vec Ideal S1x1024 .f32) (v53 : Vec Ideal S32x32 .f32) (v55 : Vec Ideal S1x32 .f32) (v61 : Vec Ideal S64x1 .i32) (v63 : Vec Ideal S1x16 .i32) (q : Fin 64) (k : Fin 32) :
    k0_pay4 v34 v37 v39 v44 v53 v55 v61 v63 (ix2 q k)
      = ∑ r : Fin 16, (if (v61 (ix2 q (0 : Fin 1)) : BitVec 32) = v63 (ix2 (0 : Fin 1) r) then (1 : EReal) else 0) *
        ((∑ j : Fin 32, (∑ c : Fin 1024, (if (v37 (ix2 r (0 : Fin 1)) : BitVec 32) = v39 (ix2 (0 : Fin 1) c) then v44 (ix2 (0 : Fin 1) c) else (0 : EReal)) * max (v34 (ix2 c j) : EReal) 0) * (v53 (ix2 j k) : EReal))
          + (∑ c : Fin 1024, (if (v37 (ix2 r (0 : Fin 1)) : BitVec 32) = v39 (ix2 (0 : Fin 1) c) then v44 (ix2 (0 : Fin 1) c) else (0 : EReal)) * 1) * (v55 (ix2 (0 : Fin 1) k) : EReal)) := by
  unfold k0_pay4
  simp only [shapeCast_self]
  have hm : ∀ (r : Fin 16) (c : Fin 1024), select (cmpi .eq (broadcastTo S16x1024 v37 broadcasts_S16x1_S16x1024) (broadcastTo S16x1024 v39 broadcasts_S1x1024_S16x1024)) (broadcastTo S16x1024 v44 broadcasts_S1x1024_S16x1024) (broadcast S16x1024 (Scalar.ofBits (F := Ideal) .f32 0x00000000#32)) (ix2 r c)
      = if (v37 (ix2 r (0 : Fin 1)) : BitVec 32) = v39 (ix2 (0 : Fin 1) c) then v44 (ix2 (0 : Fin 1) c) else (0 : EReal) := fun r c => by
    refine (sel_eq _ _ _ _).trans ?_
    rw [colTo, rowTo, rowTo]
    exact if_congr Iff.rfl rfl Ideal.ofBits_zero_f32
  refine (mm (M := 64) (K := 16) (N := 32) _ _ q k).trans (Finset.sum_congr rfl fun r _ => congrArg₂ (HMul.hMul (α := EReal)) ?_ ?_)
  · refine (sel_eq _ _ _ _).trans ?_
    rw [colTo, rowTo]
    exact if_congr Iff.rfl Ideal.ofBits_one_f32 Ideal.ofBits_zero_f32
  · refine congrArg₂ (HAdd.hAdd (α := EReal)) ?_ (congrArg₂ (HMul.hMul (α := EReal)) ?_ (rowTo _ _ r k))
    · refine (mm (M := 16) (K := 32) (N := 32) _ _ r k).trans (Finset.sum_congr rfl fun j _ => congrArg (· * (v53 (ix2 j k) : EReal)) ?_)
      refine (mm (M := 16) (K := 1024) (N := 32) _ _ r j).trans (Finset.sum_congr rfl fun c _ => congrArg₂ (HMul.hMul (α := EReal)) (hm r c) ?_)
      exact congrArg (max (v34 (ix2 c j) : EReal)) Ideal.ofBits_zero_f32
    · refine (colTo _ _ r k).trans ((mm (M := 16) (K := 1024) (N := 1) _ _ r 0).trans (Finset.sum_congr rfl fun c _ => congrArg₂ (HMul.hMul (α := EReal)) (hm r c) ?_))
      exact Ideal.ofBits_one_f32

theorem one_ne (d : EReal) (x y : EReal) : Scalar.select (FloatOps.cmpf (F := Ideal) (φ := .f32) .one d d) x y = y := by
  rw [Ideal.cmpf_def]
  refine if_neg ?_
  simp [Ideal.cmp]

/-- Column `k` of the softplus block. -/
theorem sp_eq (y : EReal) : (Scalar.select (FloatOps.cmpf (F := Ideal) (φ := .f32) .one (y - Ideal.ofBits .f32 0x00000000#32) (y - Ideal.ofBits .f32 0x00000000#32)) (y + Ideal.ofBits .f32 0x00000000#32)
    (max y (Ideal.ofBits .f32 0x00000000#32) + FloatOps.log1p (F := Ideal) (φ := .f32) (FloatOps.exp (F := Ideal) (φ := .f32) (Ideal.ofBits .f32 0x00000000#32 - FloatOps.absf (F := Ideal) (φ := .f32) (y - Ideal.ofBits .f32 0x00000000#32))))) = sp y := by
  rw [one_ne, Ideal.ofBits_zero_f32, Ideal.absf_def, zero_sub]
  rfl

/-- The first head's quotient at row `i`. -/
theorem pay6_apply (v71 : FVec Ideal S64x32 .f32) (v72 : Vec Ideal S64x128 .f32) (v79 : Vec Ideal S320x128 .f32) (v82 : Vec Ideal S1x128 .f32) (i : Fin 24)
    (ef : Fin 320 → EReal)
    (h1 : ∀ j : Fin 128, ef ⟨j.val, by omega⟩ = v72 (ix2 (⟨i.val, by omega⟩ : Fin 64) j))
    (h2 : ∀ j : Fin 32, ef ⟨128 + j.val, by omega⟩ = v71 (ix2 (⟨i.val, by omega⟩ : Fin 64) j))
    (h3 : ∀ j : Fin 128, ef ⟨160 + j.val, by omega⟩ = v72 (ix2 (⟨24 + i.val, by omega⟩ : Fin 64) j))
    (h4 : ∀ j : Fin 32, ef ⟨288 + j.val, by omega⟩ = v71 (ix2 (⟨24 + i.val, by omega⟩ : Fin 64) j)) :
    k0_pay6 v71 v72 v79 v82 (ix2 i (0 : Fin 1))
      = quot ((∑ k : Fin 320, ef k * (v79 (ix2 k (0 : Fin 128)) : EReal)) + (v82 (ix2 (0 : Fin 1) (0 : Fin 128)) : EReal))
          ((∑ k : Fin 320, ef k * (v79 (ix2 k (1 : Fin 128)) : EReal)) + (v82 (ix2 (0 : Fin 1) (1 : Fin 128)) : EReal)) := by
  have h5 : k0_pay5 v72 = v72 := shapeCast_self _ _
  unfold k0_pay6
  rw [h5]
  simp only [shapeCast_self]
  have hc : ∀ k : Fin 320, concatenate S24x320 1 [⟨S24x128, extractStridedSlice S24x128 ![0, 0] v72 slices_S64x128_o0_0_S24x128⟩, ⟨S24x32, extractStridedSlice S24x32 ![0, 0] v71 slices_S64x32_o0_0_S24x32⟩, ⟨S24x128, extractStridedSlice S24x128 ![24, 0] v72 slices_S64x128_o24_0_S24x128⟩, ⟨S24x32, extractStridedSlice S24x32 ![24, 0] v71 slices_S64x32_o24_0_S24x32⟩] concatenates_S24x128_S24x32_S24x128_S24x32_S24x320_d1 (ix2 i k) = ef k := fun k => by
    have hk := k.isLt
    rcases Nat.lt_or_ge k.val 128 with g1 | g1
    · refine Eq.trans (concatenate_apply_piece (1 : Fin 2) _ _ (ix2 i k) 0 (by simp) S24x128 _ rfl rfl 0 rfl (ix2 i (⟨k.val, g1⟩ : Fin 128)) (fun b hb => ?_) (Nat.zero_add _)) ?_
      · match b with
        | ⟨0, _⟩ => rfl
        | ⟨1, _⟩ => exact absurd rfl hb
      · refine (extractStridedSlice_apply _ _ _ _ (ix2 (⟨i.val, by omega⟩ : Fin 64) (⟨k.val, g1⟩ : Fin 128)) fun b => ?_).trans (h1 ⟨k.val, g1⟩).symm
        match b with
        | ⟨0, _⟩ => exact (Nat.zero_add _).symm
        | ⟨1, _⟩ => exact (Nat.zero_add _).symm
    rcases Nat.lt_or_ge k.val 160 with g2 | g2
    · have e : k = ⟨128 + (⟨k.val - 128, by omega⟩ : Fin 32).val, by dsimp only; omega⟩ := Fin.ext (by dsimp only; omega)
      refine Eq.trans (concatenate_apply_piece (1 : Fin 2) _ _ (ix2 i k) 1 (by simp) S24x32 _ rfl rfl 128 rfl (ix2 i (⟨k.val - 128, by omega⟩ : Fin 32)) (fun b hb => ?_) (show 128 + (k.val - 128) = k.val by omega)) ?_
      · match b with
        | ⟨0, _⟩ => rfl
        | ⟨1, _⟩ => exact absurd rfl hb
      · refine (extractStridedSlice_apply _ _ _ _ (ix2 (⟨i.val, by omega⟩ : Fin 64) (⟨k.val - 128, by omega⟩ : Fin 32)) fun b => ?_).trans ((h2 ⟨k.val - 128, by omega⟩).symm.trans (congrArg ef e.symm))
        match b with
        | ⟨0, _⟩ => exact (Nat.zero_add _).symm
        | ⟨1, _⟩ => exact (Nat.zero_add _).symm
    rcases Nat.lt_or_ge k.val 288 with g3 | g3
    · have e : k = ⟨160 + (⟨k.val - 160, by omega⟩ : Fin 128).val, by dsimp only; omega⟩ := Fin.ext (by dsimp only; omega)
      refine Eq.trans (concatenate_apply_piece (1 : Fin 2) _ _ (ix2 i k) 2 (by simp) S24x128 _ rfl rfl 160 rfl (ix2 i (⟨k.val - 160, by omega⟩ : Fin 128)) (fun b hb => ?_) (show 160 + (k.val - 160) = k.val by omega)) ?_
      · match b with
        | ⟨0, _⟩ => rfl
        | ⟨1, _⟩ => exact absurd rfl hb
      · refine (extractStridedSlice_apply _ _ _ _ (ix2 (⟨24 + i.val, by omega⟩ : Fin 64) (⟨k.val - 160, by omega⟩ : Fin 128)) fun b => ?_).trans ((h3 ⟨k.val - 160, by omega⟩).symm.trans (congrArg ef e.symm))
        match b with
        | ⟨0, _⟩ => rfl
        | ⟨1, _⟩ => exact (Nat.zero_add _).symm
    · have e : k = ⟨288 + (⟨k.val - 288, by omega⟩ : Fin 32).val, by dsimp only; omega⟩ := Fin.ext (by dsimp only; omega)
      refine Eq.trans (concatenate_apply_piece (1 : Fin 2) _ _ (ix2 i k) 3 (by simp) S24x32 _ rfl rfl 288 rfl (ix2 i (⟨k.val - 288, by omega⟩ : Fin 32)) (fun b hb => ?_) (show 288 + (k.val - 288) = k.val by omega)) ?_
      · match b with
        | ⟨0, _⟩ => rfl
        | ⟨1, _⟩ => exact absurd rfl hb
      · refine (extractStridedSlice_apply _ _ _ _ (ix2 (⟨24 + i.val, by omega⟩ : Fin 64) (⟨k.val - 288, by omega⟩ : Fin 32)) fun b => ?_).trans ((h4 ⟨k.val - 288, by omega⟩).symm.trans (congrArg ef e.symm))
        match b with
        | ⟨0, _⟩ => rfl
        | ⟨1, _⟩ => exact (Nat.zero_add _).symm
  have hz : ∀ l : Fin 128, matmul (F := Ideal) dot_S24x320_S320x128_S24x128_1_0_0_1_n_n none (concatenate S24x320 1 [⟨S24x128, extractStridedSlice S24x128 ![0, 0] v72 slices_S64x128_o0_0_S24x128⟩, ⟨S24x32, extractStridedSlice S24x32 ![0, 0] v71 slices_S64x32_o0_0_S24x32⟩, ⟨S24x128, extractStridedSlice S24x128 ![24, 0] v72 slices_S64x128_o24_0_S24x128⟩, ⟨S24x32, extractStridedSlice S24x32 ![24, 0] v71 slices_S64x32_o24_0_S24x32⟩] concatenates_S24x128_S24x32_S24x128_S24x32_S24x320_d1) v79 (constant S24x128 .f32 0x00000000#32) (ix2 i l)
      = ∑ k : Fin 320, ef k * (v79 (ix2 k l) : EReal) := fun l => by
    refine (mm (M := 24) (K := 320) (N := 128) _ _ i l).trans (Finset.sum_congr rfl fun k _ => ?_)
    exact congrArg (· * (v79 (ix2 k l) : EReal)) (hc k)
  generalize matmul (F := Ideal) dot_S24x320_S320x128_S24x128_1_0_0_1_n_n none _ v79 (constant S24x128 .f32 0x00000000#32) = Z at hz ⊢
  unfold quot
  have hcol : ∀ (X : FVec Ideal S24x128 .f32), extractStridedSlice S24x1 ![0, 0] X slices_S24x128_o0_0_S24x1 (ix2 i (0 : Fin 1)) = X (ix2 i (0 : Fin 128)) := fun X => by
    refine extractStridedSlice_apply _ _ _ _ _ fun b => ?_
    match b with
    | ⟨0, _⟩ => exact (Nat.zero_add _).symm
    | ⟨1, _⟩ => rfl
  have hcol1 : ∀ (X : FVec Ideal S24x128 .f32), extractStridedSlice S24x1 ![0, 1] X slices_S24x128_o0_1_S24x1 (ix2 i (0 : Fin 1)) = X (ix2 i (1 : Fin 128)) := fun X => by
    refine extractStridedSlice_apply _ _ _ _ _ fun b => ?_
    match b with
    | ⟨0, _⟩ => exact (Nat.zero_add _).symm
    | ⟨1, _⟩ => rfl
  refine congrArg₂ Ideal.div ((hcol _).trans ?_) (congrArg₂ (HAdd.hAdd (α := EReal)) ((hcol _).trans ?_) ((hcol1 _).trans ?_)) <;>
  · refine congrArg (· + eps) ((sp_eq _).trans (congrArg sp (congrArg (· + eps) (congrArg₂ (HAdd.hAdd (α := EReal)) (hz _) (rowTo _ _ i _)))))

/-- The second head's scores before the bias at row `i`, column `l`. -/
theorem pay7_apply (v71 : FVec Ideal S64x32 .f32) (v72 : Vec Ideal S64x128 .f32) (v112 : Vec Ideal S160x128 .f32) (i : Fin 8) (l : Fin 128)
    (ef : Fin 160 → EReal)
    (h1 : ∀ j : Fin 128, ef ⟨j.val, by omega⟩ = v72 (ix2 (⟨48 + i.val, by omega⟩ : Fin 64) j))
    (h2 : ∀ j : Fin 32, ef ⟨128 + j.val, by omega⟩ = v71 (ix2 (⟨48 + i.val, by omega⟩ : Fin 64) j)) :
    k0_pay7 v71 v72 v112 (ix2 i l) = ∑ k : Fin 160, ef k * (v112 (ix2 k l) : EReal) := by
  have h5 : k0_pay5 v72 = v72 := shapeCast_self _ _
  unfold k0_pay7
  rw [h5]
  simp only [shapeCast_self]
  refine (mm (M := 8) (K := 160) (N := 128) _ _ i l).trans (Finset.sum_congr rfl fun k _ => congrArg (· * (v112 (ix2 k l) : EReal)) ?_)
  have hk := k.isLt
  rcases Nat.lt_or_ge k.val 128 with g1 | g1
  · refine Eq.trans (concatenate_apply_piece (1 : Fin 2) _ _ (ix2 i k) 0 (by simp) S8x128 _ rfl rfl 0 rfl (ix2 i (⟨k.val, g1⟩ : Fin 128)) (fun b hb => ?_) (Nat.zero_add _)) ?_
    · match b with
      | ⟨0, _⟩ => rfl
      | ⟨1, _⟩ => exact absurd rfl hb
    · refine (extractStridedSlice_apply _ _ _ _ (ix2 (⟨48 + i.val, by omega⟩ : Fin 64) (⟨k.val, g1⟩ : Fin 128)) fun b => ?_).trans (h1 ⟨k.val, g1⟩).symm
      match b with
      | ⟨0, _⟩ => rfl
      | ⟨1, _⟩ => exact (Nat.zero_add _).symm
  · have e : k = ⟨128 + (⟨k.val - 128, by omega⟩ : Fin 32).val, by dsimp only; omega⟩ := Fin.ext (by dsimp only; omega)
    refine Eq.trans (concatenate_apply_piece (1 : Fin 2) _ _ (ix2 i k) 1 (by simp) S8x32 _ rfl rfl 128 rfl (ix2 i (⟨k.val - 128, by omega⟩ : Fin 32)) (fun b hb => ?_) (show 128 + (k.val - 128) = k.val by omega)) ?_
    · match b with
      | ⟨0, _⟩ => rfl
      | ⟨1, _⟩ => exact absurd rfl hb
    · refine (extractStridedSlice_apply _ _ _ _ (ix2 (⟨48 + i.val, by omega⟩ : Fin 64) (⟨k.val - 128, by omega⟩ : Fin 32)) fun b => ?_).trans ((h2 ⟨k.val - 128, by omega⟩).symm.trans (congrArg ef e.symm))
      match b with
      | ⟨0, _⟩ => rfl
      | ⟨1, _⟩ => exact (Nat.zero_add _).symm

/-- The second head's quotient, in every lane of row `i`. -/
theorem pay2_apply (v114 : FVec Ideal S8x128 .f32) (v115 : Vec Ideal S1x128 .f32) (i : Fin 8) (l : Fin 128) :
    k0_pay2 v114 v115 (ix2 i l) = quot ((v114 (ix2 i (0 : Fin 128)) : EReal) + (v115 (ix2 (0 : Fin 1) (0 : Fin 128)) : EReal))
      ((v114 (ix2 i (1 : Fin 128)) : EReal) + (v115 (ix2 (0 : Fin 1) (1 : Fin 128)) : EReal)) := by
  unfold k0_pay2
  simp only [shapeCast_self]
  refine (colTo _ _ i l).trans ?_
  unfold quot
  have hcol : ∀ (X : FVec Ideal S8x128 .f32), extractStridedSlice S8x1 ![0, 0] X slices_S8x128_o0_0_S8x1 (ix2 i (0 : Fin 1)) = X (ix2 i (0 : Fin 128)) := fun X => by
    refine extractStridedSlice_apply _ _ _ _ _ fun b => ?_
    match b with
    | ⟨0, _⟩ => exact (Nat.zero_add _).symm
    | ⟨1, _⟩ => rfl
  have hcol1 : ∀ (X : FVec Ideal S8x128 .f32), extractStridedSlice S8x1 ![0, 1] X slices_S8x128_o0_1_S8x1 (ix2 i (0 : Fin 1)) = X (ix2 i (1 : Fin 128)) := fun X => by
    refine extractStridedSlice_apply _ _ _ _ _ fun b => ?_
    match b with
    | ⟨0, _⟩ => exact (Nat.zero_add _).symm
    | ⟨1, _⟩ => rfl
  refine congrArg₂ Ideal.div ((hcol _).trans ?_) (congrArg₂ (HAdd.hAdd (α := EReal)) ((hcol _).trans ?_) ((hcol1 _).trans ?_)) <;>
  · refine congrArg (· + eps) ((sp_eq _).trans (congrArg sp (congrArg (· + eps) (congrArg₂ (HAdd.hAdd (α := EReal)) rfl (rowTo _ _ i _)))))

/-- The first head's value, in every lane of row `i`. -/
theorem pay1_apply (v108 : FVec Ideal S24x1 .f32) (i : Fin 24) (l : Fin 128) : k0_pay1 v108 (ix2 i l) = v108 (ix2 i (0 : Fin 1)) := by
  unfold k0_pay1
  simp only [shapeCast_self]
  exact colTo _ _ i l

end Cert.Proof.KernelIdeal
-- ==== Proof.Spec.lean ====
module

public import proofs.«01_k».proof.Proof.Edges
public import proofs.«01_k».proof.Proof.Pay

/-! The plain statement of what is computed, over the sixteen arrays, and the sums it rests on. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (m : (ℓ : Loc nD τ sig) → Buf (Elt Ideal) ℓ) (c : Dev nD)

/-- The argument arrays, by their coordinates. -/
structure Args where
  x : Fin 10000 → Fin 128 → EReal
  src : Fin 320000 → BitVec 32
  dst : Fin 320000 → BitVec 32
  ea : Fin 320000 → Fin 16 → EReal
  W1 : Fin 272 → Fin 32 → EReal
  b1 : Fin 32 → EReal
  W2 : Fin 32 → Fin 32 → EReal
  b2 : Fin 32 → EReal
  wmu : Fin 320 → EReal
  bmu : EReal
  wsig : Fin 320 → EReal
  bsig : EReal
  wa : Fin 160 → EReal
  ba : EReal
  wb : Fin 160 → EReal
  bb : EReal
  edges : Fin 24 → Fin 2 → BitVec 32
  high : Fin 27 → EReal

def Args.of (a0 : (shape2 10000 128).Idx → EReal) (a1 : IVec (shape2 2 320000) 32) (a2 : (shape2 320000 16).Idx → EReal)
    (a3 : (shape2 272 32).Idx → EReal) (a4 : (shape1 32).Idx → EReal) (a5 : (shape2 32 32).Idx → EReal) (a6 : (shape1 32).Idx → EReal)
    (a7 : (shape2 320 1).Idx → EReal) (a8 : (shape1 1).Idx → EReal) (a9 : (shape2 320 1).Idx → EReal) (a10 : (shape1 1).Idx → EReal)
    (a11 : (shape2 160 1).Idx → EReal) (a12 : (shape1 1).Idx → EReal) (a13 : (shape2 160 1).Idx → EReal) (a14 : (shape1 1).Idx → EReal)
    (a15 : IVec (shape2 24 2) 32) (a16 : (shape1 27).Idx → EReal) : Args where
  x i j := a0 (ix2 i j)
  src e := a1 (ix2 0 e)
  dst e := a1 (ix2 1 e)
  ea e j := a2 (ix2 e j)
  W1 j k := a3 (ix2 j k)
  b1 k := a4 (ix1 k)
  W2 j k := a5 (ix2 j k)
  b2 k := a6 (ix1 k)
  wmu k := a7 (ix2 k 0)
  bmu := a8 (ix1 0)
  wsig k := a9 (ix2 k 0)
  bsig := a10 (ix1 0)
  wa k := a11 (ix2 k 0)
  ba := a12 (ix1 0)
  wb k := a13 (ix2 k 0)
  bb := a14 (ix1 0)
  edges i k := a15 (ix2 i k)
  high i := a16 (ix1 i)

namespace Args

variable (A : Args)

/-- The node an index word names, negative words counted from the end. -/
def at_ (w : BitVec 32) : Fin 10000 := ⟨row 10000 (wrapped 10000#32 w), row_lt _ (by omega)⟩

/-- The rectified hidden layer of edge `e`, its near end's row being node `s`. -/
def hid (s : Fin 10000) (e : Fin 320000) (k : Fin 32) : EReal :=
  max ((((∑ j : Fin 128, A.x s j * A.W1 ⟨0 + j.val, by omega⟩ k) + ∑ j : Fin 128, A.x (at_ (A.dst e)) j * A.W1 ⟨128 + j.val, by omega⟩ k)
    + ∑ j : Fin 16, A.ea e j * A.W1 ⟨256 + j.val, by omega⟩ k) + A.b1 k) 0

/-- The message of edge `e`. -/
def msg (s : Fin 10000) (e : Fin 320000) (k : Fin 32) : EReal := (∑ j : Fin 32, A.hid s e j * A.W2 j k) + A.b2 k

/-- The messages of the edges leaving node `s`, added up. -/
def conv (s : Fin 10000) (k : Fin 32) : EReal := ∑ e ∈ Finset.univ.filter (fun e => A.src e = BitVec.ofNat 32 s.val), A.msg s e k

/-- Node `s`'s own row followed by its summed messages. -/
def feat (s : Fin 10000) (k : Fin 160) : EReal := if h : k.val < 128 then A.x s ⟨k.val, h⟩ else A.conv s ⟨k.val - 128, by omega⟩

/-- The node at one end of a listed pair. -/
def node (i : Fin 24) (k : Fin 2) : Fin 10000 := at_ (A.edges i k)

/-- The features of a listed pair, end after end. -/
def pair (i : Fin 24) (k : Fin 320) : EReal := if h : k.val < 160 then A.feat (A.node i 0) ⟨k.val, h⟩ else A.feat (A.node i 1) ⟨k.val - 160, by omega⟩

def first (i : Fin 24) : EReal :=
  quot ((∑ k : Fin 320, A.pair i k * A.wmu k) + A.bmu) ((∑ k : Fin 320, A.pair i k * A.wsig k) + A.bsig)

def second (i : Fin 3) : EReal :=
  quot ((∑ k : Fin 160, A.feat ⟨9997 + i.val, by omega⟩ k * A.wa k) + A.ba) ((∑ k : Fin 160, A.feat ⟨9997 + i.val, by omega⟩ k * A.wb k) + A.bb)

/-- What is returned at place `i`. -/
def out (i : Fin 27) : EReal := (if h : i.val < 24 then A.first ⟨i.val, h⟩ else A.second ⟨i.val - 24, by omega⟩) * A.high i

theorem at_ofNat (s : Fin 10000) : at_ (BitVec.ofNat 32 s.val) = s := by
  have hs := s.isLt
  have h1 : wrapped 10000#32 (BitVec.ofNat 32 s.val) = BitVec.ofNat 32 s.val := wrap_word (by omega) _
  apply Fin.ext
  show row 10000 (wrapped 10000#32 (BitVec.ofNat 32 s.val)) = s.val
  rw [h1]
  have h2 : (BitVec.ofNat 32 s.val).toInt = (s.val : Int) := StableHlo.Predicate.toInt_ofNat_small _ (by omega)
  unfold row
  rw [h2]
  omega

end Args

/-! ## Sums -/

theorem sum_mul {ι : Type} (t : Finset ι) (f : ι → EReal) (hf : ∀ i, 0 ≤ f i) (y : EReal) : (∑ i ∈ t, f i) * y = ∑ i ∈ t, f i * y := by
  classical
  induction t using Finset.induction_on with
  | empty => simp
  | insert a t ha ih =>
    rw [Finset.sum_insert ha, Finset.sum_insert ha, EReal.right_distrib_of_nonneg (hf a) (Finset.sum_nonneg fun i _ => hf i), ih]

theorem picked {n : ℕ} (f : Fin n → EReal) (w : Fin n → BitVec 32) (s : BitVec 32) (r : Fin n) (h : ∀ r', w r' = s ↔ r' = r) :
    ∑ r' : Fin n, (if s = w r' then (1 : EReal) else 0) * f r' = f r := by
  rw [Finset.sum_eq_single r]
  · rw [if_pos ((h r).2 rfl).symm, one_mul]
  · intro b _ hb
    rw [if_neg fun q => hb ((h b).1 q.symm), zero_mul]
  · intro q; exact absurd (Finset.mem_univ _) q

/-- Adding up after the second layer is adding up before it, every weight being nought or one. -/
theorem late {n : ℕ} (w : Fin n → EReal) (hw : ∀ c, w c = 0 ∨ w c = 1) (H : Fin n → Fin 32 → EReal) (hH : ∀ c j, 0 ≤ H c j) (y : Fin 32 → EReal) (b : EReal) :
    (∑ j : Fin 32, (∑ c : Fin n, w c * H c j) * y j) + (∑ c : Fin n, w c * 1) * b = ∑ c : Fin n, w c * ((∑ j : Fin 32, H c j * y j) + b) := by
  have w0 : ∀ c, 0 ≤ w c := fun c => by
    rcases hw c with h | h
    · rw [h]
    · rw [h]; exact zero_le_one
  have h1 : ∀ j : Fin 32, (∑ c : Fin n, w c * H c j) * y j = ∑ c : Fin n, w c * H c j * y j :=
    fun j => sum_mul _ _ (fun c => mul_nonneg (w0 c) (hH c j)) _
  rw [Finset.sum_congr rfl fun j _ => h1 j, Finset.sum_comm, sum_mul _ _ (fun c => mul_nonneg (w0 c) zero_le_one), ← Finset.sum_add_distrib]
  refine Finset.sum_congr rfl fun c _ => ?_
  rcases hw c with h | h
  · simp only [h, zero_mul, Finset.sum_const_zero, add_zero]
  · simp only [h, one_mul]

end Cert.Proof.KernelIdeal
-- ==== Proof.IdealOut.lean ====
module

public import proofs.«01_k».proof.Proof.Pay

@[expose] public section

/-!
What the kernel's call leaves in its result array, read at an element: the body's two stores over the operand arrays.
-/

set_option maxRecDepth 8192

noncomputable section

namespace Cert.Proof.KernelIdeal

open Cert.KernelIdeal Cert.KernelIdeal.Gen
open Idealize.ShloMosaic Idealize.ShloMosaic.TcCoe Idealize.ShloMosaic.ValueIdx
open Idealize.SL.Sem

variable (V : Dev nD → Valuation τ sig (Elt Ideal)) (c : Dev nD)

theorem stg0_eq : stg0 V c = V c (Proc.devRef .tc main_v166) := by
  funext x
  exact congrArg (V c (Proc.devRef .tc main_v166)) (funext fun a => Fin.ext (by match a with | ⟨0, _⟩ => exact (Nat.zero_add _).trans (Nat.one_mul _) | ⟨1, _⟩ => exact (Nat.zero_add _).trans (Nat.one_mul _)))
theorem ld0_eq (f) : View.readAt (Elt Idealize.ShloMosaic.Ideal) (stage0_0 0).view (Rect.unit ![0, 0] S1x1024.size inb_S1x1024_S1x1024_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg1_eq : stg1 V c = V c (Proc.devRef .tc main_v167) := by
  funext x
  exact congrArg (V c (Proc.devRef .tc main_v167)) (funext fun a => Fin.ext (by match a with | ⟨0, _⟩ => exact (Nat.zero_add _).trans (Nat.one_mul _) | ⟨1, _⟩ => exact (Nat.zero_add _).trans (Nat.one_mul _)))
theorem ld1_eq (f) : View.readAt (Elt Idealize.ShloMosaic.Ideal) (stage0_1 0).view (Rect.unit ![0, 0] S1024x1.size inb_S1024x1_S1024x1_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg2_eq : stg2 V c = V c (Proc.devRef .tc main_v168) := by
  funext x
  exact congrArg (V c (Proc.devRef .tc main_v168)) (funext fun a => Fin.ext (by match a with | ⟨0, _⟩ => exact (Nat.zero_add _).trans (Nat.one_mul _) | ⟨1, _⟩ => exact (Nat.zero_add _).trans (Nat.one_mul _)))
theorem ld2_eq (f) : View.readAt (Elt Idealize.ShloMosaic.Ideal) (stage0_2 0).view (Rect.unit ![0, 0] S1x1024.size inb_S1x1024_S1x1024_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg3_eq : stg3 V c = V c (Proc.devRef .tc main_v169) := by
  funext x
  exact congrArg (V c (Proc.devRef .tc main_v169)) (funext fun a => Fin.ext (by match a with | ⟨0, _⟩ => exact (Nat.zero_add _).trans (Nat.one_mul _) | ⟨1, _⟩ => exact (Nat.zero_add _).trans (Nat.one_mul _)))
theorem ld3_eq (f) : View.readAt (Elt Idealize.ShloMosaic.Ideal) (stage0_3 0).view (Rect.unit ![0, 0] S1024x1.size inb_S1024x1_S1024x1_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg4_eq : stg4 V c = V c (Proc.devRef .tc main_v170) := by
  funext x
  exact congrArg (V c (Proc.devRef .tc main_v170)) (funext fun a => Fin.ext (by match a with | ⟨0, _⟩ => exact (Nat.zero_add _).trans (Nat.one_mul _) | ⟨1, _⟩ => exact (Nat.zero_add _).trans (Nat.one_mul _)))
theorem ld4_eq (f) : View.readAt (Elt Idealize.ShloMosaic.Ideal) (stage0_4 0).view (Rect.unit ![0, 0] S1x16.size inb_S1x16_S1x16_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg5_eq : stg5 V c = V c (Proc.devRef .tc main_v171) := by
  funext x
  exact congrArg (V c (Proc.devRef .tc main_v171)) (funext fun a => Fin.ext (by match a with | ⟨0, _⟩ => exact (Nat.zero_add _).trans (Nat.one_mul _) | ⟨1, _⟩ => exact (Nat.zero_add _).trans (Nat.one_mul _)))
theorem ld5_eq (f) : View.readAt (Elt Idealize.ShloMosaic.Ideal) (stage0_5 0).view (Rect.unit ![0, 0] S16x1.size inb_S16x1_S16x1_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg6_eq : stg6 V c = V c (Proc.devRef .tc main_v172) := by
  funext x
  exact congrArg (V c (Proc.devRef .tc main_v172)) (funext fun a => Fin.ext (by match a with | ⟨0, _⟩ => exact (Nat.zero_add _).trans (Nat.one_mul _) | ⟨1, _⟩ => exact (Nat.zero_add _).trans (Nat.one_mul _)))
theorem ld6_eq (f) : View.readAt (Elt Idealize.ShloMosaic.Ideal) (stage0_6 0).view (Rect.unit ![0, 0] S64x1.size inb_S64x1_S64x1_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg7_eq : stg7 V c = V c (Proc.devRef .tc main_v116) := by
  funext x
  exact congrArg (V c (Proc.devRef .tc main_v116)) (funext fun a => Fin.ext (by match a with | ⟨0, _⟩ => exact (Nat.zero_add _).trans (Nat.one_mul _) | ⟨1, _⟩ => exact (Nat.zero_add _).trans (Nat.one_mul _)))
theorem ld7_eq (f) : View.readAt (Elt Idealize.ShloMosaic.Ideal) (stage0_7 0).view (Rect.unit ![0, 0] S64x128.size inb_S64x128_S64x128_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg8_eq : stg8 V c = V c (Proc.devRef .tc main_v124) := by
  funext x
  exact congrArg (V c (Proc.devRef .tc main_v124)) (funext fun a => Fin.ext (by match a with | ⟨0, _⟩ => exact (Nat.zero_add _).trans (Nat.one_mul _) | ⟨1, _⟩ => exact (Nat.zero_add _).trans (Nat.one_mul _)))
theorem ld8_eq (f) : View.readAt (Elt Idealize.ShloMosaic.Ideal) (stage0_8 0).view (Rect.unit ![0, 0] S16x128.size inb_S16x128_S16x128_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg9_eq : stg9 V c = V c (Proc.devRef .tc main_v101) := by
  funext x
  exact congrArg (V c (Proc.devRef .tc main_v101)) (funext fun a => Fin.ext (by match a with | ⟨0, _⟩ => exact (Nat.zero_add _).trans (Nat.one_mul _) | ⟨1, _⟩ => exact (Nat.zero_add _).trans (Nat.one_mul _)))
theorem ld9_eq (f) : View.readAt (Elt Idealize.ShloMosaic.Ideal) (stage0_9 0).view (Rect.unit ![0, 0] S1024x128.size inb_S1024x128_S1024x128_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg10_eq : stg10 V c = V c (Proc.devRef .tc main_v108) := by
  funext x
  exact congrArg (V c (Proc.devRef .tc main_v108)) (funext fun a => Fin.ext (by match a with | ⟨0, _⟩ => exact (Nat.zero_add _).trans (Nat.one_mul _) | ⟨1, _⟩ => exact (Nat.zero_add _).trans (Nat.one_mul _)))
theorem ld10_eq (f) : View.readAt (Elt Idealize.ShloMosaic.Ideal) (stage0_10 0).view (Rect.unit ![0, 0] S1024x16.size inb_S1024x16_S1024x16_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg11_eq : stg11 V c = V c (Proc.devRef .tc main_v125) := by
  funext x
  exact congrArg (V c (Proc.devRef .tc main_v125)) (funext fun a => Fin.ext (by match a with | ⟨0, _⟩ => exact (Nat.zero_add _).trans (Nat.one_mul _) | ⟨1, _⟩ => exact (Nat.zero_add _).trans (Nat.one_mul _)))
theorem ld11_eq (f) : View.readAt (Elt Idealize.ShloMosaic.Ideal) (stage0_11 0).view (Rect.unit ![0, 0] S128x32.size inb_S128x32_S128x32_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg12_eq : stg12 V c = V c (Proc.devRef .tc main_v126) := by
  funext x
  exact congrArg (V c (Proc.devRef .tc main_v126)) (funext fun a => Fin.ext (by match a with | ⟨0, _⟩ => exact (Nat.zero_add _).trans (Nat.one_mul _) | ⟨1, _⟩ => exact (Nat.zero_add _).trans (Nat.one_mul _)))
theorem ld12_eq (f) : View.readAt (Elt Idealize.ShloMosaic.Ideal) (stage0_12 0).view (Rect.unit ![0, 0] S128x32.size inb_S128x32_S128x32_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg13_eq : stg13 V c = V c (Proc.devRef .tc main_v127) := by
  funext x
  exact congrArg (V c (Proc.devRef .tc main_v127)) (funext fun a => Fin.ext (by match a with | ⟨0, _⟩ => exact (Nat.zero_add _).trans (Nat.one_mul _) | ⟨1, _⟩ => exact (Nat.zero_add _).trans (Nat.one_mul _)))
theorem ld13_eq (f) : View.readAt (Elt Idealize.ShloMosaic.Ideal) (stage0_13 0).view (Rect.unit ![0, 0] S16x32.size inb_S16x32_S16x32_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg14_eq : stg14 V c = V c (Proc.devRef .tc main_v128) := by
  funext x
  exact congrArg (V c (Proc.devRef .tc main_v128)) (funext fun a => Fin.ext (by match a with | ⟨0, _⟩ => exact (Nat.zero_add _).trans (Nat.one_mul _) | ⟨1, _⟩ => exact (Nat.zero_add _).trans (Nat.one_mul _)))
theorem ld14_eq (f) : View.readAt (Elt Idealize.ShloMosaic.Ideal) (stage0_14 0).view (Rect.unit ![0, 0] S1x32.size inb_S1x32_S1x32_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg15_eq : stg15 V c = V c (Proc.devRef .tc main_arg5) := by
  funext x
  exact congrArg (V c (Proc.devRef .tc main_arg5)) (funext fun a => Fin.ext (by match a with | ⟨0, _⟩ => exact (Nat.zero_add _).trans (Nat.one_mul _) | ⟨1, _⟩ => exact (Nat.zero_add _).trans (Nat.one_mul _)))
theorem ld15_eq (f) : View.readAt (Elt Idealize.ShloMosaic.Ideal) (stage0_15 0).view (Rect.unit ![0, 0] S32x32.size inb_S32x32_S32x32_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg16_eq : stg16 V c = V c (Proc.devRef .tc main_v129) := by
  funext x
  exact congrArg (V c (Proc.devRef .tc main_v129)) (funext fun a => Fin.ext (by match a with | ⟨0, _⟩ => exact (Nat.zero_add _).trans (Nat.one_mul _) | ⟨1, _⟩ => exact (Nat.zero_add _).trans (Nat.one_mul _)))
theorem ld16_eq (f) : View.readAt (Elt Idealize.ShloMosaic.Ideal) (stage0_16 0).view (Rect.unit ![0, 0] S1x32.size inb_S1x32_S1x32_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg17_eq : stg17 V c = V c (Proc.devRef .tc main_v136) := by
  funext x
  exact congrArg (V c (Proc.devRef .tc main_v136)) (funext fun a => Fin.ext (by match a with | ⟨0, _⟩ => exact (Nat.zero_add _).trans (Nat.one_mul _) | ⟨1, _⟩ => exact (Nat.zero_add _).trans (Nat.one_mul _)))
theorem ld17_eq (f) : View.readAt (Elt Idealize.ShloMosaic.Ideal) (stage0_17 0).view (Rect.unit ![0, 0] S320x128.size inb_S320x128_S320x128_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg18_eq : stg18 V c = V c (Proc.devRef .tc main_v147) := by
  funext x
  exact congrArg (V c (Proc.devRef .tc main_v147)) (funext fun a => Fin.ext (by match a with | ⟨0, _⟩ => exact (Nat.zero_add _).trans (Nat.one_mul _) | ⟨1, _⟩ => exact (Nat.zero_add _).trans (Nat.one_mul _)))
theorem ld18_eq (f) : View.readAt (Elt Idealize.ShloMosaic.Ideal) (stage0_18 0).view (Rect.unit ![0, 0] S1x128.size inb_S1x128_S1x128_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg19_eq : stg19 V c = V c (Proc.devRef .tc main_v154) := by
  funext x
  exact congrArg (V c (Proc.devRef .tc main_v154)) (funext fun a => Fin.ext (by match a with | ⟨0, _⟩ => exact (Nat.zero_add _).trans (Nat.one_mul _) | ⟨1, _⟩ => exact (Nat.zero_add _).trans (Nat.one_mul _)))
theorem ld19_eq (f) : View.readAt (Elt Idealize.ShloMosaic.Ideal) (stage0_19 0).view (Rect.unit ![0, 0] S160x128.size inb_S160x128_S160x128_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

theorem stg20_eq : stg20 V c = V c (Proc.devRef .tc main_v165) := by
  funext x
  exact congrArg (V c (Proc.devRef .tc main_v165)) (funext fun a => Fin.ext (by match a with | ⟨0, _⟩ => exact (Nat.zero_add _).trans (Nat.one_mul _) | ⟨1, _⟩ => exact (Nat.zero_add _).trans (Nat.one_mul _)))
theorem ld20_eq (f) : View.readAt (Elt Idealize.ShloMosaic.Ideal) (stage0_20 0).view (Rect.unit ![0, 0] S1x128.size inb_S1x128_S1x128_0_0).toLoadRect f = f := by
  funext x
  exact congrArg f (funext fun a => Fin.ext (by match a with | ⟨0, _⟩ => exact (Nat.zero_add _).trans (Nat.one_mul _) | ⟨1, _⟩ => exact (Nat.zero_add _).trans (Nat.one_mul _)))

/-- The aggregated messages of the slots, from the operand arrays. -/
def convOf : FVec Ideal S64x32 .f32 :=
  k0_pay4 (k0_pay3 (V c (Proc.devRef .tc main_v124)) (V c (Proc.devRef .tc main_v125)) (V c (Proc.devRef .tc main_v167)) (V c (Proc.devRef .tc main_v170)) (V c (Proc.devRef .tc main_v169)) (V c (Proc.devRef .tc main_v101)) (V c (Proc.devRef .tc main_v126)) (V c (Proc.devRef .tc main_v108)) (V c (Proc.devRef .tc main_v127)) (V c (Proc.devRef .tc main_v128)))
    (V c (Proc.devRef .tc main_v171)) (V c (Proc.devRef .tc main_v166)) (V c (Proc.devRef .tc main_v168)) (V c (Proc.devRef .tc main_arg5)) (V c (Proc.devRef .tc main_v129)) (V c (Proc.devRef .tc main_v172)) (V c (Proc.devRef .tc main_v170))

theorem blk21 (f : S32x128.Idx → EReal) (x : S32x128.Idx) : ((cfg0.win 21).blk t0_0).view.read (Elt Ideal) f x = f x :=
  congrArg f (funext fun a => Fin.ext (by match a with | ⟨0, _⟩ => exact (Nat.zero_add _).trans (Nat.one_mul _) | ⟨1, _⟩ => exact (Nat.zero_add _).trans (Nat.one_mul _)))

theorem fetched (x : S32x128.Idx) : Vcall V c (Proc.devRef .tc main_case0b1_v176) x = (K V c).1 x := by
  have h := Pipeline.afterRegion_arr (pdats V 0 c) (V c) launch0.win.arr_inj 21
  refine (congrFun h x).trans ?_
  show (dat V c).arrAt 21 cfg0.N x = _
  have hw : ((cfg0.win 21).blk t0_0).view.read (Elt Ideal) ((dat V c).arrAt 21 cfg0.N) = (dat V c).flushed 21 t0_0 := by
    rw [show cfg0.N = t0_0.val + 1 from rfl, (dat V c).arrAt_succ (21 : Fin 22) t0_0, if_pos (by decide)]
    exact View.read_write_univ _ _
  have h3 := congrFun hw x
  generalize (dat V c).arrAt 21 cfg0.N = A at h3 ⊢
  refine ((blk21 A x).symm.trans h3).trans ?_
  rfl

/-- Reading the output block through its whole view is reading it. -/
theorem rdw (X : (View.whole cc0_stg21_0).ty.Contents (Elt Ideal)) (y : S32x128.Idx) :
    (View.whole cc0_stg21_0).read (Elt Ideal) X y = X y := rfl

/-- The body's two stores, newest first. -/
theorem stores : bodyRun.sl.H21_2 (F := Ideal) c (stg0 V c) (stg1 V c) (stg2 V c) (stg3 V c) (stg4 V c) (stg5 V c) (stg6 V c) (stg7 V c) (stg8 V c) (stg9 V c) (stg10 V c) (stg11 V c) (stg12 V c) (stg13 V c) (stg14 V c) (stg15 V c) (stg16 V c) (stg17 V c) (stg18 V c) (stg19 V c) (stg20 V c)
    = [⟨Rect.unit ![24, 0] S8x128.size inb_S32x128_S8x128_24_0, k0_pay2 (k0_pay7 (convOf V c) (V c (Proc.devRef .tc main_v116)) (V c (Proc.devRef .tc main_v154))) (V c (Proc.devRef .tc main_v165))⟩,
      ⟨Rect.unit ![0, 0] S24x128.size inb_S32x128_S24x128_0_0, k0_pay1 (k0_pay6 (convOf V c) (V c (Proc.devRef .tc main_v116)) (V c (Proc.devRef .tc main_v136)) (V c (Proc.devRef .tc main_v147)))⟩] := by
  unfold bodyRun.sl.H21_2 convOf
  rw [ld0_eq, ld1_eq, ld2_eq, ld3_eq, ld4_eq, ld5_eq, ld6_eq, ld7_eq, ld8_eq, ld9_eq, ld10_eq, ld11_eq, ld12_eq, ld13_eq, ld14_eq, ld15_eq, ld16_eq, ld17_eq, ld18_eq, ld19_eq, ld20_eq]
  simp only [stg0_eq, stg1_eq, stg2_eq, stg3_eq, stg4_eq, stg5_eq, stg6_eq, stg7_eq, stg8_eq, stg9_eq, stg10_eq, stg11_eq, stg12_eq, stg13_eq, stg14_eq, stg15_eq, stg16_eq, stg17_eq, stg18_eq, stg19_eq, stg20_eq]

theorem out_first (i : Fin 24) (l : Fin 128) : Vcall V c (Proc.devRef .tc main_case0b1_v176) (ix2 (⟨i.val, by omega⟩ : Fin 32) l)
    = k0_pay6 (convOf V c) (V c (Proc.devRef .tc main_v116)) (V c (Proc.devRef .tc main_v136)) (V c (Proc.devRef .tc main_v147)) (ix2 i (0 : Fin 1)) := by
  rw [fetched]
  unfold K bodyRun
  dsimp only
  rw [stores]
  refine (rdw _ _).symm.trans ?_
  rw [View.read_writes_cons_miss_of_axis (View.whole cc0_stg21_0) (View.whole cc0_stg21_0).junk _ _ (ix2 (⟨i.val, by omega⟩ : Fin 32) l) 0 24 8 (by rfl) (by rfl) (by rfl) (Or.inl i.isLt)]
  refine Eq.trans (View.read_writes_cons_hit_of_coords (View.whole cc0_stg21_0) (View.whole cc0_stg21_0).junk (Rect.unit ![0, 0] S24x128.size inb_S32x128_S24x128_0_0) _ _ (ix2 i l) _ fun a => ?_) (pay1_apply _ i l)
  match a with
  | ⟨0, _⟩ => exact ((Nat.zero_add _).trans (Nat.one_mul _)).symm
  | ⟨1, _⟩ => exact ((Nat.zero_add _).trans (Nat.one_mul _)).symm

theorem out_second (i : Fin 8) (l : Fin 128) : Vcall V c (Proc.devRef .tc main_case0b1_v176) (ix2 (⟨24 + i.val, by omega⟩ : Fin 32) l)
    = k0_pay2 (k0_pay7 (convOf V c) (V c (Proc.devRef .tc main_v116)) (V c (Proc.devRef .tc main_v154))) (V c (Proc.devRef .tc main_v165)) (ix2 i l) := by
  rw [fetched]
  unfold K bodyRun
  dsimp only
  rw [stores]
  refine (rdw _ _).symm.trans ?_
  refine View.read_writes_cons_hit_of_coords (View.whole cc0_stg21_0) (View.whole cc0_stg21_0).junk (Rect.unit ![24, 0] S8x128.size inb_S32x128_S8x128_24_0) _ _ (ix2 i l) _ fun a => ?_
  match a with
  | ⟨0, _⟩ => exact (congrArg (24 + ·) (Nat.one_mul i.val)).symm
  | ⟨1, _⟩ => exact ((Nat.zero_add _).trans (Nat.one_mul _)).symm

end Cert.Proof.KernelIdeal
-- ==== Proof.Windows.lean ====
module

public import proofs.«01_k».proof.Proof.Edges
public import proofs.«01_k».proof.Proof.IdealOut

/-! What the call's operand arrays hold. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (m : (ℓ : Loc nD τ sig) → Buf (Elt Ideal) ℓ) (c : Dev nD)

/-- Setting one column of a matrix. -/
theorem col_set {α : Type} {A N : ℕ} (d : ScatterDims (shape2 A N) (shape1 1) (shape1 A)) (hiw : d.insertedWindowDims = [1])
    (hsd : d.scatterDimsToOperandDims = [1]) (x0 : (shape2 A N).Idx → α) (idx : IVec (shape1 1) 32) (upd : (shape1 A).Idx → α)
    (k : Fin N) (hidx : (idx (ix1 0)).toInt = (k.val : Int)) (w : Fin A) (e : Fin N) :
    Host.scatter d (fun _ b => b) x0 idx upd (ix2 w e) = if e = k then upd (ix1 w) else x0 (ix2 w e) := by
  have land : ∀ j : (shape1 A).Idx, d.resultIdx? j idx = some (ix2 w e) ↔ j = ix1 w ∧ e = k := fun j => by
    obtain ⟨j', rfl⟩ : ∃ j' : Fin A, j = ix1 j' := ⟨j 0, eq_ix1 j⟩
    refine (lands_col d hiw hsd idx k hidx j' w e).trans (and_congr_left fun _ => ⟨fun h => congrArg ix1 h, fun h => ?_⟩)
    exact congrFun h 0
  by_cases h : e = k
  · rw [if_pos h]
    exact scatter_set_hit d x0 idx upd _ _ (fun j hj => congrArg upd ((land j).1 hj).1) (ix1 w) ((land _).2 ⟨rfl, h⟩)
  · rw [if_neg h]
    exact scatter_set_miss d x0 idx upd _ fun j hj => h ((land j).1 hj).2

/-- A vector of one entry as a scalar. -/
theorem cast10 {α : Type} (x : (shape1 1).Idx → α) (h : (shape1 1).ShapeCasts shape0) (i : shape0.Idx) : shapeCast shape0 x h i = x (ix1 (0 : Fin 1)) := by
  unfold shapeCast
  refine congrArg x ?_
  rw [eq_ix1 (Shape.reshapeEquiv _ i)]
  exact congrArg ix1 (Subsingleton.elim (α := Fin 1) _ _)

theorem pair_fst (a : BitVec 32) (A B : IVec (shape1 1) 32) (h) (hA : ∀ i, A i = a) :
    concatenate (shape1 2) 0 [⟨shape1 1, A⟩, ⟨shape1 1, B⟩] h (ix1 (0 : Fin 2)) = a := by
  refine Eq.trans (concatenate_pair_apply_left (t := shape1 2) (s₁ := shape1 1) (s₂ := shape1 1) (0 : Fin 1) _ _ _ (ix1 (0 : Fin 2)) rfl (ix1 (0 : Fin 1)) fun a => ?_) (hA _)
  obtain rfl : a = 0 := Subsingleton.elim _ _
  rfl

theorem pair_snd (b : BitVec 32) (A B : IVec (shape1 1) 32) (h) (hB : ∀ i, B i = b) :
    concatenate (shape1 2) 0 [⟨shape1 1, A⟩, ⟨shape1 1, B⟩] h (ix1 (1 : Fin 2)) = b := by
  refine Eq.trans (concatenate_pair_apply_right (t := shape1 2) (s₁ := shape1 1) (s₂ := shape1 1) (0 : Fin 1) _ _ _ (ix1 (1 : Fin 2)) rfl rfl (ix1 (0 : Fin 1)) (fun a ha => ?_) rfl) (hB _)
  exact absurd (Subsingleton.elim _ _) ha

theorem csrow (k : Fin 1024) : W28 m c (Proc.devRef .tc main_v166) (ix2 (0 : Fin 1) k) = W24 m c (Proc.devRef .tc main_v87) (ix1 k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_v87) = W24 m c (Proc.devRef .tc main_v87) from ((W27_keep m c main_v87 (by decide)).trans ((W26_keep m c main_v87 (by decide)).trans (W25_keep m c main_v87 (by decide))))]
  exact cast12 _ _ (0 : Fin 1) k k (by simp)

theorem cscol (k : Fin 1024) : W28 m c (Proc.devRef .tc main_v167) (ix2 k (0 : Fin 1)) = W24 m c (Proc.devRef .tc main_v87) (ix1 k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_v87) = W24 m c (Proc.devRef .tc main_v87) from ((W27_keep m c main_v87 (by decide)).trans ((W26_keep m c main_v87 (by decide)).trans (W25_keep m c main_v87 (by decide))))]
  exact cast12 _ _ k (0 : Fin 1) k (by simp)

theorem vmrow (k : Fin 1024) : W28 m c (Proc.devRef .tc main_v168) (ix2 (0 : Fin 1) k) = W24 m c (Proc.devRef .tc main_v80) (ix1 k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_v80) = W24 m c (Proc.devRef .tc main_v80) from ((W27_keep m c main_v80 (by decide)).trans ((W26_keep m c main_v80 (by decide)).trans (W25_keep m c main_v80 (by decide))))]
  exact cast12 _ _ (0 : Fin 1) k k (by simp)

theorem vmcol (k : Fin 1024) : W28 m c (Proc.devRef .tc main_v169) (ix2 k (0 : Fin 1)) = W24 m c (Proc.devRef .tc main_v80) (ix1 k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_v80) = W24 m c (Proc.devRef .tc main_v80) from ((W27_keep m c main_v80 (by decide)).trans ((W26_keep m c main_v80 (by decide)).trans (W25_keep m c main_v80 (by decide))))]
  exact cast12 _ _ k (0 : Fin 1) k (by simp)

theorem urow (k : Fin 16) : W28 m c (Proc.devRef .tc main_v170) (ix2 (0 : Fin 1) k) = W13 m c (Proc.devRef .tc main_v47) (ix1 k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_v47) = W13 m c (Proc.devRef .tc main_v47) from ((W27_keep m c main_v47 (by decide)).trans ((W26_keep m c main_v47 (by decide)).trans ((W25_keep m c main_v47 (by decide)).trans ((W24_keep m c main_v47 (by decide)).trans ((W23_keep m c main_v47 (by decide)).trans ((W22_keep m c main_v47 (by decide)).trans ((W21_keep m c main_v47 (by decide)).trans ((W20_keep m c main_v47 (by decide)).trans ((W19_keep m c main_v47 (by decide)).trans ((W18_keep m c main_v47 (by decide)).trans ((W17_keep m c main_v47 (by decide)).trans ((W16_keep m c main_v47 (by decide)).trans ((W15_keep m c main_v47 (by decide)).trans (W14_keep m c main_v47 (by decide)))))))))))))))]
  exact cast12 _ _ (0 : Fin 1) k k (by simp)

theorem ucol (k : Fin 16) : W28 m c (Proc.devRef .tc main_v171) (ix2 k (0 : Fin 1)) = W13 m c (Proc.devRef .tc main_v47) (ix1 k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_v47) = W13 m c (Proc.devRef .tc main_v47) from ((W27_keep m c main_v47 (by decide)).trans ((W26_keep m c main_v47 (by decide)).trans ((W25_keep m c main_v47 (by decide)).trans ((W24_keep m c main_v47 (by decide)).trans ((W23_keep m c main_v47 (by decide)).trans ((W22_keep m c main_v47 (by decide)).trans ((W21_keep m c main_v47 (by decide)).trans ((W20_keep m c main_v47 (by decide)).trans ((W19_keep m c main_v47 (by decide)).trans ((W18_keep m c main_v47 (by decide)).trans ((W17_keep m c main_v47 (by decide)).trans ((W16_keep m c main_v47 (by decide)).trans ((W15_keep m c main_v47 (by decide)).trans (W14_keep m c main_v47 (by decide)))))))))))))))]
  exact cast12 _ _ k (0 : Fin 1) k (by simp)

theorem scol (k : Fin 64) : W28 m c (Proc.devRef .tc main_v172) (ix2 k (0 : Fin 1)) = W1 m c (Proc.devRef .tc main_v13) (ix1 k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_v13) = W1 m c (Proc.devRef .tc main_v13) from ((W27_keep m c main_v13 (by decide)).trans ((W26_keep m c main_v13 (by decide)).trans ((W25_keep m c main_v13 (by decide)).trans ((W24_keep m c main_v13 (by decide)).trans ((W23_keep m c main_v13 (by decide)).trans ((W22_keep m c main_v13 (by decide)).trans ((W21_keep m c main_v13 (by decide)).trans ((W20_keep m c main_v13 (by decide)).trans ((W19_keep m c main_v13 (by decide)).trans ((W18_keep m c main_v13 (by decide)).trans ((W17_keep m c main_v13 (by decide)).trans ((W16_keep m c main_v13 (by decide)).trans ((W15_keep m c main_v13 (by decide)).trans ((W14_keep m c main_v13 (by decide)).trans ((W13_keep m c main_v13 (by decide)).trans ((W12_keep m c main_v13 (by decide)).trans ((W11_keep m c main_v13 (by decide)).trans ((W10_keep m c main_v13 (by decide)).trans ((W9_keep m c main_v13 (by decide)).trans ((W8_keep m c main_v13 (by decide)).trans ((W7_keep m c main_v13 (by decide)).trans ((W6_keep m c main_v13 (by decide)).trans ((W5_keep m c main_v13 (by decide)).trans ((W4_keep m c main_v13 (by decide)).trans ((W3_keep m c main_v13 (by decide)).trans (W2_keep m c main_v13 (by decide)))))))))))))))))))))))))))]
  exact cast12 _ _ k (0 : Fin 1) k (by simp)

theorem w1a (j : Fin 128) (k : Fin 32) : W28 m c (Proc.devRef .tc main_v125) (ix2 j k) = m (c, (Proc.devRef .tc main_arg3)) (ix2 (⟨0 + j.val, by omega⟩ : Fin 272) k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg3) = m (c, (Proc.devRef .tc main_arg3)) from (((W27_keep m c main_arg3 (by decide)).trans ((W26_keep m c main_arg3 (by decide)).trans ((W25_keep m c main_arg3 (by decide)).trans ((W24_keep m c main_arg3 (by decide)).trans ((W23_keep m c main_arg3 (by decide)).trans ((W22_keep m c main_arg3 (by decide)).trans ((W21_keep m c main_arg3 (by decide)).trans ((W20_keep m c main_arg3 (by decide)).trans ((W19_keep m c main_arg3 (by decide)).trans ((W18_keep m c main_arg3 (by decide)).trans ((W17_keep m c main_arg3 (by decide)).trans ((W16_keep m c main_arg3 (by decide)).trans ((W15_keep m c main_arg3 (by decide)).trans ((W14_keep m c main_arg3 (by decide)).trans ((W13_keep m c main_arg3 (by decide)).trans ((W12_keep m c main_arg3 (by decide)).trans ((W11_keep m c main_arg3 (by decide)).trans ((W10_keep m c main_arg3 (by decide)).trans ((W9_keep m c main_arg3 (by decide)).trans ((W8_keep m c main_arg3 (by decide)).trans ((W7_keep m c main_arg3 (by decide)).trans ((W6_keep m c main_arg3 (by decide)).trans ((W5_keep m c main_arg3 (by decide)).trans ((W4_keep m c main_arg3 (by decide)).trans ((W3_keep m c main_arg3 (by decide)).trans ((W2_keep m c main_arg3 (by decide)).trans (W1_keep m c main_arg3 (by decide))))))))))))))))))))))))))))).trans rfl]
  refine extractStridedSlice_apply _ _ _ _ _ fun a => ?_
  match a with
  | ⟨0, _⟩ => rfl
  | ⟨1, _⟩ => exact (Nat.zero_add _).symm

theorem w1b (j : Fin 128) (k : Fin 32) : W28 m c (Proc.devRef .tc main_v126) (ix2 j k) = m (c, (Proc.devRef .tc main_arg3)) (ix2 (⟨128 + j.val, by omega⟩ : Fin 272) k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg3) = m (c, (Proc.devRef .tc main_arg3)) from (((W27_keep m c main_arg3 (by decide)).trans ((W26_keep m c main_arg3 (by decide)).trans ((W25_keep m c main_arg3 (by decide)).trans ((W24_keep m c main_arg3 (by decide)).trans ((W23_keep m c main_arg3 (by decide)).trans ((W22_keep m c main_arg3 (by decide)).trans ((W21_keep m c main_arg3 (by decide)).trans ((W20_keep m c main_arg3 (by decide)).trans ((W19_keep m c main_arg3 (by decide)).trans ((W18_keep m c main_arg3 (by decide)).trans ((W17_keep m c main_arg3 (by decide)).trans ((W16_keep m c main_arg3 (by decide)).trans ((W15_keep m c main_arg3 (by decide)).trans ((W14_keep m c main_arg3 (by decide)).trans ((W13_keep m c main_arg3 (by decide)).trans ((W12_keep m c main_arg3 (by decide)).trans ((W11_keep m c main_arg3 (by decide)).trans ((W10_keep m c main_arg3 (by decide)).trans ((W9_keep m c main_arg3 (by decide)).trans ((W8_keep m c main_arg3 (by decide)).trans ((W7_keep m c main_arg3 (by decide)).trans ((W6_keep m c main_arg3 (by decide)).trans ((W5_keep m c main_arg3 (by decide)).trans ((W4_keep m c main_arg3 (by decide)).trans ((W3_keep m c main_arg3 (by decide)).trans ((W2_keep m c main_arg3 (by decide)).trans (W1_keep m c main_arg3 (by decide))))))))))))))))))))))))))))).trans rfl]
  refine extractStridedSlice_apply _ _ _ _ _ fun a => ?_
  match a with
  | ⟨0, _⟩ => rfl
  | ⟨1, _⟩ => exact (Nat.zero_add _).symm

theorem w1c (j : Fin 16) (k : Fin 32) : W28 m c (Proc.devRef .tc main_v127) (ix2 j k) = m (c, (Proc.devRef .tc main_arg3)) (ix2 (⟨256 + j.val, by omega⟩ : Fin 272) k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg3) = m (c, (Proc.devRef .tc main_arg3)) from (((W27_keep m c main_arg3 (by decide)).trans ((W26_keep m c main_arg3 (by decide)).trans ((W25_keep m c main_arg3 (by decide)).trans ((W24_keep m c main_arg3 (by decide)).trans ((W23_keep m c main_arg3 (by decide)).trans ((W22_keep m c main_arg3 (by decide)).trans ((W21_keep m c main_arg3 (by decide)).trans ((W20_keep m c main_arg3 (by decide)).trans ((W19_keep m c main_arg3 (by decide)).trans ((W18_keep m c main_arg3 (by decide)).trans ((W17_keep m c main_arg3 (by decide)).trans ((W16_keep m c main_arg3 (by decide)).trans ((W15_keep m c main_arg3 (by decide)).trans ((W14_keep m c main_arg3 (by decide)).trans ((W13_keep m c main_arg3 (by decide)).trans ((W12_keep m c main_arg3 (by decide)).trans ((W11_keep m c main_arg3 (by decide)).trans ((W10_keep m c main_arg3 (by decide)).trans ((W9_keep m c main_arg3 (by decide)).trans ((W8_keep m c main_arg3 (by decide)).trans ((W7_keep m c main_arg3 (by decide)).trans ((W6_keep m c main_arg3 (by decide)).trans ((W5_keep m c main_arg3 (by decide)).trans ((W4_keep m c main_arg3 (by decide)).trans ((W3_keep m c main_arg3 (by decide)).trans ((W2_keep m c main_arg3 (by decide)).trans (W1_keep m c main_arg3 (by decide))))))))))))))))))))))))))))).trans rfl]
  refine extractStridedSlice_apply _ _ _ _ _ fun a => ?_
  match a with
  | ⟨0, _⟩ => rfl
  | ⟨1, _⟩ => exact (Nat.zero_add _).symm

theorem b1row (k : Fin 32) : W28 m c (Proc.devRef .tc main_v128) (ix2 (0 : Fin 1) k) = m (c, (Proc.devRef .tc main_arg4)) (ix1 k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg4) = m (c, (Proc.devRef .tc main_arg4)) from (((W27_keep m c main_arg4 (by decide)).trans ((W26_keep m c main_arg4 (by decide)).trans ((W25_keep m c main_arg4 (by decide)).trans ((W24_keep m c main_arg4 (by decide)).trans ((W23_keep m c main_arg4 (by decide)).trans ((W22_keep m c main_arg4 (by decide)).trans ((W21_keep m c main_arg4 (by decide)).trans ((W20_keep m c main_arg4 (by decide)).trans ((W19_keep m c main_arg4 (by decide)).trans ((W18_keep m c main_arg4 (by decide)).trans ((W17_keep m c main_arg4 (by decide)).trans ((W16_keep m c main_arg4 (by decide)).trans ((W15_keep m c main_arg4 (by decide)).trans ((W14_keep m c main_arg4 (by decide)).trans ((W13_keep m c main_arg4 (by decide)).trans ((W12_keep m c main_arg4 (by decide)).trans ((W11_keep m c main_arg4 (by decide)).trans ((W10_keep m c main_arg4 (by decide)).trans ((W9_keep m c main_arg4 (by decide)).trans ((W8_keep m c main_arg4 (by decide)).trans ((W7_keep m c main_arg4 (by decide)).trans ((W6_keep m c main_arg4 (by decide)).trans ((W5_keep m c main_arg4 (by decide)).trans ((W4_keep m c main_arg4 (by decide)).trans ((W3_keep m c main_arg4 (by decide)).trans ((W2_keep m c main_arg4 (by decide)).trans (W1_keep m c main_arg4 (by decide))))))))))))))))))))))))))))).trans rfl]
  exact cast12 _ _ (0 : Fin 1) k k (by simp)

theorem b2row (k : Fin 32) : W28 m c (Proc.devRef .tc main_v129) (ix2 (0 : Fin 1) k) = m (c, (Proc.devRef .tc main_arg6)) (ix1 k) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg6) = m (c, (Proc.devRef .tc main_arg6)) from (((W27_keep m c main_arg6 (by decide)).trans ((W26_keep m c main_arg6 (by decide)).trans ((W25_keep m c main_arg6 (by decide)).trans ((W24_keep m c main_arg6 (by decide)).trans ((W23_keep m c main_arg6 (by decide)).trans ((W22_keep m c main_arg6 (by decide)).trans ((W21_keep m c main_arg6 (by decide)).trans ((W20_keep m c main_arg6 (by decide)).trans ((W19_keep m c main_arg6 (by decide)).trans ((W18_keep m c main_arg6 (by decide)).trans ((W17_keep m c main_arg6 (by decide)).trans ((W16_keep m c main_arg6 (by decide)).trans ((W15_keep m c main_arg6 (by decide)).trans ((W14_keep m c main_arg6 (by decide)).trans ((W13_keep m c main_arg6 (by decide)).trans ((W12_keep m c main_arg6 (by decide)).trans ((W11_keep m c main_arg6 (by decide)).trans ((W10_keep m c main_arg6 (by decide)).trans ((W9_keep m c main_arg6 (by decide)).trans ((W8_keep m c main_arg6 (by decide)).trans ((W7_keep m c main_arg6 (by decide)).trans ((W6_keep m c main_arg6 (by decide)).trans ((W5_keep m c main_arg6 (by decide)).trans ((W4_keep m c main_arg6 (by decide)).trans ((W3_keep m c main_arg6 (by decide)).trans ((W2_keep m c main_arg6 (by decide)).trans (W1_keep m c main_arg6 (by decide))))))))))))))))))))))))))))).trans rfl]
  exact cast12 _ _ (0 : Fin 1) k k (by simp)

theorem wh0 (k : Fin 320) : W28 m c (Proc.devRef .tc main_v136) (ix2 k (0 : Fin 128)) = m (c, (Proc.devRef .tc main_arg7)) (ix2 k (0 : Fin 1)) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg7) = m (c, (Proc.devRef .tc main_arg7)) from (((W27_keep m c main_arg7 (by decide)).trans ((W26_keep m c main_arg7 (by decide)).trans ((W25_keep m c main_arg7 (by decide)).trans ((W24_keep m c main_arg7 (by decide)).trans ((W23_keep m c main_arg7 (by decide)).trans ((W22_keep m c main_arg7 (by decide)).trans ((W21_keep m c main_arg7 (by decide)).trans ((W20_keep m c main_arg7 (by decide)).trans ((W19_keep m c main_arg7 (by decide)).trans ((W18_keep m c main_arg7 (by decide)).trans ((W17_keep m c main_arg7 (by decide)).trans ((W16_keep m c main_arg7 (by decide)).trans ((W15_keep m c main_arg7 (by decide)).trans ((W14_keep m c main_arg7 (by decide)).trans ((W13_keep m c main_arg7 (by decide)).trans ((W12_keep m c main_arg7 (by decide)).trans ((W11_keep m c main_arg7 (by decide)).trans ((W10_keep m c main_arg7 (by decide)).trans ((W9_keep m c main_arg7 (by decide)).trans ((W8_keep m c main_arg7 (by decide)).trans ((W7_keep m c main_arg7 (by decide)).trans ((W6_keep m c main_arg7 (by decide)).trans ((W5_keep m c main_arg7 (by decide)).trans ((W4_keep m c main_arg7 (by decide)).trans ((W3_keep m c main_arg7 (by decide)).trans ((W2_keep m c main_arg7 (by decide)).trans (W1_keep m c main_arg7 (by decide))))))))))))))))))))))))))))).trans rfl]
  refine (col_set _ rfl rfl _ _ _ (1 : Fin 128) rfl k (0 : Fin 128)).trans ?_
  rw [if_neg (by decide)]
  refine (col_set _ rfl rfl _ _ _ (0 : Fin 128) rfl k (0 : Fin 128)).trans ?_
  rw [if_pos rfl]
  exact cast21 _ _ k (0 : Fin 1) k (by simp)

theorem wh1 (k : Fin 320) : W28 m c (Proc.devRef .tc main_v136) (ix2 k (1 : Fin 128)) = m (c, (Proc.devRef .tc main_arg9)) (ix2 k (0 : Fin 1)) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg9) = m (c, (Proc.devRef .tc main_arg9)) from (((W27_keep m c main_arg9 (by decide)).trans ((W26_keep m c main_arg9 (by decide)).trans ((W25_keep m c main_arg9 (by decide)).trans ((W24_keep m c main_arg9 (by decide)).trans ((W23_keep m c main_arg9 (by decide)).trans ((W22_keep m c main_arg9 (by decide)).trans ((W21_keep m c main_arg9 (by decide)).trans ((W20_keep m c main_arg9 (by decide)).trans ((W19_keep m c main_arg9 (by decide)).trans ((W18_keep m c main_arg9 (by decide)).trans ((W17_keep m c main_arg9 (by decide)).trans ((W16_keep m c main_arg9 (by decide)).trans ((W15_keep m c main_arg9 (by decide)).trans ((W14_keep m c main_arg9 (by decide)).trans ((W13_keep m c main_arg9 (by decide)).trans ((W12_keep m c main_arg9 (by decide)).trans ((W11_keep m c main_arg9 (by decide)).trans ((W10_keep m c main_arg9 (by decide)).trans ((W9_keep m c main_arg9 (by decide)).trans ((W8_keep m c main_arg9 (by decide)).trans ((W7_keep m c main_arg9 (by decide)).trans ((W6_keep m c main_arg9 (by decide)).trans ((W5_keep m c main_arg9 (by decide)).trans ((W4_keep m c main_arg9 (by decide)).trans ((W3_keep m c main_arg9 (by decide)).trans ((W2_keep m c main_arg9 (by decide)).trans (W1_keep m c main_arg9 (by decide))))))))))))))))))))))))))))).trans rfl]
  refine (col_set _ rfl rfl _ _ _ (1 : Fin 128) rfl k (1 : Fin 128)).trans ?_
  rw [if_pos rfl]
  exact cast21 _ _ k (0 : Fin 1) k (by simp)

theorem wt0 (k : Fin 160) : W28 m c (Proc.devRef .tc main_v154) (ix2 k (0 : Fin 128)) = m (c, (Proc.devRef .tc main_arg11)) (ix2 k (0 : Fin 1)) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg11) = m (c, (Proc.devRef .tc main_arg11)) from (((W27_keep m c main_arg11 (by decide)).trans ((W26_keep m c main_arg11 (by decide)).trans ((W25_keep m c main_arg11 (by decide)).trans ((W24_keep m c main_arg11 (by decide)).trans ((W23_keep m c main_arg11 (by decide)).trans ((W22_keep m c main_arg11 (by decide)).trans ((W21_keep m c main_arg11 (by decide)).trans ((W20_keep m c main_arg11 (by decide)).trans ((W19_keep m c main_arg11 (by decide)).trans ((W18_keep m c main_arg11 (by decide)).trans ((W17_keep m c main_arg11 (by decide)).trans ((W16_keep m c main_arg11 (by decide)).trans ((W15_keep m c main_arg11 (by decide)).trans ((W14_keep m c main_arg11 (by decide)).trans ((W13_keep m c main_arg11 (by decide)).trans ((W12_keep m c main_arg11 (by decide)).trans ((W11_keep m c main_arg11 (by decide)).trans ((W10_keep m c main_arg11 (by decide)).trans ((W9_keep m c main_arg11 (by decide)).trans ((W8_keep m c main_arg11 (by decide)).trans ((W7_keep m c main_arg11 (by decide)).trans ((W6_keep m c main_arg11 (by decide)).trans ((W5_keep m c main_arg11 (by decide)).trans ((W4_keep m c main_arg11 (by decide)).trans ((W3_keep m c main_arg11 (by decide)).trans ((W2_keep m c main_arg11 (by decide)).trans (W1_keep m c main_arg11 (by decide))))))))))))))))))))))))))))).trans rfl]
  refine (col_set _ rfl rfl _ _ _ (1 : Fin 128) rfl k (0 : Fin 128)).trans ?_
  rw [if_neg (by decide)]
  refine (col_set _ rfl rfl _ _ _ (0 : Fin 128) rfl k (0 : Fin 128)).trans ?_
  rw [if_pos rfl]
  exact cast21 _ _ k (0 : Fin 1) k (by simp)

theorem wt1 (k : Fin 160) : W28 m c (Proc.devRef .tc main_v154) (ix2 k (1 : Fin 128)) = m (c, (Proc.devRef .tc main_arg13)) (ix2 k (0 : Fin 1)) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg13) = m (c, (Proc.devRef .tc main_arg13)) from (((W27_keep m c main_arg13 (by decide)).trans ((W26_keep m c main_arg13 (by decide)).trans ((W25_keep m c main_arg13 (by decide)).trans ((W24_keep m c main_arg13 (by decide)).trans ((W23_keep m c main_arg13 (by decide)).trans ((W22_keep m c main_arg13 (by decide)).trans ((W21_keep m c main_arg13 (by decide)).trans ((W20_keep m c main_arg13 (by decide)).trans ((W19_keep m c main_arg13 (by decide)).trans ((W18_keep m c main_arg13 (by decide)).trans ((W17_keep m c main_arg13 (by decide)).trans ((W16_keep m c main_arg13 (by decide)).trans ((W15_keep m c main_arg13 (by decide)).trans ((W14_keep m c main_arg13 (by decide)).trans ((W13_keep m c main_arg13 (by decide)).trans ((W12_keep m c main_arg13 (by decide)).trans ((W11_keep m c main_arg13 (by decide)).trans ((W10_keep m c main_arg13 (by decide)).trans ((W9_keep m c main_arg13 (by decide)).trans ((W8_keep m c main_arg13 (by decide)).trans ((W7_keep m c main_arg13 (by decide)).trans ((W6_keep m c main_arg13 (by decide)).trans ((W5_keep m c main_arg13 (by decide)).trans ((W4_keep m c main_arg13 (by decide)).trans ((W3_keep m c main_arg13 (by decide)).trans ((W2_keep m c main_arg13 (by decide)).trans (W1_keep m c main_arg13 (by decide))))))))))))))))))))))))))))).trans rfl]
  refine (col_set _ rfl rfl _ _ _ (1 : Fin 128) rfl k (1 : Fin 128)).trans ?_
  rw [if_pos rfl]
  exact cast21 _ _ k (0 : Fin 1) k (by simp)

theorem bh0 : W28 m c (Proc.devRef .tc main_v147) (ix2 (0 : Fin 1) (0 : Fin 128)) = m (c, (Proc.devRef .tc main_arg8)) (ix1 (0 : Fin 1)) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg8) = m (c, (Proc.devRef .tc main_arg8)) from (((W27_keep m c main_arg8 (by decide)).trans ((W26_keep m c main_arg8 (by decide)).trans ((W25_keep m c main_arg8 (by decide)).trans ((W24_keep m c main_arg8 (by decide)).trans ((W23_keep m c main_arg8 (by decide)).trans ((W22_keep m c main_arg8 (by decide)).trans ((W21_keep m c main_arg8 (by decide)).trans ((W20_keep m c main_arg8 (by decide)).trans ((W19_keep m c main_arg8 (by decide)).trans ((W18_keep m c main_arg8 (by decide)).trans ((W17_keep m c main_arg8 (by decide)).trans ((W16_keep m c main_arg8 (by decide)).trans ((W15_keep m c main_arg8 (by decide)).trans ((W14_keep m c main_arg8 (by decide)).trans ((W13_keep m c main_arg8 (by decide)).trans ((W12_keep m c main_arg8 (by decide)).trans ((W11_keep m c main_arg8 (by decide)).trans ((W10_keep m c main_arg8 (by decide)).trans ((W9_keep m c main_arg8 (by decide)).trans ((W8_keep m c main_arg8 (by decide)).trans ((W7_keep m c main_arg8 (by decide)).trans ((W6_keep m c main_arg8 (by decide)).trans ((W5_keep m c main_arg8 (by decide)).trans ((W4_keep m c main_arg8 (by decide)).trans ((W3_keep m c main_arg8 (by decide)).trans ((W2_keep m c main_arg8 (by decide)).trans (W1_keep m c main_arg8 (by decide))))))))))))))))))))))))))))).trans rfl]
  refine (scatter_cell_signed _ rfl rfl rfl _ _ _ (0 : Fin 1) (0 : Fin 128)).trans ?_
  rw [if_neg fun h => absurd (((congrArg BitVec.toInt (pair_snd 1#32 _ _ _ (fun _ => rfl))).symm.trans h.2)) (by decide)]
  refine (scatter_cell_signed _ rfl rfl rfl _ _ _ (0 : Fin 1) (0 : Fin 128)).trans ?_
  rw [if_pos ⟨(congrArg BitVec.toInt (pair_fst 0#32 _ _ _ (fun _ => rfl))).trans rfl, (congrArg BitVec.toInt (pair_snd 0#32 _ _ _ (fun _ => rfl))).trans rfl⟩]
  exact cast10 _ _ _

theorem bh1 : W28 m c (Proc.devRef .tc main_v147) (ix2 (0 : Fin 1) (1 : Fin 128)) = m (c, (Proc.devRef .tc main_arg10)) (ix1 (0 : Fin 1)) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg10) = m (c, (Proc.devRef .tc main_arg10)) from (((W27_keep m c main_arg10 (by decide)).trans ((W26_keep m c main_arg10 (by decide)).trans ((W25_keep m c main_arg10 (by decide)).trans ((W24_keep m c main_arg10 (by decide)).trans ((W23_keep m c main_arg10 (by decide)).trans ((W22_keep m c main_arg10 (by decide)).trans ((W21_keep m c main_arg10 (by decide)).trans ((W20_keep m c main_arg10 (by decide)).trans ((W19_keep m c main_arg10 (by decide)).trans ((W18_keep m c main_arg10 (by decide)).trans ((W17_keep m c main_arg10 (by decide)).trans ((W16_keep m c main_arg10 (by decide)).trans ((W15_keep m c main_arg10 (by decide)).trans ((W14_keep m c main_arg10 (by decide)).trans ((W13_keep m c main_arg10 (by decide)).trans ((W12_keep m c main_arg10 (by decide)).trans ((W11_keep m c main_arg10 (by decide)).trans ((W10_keep m c main_arg10 (by decide)).trans ((W9_keep m c main_arg10 (by decide)).trans ((W8_keep m c main_arg10 (by decide)).trans ((W7_keep m c main_arg10 (by decide)).trans ((W6_keep m c main_arg10 (by decide)).trans ((W5_keep m c main_arg10 (by decide)).trans ((W4_keep m c main_arg10 (by decide)).trans ((W3_keep m c main_arg10 (by decide)).trans ((W2_keep m c main_arg10 (by decide)).trans (W1_keep m c main_arg10 (by decide))))))))))))))))))))))))))))).trans rfl]
  refine (scatter_cell_signed _ rfl rfl rfl _ _ _ (0 : Fin 1) (1 : Fin 128)).trans ?_
  rw [if_pos ⟨(congrArg BitVec.toInt (pair_fst 0#32 _ _ _ (fun _ => rfl))).trans rfl, (congrArg BitVec.toInt (pair_snd 1#32 _ _ _ (fun _ => rfl))).trans rfl⟩]
  exact cast10 _ _ _

theorem bt0 : W28 m c (Proc.devRef .tc main_v165) (ix2 (0 : Fin 1) (0 : Fin 128)) = m (c, (Proc.devRef .tc main_arg12)) (ix1 (0 : Fin 1)) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg12) = m (c, (Proc.devRef .tc main_arg12)) from (((W27_keep m c main_arg12 (by decide)).trans ((W26_keep m c main_arg12 (by decide)).trans ((W25_keep m c main_arg12 (by decide)).trans ((W24_keep m c main_arg12 (by decide)).trans ((W23_keep m c main_arg12 (by decide)).trans ((W22_keep m c main_arg12 (by decide)).trans ((W21_keep m c main_arg12 (by decide)).trans ((W20_keep m c main_arg12 (by decide)).trans ((W19_keep m c main_arg12 (by decide)).trans ((W18_keep m c main_arg12 (by decide)).trans ((W17_keep m c main_arg12 (by decide)).trans ((W16_keep m c main_arg12 (by decide)).trans ((W15_keep m c main_arg12 (by decide)).trans ((W14_keep m c main_arg12 (by decide)).trans ((W13_keep m c main_arg12 (by decide)).trans ((W12_keep m c main_arg12 (by decide)).trans ((W11_keep m c main_arg12 (by decide)).trans ((W10_keep m c main_arg12 (by decide)).trans ((W9_keep m c main_arg12 (by decide)).trans ((W8_keep m c main_arg12 (by decide)).trans ((W7_keep m c main_arg12 (by decide)).trans ((W6_keep m c main_arg12 (by decide)).trans ((W5_keep m c main_arg12 (by decide)).trans ((W4_keep m c main_arg12 (by decide)).trans ((W3_keep m c main_arg12 (by decide)).trans ((W2_keep m c main_arg12 (by decide)).trans (W1_keep m c main_arg12 (by decide))))))))))))))))))))))))))))).trans rfl]
  refine (scatter_cell_signed _ rfl rfl rfl _ _ _ (0 : Fin 1) (0 : Fin 128)).trans ?_
  rw [if_neg fun h => absurd (((congrArg BitVec.toInt (pair_snd 1#32 _ _ _ (fun _ => rfl))).symm.trans h.2)) (by decide)]
  refine (scatter_cell_signed _ rfl rfl rfl _ _ _ (0 : Fin 1) (0 : Fin 128)).trans ?_
  rw [if_pos ⟨(congrArg BitVec.toInt (pair_fst 0#32 _ _ _ (fun _ => rfl))).trans rfl, (congrArg BitVec.toInt (pair_snd 0#32 _ _ _ (fun _ => rfl))).trans rfl⟩]
  exact cast10 _ _ _

theorem bt1 : W28 m c (Proc.devRef .tc main_v165) (ix2 (0 : Fin 1) (1 : Fin 128)) = m (c, (Proc.devRef .tc main_arg14)) (ix1 (0 : Fin 1)) := by
  unfold W28
  simp only [hostOps0_27, StableHlo.TRef.binary, StableHlo.TRef.nullary, StableHlo.TRef.unary, StableHlo.TRef.ternary, StableHlo.TRef.reshape, StableHlo.TRef.toBuf, StableHlo.TRef.ofBuf, cast_eq]
  after_results_simp
  rw [show W27 m c (Proc.devRef .tc main_arg14) = m (c, (Proc.devRef .tc main_arg14)) from (((W27_keep m c main_arg14 (by decide)).trans ((W26_keep m c main_arg14 (by decide)).trans ((W25_keep m c main_arg14 (by decide)).trans ((W24_keep m c main_arg14 (by decide)).trans ((W23_keep m c main_arg14 (by decide)).trans ((W22_keep m c main_arg14 (by decide)).trans ((W21_keep m c main_arg14 (by decide)).trans ((W20_keep m c main_arg14 (by decide)).trans ((W19_keep m c main_arg14 (by decide)).trans ((W18_keep m c main_arg14 (by decide)).trans ((W17_keep m c main_arg14 (by decide)).trans ((W16_keep m c main_arg14 (by decide)).trans ((W15_keep m c main_arg14 (by decide)).trans ((W14_keep m c main_arg14 (by decide)).trans ((W13_keep m c main_arg14 (by decide)).trans ((W12_keep m c main_arg14 (by decide)).trans ((W11_keep m c main_arg14 (by decide)).trans ((W10_keep m c main_arg14 (by decide)).trans ((W9_keep m c main_arg14 (by decide)).trans ((W8_keep m c main_arg14 (by decide)).trans ((W7_keep m c main_arg14 (by decide)).trans ((W6_keep m c main_arg14 (by decide)).trans ((W5_keep m c main_arg14 (by decide)).trans ((W4_keep m c main_arg14 (by decide)).trans ((W3_keep m c main_arg14 (by decide)).trans ((W2_keep m c main_arg14 (by decide)).trans (W1_keep m c main_arg14 (by decide))))))))))))))))))))))))))))).trans rfl]
  refine (scatter_cell_signed _ rfl rfl rfl _ _ _ (0 : Fin 1) (1 : Fin 128)).trans ?_
  rw [if_pos ⟨(congrArg BitVec.toInt (pair_fst 0#32 _ _ _ (fun _ => rfl))).trans rfl, (congrArg BitVec.toInt (pair_snd 1#32 _ _ _ (fun _ => rfl))).trans rfl⟩]
  exact cast10 _ _ _

end Cert.Proof.KernelIdeal
-- ==== Proof.Conv.lean ====
module

public import proofs.«01_k».proof.Proof.Spec
public import proofs.«01_k».proof.Proof.Windows

/-! The summed messages as the call computes them. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (m : (ℓ : Loc nD τ sig) → Buf (Elt Ideal) ℓ) (c : Dev nD)

/-- The arguments read from memory. -/
def argsOf : Args := Args.of (m (c, (Proc.devRef .tc main_arg0))) (m (c, (Proc.devRef .tc main_arg1))) (m (c, (Proc.devRef .tc main_arg2))) (m (c, (Proc.devRef .tc main_arg3))) (m (c, (Proc.devRef .tc main_arg4))) (m (c, (Proc.devRef .tc main_arg5))) (m (c, (Proc.devRef .tc main_arg6))) (m (c, (Proc.devRef .tc main_arg7))) (m (c, (Proc.devRef .tc main_arg8))) (m (c, (Proc.devRef .tc main_arg9))) (m (c, (Proc.devRef .tc main_arg10))) (m (c, (Proc.devRef .tc main_arg11))) (m (c, (Proc.devRef .tc main_arg12))) (m (c, (Proc.devRef .tc main_arg13))) (m (c, (Proc.devRef .tc main_arg14))) (m (c, (Proc.devRef .tc main_arg15))) (m (c, (Proc.devRef .tc main_arg16)))

/-- The contents the call starts from. -/
def Vc (c : Dev nD) : Valuation τ sig (Elt Ideal) := wordOp.result (W28 m c)

theorem Vc_keep (r : Ref sig .tc) (h : r ≠ main_v174) : Vc m c (Proc.devRef .tc r) = W28 m c (Proc.devRef .tc r) := wordOp_keep _ r h

variable (hfew : nrel m c ≤ 1024)

/-- The weight of listed edge `k` for the slot word `s`. -/
def wgt (s : BitVec 32) (k : Fin 1024) : EReal := if s = W24 m c (Proc.devRef .tc main_v87) (ix1 k) then W24 m c (Proc.devRef .tc main_v80) (ix1 k) else (0 : EReal)

theorem wgt_in (s : BitVec 32) (k : Fin 1024) (h : k.val < nrel m c) (hs : (argsOf m c).src (edge m c k h) = s) : wgt m c s k = 1 := by
  unfold wgt
  rw [csrc_word m c k h, valid_word m c k, if_pos h]
  exact if_pos hs.symm

theorem wgt_out (s : BitVec 32) (k : Fin 1024) (hn : ¬ ∃ h : k.val < nrel m c, (argsOf m c).src (edge m c k h) = s) : wgt m c s k = 0 := by
  unfold wgt
  by_cases h : k.val < nrel m c
  · rw [csrc_word m c k h]
    exact if_neg fun q => hn ⟨h, q.symm⟩
  · rw [valid_word, if_neg h]
    exact ite_self _

/-- The listed edges that count for slot word `s` are the edges leaving it, each once. -/
theorem listed (s : BitVec 32) (r0 : Fin 16) (hr : W13 m c (Proc.devRef .tc main_v47) (ix1 r0) = s) (hfew : nrel m c ≤ 1024) (f : Fin 320000 → EReal) (g : Fin 1024 → EReal)
    (hg : ∀ k h, (argsOf m c).src (edge m c k h) = s → g k = f (edge m c k h)) :
    ∑ k : Fin 1024, wgt m c s k * g k = ∑ e ∈ Finset.univ.filter (fun e => (argsOf m c).src e = s), f e := by
  classical
  rw [← Finset.sum_filter_add_sum_filter_not Finset.univ (fun k : Fin 1024 => ∃ h : k.val < nrel m c, (argsOf m c).src (edge m c k h) = s)]
  rw [Finset.sum_eq_zero (s := Finset.univ.filter fun k : Fin 1024 => ¬ ∃ h : k.val < nrel m c, (argsOf m c).src (edge m c k h) = s) fun k hk => by
    rw [wgt_out m c s k (Finset.mem_filter.1 hk).2, zero_mul], add_zero]
  refine Finset.sum_bij (fun k hk => edge m c k (Finset.mem_filter.1 hk).2.1) ?_ ?_ ?_ ?_
  · intro k hk
    exact Finset.mem_filter.2 ⟨Finset.mem_univ _, (Finset.mem_filter.1 hk).2.2⟩
  · intro k hk k' hk' e
    refine Fin.ext (place_inj 320000 (rel m c) (Finset.mem_filter.1 hk).2.1 (Finset.mem_filter.1 hk').2.1 ?_)
    rw [← edge_val m c k (Finset.mem_filter.1 hk).2.1, ← edge_val m c k' (Finset.mem_filter.1 hk').2.1, e]
  · intro e he
    have hs := (Finset.mem_filter.1 he).2
    have hp : rel m c e.val := ⟨e.isLt, r0, hs.trans hr.symm⟩
    obtain ⟨h1, h2⟩ := exists_place 320000 (rel m c) e.isLt hp
    have hlt : Nat.count (rel m c) e.val < nrel m c := h1
    have hed : edge m c ⟨Nat.count (rel m c) e.val, lt_of_lt_of_le hlt hfew⟩ hlt = e := by
      apply Fin.ext
      rw [edge_val]
      exact h2
    refine ⟨⟨Nat.count (rel m c) e.val, lt_of_lt_of_le hlt hfew⟩, Finset.mem_filter.2 ⟨Finset.mem_univ _, hlt, ?_⟩, hed⟩
    rw [hed]; exact hs
  · intro k hk
    obtain ⟨h, hs⟩ := (Finset.mem_filter.1 hk).2
    rw [wgt_in m c s k h hs, one_mul, hg k h hs]

/-- The hidden layer of a listed edge. -/
theorem hid_listed (s : Fin 10000) (r0 : Fin 16) (hr : ∀ r', W13 m c (Proc.devRef .tc main_v47) (ix1 r') = BitVec.ofNat 32 s.val ↔ r' = r0) (k : Fin 1024) (h : k.val < nrel m c)
    (hs : (argsOf m c).src (edge m c k h) = BitVec.ofNat 32 s.val) (j : Fin 32) :
    max (k0_pay3 (Vc m c (Proc.devRef .tc main_v124)) (Vc m c (Proc.devRef .tc main_v125)) (Vc m c (Proc.devRef .tc main_v167)) (Vc m c (Proc.devRef .tc main_v170)) (Vc m c (Proc.devRef .tc main_v169)) (Vc m c (Proc.devRef .tc main_v101)) (Vc m c (Proc.devRef .tc main_v126)) (Vc m c (Proc.devRef .tc main_v108)) (Vc m c (Proc.devRef .tc main_v127)) (Vc m c (Proc.devRef .tc main_v128)) (ix2 k j)) (0 : EReal) = (argsOf m c).hid s (edge m c k h) j := by
  rw [pay3_apply]
  simp only [Vc_keep m c main_v124 (by decide), Vc_keep m c main_v125 (by decide), Vc_keep m c main_v167 (by decide), Vc_keep m c main_v170 (by decide), Vc_keep m c main_v169 (by decide), Vc_keep m c main_v101 (by decide), Vc_keep m c main_v126 (by decide), Vc_keep m c main_v108 (by decide), Vc_keep m c main_v127 (by decide), Vc_keep m c main_v128 (by decide)]
  rw [show W28 m c (Proc.devRef .tc main_v101) = W24 m c (Proc.devRef .tc main_v101) from ((W28_keep m c main_v101 (by decide)).trans ((W27_keep m c main_v101 (by decide)).trans ((W26_keep m c main_v101 (by decide)).trans (W25_keep m c main_v101 (by decide))))), show W28 m c (Proc.devRef .tc main_v108) = W24 m c (Proc.devRef .tc main_v108) from ((W28_keep m c main_v108 (by decide)).trans ((W27_keep m c main_v108 (by decide)).trans ((W26_keep m c main_v108 (by decide)).trans (W25_keep m c main_v108 (by decide)))))]
  simp only [cscol m c, urow m c, vmcol m c, b1row m c, w1a m c, w1b m c, w1c m c, cxd_row m c k h, cea_row m c k h]
  rw [valid_word m c k, if_pos h, csrc_word m c k h]
  have hs' : m (c, (Proc.devRef .tc main_arg1)) (ix2 (0 : Fin 2) (edge m c k h)) = BitVec.ofNat 32 s.val := hs
  rw [hs', picked _ (fun r' => W13 m c (Proc.devRef .tc main_v47) (ix1 r')) _ r0 hr]
  simp only [xu_row m c r0 s ((hr r0).2 rfl)]
  rfl

theorem conv_kernel (q : Fin 64) (s : Fin 10000) (hq : W1 m c (Proc.devRef .tc main_v13) (ix1 q) = BitVec.ofNat 32 s.val) (r0 : Fin 16)
    (hr : ∀ r', W13 m c (Proc.devRef .tc main_v47) (ix1 r') = BitVec.ofNat 32 s.val ↔ r' = r0) (hfew : nrel m c ≤ 1024) (k : Fin 32) :
    convOf (Vc m) c (ix2 q k) = (argsOf m c).conv s k := by
  unfold convOf
  rw [pay4_apply]
  simp only [Vc_keep m c main_v171 (by decide), Vc_keep m c main_v166 (by decide), Vc_keep m c main_v168 (by decide), Vc_keep m c main_arg5 (by decide), Vc_keep m c main_v129 (by decide), Vc_keep m c main_v172 (by decide)]
  simp only [Vc_keep m c main_v170 (by decide) ▸ urow m c, scol m c, ucol m c, csrow m c, vmrow m c, b2row m c]
  rw [show W28 m c (Proc.devRef .tc main_arg5) = m (c, (Proc.devRef .tc main_arg5)) from (((W28_keep m c main_arg5 (by decide)).trans ((W27_keep m c main_arg5 (by decide)).trans ((W26_keep m c main_arg5 (by decide)).trans ((W25_keep m c main_arg5 (by decide)).trans ((W24_keep m c main_arg5 (by decide)).trans ((W23_keep m c main_arg5 (by decide)).trans ((W22_keep m c main_arg5 (by decide)).trans ((W21_keep m c main_arg5 (by decide)).trans ((W20_keep m c main_arg5 (by decide)).trans ((W19_keep m c main_arg5 (by decide)).trans ((W18_keep m c main_arg5 (by decide)).trans ((W17_keep m c main_arg5 (by decide)).trans ((W16_keep m c main_arg5 (by decide)).trans ((W15_keep m c main_arg5 (by decide)).trans ((W14_keep m c main_arg5 (by decide)).trans ((W13_keep m c main_arg5 (by decide)).trans ((W12_keep m c main_arg5 (by decide)).trans ((W11_keep m c main_arg5 (by decide)).trans ((W10_keep m c main_arg5 (by decide)).trans ((W9_keep m c main_arg5 (by decide)).trans ((W8_keep m c main_arg5 (by decide)).trans ((W7_keep m c main_arg5 (by decide)).trans ((W6_keep m c main_arg5 (by decide)).trans ((W5_keep m c main_arg5 (by decide)).trans ((W4_keep m c main_arg5 (by decide)).trans ((W3_keep m c main_arg5 (by decide)).trans ((W2_keep m c main_arg5 (by decide)).trans (W1_keep m c main_arg5 (by decide)))))))))))))))))))))))))))))).trans rfl]
  rw [hq, picked _ (fun r' => W13 m c (Proc.devRef .tc main_v47) (ix1 r')) _ r0 hr]
  rw [(hr r0).2 rfl]
  refine (late (wgt m c (BitVec.ofNat 32 s.val)) (fun k' => ?_) (fun k' j => max (k0_pay3 (Vc m c (Proc.devRef .tc main_v124)) (Vc m c (Proc.devRef .tc main_v125)) (Vc m c (Proc.devRef .tc main_v167)) (Vc m c (Proc.devRef .tc main_v170)) (Vc m c (Proc.devRef .tc main_v169)) (Vc m c (Proc.devRef .tc main_v101)) (Vc m c (Proc.devRef .tc main_v126)) (Vc m c (Proc.devRef .tc main_v108)) (Vc m c (Proc.devRef .tc main_v127)) (Vc m c (Proc.devRef .tc main_v128)) (ix2 k' j)) (0 : EReal)) (fun _ _ => le_max_right _ _) _ _).trans ?_
  · by_cases hh : ∃ h : k'.val < nrel m c, (argsOf m c).src (edge m c k' h) = BitVec.ofNat 32 s.val
    · exact Or.inr (wgt_in m c _ k' hh.1 hh.2)
    · exact Or.inl (wgt_out m c _ k' hh)
  refine (listed m c (BitVec.ofNat 32 s.val) r0 ((hr r0).2 rfl) hfew (fun e => (argsOf m c).msg s e k) _ fun k' h hs => ?_).trans rfl
  unfold Args.msg
  refine congrArg₂ (HAdd.hAdd (α := EReal)) (Finset.sum_congr rfl fun j _ => ?_) rfl
  rw [hid_listed m c s r0 hr k' h hs j]
  rfl

end Cert.Proof.KernelIdeal
-- ==== Proof.Small.lean ====
module

public import proofs.«01_k».proof.Proof.Conv

/-! What the branch with the kernel call returns. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (m : (ℓ : Loc nD τ sig) → Buf (Elt Ideal) ℓ) (c : Dev nD)

variable (hpre : ∀ (e : Fin 24) (k : Fin 2), (m (c, (Proc.devRef .tc main_arg15)) (ix2 e k)).toNat < 12)

theorem word_eq : word (W28 m c) = (W28 m c (Proc.devRef .tc main_v173) ix0).setWidth 32 :=
  congrArg (fun i => (W28 m c (Proc.devRef .tc main_v173) i).setWidth 32) (funext fun a => a.elim0)

theorem word_few (h : nrel m c ≤ 1024) : HostLoop.branch (word (W28 m c)) 1 = 1 := by
  rw [word_eq, (few_word m c).2 h]
  decide

theorem word_many (h : ¬ nrel m c ≤ 1024) : HostLoop.branch (word (W28 m c)) 1 = 0 := by
  have h0 : W28 m c (Proc.devRef .tc main_v173) ix0 = 0#1 := (BitVec.eq_zero_or_eq_one _).resolve_right fun q => h ((few_word m c).1 q)
  rw [word_eq, h0]
  decide

namespace Args

theorem at_small (w : BitVec 32) (h : w.toNat < 12) : w = BitVec.ofNat 32 (at_ w).val := by
  have e : w = BitVec.ofNat 32 (⟨w.toNat, by omega⟩ : Fin 10000).val := by
    apply BitVec.eq_of_toNat_eq
    simp
  have h1 := at_ofNat ⟨w.toNat, by omega⟩
  rw [← e] at h1
  rw [h1]
  exact e

theorem feat_lo (A : Args) (s : Fin 10000) (k : Fin 160) (j : Fin 128) (h : k.val = j.val) : A.feat s k = A.x s j := by
  unfold feat
  rw [dif_pos (by omega)]
  exact congrArg (A.x s) (Fin.ext h)

theorem feat_hi (A : Args) (s : Fin 10000) (k : Fin 160) (j : Fin 32) (h : k.val = 128 + j.val) : A.feat s k = A.conv s j := by
  unfold feat
  rw [dif_neg (by omega)]
  exact congrArg (A.conv s) (Fin.ext (show k.val - 128 = j.val by omega))

theorem pair_lo (A : Args) (i : Fin 24) (k : Fin 320) (j : Fin 160) (h : k.val = j.val) : A.pair i k = A.feat (A.node i 0) j := by
  unfold pair
  rw [dif_pos (by omega)]
  exact congrArg (A.feat _) (Fin.ext h)

theorem pair_hi (A : Args) (i : Fin 24) (k : Fin 320) (j : Fin 160) (h : k.val = 160 + j.val) : A.pair i k = A.feat (A.node i 1) j := by
  unfold pair
  rw [dif_neg (by omega)]
  exact congrArg (A.feat _) (Fin.ext (show k.val - 160 = j.val by omega))

end Args

include hpre in
theorem slot_vals (hfew : nrel m c ≤ 1024) (q : Fin 51) (s : Fin 10000) (h : W1 m c (Proc.devRef .tc main_v11) (ix1 q) = BitVec.ofNat 32 s.val) :
    (∀ j : Fin 128, (argsOf m c).x s j = Vc m c (Proc.devRef .tc main_v116) (ix2 (⟨q.val, by omega⟩ : Fin 64) j)) ∧ ∀ k : Fin 32, (argsOf m c).conv s k = convOf (Vc m) c (ix2 (⟨q.val, by omega⟩ : Fin 64) k) := by
  have h13 : W1 m c (Proc.devRef .tc main_v13) (ix1 (⟨q.val, by omega⟩ : Fin 64)) = BitVec.ofNat 32 s.val := (slot_padded m c q).trans h
  constructor
  · intro j
    rw [Vc_keep m c main_v116 (by decide), show W28 m c (Proc.devRef .tc main_v116) = W26 m c (Proc.devRef .tc main_v116) from ((W28_keep m c main_v116 (by decide)).trans (W27_keep m c main_v116 (by decide)))]
    exact (xs_row m c _ s h13 j).symm
  · intro k
    obtain ⟨r0, hr⟩ := uniq_has m c hpre q
    exact (conv_kernel m c _ s h13 r0 (fun r' => by rw [← h]; exact hr r') hfew k).symm

include hpre in
theorem call_first (hfew : nrel m c ≤ 1024) (i : Fin 24) :
    Vcall (Vc m) c (Proc.devRef .tc main_case0b1_v176) (ix2 (⟨i.val, by omega⟩ : Fin 32) (0 : Fin 128)) = (argsOf m c).first i := by
  obtain ⟨a1, a2⟩ := slot_vals m c hpre hfew ⟨i.val, by omega⟩ ((argsOf m c).node i 0) ((slot_first m c i).trans (Args.at_small _ (hpre i 0)))
  obtain ⟨b1, b2⟩ := slot_vals m c hpre hfew ⟨24 + i.val, by omega⟩ ((argsOf m c).node i 1) ((slot_second m c i).trans (Args.at_small _ (hpre i 1)))
  rw [out_first]
  rw [pay6_apply _ _ _ _ i ((argsOf m c).pair i)
    (fun j => (Args.pair_lo _ i _ ⟨j.val, by omega⟩ rfl).trans ((Args.feat_lo _ _ _ j rfl).trans (a1 j)))
    (fun j => (Args.pair_lo _ i _ ⟨128 + j.val, by omega⟩ rfl).trans ((Args.feat_hi _ _ _ j rfl).trans (a2 j)))
    (fun j => (Args.pair_hi _ i _ ⟨j.val, by omega⟩ rfl).trans ((Args.feat_lo _ _ _ j rfl).trans (b1 j)))
    (fun j => (Args.pair_hi _ i _ ⟨128 + j.val, by omega⟩ (show 288 + j.val = 160 + (128 + j.val) by omega)).trans ((Args.feat_hi _ _ _ j rfl).trans (b2 j)))]
  simp only [Vc_keep m c main_v136 (by decide), Vc_keep m c main_v147 (by decide), wh0 m c, wh1 m c, bh0 m c, bh1 m c]
  rfl

include hpre in
theorem call_second (hfew : nrel m c ≤ 1024) (i : Fin 3) :
    Vcall (Vc m) c (Proc.devRef .tc main_case0b1_v176) (ix2 (⟨24 + i.val, by omega⟩ : Fin 32) (0 : Fin 128)) = (argsOf m c).second i := by
  obtain ⟨a1, a2⟩ := slot_vals m c hpre hfew ⟨48 + i.val, by omega⟩ ⟨9997 + i.val, by omega⟩ (slot_last m c i)
  refine (out_second (Vc m) c (⟨i.val, by omega⟩ : Fin 8) (0 : Fin 128)).trans ?_
  rw [pay2_apply]
  rw [pay7_apply _ _ _ (⟨i.val, by omega⟩ : Fin 8) (0 : Fin 128) ((argsOf m c).feat ⟨9997 + i.val, by omega⟩) (fun j => (Args.feat_lo _ _ _ j rfl).trans (a1 j)) (fun j => (Args.feat_hi _ _ _ j rfl).trans (a2 j))]
  rw [pay7_apply _ _ _ (⟨i.val, by omega⟩ : Fin 8) (1 : Fin 128) ((argsOf m c).feat ⟨9997 + i.val, by omega⟩) (fun j => (Args.feat_lo _ _ _ j rfl).trans (a1 j)) (fun j => (Args.feat_hi _ _ _ j rfl).trans (a2 j))]
  simp only [Vc_keep m c main_v154 (by decide), Vc_keep m c main_v165 (by decide), wt0 m c, wt1 m c, bt0 m c, bt1 m c]
  rfl

/-- A vector laid along one row. -/
theorem along {α : Type} {N : ℕ} (h : (shape1 N).BroadcastsInDim (shape2 1 N) (![1] : Fin 1 → Fin (shape2 1 N).rank)) (v : (shape1 N).Idx → α) (p : Fin 1) (k : Fin N) :
    broadcastInDim (shape2 1 N) ![1] h v (ix2 p k) = v (ix1 k) := by
  refine broadcastInDim_apply _ h v _ _ fun a => ?_
  match a with
  | ⟨0, _⟩ =>
    show k.val = if N = 1 then 0 else k.val
    split
    · have := k.isLt; omega
    · rfl

theorem tail_words (V : Valuation τ sig (Elt Ideal)) : StableHlo.after tailOps V (Proc.devRef .tc main_v175) = broadcastInDim S1x27 ![1] bcast_S27_S1x27_1
    (concatenate S27 0 [⟨S24, mulf (F := Ideal) (φ := .f32) (shapeCast S24 (extractStridedSlice S24x1 ![0, 0] (V (Proc.devRef .tc main_case0b1_v176)) slices_S32x128_S24x1_0_0) shapeCasts_S24x1_S24) (extractStridedSlice S24 ![0] (V (Proc.devRef .tc main_arg16)) slices_S27_S24_0)⟩,
      ⟨S3, mulf (F := Ideal) (φ := .f32) (shapeCast S3 (extractStridedSlice S3x1 ![24, 0] (V (Proc.devRef .tc main_case0b1_v176)) slices_S32x128_S3x1_24_0) shapeCasts_S3x1_S3) (extractStridedSlice S3 ![24] (V (Proc.devRef .tc main_arg16)) slices_S27_S3_24)⟩] concatenates_S24_S3_S27_d0) := by
  simp only [tailOps, StableHlo.TRef.binary, StableHlo.TRef.nullary, StableHlo.TRef.unary, StableHlo.TRef.ternary, StableHlo.TRef.reshape, StableHlo.TRef.toBuf, StableHlo.TRef.ofBuf, cast_eq]
  after_results_simp
  rfl

include hpre in
theorem small (hfew : nrel m c ≤ 1024) (i : Fin 27) : Wend m c (Proc.devRef .tc main_v175) (ix2 (0 : Fin 1) i) = (argsOf m c).out i := by
  have hf := call_first m c hpre hfew
  have hs := call_second m c hpre hfew
  unfold Wend endOf
  rw [if_neg (by rw [word_few m c hfew]; decide)]
  rw [show (fun c => wordOp.result (W28 m c)) = Vc m from rfl]
  rw [tail_words]
  rw [show Vcall (Vc m) c (Proc.devRef .tc main_arg16) = m (c, (Proc.devRef .tc main_arg16)) from (Vcall_keep _ c main_arg16 (by decide)).trans ((Vc_keep m c main_arg16 (by decide)).trans ((((W28_keep m c main_arg16 (by decide)).trans ((W27_keep m c main_arg16 (by decide)).trans ((W26_keep m c main_arg16 (by decide)).trans ((W25_keep m c main_arg16 (by decide)).trans ((W24_keep m c main_arg16 (by decide)).trans ((W23_keep m c main_arg16 (by decide)).trans ((W22_keep m c main_arg16 (by decide)).trans ((W21_keep m c main_arg16 (by decide)).trans ((W20_keep m c main_arg16 (by decide)).trans ((W19_keep m c main_arg16 (by decide)).trans ((W18_keep m c main_arg16 (by decide)).trans ((W17_keep m c main_arg16 (by decide)).trans ((W16_keep m c main_arg16 (by decide)).trans ((W15_keep m c main_arg16 (by decide)).trans ((W14_keep m c main_arg16 (by decide)).trans ((W13_keep m c main_arg16 (by decide)).trans ((W12_keep m c main_arg16 (by decide)).trans ((W11_keep m c main_arg16 (by decide)).trans ((W10_keep m c main_arg16 (by decide)).trans ((W9_keep m c main_arg16 (by decide)).trans ((W8_keep m c main_arg16 (by decide)).trans ((W7_keep m c main_arg16 (by decide)).trans ((W6_keep m c main_arg16 (by decide)).trans ((W5_keep m c main_arg16 (by decide)).trans ((W4_keep m c main_arg16 (by decide)).trans ((W3_keep m c main_arg16 (by decide)).trans ((W2_keep m c main_arg16 (by decide)).trans (W1_keep m c main_arg16 (by decide)))))))))))))))))))))))))))))).trans rfl))]
  refine (along _ _ (0 : Fin 1) i).trans ?_
  unfold Args.out
  by_cases h : i.val < 24
  · rw [dif_pos h]
    refine (concatenate_pair_apply_left (t := S27) (s₁ := S24) (s₂ := S3) (0 : Fin 1) _ _ _ (ix1 i) rfl (ix1 (⟨i.val, h⟩ : Fin 24)) fun a => ?_).trans ?_
    · obtain rfl : a = 0 := Subsingleton.elim _ _
      rfl
    refine congrArg₂ (HMul.hMul (α := EReal)) ?_ ?_
    · refine (cast21 _ _ (⟨i.val, h⟩ : Fin 24) (0 : Fin 1) (⟨i.val, h⟩ : Fin 24) (by simp)).trans ?_
      refine (extractStridedSlice_apply _ _ _ _ (ix2 (⟨i.val, by omega⟩ : Fin 32) (0 : Fin 128)) fun a => ?_).trans (hf ⟨i.val, h⟩)
      match a with
      | ⟨0, _⟩ => exact (Nat.zero_add _).symm
      | ⟨1, _⟩ => rfl
    · refine (slice1 0 _ _ (⟨i.val, h⟩ : Fin 24) (by show 0 + i.val < 27; omega)).trans ?_
      exact congrArg (fun q => m (c, (Proc.devRef .tc main_arg16)) (ix1 q)) (Fin.ext (Nat.zero_add _))
  · rw [dif_neg h]
    refine (concatenate_pair_apply_right (t := S27) (s₁ := S24) (s₂ := S3) (0 : Fin 1) _ _ _ (ix1 i) rfl rfl (ix1 (⟨i.val - 24, by omega⟩ : Fin 3)) (fun a ha => ?_) ?_).trans ?_
    · exact absurd (Subsingleton.elim _ _) ha
    · show (i.val - 24) + 24 = i.val
      omega
    refine congrArg₂ (HMul.hMul (α := EReal)) ?_ ?_
    · refine (cast21 _ _ (⟨i.val - 24, by omega⟩ : Fin 3) (0 : Fin 1) (⟨i.val - 24, by omega⟩ : Fin 3) (by simp)).trans ?_
      refine (extractStridedSlice_apply _ _ _ _ (ix2 (⟨24 + (i.val - 24), by omega⟩ : Fin 32) (0 : Fin 128)) fun a => ?_).trans (hs ⟨i.val - 24, by omega⟩)
      match a with
      | ⟨0, _⟩ => rfl
      | ⟨1, _⟩ => rfl
    · refine (slice1 24 _ _ (⟨i.val - 24, by omega⟩ : Fin 3) (by show 24 + (i.val - 24) < 27; omega)).trans ?_
      exact congrArg (fun q => m (c, (Proc.devRef .tc main_arg16)) (ix1 q)) (Fin.ext (show 24 + (i.val - 24) = i.val by omega))

end Cert.Proof.KernelIdeal
-- ==== Proof.Host3.lean ====
module

public import proofs.«01_k».proof.Proof.Spec
public import Idealize.ShloMosaic.Lib.StackMember

/-! Host operations read entry by entry: rows added into a table, rows of a stacked table, products with a column. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

/-- Row `i` of the updates lands in the row its index word names, column by column. -/
theorem lands_row {N R C : ℕ} (d : ScatterDims (shape2 R C) (shape2 N 1) (shape2 N C)) (huw : d.updateWindowDims = [1]) (hiw : d.insertedWindowDims = [0])
    (hsd : d.scatterDimsToOperandDims = [0]) (hivd : d.indexVectorDim = 1) (idx : IVec (shape2 N 1) 32) (i : Fin N) (y : Fin C) (r : Fin R) (k : Fin C) :
    d.resultIdx? (ix2 i y) idx = some (ix2 r k) ↔ (idx (ix2 i (0 : Fin 1))).toInt = (r.val : Int) ∧ y = k := by
  have hm : (0 : Fin 2) ∈ d.scatterDimsToOperandDims := by rw [hsd]; exact List.mem_singleton.2 rfl
  have hm1 : (1 : Fin 2) ∉ d.scatterDimsToOperandDims := fun h => by rw [hsd] at h; exact absurd (congrArg Fin.val (List.mem_singleton.1 h)) Nat.one_ne_zero
  have u0 : ∀ X ∈ d.uScatter, X = (0 : Fin 2) := fun X hX => by
    have h := of_decide_eq_true (List.mem_filter.1 hX).2
    rw [huw] at h
    have h1 : X.val ≠ 1 := fun e => h (List.mem_singleton.2 (Fin.ext e))
    have h2 : X.val < 2 := X.isLt
    exact Fin.ext (by show X.val = 0; omega)
  have u1 : ∀ X ∈ d.updateWindowDims, X = (1 : Fin 2) := fun X hX => by rw [huw] at hX; exact List.mem_singleton.1 hX
  have e0 : ∀ X : Fin 2, X = 0 → (ix2 i y X).val = i.val := fun X h => by subst h; rfl
  have e1 : ∀ X : Fin 2, X = 1 → (ix2 i y X).val = y.val := fun X h => by subst h; rfl
  have hwin0 : d.window (ix2 i y) 0 = 0 := by
    unfold ScatterDims.window
    rw [dif_neg fun h => (of_decide_eq_true (List.mem_filter.1 h).2) (by rw [hiw]; exact List.mem_singleton.2 rfl)]
  have hk1 : (1 : Fin 2) ∈ d.sKept := by
    refine List.mem_filter.2 ⟨List.mem_finRange _, decide_eq_true fun h => ?_⟩
    rw [hiw] at h
    exact absurd (congrArg Fin.val (List.mem_singleton.1 h)) Nat.one_ne_zero
  have hwin1 : d.window (ix2 i y) 1 = y.val := by
    unfold ScatterDims.window
    rw [dif_pos hk1]
    exact e1 _ (u1 _ (List.getElem_mem _))
  have hstart1 : d.start (ix2 i y) idx 1 = 0 := by
    unfold ScatterDims.start
    rw [dif_neg hm1]
  have hstart : d.start (ix2 i y) idx 0 = (idx (ix2 i (0 : Fin 1))).toInt := by
    unfold ScatterDims.start
    rw [dif_pos hm]
    have hsi : d.siIdx (ix2 i y) ⟨d.scatterDimsToOperandDims.idxOf 0, List.idxOf_lt_length_iff.2 hm⟩ = ix2 i (0 : Fin 1) := by
      funext b'
      match b' with
      | ⟨0, _⟩ =>
        apply Fin.ext
        unfold ScatterDims.siIdx
        rw [dif_neg (by rw [hivd]; exact Nat.zero_ne_one)]
        unfold ScatterDims.siCoord
        simp only [Fin.val_cast]
        exact e0 _ (u0 _ (List.getElem_mem _))
      | ⟨1, _⟩ => exact Subsingleton.elim (α := Fin 1) _ _
    rw [hsi]
  rw [resultIdx?_ix2, hstart, hwin0, hstart1, hwin1]
  constructor
  · rintro ⟨h1, h2⟩
    exact ⟨by simpa using h1, Fin.ext (by omega)⟩
  · rintro ⟨h1, h2⟩
    exact ⟨by simpa using h1, by rw [h2]; simp⟩

theorem word_row {r : ℕ} (hr : r < 2 ^ 31) (w : BitVec 32) : w.toInt = (r : Int) ↔ w = BitVec.ofNat 32 r := by
  constructor
  · intro h
    exact BitVec.eq_of_toInt_eq (h.trans (StableHlo.Predicate.toInt_ofNat_small _ hr).symm)
  · intro h
    rw [h]
    exact StableHlo.Predicate.toInt_ofNat_small _ hr

/-- Rows added into a table of rows. -/
theorem added {N R C : ℕ} (hR : R < 2 ^ 31) (d : ScatterDims (shape2 R C) (shape2 N 1) (shape2 N C)) (huw : d.updateWindowDims = [1]) (hiw : d.insertedWindowDims = [0])
    (hsd : d.scatterDimsToOperandDims = [0]) (hivd : d.indexVectorDim = 1) (x : FVec Ideal (shape2 R C) .f32) (idx : IVec (shape2 N 1) 32) (upd : FVec Ideal (shape2 N C) .f32)
    (w : Fin N → BitVec 32) (hw : ∀ i, idx (ix2 i (0 : Fin 1)) = w i) (r : Fin R) (k : Fin C) :
    Host.scatterAdd (F := Ideal) d x idx upd (ix2 r k) = (x (ix2 r k) : EReal) + ∑ i ∈ Finset.univ.filter (fun i => w i = BitVec.ofNat 32 r.val), (upd (ix2 i k) : EReal) := by
  have land : ∀ (i : Fin N) (y : Fin C), d.resultIdx? (ix2 i y) idx = some (ix2 r k) ↔ w i = BitVec.ofNat 32 r.val ∧ y = k := fun i y =>
    (lands_row d huw hiw hsd hivd idx i y r k).trans (and_congr_left fun _ => by rw [hw i]; exact word_row (by have := r.isLt; omega) _)
  show (x (ix2 r k) : EReal) + ∑ j ∈ Finset.univ.filter (fun j => d.resultIdx? j idx = some (ix2 r k)), (upd j : EReal) = _
  refine congrArg (fun t => (x (ix2 r k) : EReal) + t) ?_
  refine Finset.sum_bij' (fun j _ => (j 0 : Fin N)) (fun i _ => ix2 i k) ?_ ?_ ?_ ?_ ?_
  · intro j hj
    have h := (Finset.mem_filter.1 hj).2
    rw [eq_ix2 j] at h
    exact Finset.mem_filter.2 ⟨Finset.mem_univ _, ((land (j 0) (j 1)).1 h).1⟩
  · intro i hi
    exact Finset.mem_filter.2 ⟨Finset.mem_univ _, (land i k).2 ⟨(Finset.mem_filter.1 hi).2, rfl⟩⟩
  · intro j hj
    have h := (Finset.mem_filter.1 hj).2
    rw [eq_ix2 j] at h
    rw [← ((land (j 0) (j 1)).1 h).2]
    exact (eq_ix2 j).symm
  · intro i hi
    rfl
  · intro j hj
    have h := (Finset.mem_filter.1 hj).2
    rw [eq_ix2 j] at h
    rw [← ((land (j 0) (j 1)).1 h).2]
    exact congrArg upd (eq_ix2 j)

/-- Rows of a stacked table of one member. -/
theorem gather3 {α : Type} (x : S1x10000x160.Idx → α) (idx : IVec S24x1 32) (p : Fin 1) (i : Fin 24) (y : Fin 160) (w : BitVec 32) (hw : idx (ix2 i (0 : Fin 1)) = w) :
    Host.gather gather_S1x10000x160_S24x1_S1x24x160_02_1_n_n_1_1_11160 x idx (ix3 p i y) = x (ix3 p (⟨row 10000 w, row_lt _ (by omega)⟩ : Fin 10000) y) := by
  subst hw
  unfold Host.gather
  refine congrArg x (funext fun a => Fin.ext ?_)
  have hs : gather_S1x10000x160_S24x1_S1x24x160_02_1_n_n_1_1_11160.siIdx (ix3 p i y) (0 : Fin 1) = ix2 i (0 : Fin 1) := by
    funext b'
    match b' with
    | ⟨0, _⟩ => rfl
    | ⟨1, _⟩ => rfl
  match a with
  | ⟨0, _⟩ => exact (Nat.zero_add _).trans rfl
  | ⟨1, _⟩ => exact congrArg (row 10000) (congrArg idx hs)
  | ⟨2, _⟩ => exact (Nat.zero_add _).trans rfl

theorem dot24 (A : FVec Ideal S1x24x320 .f32) (B : FVec Ideal S320x1 .f32) (p : Fin 1) (i : Fin 24) :
    Host.dotGeneral (F := Ideal) dot_S1x24x320_S320x1_S1x24x1_2_0_01_1_n_n none A B (ix3 p i (0 : Fin 1)) = ∑ k : Fin 320, (A (ix3 p i k) : EReal) * B (ix2 k (0 : Fin 1)) := by
  show FloatOps.dotGeneral _ none _ A B (ix3 p i (0 : Fin 1)) = _
  rw [Ideal.dotGeneral_apply, ← Equiv.sum_comp (contrEquiv1 dot_S1x24x320_S320x1_S1x24x1_2_0_01_1_n_n 320 rfl rfl).symm]
  refine Finset.sum_congr rfl fun k _ => ?_
  have c2 := contrEquiv1_symm_val dot_S1x24x320_S320x1_S1x24x1_2_0_01_1_n_n 320 rfl rfl k
  have l2 : dot_S1x24x320_S320x1_S1x24x1_2_0_01_1_n_n.lhsIdx (ix3 p i (0 : Fin 1)) ((contrEquiv1 _ 320 rfl rfl).symm k) = ix3 p i k := by
    funext ax; apply Fin.ext
    match ax with
    | ⟨0, _⟩ => rfl
    | ⟨1, _⟩ => rfl
    | ⟨2, _⟩ => exact c2
  have r2 : dot_S1x24x320_S320x1_S1x24x1_2_0_01_1_n_n.rhsIdx (ix3 p i (0 : Fin 1)) ((contrEquiv1 _ 320 rfl rfl).symm k) = ix2 k (0 : Fin 1) := by
    funext ax; apply Fin.ext
    match ax with
    | ⟨0, _⟩ => exact c2
    | ⟨1, _⟩ => rfl
  rw [l2, r2]

theorem dot3 (A : FVec Ideal S1x3x160 .f32) (B : FVec Ideal S160x1 .f32) (p : Fin 1) (i : Fin 3) :
    Host.dotGeneral (F := Ideal) dot_S1x3x160_S160x1_S1x3x1_2_0_01_1_n_n none A B (ix3 p i (0 : Fin 1)) = ∑ k : Fin 160, (A (ix3 p i k) : EReal) * B (ix2 k (0 : Fin 1)) := by
  show FloatOps.dotGeneral _ none _ A B (ix3 p i (0 : Fin 1)) = _
  rw [Ideal.dotGeneral_apply, ← Equiv.sum_comp (contrEquiv1 dot_S1x3x160_S160x1_S1x3x1_2_0_01_1_n_n 160 rfl rfl).symm]
  refine Finset.sum_congr rfl fun k _ => ?_
  have c2 := contrEquiv1_symm_val dot_S1x3x160_S160x1_S1x3x1_2_0_01_1_n_n 160 rfl rfl k
  have l2 : dot_S1x3x160_S160x1_S1x3x1_2_0_01_1_n_n.lhsIdx (ix3 p i (0 : Fin 1)) ((contrEquiv1 _ 160 rfl rfl).symm k) = ix3 p i k := by
    funext ax; apply Fin.ext
    match ax with
    | ⟨0, _⟩ => rfl
    | ⟨1, _⟩ => rfl
    | ⟨2, _⟩ => exact c2
  have r2 : dot_S1x3x160_S160x1_S1x3x1_2_0_01_1_n_n.rhsIdx (ix3 p i (0 : Fin 1)) ((contrEquiv1 _ 160 rfl rfl).symm k) = ix2 k (0 : Fin 1) := by
    funext ax; apply Fin.ext
    match ax with
    | ⟨0, _⟩ => exact c2
    | ⟨1, _⟩ => rfl
  rw [l2, r2]

end Cert.Proof.KernelIdeal
-- ==== Proof.Terms.lean ====
module

public import proofs.«01_k».proof.Proof.Small
public import proofs.«01_k».proof.Proof.Host3

/-! The computation over every edge, as host operations on the arrays, and what it holds entry by entry. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (a0 : FVec Ideal S10000x128 .f32) (a1 : IVec S2x320000 32) (a2 : FVec Ideal S320000x16 .f32)
  (a3 : FVec Ideal S272x32 .f32) (a4 : FVec Ideal S32 .f32) (a5 : FVec Ideal S32x32 .f32) (a6 : FVec Ideal S32 .f32)
  (a7 : FVec Ideal S320x1 .f32) (a8 : FVec Ideal S1 .f32) (a9 : FVec Ideal S320x1 .f32) (a10 : FVec Ideal S1 .f32)
  (a11 : FVec Ideal S160x1 .f32) (a12 : FVec Ideal S1 .f32) (a13 : FVec Ideal S160x1 .f32) (a14 : FVec Ideal S1 .f32)
  (a15 : IVec S24x2 32) (a16 : FVec Ideal S27 .f32)

/-- One end of every edge. -/
def ends0 : IVec S320000 32 := shapeCast S320000 (extractStridedSlice S1x320000 ![0, 0] a1 slices_S2x320000_S1x320000_0_0) shapeCasts_S1x320000_S320000
def ends1 : IVec S320000 32 := shapeCast S320000 (extractStridedSlice S1x320000 ![1, 0] a1 slices_S2x320000_S1x320000_1_0) shapeCasts_S1x320000_S320000

/-- The rows an array of edge ends names. -/
def rowsOf (e : IVec S320000 32) : FVec Ideal S320000x128 .f32 :=
  Host.gather gather_S10000x128_S320000x1_S320000x128_1_0_n_n_0_1_1128 a0 (broadcastInDim S320000x1 ![0] bcast_S320000_S320000x1_0 (select (cmpi .slt e (broadcastInDim S320000 ![] bcast_S_S320000 (constantI S_ 32 0#32))) (addi e (broadcastInDim S320000 ![] bcast_S_S320000 (constantI S_ 32 10000#32))) e))

/-- Every edge's input row. -/
def inputs (e0 e1 : IVec S320000 32) : FVec Ideal S320000x272 .f32 :=
  concatenate S320000x272 1 [⟨S320000x128, rowsOf a0 e0⟩, ⟨S320000x128, rowsOf a0 e1⟩, ⟨S320000x16, a2⟩] concatenates_S320000x128_S320000x128_S320000x16_S320000x272_d1

/-- Every edge's message. -/
def messages (e0 e1 : IVec S320000 32) : FVec Ideal S320000x32 .f32 :=
  addf (Host.dotGeneral dot_S320000x32_S32x32_S320000x32_1_0_0_1_n_n none (maximumf (addf (Host.dotGeneral dot_S320000x272_S272x32_S320000x32_1_0_0_1_n_n none (inputs a0 a2 e0 e1) a3) (broadcastInDim S320000x32 ![0, 1] bcast_S1x32_S320000x32_0_1 (broadcastInDim S1x32 ![1] bcast_S32_S1x32_1 a4))) (broadcastInDim S320000x32 ![] bcast_S_S320000x32 (constant S_ .f32 0x00000000#32))) a5) (broadcastInDim S320000x32 ![0, 1] bcast_S1x32_S320000x32_0_1 (broadcastInDim S1x32 ![1] bcast_S32_S1x32_1 a6))

/-- Every node's features. -/
def table (e0 e1 : IVec S320000 32) : FVec Ideal S1x10000x160 .f32 :=
  shapeCast S1x10000x160 (concatenate S10000x160 1 [⟨S10000x128, a0⟩, ⟨S10000x32, Host.scatterAdd scatter_S10000x32_S320000x1_S320000x32_1_0_0_1 (broadcastInDim S10000x32 ![] bcast_S_S10000x32 (constant S_ .f32 0x00000000#32)) (broadcastInDim S320000x1 ![0] bcast_S320000_S320000x1_0 e0) (messages a0 a2 a3 a4 a5 a6 e0 e1)⟩] concatenates_S10000x128_S10000x32_S10000x160_d1) shapeCasts_S10000x160_S1x10000x160

def col0 : IVec S24 32 := shapeCast S24 (extractStridedSlice S24x1 ![0, 0] a15 slices_S24x2_S24x1_0_0) shapeCasts_S24x1_S24
def col1 : IVec S24 32 := shapeCast S24 (extractStridedSlice S24x1 ![0, 1] a15 slices_S24x2_S24x1_0_1) shapeCasts_S24x1_S24

variable (T : FVec Ideal S1x10000x160 .f32)

def picks (e : IVec S24 32) : FVec Ideal S1x24x160 .f32 :=
  Host.gather gather_S1x10000x160_S24x1_S1x24x160_02_1_n_n_1_1_11160 T (broadcastInDim S24x1 ![0] bcast_S24_S24x1_0 (select (cmpi .slt e (broadcastInDim S24 ![] bcast_S_S24 (constantI S_ 32 0#32))) (addi e (broadcastInDim S24 ![] bcast_S_S24 (constantI S_ 32 10000#32))) e))

/-- The listed pairs' features. -/
def pairs : FVec Ideal S1x24x320 .f32 :=
  concatenate S1x24x320 2 [⟨S1x24x160, picks T (col0 a15)⟩, ⟨S1x24x160, picks T (col1 a15)⟩] concatenates_S1x24x160_S1x24x160_S1x24x320_d2

/-- The last three nodes' features. -/
def lasts : FVec Ideal S1x3x160 .f32 := extractStridedSlice S1x3x160 ![0, 9997, 0] T slices_S1x10000x160_S1x3x160_0_9997_0

def score24 (P : FVec Ideal S1x24x320 .f32) (w : FVec Ideal S320x1 .f32) (b : FVec Ideal S1 .f32) : FVec Ideal S1x24x1 .f32 :=
  addf (addf (Host.dotGeneral dot_S1x24x320_S320x1_S1x24x1_2_0_01_1_n_n none P w) (broadcastInDim S1x24x1 ![0, 1, 2] bcast_S1x1x1_S1x24x1_0_1_2 (broadcastInDim S1x1x1 ![2] bcast_S1_S1x1x1_2 b))) (broadcastInDim S1x24x1 ![] bcast_S_S1x24x1 (constant S_ .f32 0x1E3CE508#32))

def soft24 (y : FVec Ideal S1x24x1 .f32) : FVec Ideal S1x24 .f32 :=
  addf (shapeCast S1x24 (select (cmpf .une (subf y (broadcastInDim S1x24x1 ![] bcast_S_S1x24x1 (constant S_ .f32 0x00000000#32))) (subf y (broadcastInDim S1x24x1 ![] bcast_S_S1x24x1 (constant S_ .f32 0x00000000#32))))
    (addf y (broadcastInDim S1x24x1 ![] bcast_S_S1x24x1 (constant S_ .f32 0x00000000#32)))
    (addf (maximumf y (broadcastInDim S1x24x1 ![] bcast_S_S1x24x1 (constant S_ .f32 0x00000000#32))) (Host.log1p (Host.exp (Host.negf (Host.absf (subf y (broadcastInDim S1x24x1 ![] bcast_S_S1x24x1 (constant S_ .f32 0x00000000#32))))))))) shapeCasts_S1x24x1_S1x24) (broadcastInDim S1x24 ![] bcast_S_S1x24 (constant S_ .f32 0x1E3CE508#32))

def share24 (u v : FVec Ideal S1x24 .f32) : FVec Ideal S1x24 .f32 := Host.divf u (addf u v)

def score3 (P : FVec Ideal S1x3x160 .f32) (w : FVec Ideal S160x1 .f32) (b : FVec Ideal S1 .f32) : FVec Ideal S1x3x1 .f32 :=
  addf (addf (Host.dotGeneral dot_S1x3x160_S160x1_S1x3x1_2_0_01_1_n_n none P w) (broadcastInDim S1x3x1 ![0, 1, 2] bcast_S1x1x1_S1x3x1_0_1_2 (broadcastInDim S1x1x1 ![2] bcast_S1_S1x1x1_2 b))) (broadcastInDim S1x3x1 ![] bcast_S_S1x3x1 (constant S_ .f32 0x1E3CE508#32))

def soft3 (y : FVec Ideal S1x3x1 .f32) : FVec Ideal S1x3 .f32 :=
  addf (shapeCast S1x3 (select (cmpf .une (subf y (broadcastInDim S1x3x1 ![] bcast_S_S1x3x1 (constant S_ .f32 0x00000000#32))) (subf y (broadcastInDim S1x3x1 ![] bcast_S_S1x3x1 (constant S_ .f32 0x00000000#32))))
    (addf y (broadcastInDim S1x3x1 ![] bcast_S_S1x3x1 (constant S_ .f32 0x00000000#32)))
    (addf (maximumf y (broadcastInDim S1x3x1 ![] bcast_S_S1x3x1 (constant S_ .f32 0x00000000#32))) (Host.log1p (Host.exp (Host.negf (Host.absf (subf y (broadcastInDim S1x3x1 ![] bcast_S_S1x3x1 (constant S_ .f32 0x00000000#32))))))))) shapeCasts_S1x3x1_S1x3) (broadcastInDim S1x3 ![] bcast_S_S1x3 (constant S_ .f32 0x1E3CE508#32))

def share3 (u v : FVec Ideal S1x3 .f32) : FVec Ideal S1x3 .f32 := Host.divf u (addf u v)

/-- The returned row, from the table of features. -/
def result : FVec Ideal S1x27 .f32 :=
  concatenate S1x27 1 [⟨S1x24, mulf (share24 (soft24 (score24 (pairs a15 T) a7 a8)) (soft24 (score24 (pairs a15 T) a9 a10))) (broadcastInDim S1x24 ![1] bcast_S24_S1x24_1 (extractStridedSlice S24 ![0] a16 slices_S27_S24_0))⟩,
    ⟨S1x3, mulf (share3 (soft3 (score3 (lasts T) a11 a12)) (soft3 (score3 (lasts T) a13 a14))) (broadcastInDim S1x3 ![1] bcast_S3_S1x3_1 (extractStridedSlice S3 ![24] a16 slices_S27_S3_24))⟩] concatenates_S1x24_S1x3_S1x27_d1

theorem ends0_apply (e : Fin 320000) : ends0 a1 (ix1 e) = a1 (ix2 (0 : Fin 2) e) := by
  unfold ends0
  refine (cast21 _ _ (0 : Fin 1) e e (by simp)).trans ?_
  refine extractStridedSlice_apply _ _ _ _ (ix2 (0 : Fin 2) e) fun a => ?_
  match a with
  | ⟨0, _⟩ => rfl
  | ⟨1, _⟩ => exact (Nat.zero_add _).symm

theorem ends1_apply (e : Fin 320000) : ends1 a1 (ix1 e) = a1 (ix2 (1 : Fin 2) e) := by
  unfold ends1
  refine (cast21 _ _ (0 : Fin 1) e e (by simp)).trans ?_
  refine extractStridedSlice_apply _ _ _ _ (ix2 (1 : Fin 2) e) fun a => ?_
  match a with
  | ⟨0, _⟩ => rfl
  | ⟨1, _⟩ => exact (Nat.zero_add _).symm

theorem rowsOf_apply (f : IVec S320000 32) (e : Fin 320000) (j : Fin 128) : rowsOf a0 f (ix2 e j) = a0 (ix2 (Args.at_ (f (ix1 e))) j) := by
  unfold rowsOf
  refine gather_rows _ rfl rfl rfl rfl rfl _ _ e j (by omega) (by omega) _ ?_
  exact (bcCol _ _ e).trans rfl

theorem inputs_a (e0 e1 : IVec S320000 32) (e : Fin 320000) (j : Fin 128) : inputs a0 a2 e0 e1 (ix2 e (⟨0 + j.val, by omega⟩ : Fin 272)) = a0 (ix2 (Args.at_ (e0 (ix1 e))) j) := by
  unfold inputs
  refine Eq.trans (concatenate_apply_piece (1 : Fin 2) _ _ (ix2 e (⟨0 + j.val, by omega⟩ : Fin 272)) 0 (by simp) S320000x128 _ rfl rfl 0 rfl (ix2 e j) (fun b hb => ?_) rfl) (rowsOf_apply a0 e0 e j)
  match b with
  | ⟨0, _⟩ => rfl
  | ⟨1, _⟩ => exact absurd rfl hb

theorem inputs_b (e0 e1 : IVec S320000 32) (e : Fin 320000) (j : Fin 128) : inputs a0 a2 e0 e1 (ix2 e (⟨128 + j.val, by omega⟩ : Fin 272)) = a0 (ix2 (Args.at_ (e1 (ix1 e))) j) := by
  unfold inputs
  refine Eq.trans (concatenate_apply_piece (1 : Fin 2) _ _ (ix2 e (⟨128 + j.val, by omega⟩ : Fin 272)) 1 (by simp) S320000x128 _ rfl rfl 128 rfl (ix2 e j) (fun b hb => ?_) rfl) (rowsOf_apply a0 e1 e j)
  match b with
  | ⟨0, _⟩ => rfl
  | ⟨1, _⟩ => exact absurd rfl hb

theorem inputs_c (e0 e1 : IVec S320000 32) (e : Fin 320000) (j : Fin 16) : inputs a0 a2 e0 e1 (ix2 e (⟨256 + j.val, by omega⟩ : Fin 272)) = a2 (ix2 e j) := by
  unfold inputs
  refine Eq.trans (concatenate_apply_piece (1 : Fin 2) _ _ (ix2 e (⟨256 + j.val, by omega⟩ : Fin 272)) 2 (by simp) S320000x16 _ rfl rfl 256 rfl (ix2 e j) (fun b hb => ?_) rfl) rfl
  match b with
  | ⟨0, _⟩ => rfl
  | ⟨1, _⟩ => exact absurd rfl hb

theorem split272 (f : Fin 272 → EReal) : ∑ j : Fin 272, f j = ((∑ j : Fin 128, f ⟨0 + j.val, by omega⟩) + ∑ j : Fin 128, f ⟨128 + j.val, by omega⟩) + ∑ j : Fin 16, f ⟨256 + j.val, by omega⟩ := by
  refine (Fin.sum_univ_add (a := 256) (b := 16) (M := EReal) f).trans (congrArg₂ (HAdd.hAdd (α := EReal)) ?_ rfl)
  refine (Fin.sum_univ_add (a := 128) (b := 128) (M := EReal) fun j => f (Fin.castAdd 16 j)).trans (congrArg₂ (HAdd.hAdd (α := EReal)) (Finset.sum_congr rfl fun j _ => ?_) rfl)
  exact congrArg f (Fin.ext (Nat.zero_add _).symm)

theorem messages_apply (s : Fin 10000) (e : Fin 320000) (hs : a1 (ix2 (0 : Fin 2) e) = BitVec.ofNat 32 s.val) (k : Fin 32) :
    messages a0 a2 a3 a4 a5 a6 (ends0 a1) (ends1 a1) (ix2 e k) = (Args.of a0 a1 a2 a3 a4 a5 a6 a7 a8 a9 a10 a11 a12 a13 a14 a15 a16).msg s e k := by
  have hin : ∀ j : Fin 32, Host.dotGeneral (F := Ideal) dot_S320000x272_S272x32_S320000x32_1_0_0_1_n_n none (inputs a0 a2 (ends0 a1) (ends1 a1)) a3 (ix2 e j)
      = ((∑ i : Fin 128, (Args.of a0 a1 a2 a3 a4 a5 a6 a7 a8 a9 a10 a11 a12 a13 a14 a15 a16).x s i * (Args.of a0 a1 a2 a3 a4 a5 a6 a7 a8 a9 a10 a11 a12 a13 a14 a15 a16).W1 ⟨0 + i.val, by omega⟩ j) + ∑ i : Fin 128, (Args.of a0 a1 a2 a3 a4 a5 a6 a7 a8 a9 a10 a11 a12 a13 a14 a15 a16).x (Args.at_ ((Args.of a0 a1 a2 a3 a4 a5 a6 a7 a8 a9 a10 a11 a12 a13 a14 a15 a16).dst e)) i * (Args.of a0 a1 a2 a3 a4 a5 a6 a7 a8 a9 a10 a11 a12 a13 a14 a15 a16).W1 ⟨128 + i.val, by omega⟩ j)
        + ∑ i : Fin 16, (Args.of a0 a1 a2 a3 a4 a5 a6 a7 a8 a9 a10 a11 a12 a13 a14 a15 a16).ea e i * (Args.of a0 a1 a2 a3 a4 a5 a6 a7 a8 a9 a10 a11 a12 a13 a14 a15 a16).W1 ⟨256 + i.val, by omega⟩ j := fun j => by
    refine (StackMember.dotGeneral_plain_apply (m := 320000) (k := 272) (n := 32) none _ a3 e j).trans ?_
    refine (split272 _).trans ?_
    simp only [inputs_a, inputs_b, inputs_c, ends0_apply, ends1_apply, hs, Args.at_ofNat]
    rfl
  unfold messages
  generalize Host.dotGeneral (F := Ideal) dot_S320000x272_S272x32_S320000x32_1_0_0_1_n_n none (inputs a0 a2 (ends0 a1) (ends1 a1)) a3 = Z at hin ⊢
  refine congrArg₂ (HAdd.hAdd (α := EReal)) ((StackMember.dotGeneral_plain_apply (m := 320000) (k := 32) (n := 32) none _ a5 e k).trans (Finset.sum_congr rfl fun j _ => ?_)) (bcCols _ _ a6 e k)
  refine congrArg (fun t : EReal => t * (a5 (ix2 j k) : EReal)) ?_
  refine congrArg₂ (fun x y : EReal => max x y) (congrArg₂ (HAdd.hAdd (α := EReal)) (hin j) (bcCols _ _ a4 e j)) ?_
  exact Ideal.ofBits_zero_f32

theorem stack {α : Type} (x : S10000x160.Idx → α) (p : Fin 1) (s : Fin 10000) (k : Fin 160) : shapeCast S1x10000x160 x shapeCasts_S10000x160_S1x10000x160 (ix3 p s k) = x (ix2 s k) := by
  refine shapeCast_apply x _ _ _ ?_
  rw [Shape.rowMajor_val_two, Shape.rowMajor_val_three]
  obtain rfl : p = 0 := Subsingleton.elim _ _
  show s.val * 160 + k.val = (0 * 10000 + s.val) * 160 + k.val
  omega

theorem table_apply (p : Fin 1) (s : Fin 10000) (k : Fin 160) : table a0 a2 a3 a4 a5 a6 (ends0 a1) (ends1 a1) (ix3 p s k) = (Args.of a0 a1 a2 a3 a4 a5 a6 a7 a8 a9 a10 a11 a12 a13 a14 a15 a16).feat s k := by
  unfold table
  rw [stack]
  by_cases h : k.val < 128
  · rw [Args.feat_lo _ _ k ⟨k.val, h⟩ rfl]
    refine Eq.trans (concatenate_apply_piece (1 : Fin 2) _ _ (ix2 s k) 0 (by simp) S10000x128 _ rfl rfl 0 rfl (ix2 s (⟨k.val, h⟩ : Fin 128)) (fun b hb => ?_) (Nat.zero_add _)) rfl
    match b with
    | ⟨0, _⟩ => rfl
    | ⟨1, _⟩ => exact absurd rfl hb
  · have hk := k.isLt
    rw [Args.feat_hi _ _ k ⟨k.val - 128, by omega⟩ (show k.val = 128 + (k.val - 128) by omega)]
    refine Eq.trans (concatenate_apply_piece (1 : Fin 2) _ _ (ix2 s k) 1 (by simp) S10000x32 _ rfl rfl 128 rfl (ix2 s (⟨k.val - 128, by omega⟩ : Fin 32)) (fun b hb => ?_) (show 128 + (k.val - 128) = k.val by omega)) ?_
    · match b with
      | ⟨0, _⟩ => rfl
      | ⟨1, _⟩ => exact absurd rfl hb
    refine (added (by norm_num) scatter_S10000x32_S320000x1_S320000x32_1_0_0_1 rfl rfl rfl rfl _ _ _ (Args.of a0 a1 a2 a3 a4 a5 a6 a7 a8 a9 a10 a11 a12 a13 a14 a15 a16).src (fun e => (bcCol _ _ e).trans (ends0_apply a1 e)) s _).trans ?_
    rw [show (broadcastInDim S10000x32 ![] bcast_S_S10000x32 (constant (F := Ideal) S_ .f32 0x00000000#32) (ix2 s (⟨k.val - 128, by omega⟩ : Fin 32)) : EReal) = 0 from Ideal.ofBits_zero_f32, zero_add]
    exact Finset.sum_congr rfl fun e he => messages_apply a0 a1 a2 a3 a4 a5 a6 a7 a8 a9 a10 a11 a12 a13 a14 a15 a16 s e (Finset.mem_filter.1 he).2 _

end Cert.Proof.KernelIdeal
-- ==== Proof.Whole.lean ====
module

public import proofs.«01_k».proof.Proof.Terms

/-! The returned row of the computation over every edge, entry by entry. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (a0 : FVec Ideal S10000x128 .f32) (a1 : IVec S2x320000 32) (a2 : FVec Ideal S320000x16 .f32)
  (a3 : FVec Ideal S272x32 .f32) (a4 : FVec Ideal S32 .f32) (a5 : FVec Ideal S32x32 .f32) (a6 : FVec Ideal S32 .f32)
  (a7 : FVec Ideal S320x1 .f32) (a8 : FVec Ideal S1 .f32) (a9 : FVec Ideal S320x1 .f32) (a10 : FVec Ideal S1 .f32)
  (a11 : FVec Ideal S160x1 .f32) (a12 : FVec Ideal S1 .f32) (a13 : FVec Ideal S160x1 .f32) (a14 : FVec Ideal S1 .f32)
  (a15 : IVec S24x2 32) (a16 : FVec Ideal S27 .f32)

theorem col0_apply (i : Fin 24) : col0 a15 (ix1 i) = a15 (ix2 i (0 : Fin 2)) := by
  unfold col0
  refine (cast21 _ _ i (0 : Fin 1) i (by simp)).trans ?_
  refine extractStridedSlice_apply _ _ _ _ (ix2 i (0 : Fin 2)) fun a => ?_
  match a with
  | ⟨0, _⟩ => exact (Nat.zero_add _).symm
  | ⟨1, _⟩ => rfl

theorem col1_apply (i : Fin 24) : col1 a15 (ix1 i) = a15 (ix2 i (1 : Fin 2)) := by
  unfold col1
  refine (cast21 _ _ i (0 : Fin 1) i (by simp)).trans ?_
  refine extractStridedSlice_apply _ _ _ _ (ix2 i (1 : Fin 2)) fun a => ?_
  match a with
  | ⟨0, _⟩ => exact (Nat.zero_add _).symm
  | ⟨1, _⟩ => rfl

variable (T : FVec Ideal S1x10000x160 .f32)

theorem picks_apply (e : IVec S24 32) (p : Fin 1) (i : Fin 24) (y : Fin 160) : picks T e (ix3 p i y) = T (ix3 p (Args.at_ (e (ix1 i))) y) := by
  unfold picks
  exact gather3 T _ p i y (wrapped 10000#32 (e (ix1 i))) ((bcCol _ _ i).trans rfl)

theorem pairs_apply (hT : ∀ p s k, T (ix3 p s k) = (Args.of a0 a1 a2 a3 a4 a5 a6 a7 a8 a9 a10 a11 a12 a13 a14 a15 a16).feat s k) (p : Fin 1) (i : Fin 24) (k : Fin 320) : pairs a15 T (ix3 p i k) = (Args.of a0 a1 a2 a3 a4 a5 a6 a7 a8 a9 a10 a11 a12 a13 a14 a15 a16).pair i k := by
  have hk := k.isLt
  unfold pairs
  by_cases h : k.val < 160
  · rw [Args.pair_lo _ i k ⟨k.val, h⟩ rfl]
    refine Eq.trans (concatenate_apply_piece (2 : Fin 3) _ _ (ix3 p i k) 0 (by simp) S1x24x160 _ rfl rfl 0 rfl (ix3 p i (⟨k.val, h⟩ : Fin 160)) (fun b hb => ?_) (Nat.zero_add _)) ?_
    · match b with
      | ⟨0, _⟩ => rfl
      | ⟨1, _⟩ => rfl
      | ⟨2, _⟩ => exact absurd rfl hb
    rw [picks_apply, col0_apply, hT]
    rfl
  · rw [Args.pair_hi _ i k ⟨k.val - 160, by omega⟩ (show k.val = 160 + (k.val - 160) by omega)]
    refine Eq.trans (concatenate_apply_piece (2 : Fin 3) _ _ (ix3 p i k) 1 (by simp) S1x24x160 _ rfl rfl 160 rfl (ix3 p i (⟨k.val - 160, by omega⟩ : Fin 160)) (fun b hb => ?_) (show 160 + (k.val - 160) = k.val by omega)) ?_
    · match b with
      | ⟨0, _⟩ => rfl
      | ⟨1, _⟩ => rfl
      | ⟨2, _⟩ => exact absurd rfl hb
    rw [picks_apply, col1_apply, hT]
    rfl

theorem lasts_apply (hT : ∀ p s k, T (ix3 p s k) = (Args.of a0 a1 a2 a3 a4 a5 a6 a7 a8 a9 a10 a11 a12 a13 a14 a15 a16).feat s k) (p : Fin 1) (i : Fin 3) (k : Fin 160) : lasts T (ix3 p i k) = (Args.of a0 a1 a2 a3 a4 a5 a6 a7 a8 a9 a10 a11 a12 a13 a14 a15 a16).feat ⟨9997 + i.val, by omega⟩ k := by
  unfold lasts
  rw [← hT p]
  refine extractStridedSlice_apply _ _ _ _ _ fun a => ?_
  match a with
  | ⟨0, _⟩ => exact (Nat.zero_add _).symm
  | ⟨1, _⟩ => rfl
  | ⟨2, _⟩ => exact (Nat.zero_add _).symm

theorem une_self (d x y : EReal) : Scalar.select (FloatOps.cmpf (F := Ideal) (φ := .f32) .une d d) x y = y := by
  rw [Ideal.cmpf_def]
  refine if_neg ?_
  simp [Ideal.cmp]

theorem soft_word (y : EReal) : Scalar.select (FloatOps.cmpf (F := Ideal) (φ := .f32) .une (y - Ideal.ofBits .f32 0x00000000#32) (y - Ideal.ofBits .f32 0x00000000#32)) (y + Ideal.ofBits .f32 0x00000000#32)
    (max y (Ideal.ofBits .f32 0x00000000#32) + FloatOps.log1p (F := Ideal) (φ := .f32) (FloatOps.exp (F := Ideal) (φ := .f32) (-(max (y - Ideal.ofBits .f32 0x00000000#32) (-(y - Ideal.ofBits .f32 0x00000000#32)))))) = sp y := by
  rw [une_self, Ideal.ofBits_zero_f32]
  rfl

theorem bias24 (b : FVec Ideal S1 .f32) (p : Fin 1) (i : Fin 24) :
    broadcastInDim S1x24x1 ![0, 1, 2] bcast_S1x1x1_S1x24x1_0_1_2 (broadcastInDim S1x1x1 ![2] bcast_S1_S1x1x1_2 b) (ix3 p i (0 : Fin 1)) = b (ix1 (0 : Fin 1)) := by
  refine (broadcastInDim_apply _ _ _ _ (ix3 (0 : Fin 1) (0 : Fin 1) (0 : Fin 1)) fun a => ?_).trans ?_
  · match a with
    | ⟨0, _⟩ => rfl
    | ⟨1, _⟩ => rfl
    | ⟨2, _⟩ => rfl
  · refine broadcastInDim_apply _ _ _ _ (ix1 (0 : Fin 1)) fun a => ?_
    match a with
    | ⟨0, _⟩ => rfl

theorem score24_apply (P : FVec Ideal S1x24x320 .f32) (w : FVec Ideal S320x1 .f32) (b : FVec Ideal S1 .f32) (p : Fin 1) (i : Fin 24) :
    score24 P w b (ix3 p i (0 : Fin 1)) = ((∑ k : Fin 320, (P (ix3 p i k) : EReal) * w (ix2 k (0 : Fin 1))) + (b (ix1 (0 : Fin 1)) : EReal)) + eps := by
  unfold score24
  exact congrArg (fun t : EReal => t + eps) (congrArg₂ (HAdd.hAdd (α := EReal)) (dot24 P w p i) (bias24 b p i))

theorem drop24 {α : Type} (x : S1x24x1.Idx → α) (p : Fin 1) (i : Fin 24) : shapeCast S1x24 x shapeCasts_S1x24x1_S1x24 (ix2 p i) = x (ix3 p i (0 : Fin 1)) := by
  refine shapeCast_apply x _ _ _ ?_
  rw [Shape.rowMajor_val_two, Shape.rowMajor_val_three]
  obtain rfl : p = 0 := Subsingleton.elim _ _
  show (0 * 24 + i.val) * 1 + 0 = 0 * 24 + i.val
  omega

theorem soft24_apply (y : FVec Ideal S1x24x1 .f32) (p : Fin 1) (i : Fin 24) : soft24 y (ix2 p i) = sp (y (ix3 p i (0 : Fin 1))) + eps := by
  unfold soft24
  exact congrArg (fun t : EReal => t + eps) ((drop24 _ p i).trans (soft_word (y (ix3 p i (0 : Fin 1)))))

theorem share24_apply (P : FVec Ideal S1x24x320 .f32) (w w' : FVec Ideal S320x1 .f32) (b b' : FVec Ideal S1 .f32) (p : Fin 1) (i : Fin 24) :
    share24 (soft24 (score24 P w b)) (soft24 (score24 P w' b')) (ix2 p i)
      = quot ((∑ k : Fin 320, (P (ix3 p i k) : EReal) * w (ix2 k (0 : Fin 1))) + (b (ix1 (0 : Fin 1)) : EReal)) ((∑ k : Fin 320, (P (ix3 p i k) : EReal) * w' (ix2 k (0 : Fin 1))) + (b' (ix1 (0 : Fin 1)) : EReal)) := by
  show Ideal.div (soft24 (score24 P w b) (ix2 p i)) ((soft24 (score24 P w b) (ix2 p i) : EReal) + soft24 (score24 P w' b') (ix2 p i)) = _
  rw [soft24_apply, soft24_apply, score24_apply, score24_apply]
  rfl

theorem bias3 (b : FVec Ideal S1 .f32) (p : Fin 1) (i : Fin 3) :
    broadcastInDim S1x3x1 ![0, 1, 2] bcast_S1x1x1_S1x3x1_0_1_2 (broadcastInDim S1x1x1 ![2] bcast_S1_S1x1x1_2 b) (ix3 p i (0 : Fin 1)) = b (ix1 (0 : Fin 1)) := by
  refine (broadcastInDim_apply _ _ _ _ (ix3 (0 : Fin 1) (0 : Fin 1) (0 : Fin 1)) fun a => ?_).trans ?_
  · match a with
    | ⟨0, _⟩ => rfl
    | ⟨1, _⟩ => rfl
    | ⟨2, _⟩ => rfl
  · refine broadcastInDim_apply _ _ _ _ (ix1 (0 : Fin 1)) fun a => ?_
    match a with
    | ⟨0, _⟩ => rfl

theorem score3_apply (P : FVec Ideal S1x3x160 .f32) (w : FVec Ideal S160x1 .f32) (b : FVec Ideal S1 .f32) (p : Fin 1) (i : Fin 3) :
    score3 P w b (ix3 p i (0 : Fin 1)) = ((∑ k : Fin 160, (P (ix3 p i k) : EReal) * w (ix2 k (0 : Fin 1))) + (b (ix1 (0 : Fin 1)) : EReal)) + eps := by
  unfold score3
  exact congrArg (fun t : EReal => t + eps) (congrArg₂ (HAdd.hAdd (α := EReal)) (dot3 P w p i) (bias3 b p i))

theorem drop3 {α : Type} (x : S1x3x1.Idx → α) (p : Fin 1) (i : Fin 3) : shapeCast S1x3 x shapeCasts_S1x3x1_S1x3 (ix2 p i) = x (ix3 p i (0 : Fin 1)) := by
  refine shapeCast_apply x _ _ _ ?_
  rw [Shape.rowMajor_val_two, Shape.rowMajor_val_three]
  obtain rfl : p = 0 := Subsingleton.elim _ _
  show (0 * 3 + i.val) * 1 + 0 = 0 * 3 + i.val
  omega

theorem soft3_apply (y : FVec Ideal S1x3x1 .f32) (p : Fin 1) (i : Fin 3) : soft3 y (ix2 p i) = sp (y (ix3 p i (0 : Fin 1))) + eps := by
  unfold soft3
  exact congrArg (fun t : EReal => t + eps) ((drop3 _ p i).trans (soft_word (y (ix3 p i (0 : Fin 1)))))

theorem share3_apply (P : FVec Ideal S1x3x160 .f32) (w w' : FVec Ideal S160x1 .f32) (b b' : FVec Ideal S1 .f32) (p : Fin 1) (i : Fin 3) :
    share3 (soft3 (score3 P w b)) (soft3 (score3 P w' b')) (ix2 p i)
      = quot ((∑ k : Fin 160, (P (ix3 p i k) : EReal) * w (ix2 k (0 : Fin 1))) + (b (ix1 (0 : Fin 1)) : EReal)) ((∑ k : Fin 160, (P (ix3 p i k) : EReal) * w' (ix2 k (0 : Fin 1))) + (b' (ix1 (0 : Fin 1)) : EReal)) := by
  show Ideal.div (soft3 (score3 P w b) (ix2 p i)) ((soft3 (score3 P w b) (ix2 p i) : EReal) + soft3 (score3 P w' b') (ix2 p i)) = _
  rw [soft3_apply, soft3_apply, score3_apply, score3_apply]
  rfl

theorem result_apply (hT : ∀ p s k, T (ix3 p s k) = (Args.of a0 a1 a2 a3 a4 a5 a6 a7 a8 a9 a10 a11 a12 a13 a14 a15 a16).feat s k) (i : Fin 27) :
    result a7 a8 a9 a10 a11 a12 a13 a14 a15 a16 T (ix2 (0 : Fin 1) i) = (Args.of a0 a1 a2 a3 a4 a5 a6 a7 a8 a9 a10 a11 a12 a13 a14 a15 a16).out i := by
  have hp := pairs_apply a0 a1 a2 a3 a4 a5 a6 a7 a8 a9 a10 a11 a12 a13 a14 a15 a16 T hT
  have hl := lasts_apply a0 a1 a2 a3 a4 a5 a6 a7 a8 a9 a10 a11 a12 a13 a14 a15 a16 T hT
  unfold result Args.out
  by_cases h : i.val < 24
  · rw [dif_pos h]
    refine (concatenate_pair_apply_left (t := S1x27) (s₁ := S1x24) (s₂ := S1x3) (1 : Fin 2) _ _ _ (ix2 (0 : Fin 1) i) rfl (ix2 (0 : Fin 1) (⟨i.val, h⟩ : Fin 24)) fun a => ?_).trans ?_
    · match a with
      | ⟨0, _⟩ => rfl
      | ⟨1, _⟩ => rfl
    refine congrArg₂ (HMul.hMul (α := EReal)) ?_ ?_
    · refine (share24_apply _ a7 a9 a8 a10 (0 : Fin 1) (⟨i.val, h⟩ : Fin 24)).trans ?_
      simp only [hp]
      rfl
    · refine (along _ _ (0 : Fin 1) (⟨i.val, h⟩ : Fin 24)).trans ((slice1 0 _ _ (⟨i.val, h⟩ : Fin 24) (by show 0 + i.val < 27; omega)).trans ?_)
      exact congrArg (fun q => a16 (ix1 q)) (Fin.ext (Nat.zero_add _))
  · rw [dif_neg h]
    refine (concatenate_pair_apply_right (t := S1x27) (s₁ := S1x24) (s₂ := S1x3) (1 : Fin 2) _ _ _ (ix2 (0 : Fin 1) i) rfl rfl (ix2 (0 : Fin 1) (⟨i.val - 24, by omega⟩ : Fin 3)) (fun a ha => ?_) ?_).trans ?_
    · match a with
      | ⟨0, _⟩ => rfl
      | ⟨1, _⟩ => exact absurd rfl ha
    · show (i.val - 24) + 24 = i.val
      omega
    refine congrArg₂ (HMul.hMul (α := EReal)) ?_ ?_
    · refine (share3_apply _ a11 a13 a12 a14 (0 : Fin 1) (⟨i.val - 24, by omega⟩ : Fin 3)).trans ?_
      simp only [hl]
      rfl
    · refine (along _ _ (0 : Fin 1) (⟨i.val - 24, by omega⟩ : Fin 3)).trans ((slice1 24 _ _ (⟨i.val - 24, by omega⟩ : Fin 3) (by show 24 + (i.val - 24) < 27; omega)).trans ?_)
      exact congrArg (fun q => a16 (ix1 q)) (Fin.ext (show 24 + (i.val - 24) = i.val by omega))

/-- The row computed over every edge. -/
def whole : FVec Ideal S1x27 .f32 := result a7 a8 a9 a10 a11 a12 a13 a14 a15 a16 (table a0 a2 a3 a4 a5 a6 (ends0 a1) (ends1 a1))

theorem whole_apply (i : Fin 27) : whole a0 a1 a2 a3 a4 a5 a6 a7 a8 a9 a10 a11 a12 a13 a14 a15 a16 (ix2 (0 : Fin 1) i) = (Args.of a0 a1 a2 a3 a4 a5 a6 a7 a8 a9 a10 a11 a12 a13 a14 a15 a16).out i :=
  result_apply a0 a1 a2 a3 a4 a5 a6 a7 a8 a9 a10 a11 a12 a13 a14 a15 a16 _ (table_apply a0 a1 a2 a3 a4 a5 a6 a7 a8 a9 a10 a11 a12 a13 a14 a15 a16) i

end Cert.Proof.KernelIdeal
-- ==== Proof.Many.lean ====
module

public import proofs.«01_k».proof.Proof.Whole

/-! What the branch over every edge returns. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (m : (ℓ : Loc nD τ sig) → Buf (Elt Ideal) ℓ) (c : Dev nD)

theorem after_two (l₁ l₂ : List (HloOp τ sig (Elt Ideal))) (V : Valuation τ sig (Elt Ideal)) : StableHlo.after (l₁ ++ l₂) V = StableHlo.after l₂ (StableHlo.after l₁ V) := by
  induction l₁ generalizing V with
  | nil => rfl
  | cons a l ih => exact ih _

/-- A run of the branch's operations. -/
def part (lo n : ℕ) : List (HloOp τ sig (Elt Ideal)) := (denseOps.drop lo).take n

theorem parts : (denseOps : List (HloOp τ sig (Elt Ideal))) = part 0 18 ++ (part 18 1 ++ (part 19 15 ++ (part 34 1 ++ (part 35 23 ++ (part 58 1 ++ (part 59 25 ++ (part 84 25 ++ (part 109 1 ++ (part 110 25 ++ (part 135 25 ++ (part 160 10 ++ (part 170 2)))))))))))) := rfl

/-- The messages of the input rows `X`, added up by the words `e0`. -/
def gathered (a3 : FVec Ideal S272x32 .f32) (a4 : FVec Ideal S32 .f32) (a5 : FVec Ideal S32x32 .f32) (a6 : FVec Ideal S32 .f32) (e0 : IVec S320000 32) (X : FVec Ideal S320000x272 .f32) : FVec Ideal S10000x32 .f32 :=
  Host.scatterAdd scatter_S10000x32_S320000x1_S320000x32_1_0_0_1 (broadcastInDim S10000x32 ![] bcast_S_S10000x32 (constant S_ .f32 0x00000000#32)) (broadcastInDim S320000x1 ![0] bcast_S320000_S320000x1_0 e0)
    (addf (Host.dotGeneral dot_S320000x32_S32x32_S320000x32_1_0_0_1_n_n none (maximumf (addf (Host.dotGeneral dot_S320000x272_S272x32_S320000x32_1_0_0_1_n_n none X a3) (broadcastInDim S320000x32 ![0, 1] bcast_S1x32_S320000x32_0_1 (broadcastInDim S1x32 ![1] bcast_S32_S1x32_1 a4))) (broadcastInDim S320000x32 ![] bcast_S_S320000x32 (constant S_ .f32 0x00000000#32))) a5) (broadcastInDim S320000x32 ![0, 1] bcast_S1x32_S320000x32_0_1 (broadcastInDim S1x32 ![1] bcast_S32_S1x32_1 a6)))

variable (V : Valuation τ sig (Elt Ideal))

theorem st0_v182 : StableHlo.after (part 0 18) V (Proc.devRef .tc main_case0b0_v182) = rowsOf (V (Proc.devRef .tc main_arg0)) (V (Proc.devRef .tc main_v1)) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st0_v189 : StableHlo.after (part 0 18) V (Proc.devRef .tc main_case0b0_v189) = rowsOf (V (Proc.devRef .tc main_arg0)) (V (Proc.devRef .tc main_v3)) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st0_keep : StableHlo.after (part 0 18) V (Proc.devRef .tc main_arg0) = V (Proc.devRef .tc main_arg0) ∧ StableHlo.after (part 0 18) V (Proc.devRef .tc main_arg10) = V (Proc.devRef .tc main_arg10) ∧ StableHlo.after (part 0 18) V (Proc.devRef .tc main_arg11) = V (Proc.devRef .tc main_arg11) ∧ StableHlo.after (part 0 18) V (Proc.devRef .tc main_arg12) = V (Proc.devRef .tc main_arg12) ∧ StableHlo.after (part 0 18) V (Proc.devRef .tc main_arg13) = V (Proc.devRef .tc main_arg13) ∧ StableHlo.after (part 0 18) V (Proc.devRef .tc main_arg14) = V (Proc.devRef .tc main_arg14) ∧ StableHlo.after (part 0 18) V (Proc.devRef .tc main_arg15) = V (Proc.devRef .tc main_arg15) ∧ StableHlo.after (part 0 18) V (Proc.devRef .tc main_arg16) = V (Proc.devRef .tc main_arg16) ∧ StableHlo.after (part 0 18) V (Proc.devRef .tc main_arg2) = V (Proc.devRef .tc main_arg2) ∧ StableHlo.after (part 0 18) V (Proc.devRef .tc main_arg3) = V (Proc.devRef .tc main_arg3) ∧ StableHlo.after (part 0 18) V (Proc.devRef .tc main_arg4) = V (Proc.devRef .tc main_arg4) ∧ StableHlo.after (part 0 18) V (Proc.devRef .tc main_arg5) = V (Proc.devRef .tc main_arg5) ∧ StableHlo.after (part 0 18) V (Proc.devRef .tc main_arg6) = V (Proc.devRef .tc main_arg6) ∧ StableHlo.after (part 0 18) V (Proc.devRef .tc main_arg7) = V (Proc.devRef .tc main_arg7) ∧ StableHlo.after (part 0 18) V (Proc.devRef .tc main_arg8) = V (Proc.devRef .tc main_arg8) ∧ StableHlo.after (part 0 18) V (Proc.devRef .tc main_arg9) = V (Proc.devRef .tc main_arg9) ∧ StableHlo.after (part 0 18) V (Proc.devRef .tc main_v1) = V (Proc.devRef .tc main_v1) := by
  refine ⟨?_, ?_, ?_, ?_, ?_, ?_, ?_, ?_, ?_, ?_, ?_, ?_, ?_, ?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st1_v190 : StableHlo.after (part 18 1) V (Proc.devRef .tc main_case0b0_v190) = concatenate S320000x272 1 [⟨S320000x128, (V (Proc.devRef .tc main_case0b0_v182))⟩, ⟨S320000x128, (V (Proc.devRef .tc main_case0b0_v189))⟩, ⟨S320000x16, (V (Proc.devRef .tc main_arg2))⟩] concatenates_S320000x128_S320000x128_S320000x16_S320000x272_d1 := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st1_keep : StableHlo.after (part 18 1) V (Proc.devRef .tc main_arg0) = V (Proc.devRef .tc main_arg0) ∧ StableHlo.after (part 18 1) V (Proc.devRef .tc main_arg10) = V (Proc.devRef .tc main_arg10) ∧ StableHlo.after (part 18 1) V (Proc.devRef .tc main_arg11) = V (Proc.devRef .tc main_arg11) ∧ StableHlo.after (part 18 1) V (Proc.devRef .tc main_arg12) = V (Proc.devRef .tc main_arg12) ∧ StableHlo.after (part 18 1) V (Proc.devRef .tc main_arg13) = V (Proc.devRef .tc main_arg13) ∧ StableHlo.after (part 18 1) V (Proc.devRef .tc main_arg14) = V (Proc.devRef .tc main_arg14) ∧ StableHlo.after (part 18 1) V (Proc.devRef .tc main_arg15) = V (Proc.devRef .tc main_arg15) ∧ StableHlo.after (part 18 1) V (Proc.devRef .tc main_arg16) = V (Proc.devRef .tc main_arg16) ∧ StableHlo.after (part 18 1) V (Proc.devRef .tc main_arg3) = V (Proc.devRef .tc main_arg3) ∧ StableHlo.after (part 18 1) V (Proc.devRef .tc main_arg4) = V (Proc.devRef .tc main_arg4) ∧ StableHlo.after (part 18 1) V (Proc.devRef .tc main_arg5) = V (Proc.devRef .tc main_arg5) ∧ StableHlo.after (part 18 1) V (Proc.devRef .tc main_arg6) = V (Proc.devRef .tc main_arg6) ∧ StableHlo.after (part 18 1) V (Proc.devRef .tc main_arg7) = V (Proc.devRef .tc main_arg7) ∧ StableHlo.after (part 18 1) V (Proc.devRef .tc main_arg8) = V (Proc.devRef .tc main_arg8) ∧ StableHlo.after (part 18 1) V (Proc.devRef .tc main_arg9) = V (Proc.devRef .tc main_arg9) ∧ StableHlo.after (part 18 1) V (Proc.devRef .tc main_v1) = V (Proc.devRef .tc main_v1) := by
  refine ⟨?_, ?_, ?_, ?_, ?_, ?_, ?_, ?_, ?_, ?_, ?_, ?_, ?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st2_v202 : StableHlo.after (part 19 15) V (Proc.devRef .tc main_case0b0_v202) = gathered (V (Proc.devRef .tc main_arg3)) (V (Proc.devRef .tc main_arg4)) (V (Proc.devRef .tc main_arg5)) (V (Proc.devRef .tc main_arg6)) (V (Proc.devRef .tc main_v1)) (V (Proc.devRef .tc main_case0b0_v190)) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st2_keep : StableHlo.after (part 19 15) V (Proc.devRef .tc main_arg0) = V (Proc.devRef .tc main_arg0) ∧ StableHlo.after (part 19 15) V (Proc.devRef .tc main_arg10) = V (Proc.devRef .tc main_arg10) ∧ StableHlo.after (part 19 15) V (Proc.devRef .tc main_arg11) = V (Proc.devRef .tc main_arg11) ∧ StableHlo.after (part 19 15) V (Proc.devRef .tc main_arg12) = V (Proc.devRef .tc main_arg12) ∧ StableHlo.after (part 19 15) V (Proc.devRef .tc main_arg13) = V (Proc.devRef .tc main_arg13) ∧ StableHlo.after (part 19 15) V (Proc.devRef .tc main_arg14) = V (Proc.devRef .tc main_arg14) ∧ StableHlo.after (part 19 15) V (Proc.devRef .tc main_arg15) = V (Proc.devRef .tc main_arg15) ∧ StableHlo.after (part 19 15) V (Proc.devRef .tc main_arg16) = V (Proc.devRef .tc main_arg16) ∧ StableHlo.after (part 19 15) V (Proc.devRef .tc main_arg7) = V (Proc.devRef .tc main_arg7) ∧ StableHlo.after (part 19 15) V (Proc.devRef .tc main_arg8) = V (Proc.devRef .tc main_arg8) ∧ StableHlo.after (part 19 15) V (Proc.devRef .tc main_arg9) = V (Proc.devRef .tc main_arg9) := by
  refine ⟨?_, ?_, ?_, ?_, ?_, ?_, ?_, ?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st3_v203 : StableHlo.after (part 34 1) V (Proc.devRef .tc main_case0b0_v203) = concatenate S10000x160 1 [⟨S10000x128, (V (Proc.devRef .tc main_arg0))⟩, ⟨S10000x32, (V (Proc.devRef .tc main_case0b0_v202))⟩] concatenates_S10000x128_S10000x32_S10000x160_d1 := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st3_keep : StableHlo.after (part 34 1) V (Proc.devRef .tc main_arg10) = V (Proc.devRef .tc main_arg10) ∧ StableHlo.after (part 34 1) V (Proc.devRef .tc main_arg11) = V (Proc.devRef .tc main_arg11) ∧ StableHlo.after (part 34 1) V (Proc.devRef .tc main_arg12) = V (Proc.devRef .tc main_arg12) ∧ StableHlo.after (part 34 1) V (Proc.devRef .tc main_arg13) = V (Proc.devRef .tc main_arg13) ∧ StableHlo.after (part 34 1) V (Proc.devRef .tc main_arg14) = V (Proc.devRef .tc main_arg14) ∧ StableHlo.after (part 34 1) V (Proc.devRef .tc main_arg15) = V (Proc.devRef .tc main_arg15) ∧ StableHlo.after (part 34 1) V (Proc.devRef .tc main_arg16) = V (Proc.devRef .tc main_arg16) ∧ StableHlo.after (part 34 1) V (Proc.devRef .tc main_arg7) = V (Proc.devRef .tc main_arg7) ∧ StableHlo.after (part 34 1) V (Proc.devRef .tc main_arg8) = V (Proc.devRef .tc main_arg8) ∧ StableHlo.after (part 34 1) V (Proc.devRef .tc main_arg9) = V (Proc.devRef .tc main_arg9) := by
  refine ⟨?_, ?_, ?_, ?_, ?_, ?_, ?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st4_v204 : StableHlo.after (part 35 23) V (Proc.devRef .tc main_case0b0_v204) = shapeCast S1x10000x160 (V (Proc.devRef .tc main_case0b0_v203)) shapeCasts_S10000x160_S1x10000x160 := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st4_v213 : StableHlo.after (part 35 23) V (Proc.devRef .tc main_case0b0_v213) = picks (shapeCast S1x10000x160 (V (Proc.devRef .tc main_case0b0_v203)) shapeCasts_S10000x160_S1x10000x160) (col0 (V (Proc.devRef .tc main_arg15))) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st4_v222 : StableHlo.after (part 35 23) V (Proc.devRef .tc main_case0b0_v222) = picks (shapeCast S1x10000x160 (V (Proc.devRef .tc main_case0b0_v203)) shapeCasts_S10000x160_S1x10000x160) (col1 (V (Proc.devRef .tc main_arg15))) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st4_keep : StableHlo.after (part 35 23) V (Proc.devRef .tc main_arg10) = V (Proc.devRef .tc main_arg10) ∧ StableHlo.after (part 35 23) V (Proc.devRef .tc main_arg11) = V (Proc.devRef .tc main_arg11) ∧ StableHlo.after (part 35 23) V (Proc.devRef .tc main_arg12) = V (Proc.devRef .tc main_arg12) ∧ StableHlo.after (part 35 23) V (Proc.devRef .tc main_arg13) = V (Proc.devRef .tc main_arg13) ∧ StableHlo.after (part 35 23) V (Proc.devRef .tc main_arg14) = V (Proc.devRef .tc main_arg14) ∧ StableHlo.after (part 35 23) V (Proc.devRef .tc main_arg16) = V (Proc.devRef .tc main_arg16) ∧ StableHlo.after (part 35 23) V (Proc.devRef .tc main_arg7) = V (Proc.devRef .tc main_arg7) ∧ StableHlo.after (part 35 23) V (Proc.devRef .tc main_arg8) = V (Proc.devRef .tc main_arg8) ∧ StableHlo.after (part 35 23) V (Proc.devRef .tc main_arg9) = V (Proc.devRef .tc main_arg9) := by
  refine ⟨?_, ?_, ?_, ?_, ?_, ?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st5_v223 : StableHlo.after (part 58 1) V (Proc.devRef .tc main_case0b0_v223) = concatenate S1x24x320 2 [⟨S1x24x160, (V (Proc.devRef .tc main_case0b0_v213))⟩, ⟨S1x24x160, (V (Proc.devRef .tc main_case0b0_v222))⟩] concatenates_S1x24x160_S1x24x160_S1x24x320_d2 := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st5_keep : StableHlo.after (part 58 1) V (Proc.devRef .tc main_arg10) = V (Proc.devRef .tc main_arg10) ∧ StableHlo.after (part 58 1) V (Proc.devRef .tc main_arg11) = V (Proc.devRef .tc main_arg11) ∧ StableHlo.after (part 58 1) V (Proc.devRef .tc main_arg12) = V (Proc.devRef .tc main_arg12) ∧ StableHlo.after (part 58 1) V (Proc.devRef .tc main_arg13) = V (Proc.devRef .tc main_arg13) ∧ StableHlo.after (part 58 1) V (Proc.devRef .tc main_arg14) = V (Proc.devRef .tc main_arg14) ∧ StableHlo.after (part 58 1) V (Proc.devRef .tc main_arg16) = V (Proc.devRef .tc main_arg16) ∧ StableHlo.after (part 58 1) V (Proc.devRef .tc main_arg7) = V (Proc.devRef .tc main_arg7) ∧ StableHlo.after (part 58 1) V (Proc.devRef .tc main_arg8) = V (Proc.devRef .tc main_arg8) ∧ StableHlo.after (part 58 1) V (Proc.devRef .tc main_arg9) = V (Proc.devRef .tc main_arg9) ∧ StableHlo.after (part 58 1) V (Proc.devRef .tc main_case0b0_v204) = V (Proc.devRef .tc main_case0b0_v204) := by
  refine ⟨?_, ?_, ?_, ?_, ?_, ?_, ?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st6_v233 : StableHlo.after (part 59 25) V (Proc.devRef .tc main_case0b0_v233) = soft24 (score24 (V (Proc.devRef .tc main_case0b0_v223)) (V (Proc.devRef .tc main_arg7)) (V (Proc.devRef .tc main_arg8))) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st6_keep : StableHlo.after (part 59 25) V (Proc.devRef .tc main_arg10) = V (Proc.devRef .tc main_arg10) ∧ StableHlo.after (part 59 25) V (Proc.devRef .tc main_arg11) = V (Proc.devRef .tc main_arg11) ∧ StableHlo.after (part 59 25) V (Proc.devRef .tc main_arg12) = V (Proc.devRef .tc main_arg12) ∧ StableHlo.after (part 59 25) V (Proc.devRef .tc main_arg13) = V (Proc.devRef .tc main_arg13) ∧ StableHlo.after (part 59 25) V (Proc.devRef .tc main_arg14) = V (Proc.devRef .tc main_arg14) ∧ StableHlo.after (part 59 25) V (Proc.devRef .tc main_arg16) = V (Proc.devRef .tc main_arg16) ∧ StableHlo.after (part 59 25) V (Proc.devRef .tc main_arg9) = V (Proc.devRef .tc main_arg9) ∧ StableHlo.after (part 59 25) V (Proc.devRef .tc main_case0b0_v204) = V (Proc.devRef .tc main_case0b0_v204) ∧ StableHlo.after (part 59 25) V (Proc.devRef .tc main_case0b0_v223) = V (Proc.devRef .tc main_case0b0_v223) := by
  refine ⟨?_, ?_, ?_, ?_, ?_, ?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st7_v243 : StableHlo.after (part 84 25) V (Proc.devRef .tc main_case0b0_v243) = soft24 (score24 (V (Proc.devRef .tc main_case0b0_v223)) (V (Proc.devRef .tc main_arg9)) (V (Proc.devRef .tc main_arg10))) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st7_keep : StableHlo.after (part 84 25) V (Proc.devRef .tc main_arg11) = V (Proc.devRef .tc main_arg11) ∧ StableHlo.after (part 84 25) V (Proc.devRef .tc main_arg12) = V (Proc.devRef .tc main_arg12) ∧ StableHlo.after (part 84 25) V (Proc.devRef .tc main_arg13) = V (Proc.devRef .tc main_arg13) ∧ StableHlo.after (part 84 25) V (Proc.devRef .tc main_arg14) = V (Proc.devRef .tc main_arg14) ∧ StableHlo.after (part 84 25) V (Proc.devRef .tc main_arg16) = V (Proc.devRef .tc main_arg16) ∧ StableHlo.after (part 84 25) V (Proc.devRef .tc main_case0b0_v204) = V (Proc.devRef .tc main_case0b0_v204) ∧ StableHlo.after (part 84 25) V (Proc.devRef .tc main_case0b0_v233) = V (Proc.devRef .tc main_case0b0_v233) := by
  refine ⟨?_, ?_, ?_, ?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st8_v244 : StableHlo.after (part 109 1) V (Proc.devRef .tc main_case0b0_v244) = lasts (V (Proc.devRef .tc main_case0b0_v204)) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st8_keep : StableHlo.after (part 109 1) V (Proc.devRef .tc main_arg11) = V (Proc.devRef .tc main_arg11) ∧ StableHlo.after (part 109 1) V (Proc.devRef .tc main_arg12) = V (Proc.devRef .tc main_arg12) ∧ StableHlo.after (part 109 1) V (Proc.devRef .tc main_arg13) = V (Proc.devRef .tc main_arg13) ∧ StableHlo.after (part 109 1) V (Proc.devRef .tc main_arg14) = V (Proc.devRef .tc main_arg14) ∧ StableHlo.after (part 109 1) V (Proc.devRef .tc main_arg16) = V (Proc.devRef .tc main_arg16) ∧ StableHlo.after (part 109 1) V (Proc.devRef .tc main_case0b0_v233) = V (Proc.devRef .tc main_case0b0_v233) ∧ StableHlo.after (part 109 1) V (Proc.devRef .tc main_case0b0_v243) = V (Proc.devRef .tc main_case0b0_v243) := by
  refine ⟨?_, ?_, ?_, ?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st9_v254 : StableHlo.after (part 110 25) V (Proc.devRef .tc main_case0b0_v254) = soft3 (score3 (V (Proc.devRef .tc main_case0b0_v244)) (V (Proc.devRef .tc main_arg11)) (V (Proc.devRef .tc main_arg12))) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st9_keep : StableHlo.after (part 110 25) V (Proc.devRef .tc main_arg13) = V (Proc.devRef .tc main_arg13) ∧ StableHlo.after (part 110 25) V (Proc.devRef .tc main_arg14) = V (Proc.devRef .tc main_arg14) ∧ StableHlo.after (part 110 25) V (Proc.devRef .tc main_arg16) = V (Proc.devRef .tc main_arg16) ∧ StableHlo.after (part 110 25) V (Proc.devRef .tc main_case0b0_v233) = V (Proc.devRef .tc main_case0b0_v233) ∧ StableHlo.after (part 110 25) V (Proc.devRef .tc main_case0b0_v243) = V (Proc.devRef .tc main_case0b0_v243) ∧ StableHlo.after (part 110 25) V (Proc.devRef .tc main_case0b0_v244) = V (Proc.devRef .tc main_case0b0_v244) := by
  refine ⟨?_, ?_, ?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st10_v264 : StableHlo.after (part 135 25) V (Proc.devRef .tc main_case0b0_v264) = soft3 (score3 (V (Proc.devRef .tc main_case0b0_v244)) (V (Proc.devRef .tc main_arg13)) (V (Proc.devRef .tc main_arg14))) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st10_keep : StableHlo.after (part 135 25) V (Proc.devRef .tc main_arg16) = V (Proc.devRef .tc main_arg16) ∧ StableHlo.after (part 135 25) V (Proc.devRef .tc main_case0b0_v233) = V (Proc.devRef .tc main_case0b0_v233) ∧ StableHlo.after (part 135 25) V (Proc.devRef .tc main_case0b0_v243) = V (Proc.devRef .tc main_case0b0_v243) ∧ StableHlo.after (part 135 25) V (Proc.devRef .tc main_case0b0_v254) = V (Proc.devRef .tc main_case0b0_v254) := by
  refine ⟨?_, ?_, ?_, ?_⟩ <;>
  · simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
    after_results_simp

theorem st11_v269 : StableHlo.after (part 160 10) V (Proc.devRef .tc main_case0b0_v269) = mulf (F := Ideal) (φ := .f32) (share24 (V (Proc.devRef .tc main_case0b0_v233)) (V (Proc.devRef .tc main_case0b0_v243))) (broadcastInDim S1x24 ![1] bcast_S24_S1x24_1 (extractStridedSlice S24 ![0] (V (Proc.devRef .tc main_arg16)) slices_S27_S24_0)) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st11_v274 : StableHlo.after (part 160 10) V (Proc.devRef .tc main_case0b0_v274) = mulf (F := Ideal) (φ := .f32) (share3 (V (Proc.devRef .tc main_case0b0_v254)) (V (Proc.devRef .tc main_case0b0_v264))) (broadcastInDim S1x3 ![1] bcast_S3_S1x3_1 (extractStridedSlice S3 ![24] (V (Proc.devRef .tc main_arg16)) slices_S27_S3_24)) := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

theorem st12_v175 : StableHlo.after (part 170 2) V (Proc.devRef .tc main_v175) = concatenate S1x27 1 [⟨S1x24, (V (Proc.devRef .tc main_case0b0_v269))⟩, ⟨S1x3, (V (Proc.devRef .tc main_case0b0_v274))⟩] concatenates_S1x24_S1x3_S1x27_d1 := by
  simp only [part, denseOps, List.drop_succ_cons, List.drop_zero, List.take_succ_cons, List.take_zero, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  try rfl

end Cert.Proof.KernelIdeal
-- ==== Proof.Big.lean ====
module

public import proofs.«01_k».proof.Proof.Many

/-! The branch over every edge, from the launch memory. -/

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.Routing
open Idealize.SL.Sem
open Cert.Proof.Count Cert.Proof.Nonzero

variable (m : (ℓ : Loc nD τ sig) → Buf (Elt Ideal) ℓ) (c : Dev nD)

variable (V : Valuation τ sig (Elt Ideal))

theorem many : StableHlo.after denseOps V (Proc.devRef .tc main_v175)
    = result (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (table (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_v1)) (V (Proc.devRef .tc main_v3))) := by
  rw [parts]
  rw [after_two, after_two, after_two, after_two, after_two, after_two, after_two, after_two, after_two, after_two, after_two, after_two]
  rw [st12_v175]
  rw [st11_v269, st11_v274]
  rw [st10_v264, (st10_keep _).1, (st10_keep _).2.1, (st10_keep _).2.2.1, (st10_keep _).2.2.2]
  rw [st9_v254, (st9_keep _).1, (st9_keep _).2.1, (st9_keep _).2.2.1, (st9_keep _).2.2.2.1, (st9_keep _).2.2.2.2.1, (st9_keep _).2.2.2.2.2]
  rw [st8_v244, (st8_keep _).1, (st8_keep _).2.1, (st8_keep _).2.2.1, (st8_keep _).2.2.2.1, (st8_keep _).2.2.2.2.1, (st8_keep _).2.2.2.2.2.1, (st8_keep _).2.2.2.2.2.2]
  rw [st7_v243, (st7_keep _).1, (st7_keep _).2.1, (st7_keep _).2.2.1, (st7_keep _).2.2.2.1, (st7_keep _).2.2.2.2.1, (st7_keep _).2.2.2.2.2.1, (st7_keep _).2.2.2.2.2.2]
  rw [st6_v233, (st6_keep _).1, (st6_keep _).2.1, (st6_keep _).2.2.1, (st6_keep _).2.2.2.1, (st6_keep _).2.2.2.2.1, (st6_keep _).2.2.2.2.2.1, (st6_keep _).2.2.2.2.2.2.1, (st6_keep _).2.2.2.2.2.2.2.1, (st6_keep _).2.2.2.2.2.2.2.2]
  rw [st5_v223, (st5_keep _).1, (st5_keep _).2.1, (st5_keep _).2.2.1, (st5_keep _).2.2.2.1, (st5_keep _).2.2.2.2.1, (st5_keep _).2.2.2.2.2.1, (st5_keep _).2.2.2.2.2.2.1, (st5_keep _).2.2.2.2.2.2.2.1, (st5_keep _).2.2.2.2.2.2.2.2.1, (st5_keep _).2.2.2.2.2.2.2.2.2]
  rw [st4_v204, st4_v213, st4_v222, (st4_keep _).1, (st4_keep _).2.1, (st4_keep _).2.2.1, (st4_keep _).2.2.2.1, (st4_keep _).2.2.2.2.1, (st4_keep _).2.2.2.2.2.1, (st4_keep _).2.2.2.2.2.2.1, (st4_keep _).2.2.2.2.2.2.2.1, (st4_keep _).2.2.2.2.2.2.2.2]
  rw [st3_v203, (st3_keep _).1, (st3_keep _).2.1, (st3_keep _).2.2.1, (st3_keep _).2.2.2.1, (st3_keep _).2.2.2.2.1, (st3_keep _).2.2.2.2.2.1, (st3_keep _).2.2.2.2.2.2.1, (st3_keep _).2.2.2.2.2.2.2.1, (st3_keep _).2.2.2.2.2.2.2.2.1, (st3_keep _).2.2.2.2.2.2.2.2.2]
  rw [st2_v202, (st2_keep _).1, (st2_keep _).2.1, (st2_keep _).2.2.1, (st2_keep _).2.2.2.1, (st2_keep _).2.2.2.2.1, (st2_keep _).2.2.2.2.2.1, (st2_keep _).2.2.2.2.2.2.1, (st2_keep _).2.2.2.2.2.2.2.1, (st2_keep _).2.2.2.2.2.2.2.2.1, (st2_keep _).2.2.2.2.2.2.2.2.2.1, (st2_keep _).2.2.2.2.2.2.2.2.2.2]
  rw [st1_v190, (st1_keep _).1, (st1_keep _).2.1, (st1_keep _).2.2.1, (st1_keep _).2.2.2.1, (st1_keep _).2.2.2.2.1, (st1_keep _).2.2.2.2.2.1, (st1_keep _).2.2.2.2.2.2.1, (st1_keep _).2.2.2.2.2.2.2.1, (st1_keep _).2.2.2.2.2.2.2.2.1, (st1_keep _).2.2.2.2.2.2.2.2.2.1, (st1_keep _).2.2.2.2.2.2.2.2.2.2.1, (st1_keep _).2.2.2.2.2.2.2.2.2.2.2.1, (st1_keep _).2.2.2.2.2.2.2.2.2.2.2.2.1, (st1_keep _).2.2.2.2.2.2.2.2.2.2.2.2.2.1, (st1_keep _).2.2.2.2.2.2.2.2.2.2.2.2.2.2.1, (st1_keep _).2.2.2.2.2.2.2.2.2.2.2.2.2.2.2]
  rw [st0_v182, st0_v189, (st0_keep _).1, (st0_keep _).2.1, (st0_keep _).2.2.1, (st0_keep _).2.2.2.1, (st0_keep _).2.2.2.2.1, (st0_keep _).2.2.2.2.2.1, (st0_keep _).2.2.2.2.2.2.1, (st0_keep _).2.2.2.2.2.2.2.1, (st0_keep _).2.2.2.2.2.2.2.2.1, (st0_keep _).2.2.2.2.2.2.2.2.2.1, (st0_keep _).2.2.2.2.2.2.2.2.2.2.1, (st0_keep _).2.2.2.2.2.2.2.2.2.2.2.1, (st0_keep _).2.2.2.2.2.2.2.2.2.2.2.2.1, (st0_keep _).2.2.2.2.2.2.2.2.2.2.2.2.2.1, (st0_keep _).2.2.2.2.2.2.2.2.2.2.2.2.2.2.1, (st0_keep _).2.2.2.2.2.2.2.2.2.2.2.2.2.2.2.1, (st0_keep _).2.2.2.2.2.2.2.2.2.2.2.2.2.2.2.2]
  rfl

theorem v1_ends : W1 m c (Proc.devRef .tc main_v1) = ends0 (m (c, (Proc.devRef .tc main_arg1))) := by
  unfold W1
  simp only [hostOps0, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  rfl

theorem v3_ends : W1 m c (Proc.devRef .tc main_v3) = ends1 (m (c, (Proc.devRef .tc main_arg1))) := by
  unfold W1
  simp only [hostOps0, StableHlo.TRef.binary, StableHlo.TRef.nullary, StableHlo.TRef.unary, StableHlo.TRef.ternary, StableHlo.TRef.reshape, StableHlo.TRef.toBuf, StableHlo.TRef.ofBuf, cast_eq, StableHlo.TRef.nary]
  after_results_simp
  rfl

theorem large (h : ¬ nrel m c ≤ 1024) (i : Fin 27) : Wend m c (Proc.devRef .tc main_v175) (ix2 (0 : Fin 1) i) = (argsOf m c).out i := by
  unfold Wend endOf
  rw [if_pos (word_many m c h)]
  rw [show wordOp.result (W28 m c) = Vc m c from rfl, many]
  rw [show Vc m c (Proc.devRef .tc main_arg0) = m (c, (Proc.devRef .tc main_arg0)) from ((Vc_keep m c main_arg0 (by decide)).trans (((W28_keep m c main_arg0 (by decide)).trans ((W27_keep m c main_arg0 (by decide)).trans ((W26_keep m c main_arg0 (by decide)).trans ((W25_keep m c main_arg0 (by decide)).trans ((W24_keep m c main_arg0 (by decide)).trans ((W23_keep m c main_arg0 (by decide)).trans ((W22_keep m c main_arg0 (by decide)).trans ((W21_keep m c main_arg0 (by decide)).trans ((W20_keep m c main_arg0 (by decide)).trans ((W19_keep m c main_arg0 (by decide)).trans ((W18_keep m c main_arg0 (by decide)).trans ((W17_keep m c main_arg0 (by decide)).trans ((W16_keep m c main_arg0 (by decide)).trans ((W15_keep m c main_arg0 (by decide)).trans ((W14_keep m c main_arg0 (by decide)).trans ((W13_keep m c main_arg0 (by decide)).trans ((W12_keep m c main_arg0 (by decide)).trans ((W11_keep m c main_arg0 (by decide)).trans ((W10_keep m c main_arg0 (by decide)).trans ((W9_keep m c main_arg0 (by decide)).trans ((W8_keep m c main_arg0 (by decide)).trans ((W7_keep m c main_arg0 (by decide)).trans ((W6_keep m c main_arg0 (by decide)).trans ((W5_keep m c main_arg0 (by decide)).trans ((W4_keep m c main_arg0 (by decide)).trans ((W3_keep m c main_arg0 (by decide)).trans ((W2_keep m c main_arg0 (by decide)).trans (W1_keep m c main_arg0 (by decide))))))))))))))))))))))))))))))).trans rfl]
  rw [show Vc m c (Proc.devRef .tc main_arg2) = m (c, (Proc.devRef .tc main_arg2)) from ((Vc_keep m c main_arg2 (by decide)).trans (((W28_keep m c main_arg2 (by decide)).trans ((W27_keep m c main_arg2 (by decide)).trans ((W26_keep m c main_arg2 (by decide)).trans ((W25_keep m c main_arg2 (by decide)).trans ((W24_keep m c main_arg2 (by decide)).trans ((W23_keep m c main_arg2 (by decide)).trans ((W22_keep m c main_arg2 (by decide)).trans ((W21_keep m c main_arg2 (by decide)).trans ((W20_keep m c main_arg2 (by decide)).trans ((W19_keep m c main_arg2 (by decide)).trans ((W18_keep m c main_arg2 (by decide)).trans ((W17_keep m c main_arg2 (by decide)).trans ((W16_keep m c main_arg2 (by decide)).trans ((W15_keep m c main_arg2 (by decide)).trans ((W14_keep m c main_arg2 (by decide)).trans ((W13_keep m c main_arg2 (by decide)).trans ((W12_keep m c main_arg2 (by decide)).trans ((W11_keep m c main_arg2 (by decide)).trans ((W10_keep m c main_arg2 (by decide)).trans ((W9_keep m c main_arg2 (by decide)).trans ((W8_keep m c main_arg2 (by decide)).trans ((W7_keep m c main_arg2 (by decide)).trans ((W6_keep m c main_arg2 (by decide)).trans ((W5_keep m c main_arg2 (by decide)).trans ((W4_keep m c main_arg2 (by decide)).trans ((W3_keep m c main_arg2 (by decide)).trans ((W2_keep m c main_arg2 (by decide)).trans (W1_keep m c main_arg2 (by decide))))))))))))))))))))))))))))))).trans rfl]
  rw [show Vc m c (Proc.devRef .tc main_arg3) = m (c, (Proc.devRef .tc main_arg3)) from ((Vc_keep m c main_arg3 (by decide)).trans (((W28_keep m c main_arg3 (by decide)).trans ((W27_keep m c main_arg3 (by decide)).trans ((W26_keep m c main_arg3 (by decide)).trans ((W25_keep m c main_arg3 (by decide)).trans ((W24_keep m c main_arg3 (by decide)).trans ((W23_keep m c main_arg3 (by decide)).trans ((W22_keep m c main_arg3 (by decide)).trans ((W21_keep m c main_arg3 (by decide)).trans ((W20_keep m c main_arg3 (by decide)).trans ((W19_keep m c main_arg3 (by decide)).trans ((W18_keep m c main_arg3 (by decide)).trans ((W17_keep m c main_arg3 (by decide)).trans ((W16_keep m c main_arg3 (by decide)).trans ((W15_keep m c main_arg3 (by decide)).trans ((W14_keep m c main_arg3 (by decide)).trans ((W13_keep m c main_arg3 (by decide)).trans ((W12_keep m c main_arg3 (by decide)).trans ((W11_keep m c main_arg3 (by decide)).trans ((W10_keep m c main_arg3 (by decide)).trans ((W9_keep m c main_arg3 (by decide)).trans ((W8_keep m c main_arg3 (by decide)).trans ((W7_keep m c main_arg3 (by decide)).trans ((W6_keep m c main_arg3 (by decide)).trans ((W5_keep m c main_arg3 (by decide)).trans ((W4_keep m c main_arg3 (by decide)).trans ((W3_keep m c main_arg3 (by decide)).trans ((W2_keep m c main_arg3 (by decide)).trans (W1_keep m c main_arg3 (by decide))))))))))))))))))))))))))))))).trans rfl]
  rw [show Vc m c (Proc.devRef .tc main_arg4) = m (c, (Proc.devRef .tc main_arg4)) from ((Vc_keep m c main_arg4 (by decide)).trans (((W28_keep m c main_arg4 (by decide)).trans ((W27_keep m c main_arg4 (by decide)).trans ((W26_keep m c main_arg4 (by decide)).trans ((W25_keep m c main_arg4 (by decide)).trans ((W24_keep m c main_arg4 (by decide)).trans ((W23_keep m c main_arg4 (by decide)).trans ((W22_keep m c main_arg4 (by decide)).trans ((W21_keep m c main_arg4 (by decide)).trans ((W20_keep m c main_arg4 (by decide)).trans ((W19_keep m c main_arg4 (by decide)).trans ((W18_keep m c main_arg4 (by decide)).trans ((W17_keep m c main_arg4 (by decide)).trans ((W16_keep m c main_arg4 (by decide)).trans ((W15_keep m c main_arg4 (by decide)).trans ((W14_keep m c main_arg4 (by decide)).trans ((W13_keep m c main_arg4 (by decide)).trans ((W12_keep m c main_arg4 (by decide)).trans ((W11_keep m c main_arg4 (by decide)).trans ((W10_keep m c main_arg4 (by decide)).trans ((W9_keep m c main_arg4 (by decide)).trans ((W8_keep m c main_arg4 (by decide)).trans ((W7_keep m c main_arg4 (by decide)).trans ((W6_keep m c main_arg4 (by decide)).trans ((W5_keep m c main_arg4 (by decide)).trans ((W4_keep m c main_arg4 (by decide)).trans ((W3_keep m c main_arg4 (by decide)).trans ((W2_keep m c main_arg4 (by decide)).trans (W1_keep m c main_arg4 (by decide))))))))))))))))))))))))))))))).trans rfl]
  rw [show Vc m c (Proc.devRef .tc main_arg5) = m (c, (Proc.devRef .tc main_arg5)) from ((Vc_keep m c main_arg5 (by decide)).trans (((W28_keep m c main_arg5 (by decide)).trans ((W27_keep m c main_arg5 (by decide)).trans ((W26_keep m c main_arg5 (by decide)).trans ((W25_keep m c main_arg5 (by decide)).trans ((W24_keep m c main_arg5 (by decide)).trans ((W23_keep m c main_arg5 (by decide)).trans ((W22_keep m c main_arg5 (by decide)).trans ((W21_keep m c main_arg5 (by decide)).trans ((W20_keep m c main_arg5 (by decide)).trans ((W19_keep m c main_arg5 (by decide)).trans ((W18_keep m c main_arg5 (by decide)).trans ((W17_keep m c main_arg5 (by decide)).trans ((W16_keep m c main_arg5 (by decide)).trans ((W15_keep m c main_arg5 (by decide)).trans ((W14_keep m c main_arg5 (by decide)).trans ((W13_keep m c main_arg5 (by decide)).trans ((W12_keep m c main_arg5 (by decide)).trans ((W11_keep m c main_arg5 (by decide)).trans ((W10_keep m c main_arg5 (by decide)).trans ((W9_keep m c main_arg5 (by decide)).trans ((W8_keep m c main_arg5 (by decide)).trans ((W7_keep m c main_arg5 (by decide)).trans ((W6_keep m c main_arg5 (by decide)).trans ((W5_keep m c main_arg5 (by decide)).trans ((W4_keep m c main_arg5 (by decide)).trans ((W3_keep m c main_arg5 (by decide)).trans ((W2_keep m c main_arg5 (by decide)).trans (W1_keep m c main_arg5 (by decide))))))))))))))))))))))))))))))).trans rfl]
  rw [show Vc m c (Proc.devRef .tc main_arg6) = m (c, (Proc.devRef .tc main_arg6)) from ((Vc_keep m c main_arg6 (by decide)).trans (((W28_keep m c main_arg6 (by decide)).trans ((W27_keep m c main_arg6 (by decide)).trans ((W26_keep m c main_arg6 (by decide)).trans ((W25_keep m c main_arg6 (by decide)).trans ((W24_keep m c main_arg6 (by decide)).trans ((W23_keep m c main_arg6 (by decide)).trans ((W22_keep m c main_arg6 (by decide)).trans ((W21_keep m c main_arg6 (by decide)).trans ((W20_keep m c main_arg6 (by decide)).trans ((W19_keep m c main_arg6 (by decide)).trans ((W18_keep m c main_arg6 (by decide)).trans ((W17_keep m c main_arg6 (by decide)).trans ((W16_keep m c main_arg6 (by decide)).trans ((W15_keep m c main_arg6 (by decide)).trans ((W14_keep m c main_arg6 (by decide)).trans ((W13_keep m c main_arg6 (by decide)).trans ((W12_keep m c main_arg6 (by decide)).trans ((W11_keep m c main_arg6 (by decide)).trans ((W10_keep m c main_arg6 (by decide)).trans ((W9_keep m c main_arg6 (by decide)).trans ((W8_keep m c main_arg6 (by decide)).trans ((W7_keep m c main_arg6 (by decide)).trans ((W6_keep m c main_arg6 (by decide)).trans ((W5_keep m c main_arg6 (by decide)).trans ((W4_keep m c main_arg6 (by decide)).trans ((W3_keep m c main_arg6 (by decide)).trans ((W2_keep m c main_arg6 (by decide)).trans (W1_keep m c main_arg6 (by decide))))))))))))))))))))))))))))))).trans rfl]
  rw [show Vc m c (Proc.devRef .tc main_arg7) = m (c, (Proc.devRef .tc main_arg7)) from ((Vc_keep m c main_arg7 (by decide)).trans (((W28_keep m c main_arg7 (by decide)).trans ((W27_keep m c main_arg7 (by decide)).trans ((W26_keep m c main_arg7 (by decide)).trans ((W25_keep m c main_arg7 (by decide)).trans ((W24_keep m c main_arg7 (by decide)).trans ((W23_keep m c main_arg7 (by decide)).trans ((W22_keep m c main_arg7 (by decide)).trans ((W21_keep m c main_arg7 (by decide)).trans ((W20_keep m c main_arg7 (by decide)).trans ((W19_keep m c main_arg7 (by decide)).trans ((W18_keep m c main_arg7 (by decide)).trans ((W17_keep m c main_arg7 (by decide)).trans ((W16_keep m c main_arg7 (by decide)).trans ((W15_keep m c main_arg7 (by decide)).trans ((W14_keep m c main_arg7 (by decide)).trans ((W13_keep m c main_arg7 (by decide)).trans ((W12_keep m c main_arg7 (by decide)).trans ((W11_keep m c main_arg7 (by decide)).trans ((W10_keep m c main_arg7 (by decide)).trans ((W9_keep m c main_arg7 (by decide)).trans ((W8_keep m c main_arg7 (by decide)).trans ((W7_keep m c main_arg7 (by decide)).trans ((W6_keep m c main_arg7 (by decide)).trans ((W5_keep m c main_arg7 (by decide)).trans ((W4_keep m c main_arg7 (by decide)).trans ((W3_keep m c main_arg7 (by decide)).trans ((W2_keep m c main_arg7 (by decide)).trans (W1_keep m c main_arg7 (by decide))))))))))))))))))))))))))))))).trans rfl]
  rw [show Vc m c (Proc.devRef .tc main_arg8) = m (c, (Proc.devRef .tc main_arg8)) from ((Vc_keep m c main_arg8 (by decide)).trans (((W28_keep m c main_arg8 (by decide)).trans ((W27_keep m c main_arg8 (by decide)).trans ((W26_keep m c main_arg8 (by decide)).trans ((W25_keep m c main_arg8 (by decide)).trans ((W24_keep m c main_arg8 (by decide)).trans ((W23_keep m c main_arg8 (by decide)).trans ((W22_keep m c main_arg8 (by decide)).trans ((W21_keep m c main_arg8 (by decide)).trans ((W20_keep m c main_arg8 (by decide)).trans ((W19_keep m c main_arg8 (by decide)).trans ((W18_keep m c main_arg8 (by decide)).trans ((W17_keep m c main_arg8 (by decide)).trans ((W16_keep m c main_arg8 (by decide)).trans ((W15_keep m c main_arg8 (by decide)).trans ((W14_keep m c main_arg8 (by decide)).trans ((W13_keep m c main_arg8 (by decide)).trans ((W12_keep m c main_arg8 (by decide)).trans ((W11_keep m c main_arg8 (by decide)).trans ((W10_keep m c main_arg8 (by decide)).trans ((W9_keep m c main_arg8 (by decide)).trans ((W8_keep m c main_arg8 (by decide)).trans ((W7_keep m c main_arg8 (by decide)).trans ((W6_keep m c main_arg8 (by decide)).trans ((W5_keep m c main_arg8 (by decide)).trans ((W4_keep m c main_arg8 (by decide)).trans ((W3_keep m c main_arg8 (by decide)).trans ((W2_keep m c main_arg8 (by decide)).trans (W1_keep m c main_arg8 (by decide))))))))))))))))))))))))))))))).trans rfl]
  rw [show Vc m c (Proc.devRef .tc main_arg9) = m (c, (Proc.devRef .tc main_arg9)) from ((Vc_keep m c main_arg9 (by decide)).trans (((W28_keep m c main_arg9 (by decide)).trans ((W27_keep m c main_arg9 (by decide)).trans ((W26_keep m c main_arg9 (by decide)).trans ((W25_keep m c main_arg9 (by decide)).trans ((W24_keep m c main_arg9 (by decide)).trans ((W23_keep m c main_arg9 (by decide)).trans ((W22_keep m c main_arg9 (by decide)).trans ((W21_keep m c main_arg9 (by decide)).trans ((W20_keep m c main_arg9 (by decide)).trans ((W19_keep m c main_arg9 (by decide)).trans ((W18_keep m c main_arg9 (by decide)).trans ((W17_keep m c main_arg9 (by decide)).trans ((W16_keep m c main_arg9 (by decide)).trans ((W15_keep m c main_arg9 (by decide)).trans ((W14_keep m c main_arg9 (by decide)).trans ((W13_keep m c main_arg9 (by decide)).trans ((W12_keep m c main_arg9 (by decide)).trans ((W11_keep m c main_arg9 (by decide)).trans ((W10_keep m c main_arg9 (by decide)).trans ((W9_keep m c main_arg9 (by decide)).trans ((W8_keep m c main_arg9 (by decide)).trans ((W7_keep m c main_arg9 (by decide)).trans ((W6_keep m c main_arg9 (by decide)).trans ((W5_keep m c main_arg9 (by decide)).trans ((W4_keep m c main_arg9 (by decide)).trans ((W3_keep m c main_arg9 (by decide)).trans ((W2_keep m c main_arg9 (by decide)).trans (W1_keep m c main_arg9 (by decide))))))))))))))))))))))))))))))).trans rfl]
  rw [show Vc m c (Proc.devRef .tc main_arg10) = m (c, (Proc.devRef .tc main_arg10)) from ((Vc_keep m c main_arg10 (by decide)).trans (((W28_keep m c main_arg10 (by decide)).trans ((W27_keep m c main_arg10 (by decide)).trans ((W26_keep m c main_arg10 (by decide)).trans ((W25_keep m c main_arg10 (by decide)).trans ((W24_keep m c main_arg10 (by decide)).trans ((W23_keep m c main_arg10 (by decide)).trans ((W22_keep m c main_arg10 (by decide)).trans ((W21_keep m c main_arg10 (by decide)).trans ((W20_keep m c main_arg10 (by decide)).trans ((W19_keep m c main_arg10 (by decide)).trans ((W18_keep m c main_arg10 (by decide)).trans ((W17_keep m c main_arg10 (by decide)).trans ((W16_keep m c main_arg10 (by decide)).trans ((W15_keep m c main_arg10 (by decide)).trans ((W14_keep m c main_arg10 (by decide)).trans ((W13_keep m c main_arg10 (by decide)).trans ((W12_keep m c main_arg10 (by decide)).trans ((W11_keep m c main_arg10 (by decide)).trans ((W10_keep m c main_arg10 (by decide)).trans ((W9_keep m c main_arg10 (by decide)).trans ((W8_keep m c main_arg10 (by decide)).trans ((W7_keep m c main_arg10 (by decide)).trans ((W6_keep m c main_arg10 (by decide)).trans ((W5_keep m c main_arg10 (by decide)).trans ((W4_keep m c main_arg10 (by decide)).trans ((W3_keep m c main_arg10 (by decide)).trans ((W2_keep m c main_arg10 (by decide)).trans (W1_keep m c main_arg10 (by decide))))))))))))))))))))))))))))))).trans rfl]
  rw [show Vc m c (Proc.devRef .tc main_arg11) = m (c, (Proc.devRef .tc main_arg11)) from ((Vc_keep m c main_arg11 (by decide)).trans (((W28_keep m c main_arg11 (by decide)).trans ((W27_keep m c main_arg11 (by decide)).trans ((W26_keep m c main_arg11 (by decide)).trans ((W25_keep m c main_arg11 (by decide)).trans ((W24_keep m c main_arg11 (by decide)).trans ((W23_keep m c main_arg11 (by decide)).trans ((W22_keep m c main_arg11 (by decide)).trans ((W21_keep m c main_arg11 (by decide)).trans ((W20_keep m c main_arg11 (by decide)).trans ((W19_keep m c main_arg11 (by decide)).trans ((W18_keep m c main_arg11 (by decide)).trans ((W17_keep m c main_arg11 (by decide)).trans ((W16_keep m c main_arg11 (by decide)).trans ((W15_keep m c main_arg11 (by decide)).trans ((W14_keep m c main_arg11 (by decide)).trans ((W13_keep m c main_arg11 (by decide)).trans ((W12_keep m c main_arg11 (by decide)).trans ((W11_keep m c main_arg11 (by decide)).trans ((W10_keep m c main_arg11 (by decide)).trans ((W9_keep m c main_arg11 (by decide)).trans ((W8_keep m c main_arg11 (by decide)).trans ((W7_keep m c main_arg11 (by decide)).trans ((W6_keep m c main_arg11 (by decide)).trans ((W5_keep m c main_arg11 (by decide)).trans ((W4_keep m c main_arg11 (by decide)).trans ((W3_keep m c main_arg11 (by decide)).trans ((W2_keep m c main_arg11 (by decide)).trans (W1_keep m c main_arg11 (by decide))))))))))))))))))))))))))))))).trans rfl]
  rw [show Vc m c (Proc.devRef .tc main_arg12) = m (c, (Proc.devRef .tc main_arg12)) from ((Vc_keep m c main_arg12 (by decide)).trans (((W28_keep m c main_arg12 (by decide)).trans ((W27_keep m c main_arg12 (by decide)).trans ((W26_keep m c main_arg12 (by decide)).trans ((W25_keep m c main_arg12 (by decide)).trans ((W24_keep m c main_arg12 (by decide)).trans ((W23_keep m c main_arg12 (by decide)).trans ((W22_keep m c main_arg12 (by decide)).trans ((W21_keep m c main_arg12 (by decide)).trans ((W20_keep m c main_arg12 (by decide)).trans ((W19_keep m c main_arg12 (by decide)).trans ((W18_keep m c main_arg12 (by decide)).trans ((W17_keep m c main_arg12 (by decide)).trans ((W16_keep m c main_arg12 (by decide)).trans ((W15_keep m c main_arg12 (by decide)).trans ((W14_keep m c main_arg12 (by decide)).trans ((W13_keep m c main_arg12 (by decide)).trans ((W12_keep m c main_arg12 (by decide)).trans ((W11_keep m c main_arg12 (by decide)).trans ((W10_keep m c main_arg12 (by decide)).trans ((W9_keep m c main_arg12 (by decide)).trans ((W8_keep m c main_arg12 (by decide)).trans ((W7_keep m c main_arg12 (by decide)).trans ((W6_keep m c main_arg12 (by decide)).trans ((W5_keep m c main_arg12 (by decide)).trans ((W4_keep m c main_arg12 (by decide)).trans ((W3_keep m c main_arg12 (by decide)).trans ((W2_keep m c main_arg12 (by decide)).trans (W1_keep m c main_arg12 (by decide))))))))))))))))))))))))))))))).trans rfl]
  rw [show Vc m c (Proc.devRef .tc main_arg13) = m (c, (Proc.devRef .tc main_arg13)) from ((Vc_keep m c main_arg13 (by decide)).trans (((W28_keep m c main_arg13 (by decide)).trans ((W27_keep m c main_arg13 (by decide)).trans ((W26_keep m c main_arg13 (by decide)).trans ((W25_keep m c main_arg13 (by decide)).trans ((W24_keep m c main_arg13 (by decide)).trans ((W23_keep m c main_arg13 (by decide)).trans ((W22_keep m c main_arg13 (by decide)).trans ((W21_keep m c main_arg13 (by decide)).trans ((W20_keep m c main_arg13 (by decide)).trans ((W19_keep m c main_arg13 (by decide)).trans ((W18_keep m c main_arg13 (by decide)).trans ((W17_keep m c main_arg13 (by decide)).trans ((W16_keep m c main_arg13 (by decide)).trans ((W15_keep m c main_arg13 (by decide)).trans ((W14_keep m c main_arg13 (by decide)).trans ((W13_keep m c main_arg13 (by decide)).trans ((W12_keep m c main_arg13 (by decide)).trans ((W11_keep m c main_arg13 (by decide)).trans ((W10_keep m c main_arg13 (by decide)).trans ((W9_keep m c main_arg13 (by decide)).trans ((W8_keep m c main_arg13 (by decide)).trans ((W7_keep m c main_arg13 (by decide)).trans ((W6_keep m c main_arg13 (by decide)).trans ((W5_keep m c main_arg13 (by decide)).trans ((W4_keep m c main_arg13 (by decide)).trans ((W3_keep m c main_arg13 (by decide)).trans ((W2_keep m c main_arg13 (by decide)).trans (W1_keep m c main_arg13 (by decide))))))))))))))))))))))))))))))).trans rfl]
  rw [show Vc m c (Proc.devRef .tc main_arg14) = m (c, (Proc.devRef .tc main_arg14)) from ((Vc_keep m c main_arg14 (by decide)).trans (((W28_keep m c main_arg14 (by decide)).trans ((W27_keep m c main_arg14 (by decide)).trans ((W26_keep m c main_arg14 (by decide)).trans ((W25_keep m c main_arg14 (by decide)).trans ((W24_keep m c main_arg14 (by decide)).trans ((W23_keep m c main_arg14 (by decide)).trans ((W22_keep m c main_arg14 (by decide)).trans ((W21_keep m c main_arg14 (by decide)).trans ((W20_keep m c main_arg14 (by decide)).trans ((W19_keep m c main_arg14 (by decide)).trans ((W18_keep m c main_arg14 (by decide)).trans ((W17_keep m c main_arg14 (by decide)).trans ((W16_keep m c main_arg14 (by decide)).trans ((W15_keep m c main_arg14 (by decide)).trans ((W14_keep m c main_arg14 (by decide)).trans ((W13_keep m c main_arg14 (by decide)).trans ((W12_keep m c main_arg14 (by decide)).trans ((W11_keep m c main_arg14 (by decide)).trans ((W10_keep m c main_arg14 (by decide)).trans ((W9_keep m c main_arg14 (by decide)).trans ((W8_keep m c main_arg14 (by decide)).trans ((W7_keep m c main_arg14 (by decide)).trans ((W6_keep m c main_arg14 (by decide)).trans ((W5_keep m c main_arg14 (by decide)).trans ((W4_keep m c main_arg14 (by decide)).trans ((W3_keep m c main_arg14 (by decide)).trans ((W2_keep m c main_arg14 (by decide)).trans (W1_keep m c main_arg14 (by decide))))))))))))))))))))))))))))))).trans rfl]
  rw [show Vc m c (Proc.devRef .tc main_arg15) = m (c, (Proc.devRef .tc main_arg15)) from ((Vc_keep m c main_arg15 (by decide)).trans (((W28_keep m c main_arg15 (by decide)).trans ((W27_keep m c main_arg15 (by decide)).trans ((W26_keep m c main_arg15 (by decide)).trans ((W25_keep m c main_arg15 (by decide)).trans ((W24_keep m c main_arg15 (by decide)).trans ((W23_keep m c main_arg15 (by decide)).trans ((W22_keep m c main_arg15 (by decide)).trans ((W21_keep m c main_arg15 (by decide)).trans ((W20_keep m c main_arg15 (by decide)).trans ((W19_keep m c main_arg15 (by decide)).trans ((W18_keep m c main_arg15 (by decide)).trans ((W17_keep m c main_arg15 (by decide)).trans ((W16_keep m c main_arg15 (by decide)).trans ((W15_keep m c main_arg15 (by decide)).trans ((W14_keep m c main_arg15 (by decide)).trans ((W13_keep m c main_arg15 (by decide)).trans ((W12_keep m c main_arg15 (by decide)).trans ((W11_keep m c main_arg15 (by decide)).trans ((W10_keep m c main_arg15 (by decide)).trans ((W9_keep m c main_arg15 (by decide)).trans ((W8_keep m c main_arg15 (by decide)).trans ((W7_keep m c main_arg15 (by decide)).trans ((W6_keep m c main_arg15 (by decide)).trans ((W5_keep m c main_arg15 (by decide)).trans ((W4_keep m c main_arg15 (by decide)).trans ((W3_keep m c main_arg15 (by decide)).trans ((W2_keep m c main_arg15 (by decide)).trans (W1_keep m c main_arg15 (by decide))))))))))))))))))))))))))))))).trans rfl]
  rw [show Vc m c (Proc.devRef .tc main_arg16) = m (c, (Proc.devRef .tc main_arg16)) from ((Vc_keep m c main_arg16 (by decide)).trans (((W28_keep m c main_arg16 (by decide)).trans ((W27_keep m c main_arg16 (by decide)).trans ((W26_keep m c main_arg16 (by decide)).trans ((W25_keep m c main_arg16 (by decide)).trans ((W24_keep m c main_arg16 (by decide)).trans ((W23_keep m c main_arg16 (by decide)).trans ((W22_keep m c main_arg16 (by decide)).trans ((W21_keep m c main_arg16 (by decide)).trans ((W20_keep m c main_arg16 (by decide)).trans ((W19_keep m c main_arg16 (by decide)).trans ((W18_keep m c main_arg16 (by decide)).trans ((W17_keep m c main_arg16 (by decide)).trans ((W16_keep m c main_arg16 (by decide)).trans ((W15_keep m c main_arg16 (by decide)).trans ((W14_keep m c main_arg16 (by decide)).trans ((W13_keep m c main_arg16 (by decide)).trans ((W12_keep m c main_arg16 (by decide)).trans ((W11_keep m c main_arg16 (by decide)).trans ((W10_keep m c main_arg16 (by decide)).trans ((W9_keep m c main_arg16 (by decide)).trans ((W8_keep m c main_arg16 (by decide)).trans ((W7_keep m c main_arg16 (by decide)).trans ((W6_keep m c main_arg16 (by decide)).trans ((W5_keep m c main_arg16 (by decide)).trans ((W4_keep m c main_arg16 (by decide)).trans ((W3_keep m c main_arg16 (by decide)).trans ((W2_keep m c main_arg16 (by decide)).trans (W1_keep m c main_arg16 (by decide))))))))))))))))))))))))))))))).trans rfl]
  rw [show Vc m c (Proc.devRef .tc main_v1) = W1 m c (Proc.devRef .tc main_v1) from (Vc_keep m c main_v1 (by decide)).trans (((W28_keep m c main_v1 (by decide)).trans ((W27_keep m c main_v1 (by decide)).trans ((W26_keep m c main_v1 (by decide)).trans ((W25_keep m c main_v1 (by decide)).trans ((W24_keep m c main_v1 (by decide)).trans ((W23_keep m c main_v1 (by decide)).trans ((W22_keep m c main_v1 (by decide)).trans ((W21_keep m c main_v1 (by decide)).trans ((W20_keep m c main_v1 (by decide)).trans ((W19_keep m c main_v1 (by decide)).trans ((W18_keep m c main_v1 (by decide)).trans ((W17_keep m c main_v1 (by decide)).trans ((W16_keep m c main_v1 (by decide)).trans ((W15_keep m c main_v1 (by decide)).trans ((W14_keep m c main_v1 (by decide)).trans ((W13_keep m c main_v1 (by decide)).trans ((W12_keep m c main_v1 (by decide)).trans ((W11_keep m c main_v1 (by decide)).trans ((W10_keep m c main_v1 (by decide)).trans ((W9_keep m c main_v1 (by decide)).trans ((W8_keep m c main_v1 (by decide)).trans ((W7_keep m c main_v1 (by decide)).trans ((W6_keep m c main_v1 (by decide)).trans ((W5_keep m c main_v1 (by decide)).trans ((W4_keep m c main_v1 (by decide)).trans ((W3_keep m c main_v1 (by decide)).trans (W2_keep m c main_v1 (by decide))))))))))))))))))))))))))))), v1_ends]
  rw [show Vc m c (Proc.devRef .tc main_v3) = W1 m c (Proc.devRef .tc main_v3) from (Vc_keep m c main_v3 (by decide)).trans (((W28_keep m c main_v3 (by decide)).trans ((W27_keep m c main_v3 (by decide)).trans ((W26_keep m c main_v3 (by decide)).trans ((W25_keep m c main_v3 (by decide)).trans ((W24_keep m c main_v3 (by decide)).trans ((W23_keep m c main_v3 (by decide)).trans ((W22_keep m c main_v3 (by decide)).trans ((W21_keep m c main_v3 (by decide)).trans ((W20_keep m c main_v3 (by decide)).trans ((W19_keep m c main_v3 (by decide)).trans ((W18_keep m c main_v3 (by decide)).trans ((W17_keep m c main_v3 (by decide)).trans ((W16_keep m c main_v3 (by decide)).trans ((W15_keep m c main_v3 (by decide)).trans ((W14_keep m c main_v3 (by decide)).trans ((W13_keep m c main_v3 (by decide)).trans ((W12_keep m c main_v3 (by decide)).trans ((W11_keep m c main_v3 (by decide)).trans ((W10_keep m c main_v3 (by decide)).trans ((W9_keep m c main_v3 (by decide)).trans ((W8_keep m c main_v3 (by decide)).trans ((W7_keep m c main_v3 (by decide)).trans ((W6_keep m c main_v3 (by decide)).trans ((W5_keep m c main_v3 (by decide)).trans ((W4_keep m c main_v3 (by decide)).trans ((W3_keep m c main_v3 (by decide)).trans (W2_keep m c main_v3 (by decide))))))))))))))))))))))))))))), v3_ends]
  exact whole_apply (m (c, (Proc.devRef .tc main_arg0))) (m (c, (Proc.devRef .tc main_arg1))) (m (c, (Proc.devRef .tc main_arg2))) (m (c, (Proc.devRef .tc main_arg3))) (m (c, (Proc.devRef .tc main_arg4))) (m (c, (Proc.devRef .tc main_arg5))) (m (c, (Proc.devRef .tc main_arg6))) (m (c, (Proc.devRef .tc main_arg7))) (m (c, (Proc.devRef .tc main_arg8))) (m (c, (Proc.devRef .tc main_arg9))) (m (c, (Proc.devRef .tc main_arg10))) (m (c, (Proc.devRef .tc main_arg11))) (m (c, (Proc.devRef .tc main_arg12))) (m (c, (Proc.devRef .tc main_arg13))) (m (c, (Proc.devRef .tc main_arg14))) (m (c, (Proc.devRef .tc main_arg15))) (m (c, (Proc.devRef .tc main_arg16))) i

/-- What the program returns, whichever branch ran. -/
theorem returned (hpre : ∀ (e : Fin 24) (k : Fin 2), (m (c, (Proc.devRef .tc main_arg15)) (ix2 e k)).toNat < 12) (i : Fin 27) :
    Wend m c (Proc.devRef .tc main_v175) (ix2 (0 : Fin 1) i) = (argsOf m c).out i := by
  by_cases h : nrel m c ≤ 1024
  · exact small m c hpre h i
  · exact large m c h i

end Cert.Proof.KernelIdeal
-- ==== Proof.RefRow.lean ====
module

public import proofs.«01_k».proof.Proof.Whole
public import proofs.«01_k».proof.Proof.Gen.ReferenceIdeal.Run

/-! The reference's returned row is the row computed over every edge. -/

@[expose] public section

set_option maxRecDepth 8192

noncomputable section

namespace Cert.Proof.ReferenceIdeal

open Cert.ReferenceIdeal Cert.ReferenceIdeal.Gen Cert.ReferenceIdeal.Value
open Idealize.ShloMosaic Idealize.ShloMosaic.TcCoe Idealize.ShloMosaic.ValueIdx
open Idealize.SL.Sem

variable (V0 : Valuation τ sig (Elt Ideal))

theorem table_eq : res_main_v32 V0 = (Cert.Proof.KernelIdeal.table (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (Cert.Proof.KernelIdeal.ends0 (V0 (Proc.devRef .tc main_arg1))) (Cert.Proof.KernelIdeal.ends1 (V0 (Proc.devRef .tc main_arg1)))) := rfl

theorem pairs_eq : res_main_v51 V0 = Cert.Proof.KernelIdeal.pairs (V0 (Proc.devRef .tc main_arg15)) (Cert.Proof.KernelIdeal.table (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (Cert.Proof.KernelIdeal.ends0 (V0 (Proc.devRef .tc main_arg1))) (Cert.Proof.KernelIdeal.ends1 (V0 (Proc.devRef .tc main_arg1)))) := by
  unfold res_main_v51
  rw [table_eq]
  rfl

theorem lasts_eq : res_main_v72 V0 = Cert.Proof.KernelIdeal.lasts (Cert.Proof.KernelIdeal.table (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (Cert.Proof.KernelIdeal.ends0 (V0 (Proc.devRef .tc main_arg1))) (Cert.Proof.KernelIdeal.ends1 (V0 (Proc.devRef .tc main_arg1)))) := by
  unfold res_main_v72
  rw [table_eq]
  rfl

theorem v57_eq : res_main_v57 V0 = Cert.Proof.KernelIdeal.score24 (Cert.Proof.KernelIdeal.pairs (V0 (Proc.devRef .tc main_arg15)) (Cert.Proof.KernelIdeal.table (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (Cert.Proof.KernelIdeal.ends0 (V0 (Proc.devRef .tc main_arg1))) (Cert.Proof.KernelIdeal.ends1 (V0 (Proc.devRef .tc main_arg1))))) (V0 (Proc.devRef .tc main_arg7)) (V0 (Proc.devRef .tc main_arg8)) := by
  unfold res_main_v57
  rw [pairs_eq]
  rfl

theorem v67_eq : res_main_v67 V0 = Cert.Proof.KernelIdeal.score24 (Cert.Proof.KernelIdeal.pairs (V0 (Proc.devRef .tc main_arg15)) (Cert.Proof.KernelIdeal.table (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (Cert.Proof.KernelIdeal.ends0 (V0 (Proc.devRef .tc main_arg1))) (Cert.Proof.KernelIdeal.ends1 (V0 (Proc.devRef .tc main_arg1))))) (V0 (Proc.devRef .tc main_arg9)) (V0 (Proc.devRef .tc main_arg10)) := by
  unfold res_main_v67
  rw [pairs_eq]
  rfl

theorem v78_eq : res_main_v78 V0 = Cert.Proof.KernelIdeal.score3 (Cert.Proof.KernelIdeal.lasts (Cert.Proof.KernelIdeal.table (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (Cert.Proof.KernelIdeal.ends0 (V0 (Proc.devRef .tc main_arg1))) (Cert.Proof.KernelIdeal.ends1 (V0 (Proc.devRef .tc main_arg1))))) (V0 (Proc.devRef .tc main_arg11)) (V0 (Proc.devRef .tc main_arg12)) := by
  unfold res_main_v78
  rw [lasts_eq]
  rfl

theorem v88_eq : res_main_v88 V0 = Cert.Proof.KernelIdeal.score3 (Cert.Proof.KernelIdeal.lasts (Cert.Proof.KernelIdeal.table (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (Cert.Proof.KernelIdeal.ends0 (V0 (Proc.devRef .tc main_arg1))) (Cert.Proof.KernelIdeal.ends1 (V0 (Proc.devRef .tc main_arg1))))) (V0 (Proc.devRef .tc main_arg13)) (V0 (Proc.devRef .tc main_arg14)) := by
  unfold res_main_v88
  rw [lasts_eq]
  rfl

theorem v61_eq : res_main_v61 V0 = Cert.Proof.KernelIdeal.soft24 (res_main_v57 V0) := rfl

theorem v82_eq : res_main_v82 V0 = Cert.Proof.KernelIdeal.soft3 (res_main_v78 V0) := rfl

/-- The returned term. -/
def row : FVec Ideal S1x27 .f32 := concatenate S1x27 1 [⟨S1x24, (mulf (Host.divf (res_main_v61 V0) (addf (res_main_v61 V0) (addf (shapeCast _ (select (cmpf .une (res_main_call2_v3 V0) (res_main_call2_v3 V0)) (addf (res_main_v67 V0) (broadcastInDim S1x24x1 ![] bcast_S_S1x24x1 (res_main_call2_cst V0))) (addf (maximumf (res_main_v67 V0) (broadcastInDim S1x24x1 ![] bcast_S_S1x24x1 (res_main_call2_cst V0))) (Host.log1p (Host.exp (Host.negf (Host.absf (res_main_call2_v3 V0))))))) shapeCasts_S1x24x1_S1x24) (broadcastInDim S1x24 ![] bcast_S_S1x24 (constant S_ .f32 0x1E3CE508#32))))) (broadcastInDim S1x24 ![1] bcast_S24_S1x24_1 (extractStridedSlice S24 ![0] (V0 (Proc.devRef .tc main_arg16)) slices_S27_S24_0)))⟩, ⟨S1x3, (mulf (Host.divf (res_main_v82 V0) (addf (res_main_v82 V0) (addf (shapeCast _ (select (cmpf .une (res_main_call4_v3 V0) (res_main_call4_v3 V0)) (addf (res_main_v88 V0) (broadcastInDim S1x3x1 ![] bcast_S_S1x3x1 (res_main_call4_cst V0))) (addf (maximumf (res_main_v88 V0) (broadcastInDim S1x3x1 ![] bcast_S_S1x3x1 (res_main_call4_cst V0))) (Host.log1p (Host.exp (Host.negf (Host.absf (res_main_call4_v3 V0))))))) shapeCasts_S1x3x1_S1x3) (broadcastInDim S1x3 ![] bcast_S_S1x3 (constant S_ .f32 0x1E3CE508#32))))) (broadcastInDim S1x3 ![1] bcast_S3_S1x3_1 (extractStridedSlice S3 ![24] (V0 (Proc.devRef .tc main_arg16)) slices_S27_S3_24)))⟩] concatenates_S1x24_S1x3_S1x27_d1

theorem row_heads : row V0 = concatenate S1x27 1 [⟨S1x24, mulf (F := Ideal) (φ := .f32) (Cert.Proof.KernelIdeal.share24 (Cert.Proof.KernelIdeal.soft24 (res_main_v57 V0)) (Cert.Proof.KernelIdeal.soft24 (res_main_v67 V0))) (broadcastInDim S1x24 ![1] bcast_S24_S1x24_1 (extractStridedSlice S24 ![0] (V0 (Proc.devRef .tc main_arg16)) slices_S27_S24_0))⟩, ⟨S1x3, mulf (F := Ideal) (φ := .f32) (Cert.Proof.KernelIdeal.share3 (Cert.Proof.KernelIdeal.soft3 (res_main_v78 V0)) (Cert.Proof.KernelIdeal.soft3 (res_main_v88 V0))) (broadcastInDim S1x3 ![1] bcast_S3_S1x3_1 (extractStridedSlice S3 ![24] (V0 (Proc.devRef .tc main_arg16)) slices_S27_S3_24))⟩] concatenates_S1x24_S1x3_S1x27_d1 := rfl

theorem row_eq : row V0 = Cert.Proof.KernelIdeal.whole (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  rw [row_heads, v57_eq, v67_eq, v78_eq, v88_eq]
  rfl

end Cert.Proof.ReferenceIdeal
-- ==== Proof.Same.lean ====
module

public import proofs.«01_k».proof.Proof.Big
public import proofs.«01_k».proof.Proof.RefRow
public import proofs.«01_k».proof.Proof.IdealKeep
public import proofs.«01_k».proof.Defs

/-! The kernel and the reference return the same row, wherever the edges name the first nodes. -/

@[expose] public section

set_option maxRecDepth 8192

noncomputable section

namespace Cert.Proof.Same

open Idealize.ShloMosaic Idealize.ShloMosaic.TcCoe Idealize.ShloMosaic.ValueIdx
open Idealize.SL.Sem

theorem preFacts : Cert.Pre_edges_name_the_first_nodes.Facts where
  bcast_S_S24x2 := by decide

/-- A word that is at least zero and below twelve, read with its sign, is below twelve. -/
theorem word_lt (w : BitVec 32) (h0 : (0#32).sle w = true) (h1 : w.slt 12#32 = true) : w.toNat < 12 := by
  rw [BitVec.sle_eq_decide, decide_eq_true_eq] at h0
  rw [BitVec.slt_eq_decide, decide_eq_true_eq] at h1
  have e0 : (0#32).toInt = 0 := by decide
  have e1 : (12#32).toInt = 12 := by decide
  rw [e0] at h0
  rw [e1] at h1
  rw [BitVec.toInt_eq_toNat_cond] at h0 h1
  have := w.isLt
  split at h0 <;> omega

theorem edges_lt (m : (ℓ : Loc KernelIdeal.nD KernelIdeal.τ KernelIdeal.sig) → Buf (Elt Ideal) ℓ)
    (h : Cert.Pre_KernelIdeal_edges_name_the_first_nodes (hPre_edges_name_the_first_nodes := preFacts) m)
    (c : Dev KernelIdeal.nD) (e : Fin 24) (k : Fin 2) :
    ((m (c, (Proc.devRef .tc KernelIdeal.main_arg15)) : IVec KernelIdeal.S24x2 32) (ix2 e k)).toNat < 12 := by
  have q := congrFun (h c) (ix2 e k)
  have q' : IntOp.cmpi .sge ((m (c, (Proc.devRef .tc KernelIdeal.main_arg15)) : IVec KernelIdeal.S24x2 32) (ix2 e k)) 0#32
      &&& IntOp.cmpi .slt ((m (c, (Proc.devRef .tc KernelIdeal.main_arg15)) : IVec KernelIdeal.S24x2 32) (ix2 e k)) 12#32 = 1#1 := q
  generalize (m (c, (Proc.devRef .tc KernelIdeal.main_arg15)) : IVec KernelIdeal.S24x2 32) (ix2 e k) = w at q'
  have s : (0#32).sle w = true ∧ w.slt 12#32 = true := by
    simp only [IntOp.cmpi] at q'
    cases h0 : (0#32).sle w <;> cases h1 : w.slt 12#32 <;> simp [h0, h1] at q' ⊢
  exact word_lt w s.1 s.2

/-- The row both programs return. -/
def row (m : (ℓ : Loc KernelIdeal.nD KernelIdeal.τ KernelIdeal.sig) → Buf (Elt Ideal) ℓ) (c : Dev KernelIdeal.nD) : FVec Ideal KernelIdeal.S1x27 .f32 :=
  KernelIdeal.whole (m (c, Proc.devRef .tc KernelIdeal.main_arg0))
    (m (c, Proc.devRef .tc KernelIdeal.main_arg1))
    (m (c, Proc.devRef .tc KernelIdeal.main_arg2))
    (m (c, Proc.devRef .tc KernelIdeal.main_arg3))
    (m (c, Proc.devRef .tc KernelIdeal.main_arg4))
    (m (c, Proc.devRef .tc KernelIdeal.main_arg5))
    (m (c, Proc.devRef .tc KernelIdeal.main_arg6))
    (m (c, Proc.devRef .tc KernelIdeal.main_arg7))
    (m (c, Proc.devRef .tc KernelIdeal.main_arg8))
    (m (c, Proc.devRef .tc KernelIdeal.main_arg9))
    (m (c, Proc.devRef .tc KernelIdeal.main_arg10))
    (m (c, Proc.devRef .tc KernelIdeal.main_arg11))
    (m (c, Proc.devRef .tc KernelIdeal.main_arg12))
    (m (c, Proc.devRef .tc KernelIdeal.main_arg13))
    (m (c, Proc.devRef .tc KernelIdeal.main_arg14))
    (m (c, Proc.devRef .tc KernelIdeal.main_arg15))
    (m (c, Proc.devRef .tc KernelIdeal.main_arg16))

theorem kernel_row (m : (ℓ : Loc KernelIdeal.nD KernelIdeal.τ KernelIdeal.sig) → Buf (Elt Ideal) ℓ)
    (h : Cert.Pre_KernelIdeal_edges_name_the_first_nodes (hPre_edges_name_the_first_nodes := preFacts) m)
    (c : Dev KernelIdeal.nD) : KernelIdeal.Wend m c (Proc.devRef .tc KernelIdeal.main_v175) = row m c := by
  funext y
  have hy : y = ix2 (0 : Fin 1) (y 1) := by
    rw [eq_ix2 y]
    congr 1
    exact Subsingleton.elim (α := Fin 1) _ _
  rw [hy]
  exact (KernelIdeal.returned m c (edges_lt m h c) (y 1)).trans (KernelIdeal.whole_apply _ _ _ _ _ _ _ _ _ _ _ _ _ _ _ _ _ (y 1)).symm

theorem reference_row (m : (ℓ : Loc KernelIdeal.nD KernelIdeal.τ KernelIdeal.sig) → Buf (Elt Ideal) ℓ)
    (n : (ℓ : Loc ReferenceIdeal.nD ReferenceIdeal.τ ReferenceIdeal.sig) → Buf (Elt Ideal) ℓ)
    (c : Dev KernelIdeal.nD)
    (h : StableHlo.launchContents n c (Proc.devRef .tc ReferenceIdeal.main_arg0) = m (c, Proc.devRef .tc KernelIdeal.main_arg0)
      ∧ StableHlo.launchContents n c (Proc.devRef .tc ReferenceIdeal.main_arg1) = m (c, Proc.devRef .tc KernelIdeal.main_arg1)
      ∧ StableHlo.launchContents n c (Proc.devRef .tc ReferenceIdeal.main_arg2) = m (c, Proc.devRef .tc KernelIdeal.main_arg2)
      ∧ StableHlo.launchContents n c (Proc.devRef .tc ReferenceIdeal.main_arg3) = m (c, Proc.devRef .tc KernelIdeal.main_arg3)
      ∧ StableHlo.launchContents n c (Proc.devRef .tc ReferenceIdeal.main_arg4) = m (c, Proc.devRef .tc KernelIdeal.main_arg4)
      ∧ StableHlo.launchContents n c (Proc.devRef .tc ReferenceIdeal.main_arg5) = m (c, Proc.devRef .tc KernelIdeal.main_arg5)
      ∧ StableHlo.launchContents n c (Proc.devRef .tc ReferenceIdeal.main_arg6) = m (c, Proc.devRef .tc KernelIdeal.main_arg6)
      ∧ StableHlo.launchContents n c (Proc.devRef .tc ReferenceIdeal.main_arg7) = m (c, Proc.devRef .tc KernelIdeal.main_arg7)
      ∧ StableHlo.launchContents n c (Proc.devRef .tc ReferenceIdeal.main_arg8) = m (c, Proc.devRef .tc KernelIdeal.main_arg8)
      ∧ StableHlo.launchContents n c (Proc.devRef .tc ReferenceIdeal.main_arg9) = m (c, Proc.devRef .tc KernelIdeal.main_arg9)
      ∧ StableHlo.launchContents n c (Proc.devRef .tc ReferenceIdeal.main_arg10) = m (c, Proc.devRef .tc KernelIdeal.main_arg10)
      ∧ StableHlo.launchContents n c (Proc.devRef .tc ReferenceIdeal.main_arg11) = m (c, Proc.devRef .tc KernelIdeal.main_arg11)
      ∧ StableHlo.launchContents n c (Proc.devRef .tc ReferenceIdeal.main_arg12) = m (c, Proc.devRef .tc KernelIdeal.main_arg12)
      ∧ StableHlo.launchContents n c (Proc.devRef .tc ReferenceIdeal.main_arg13) = m (c, Proc.devRef .tc KernelIdeal.main_arg13)
      ∧ StableHlo.launchContents n c (Proc.devRef .tc ReferenceIdeal.main_arg14) = m (c, Proc.devRef .tc KernelIdeal.main_arg14)
      ∧ StableHlo.launchContents n c (Proc.devRef .tc ReferenceIdeal.main_arg15) = m (c, Proc.devRef .tc KernelIdeal.main_arg15)
      ∧ StableHlo.launchContents n c (Proc.devRef .tc ReferenceIdeal.main_arg16) = m (c, Proc.devRef .tc KernelIdeal.main_arg16)) :
    ReferenceIdeal.row (StableHlo.launchContents n c) = row m c := by
  obtain ⟨h0, h1, h2, h3, h4, h5, h6, h7, h8, h9, h10, h11, h12, h13, h14, h15, h16⟩ := h
  rw [ReferenceIdeal.row_eq]
  unfold row
  rw [h0, h1, h2, h3, h4, h5, h6, h7, h8, h9, h10, h11, h12, h13, h14, h15, h16]

end Cert.Proof.Same
-- ==== Proof.lean ====
/-
  The certificate: the kernel and its reference run to the end, leave their arguments as they were and every
  semaphore at zero, and, in exact arithmetic, return the same row wherever the edges name the first nodes.
-/
module

public import proofs.«01_k».proof.Defs
public import proofs.«01_k».proof.Proof.BitsKeep
public import proofs.«01_k».proof.Proof.IdealKeep
public import proofs.«01_k».proof.Proof.Gen.ReferenceIdeal
public import proofs.«01_k».proof.Proof.Gen.ReferenceIdeal.Run
public import proofs.«01_k».proof.Proof.Same
public import Idealize.ShloMosaic.Lib.Quiescent

@[expose] public section

noncomputable section

namespace Cert.Proof

open Idealize.ShloMosaic Idealize.ShloMosaic.TcCoe Idealize.SL.Sem

/-- The kernel returns the shared row and leaves its arguments; so does the reference, from equal arguments. -/
theorem same_row : Cert.algebraic_KernelIdeal_ReferenceIdeal_pre_edges_name_the_first_nodes
    (hKernelIdeal := Cert.KernelIdeal.Gen.facts) (hReferenceIdeal := Cert.ReferenceIdeal.Gen.facts)
    (hPre_edges_name_the_first_nodes := Same.preFacts) :=
  fun m g n g' hpre hargs => ⟨fun c => Same.row m c,
    (θ_run _ _ _).mono (fun _ h c => ⟨(h.1 c _ (KernelIdeal.mem_ucRefs KernelIdeal.main_v175 rfl)).trans (Same.kernel_row m hpre c),
      (h.1 c _ (KernelIdeal.mem_ucRefs KernelIdeal.main_arg0 rfl)).trans (KernelIdeal.Wend_arg0 m c),
      (h.1 c _ (KernelIdeal.mem_ucRefs KernelIdeal.main_arg1 rfl)).trans (KernelIdeal.Wend_arg1 m c),
      (h.1 c _ (KernelIdeal.mem_ucRefs KernelIdeal.main_arg2 rfl)).trans (KernelIdeal.Wend_arg2 m c),
      (h.1 c _ (KernelIdeal.mem_ucRefs KernelIdeal.main_arg3 rfl)).trans (KernelIdeal.Wend_arg3 m c),
      (h.1 c _ (KernelIdeal.mem_ucRefs KernelIdeal.main_arg4 rfl)).trans (KernelIdeal.Wend_arg4 m c),
      (h.1 c _ (KernelIdeal.mem_ucRefs KernelIdeal.main_arg5 rfl)).trans (KernelIdeal.Wend_arg5 m c),
      (h.1 c _ (KernelIdeal.mem_ucRefs KernelIdeal.main_arg6 rfl)).trans (KernelIdeal.Wend_arg6 m c),
      (h.1 c _ (KernelIdeal.mem_ucRefs KernelIdeal.main_arg7 rfl)).trans (KernelIdeal.Wend_arg7 m c),
      (h.1 c _ (KernelIdeal.mem_ucRefs KernelIdeal.main_arg8 rfl)).trans (KernelIdeal.Wend_arg8 m c),
      (h.1 c _ (KernelIdeal.mem_ucRefs KernelIdeal.main_arg9 rfl)).trans (KernelIdeal.Wend_arg9 m c),
      (h.1 c _ (KernelIdeal.mem_ucRefs KernelIdeal.main_arg10 rfl)).trans (KernelIdeal.Wend_arg10 m c),
      (h.1 c _ (KernelIdeal.mem_ucRefs KernelIdeal.main_arg11 rfl)).trans (KernelIdeal.Wend_arg11 m c),
      (h.1 c _ (KernelIdeal.mem_ucRefs KernelIdeal.main_arg12 rfl)).trans (KernelIdeal.Wend_arg12 m c),
      (h.1 c _ (KernelIdeal.mem_ucRefs KernelIdeal.main_arg13 rfl)).trans (KernelIdeal.Wend_arg13 m c),
      (h.1 c _ (KernelIdeal.mem_ucRefs KernelIdeal.main_arg14 rfl)).trans (KernelIdeal.Wend_arg14 m c),
      (h.1 c _ (KernelIdeal.mem_ucRefs KernelIdeal.main_arg15 rfl)).trans (KernelIdeal.Wend_arg15 m c),
      (h.1 c _ (KernelIdeal.mem_ucRefs KernelIdeal.main_arg16 rfl)).trans (KernelIdeal.Wend_arg16 m c)⟩) (KernelIdeal.run_main m g),
    (θ_run _ _ _).mono (fun _ h c => ⟨(h c).1.trans (Same.reference_row m n c (hargs c)), (h c).2⟩)
      (Cert.ReferenceIdeal.Value.run n g')⟩

theorem claim : Cert.Claim := ⟨Cert.Kernel.Gen.facts, Cert.KernelIdeal.Gen.facts, Cert.ReferenceIdeal.Gen.facts, Same.preFacts,
  fun m g _ => Kernel.run_args m g,
  fun m g _ => KernelIdeal.run_args m g,
  fun m g _ => KernelIdeal.run_args m g,
  fun m g _ => (θ_run _ _ _).mono (fun _ h => ⟨fun c => (h c).2, sem_eq_zero_of_no_sems rfl _⟩) (Cert.ReferenceIdeal.Value.run m g),
  fun m g _ => (θ_run _ _ _).mono (fun _ h => ⟨fun c => (h c).2, sem_eq_zero_of_no_sems rfl _⟩) (Cert.ReferenceIdeal.Value.run m g),
  trivial,
  same_row⟩

end Cert.Proof
